-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Down [hPre_routed : Cert.Pre_routed.Facts] (m : (ℓ : Loc Cert.Down.nD Cert.Down.τ Cert.Down.sig) → Buf (Elt Bits) ℓ) : Prop :=
  ∀ c : Dev Cert.Down.nD,
    (Cert.Pre_routed.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2))) = (fun _ => 1#1)

def Pre_DownIdeal [hPre_routed : Cert.Pre_routed.Facts] (m : (ℓ : Loc Cert.DownIdeal.nD Cert.DownIdeal.τ Cert.DownIdeal.sig) → Buf (Elt Ideal) ℓ) : Prop :=
  ∀ c : Dev Cert.DownIdeal.nD,
    (Cert.Pre_routed.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2))) = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_routed [hPre_routed : Cert.Pre_routed.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_routed.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2))) = (fun _ => 1#1)

def Pre_Up [hPre_routed_up : Cert.Pre_routed_up.Facts] (m : (ℓ : Loc Cert.Up.nD Cert.Up.τ Cert.Up.sig) → Buf (Elt Bits) ℓ) : Prop :=
  ∀ c : Dev Cert.Up.nD,
    (Cert.Pre_routed_up.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3))) = (fun _ => 1#1)

def Pre_UpIdeal [hPre_routed_up : Cert.Pre_routed_up.Facts] (m : (ℓ : Loc Cert.UpIdeal.nD Cert.UpIdeal.τ Cert.UpIdeal.sig) → Buf (Elt Ideal) ℓ) : Prop :=
  ∀ c : Dev Cert.UpIdeal.nD,
    (Cert.Pre_routed_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3))) = (fun _ => 1#1)

def Pre_UpReferenceIdeal (m : (ℓ : Loc Cert.UpReferenceIdeal.nD Cert.UpReferenceIdeal.τ Cert.UpReferenceIdeal.sig) → Buf (Elt Ideal) ℓ) : Prop :=
  True

def Pre_UpReferenceIdeal_routed_up [hPre_routed_up : Cert.Pre_routed_up.Facts] (m : (ℓ : Loc Cert.UpReferenceIdeal.nD Cert.UpReferenceIdeal.τ Cert.UpReferenceIdeal.sig) → Buf (Elt Ideal) ℓ) : Prop :=
  ∀ c : Dev Cert.UpReferenceIdeal.nD,
    (Cert.Pre_routed_up.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_HyIn (m : (ℓ : Loc Cert.HyIn.nD Cert.HyIn.τ Cert.HyIn.sig) → Buf (Elt Bits) ℓ) : Prop :=
  True

def Pre_HyInIdeal (m : (ℓ : Loc Cert.HyInIdeal.nD Cert.HyInIdeal.τ Cert.HyInIdeal.sig) → Buf (Elt Ideal) ℓ) : Prop :=
  True

def Pre_HyInReferenceIdeal (m : (ℓ : Loc Cert.HyInReferenceIdeal.nD Cert.HyInReferenceIdeal.τ Cert.HyInReferenceIdeal.sig) → Buf (Elt Ideal) ℓ) : Prop :=
  True

def Pre_MlUp (m : (ℓ : Loc Cert.MlUp.nD Cert.MlUp.τ Cert.MlUp.sig) → Buf (Elt Bits) ℓ) : Prop :=
  True

def Pre_MlUpIdeal (m : (ℓ : Loc Cert.MlUpIdeal.nD Cert.MlUpIdeal.τ Cert.MlUpIdeal.sig) → Buf (Elt Ideal) ℓ) : Prop :=
  True

def Pre_MlUpReferenceIdeal (m : (ℓ : Loc Cert.MlUpReferenceIdeal.nD Cert.MlUpReferenceIdeal.τ Cert.MlUpReferenceIdeal.sig) → Buf (Elt Ideal) ℓ) : Prop :=
  True

def Pre_HyOut (m : (ℓ : Loc Cert.HyOut.nD Cert.HyOut.τ Cert.HyOut.sig) → Buf (Elt Bits) ℓ) : Prop :=
  True

def Pre_HyOutIdeal (m : (ℓ : Loc Cert.HyOutIdeal.nD Cert.HyOutIdeal.τ Cert.HyOutIdeal.sig) → Buf (Elt Ideal) ℓ) : Prop :=
  True

def Pre_HyOutReferenceIdeal (m : (ℓ : Loc Cert.HyOutReferenceIdeal.nD Cert.HyOutReferenceIdeal.τ Cert.HyOutReferenceIdeal.sig) → Buf (Elt Ideal) ℓ) : Prop :=
  True

def Pre_MlDown (m : (ℓ : Loc Cert.MlDown.nD Cert.MlDown.τ Cert.MlDown.sig) → Buf (Elt Bits) ℓ) : Prop :=
  True

def Pre_MlDownIdeal (m : (ℓ : Loc Cert.MlDownIdeal.nD Cert.MlDownIdeal.τ Cert.MlDownIdeal.sig) → Buf (Elt Ideal) ℓ) : Prop :=
  True

def Pre_MlDownReferenceIdeal (m : (ℓ : Loc Cert.MlDownReferenceIdeal.nD Cert.MlDownReferenceIdeal.τ Cert.MlDownReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Down [hDown : Cert.Down.Facts] [hPre_routed : Cert.Pre_routed.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] [hPre_routed : Cert.Pre_routed.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_DownReferenceIdeal_pre_routed [hDownReferenceIdeal : Cert.DownReferenceIdeal.Facts] [hPre_routed : Cert.Pre_routed.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_routed m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_Up [hUp : Cert.Up.Facts] [hPre_routed_up : Cert.Pre_routed_up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] [hPre_routed_up : Cert.Pre_routed_up.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3))
      ∧ r.2.sem = fun _ => 0)

def quiescent_UpReferenceIdeal_pre_routed_up [hUpReferenceIdeal : Cert.UpReferenceIdeal.Facts] [hPre_routed_up : Cert.Pre_routed_up.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal_routed_up m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2)
      ∧ r.2.mem ((c.tc : Thread Cert.FfnDownReferenceIdeal.nD Cert.FfnDownReferenceIdeal.τ).loc Cert.FfnDownReferenceIdeal.main_arg3) = m ((c.tc : Thread Cert.FfnDownReferenceIdeal.nD Cert.FfnDownReferenceIdeal.τ).loc Cert.FfnDownReferenceIdeal.main_arg3))
      ∧ r.2.sem = fun _ => 0)

def quiescent_HyIn [hHyIn : Cert.HyIn.Facts] : Prop :=
  ∀ (m : (ℓ : Loc Cert.HyIn.nD Cert.HyIn.τ Cert.HyIn.sig) → Buf (Elt Bits) ℓ) (g : Dev Cert.HyIn.nD → PrngReg), Pre_HyIn m →
    θ_run (Cert.HyIn.defs (F := Bits)) (onTc (τ := Cert.HyIn.τ) (Cert.HyIn.main (F := Bits))) ⟨m, fun _ => 0, g⟩ (fun r => (∀ c : Dev Cert.HyIn.nD,
      r.2.mem ((c.tc : Thread Cert.HyIn.nD Cert.HyIn.τ).loc Cert.HyIn.main_arg0) = m ((c.tc : Thread Cert.HyIn.nD Cert.HyIn.τ).loc Cert.HyIn.main_arg0)
      ∧ r.2.mem ((c.tc : Thread Cert.HyIn.nD Cert.HyIn.τ).loc Cert.HyIn.main_arg1) = m ((c.tc : Thread Cert.HyIn.nD Cert.HyIn.τ).loc Cert.HyIn.main_arg1))
      ∧ r.2.sem = fun _ => 0)

def quiescent_HyInIdeal [hHyInIdeal : Cert.HyInIdeal.Facts] : Prop :=
  ∀ (m : (ℓ : Loc Cert.HyInIdeal.nD Cert.HyInIdeal.τ Cert.HyInIdeal.sig) → Buf (Elt Ideal) ℓ) (g : Dev Cert.HyInIdeal.nD → PrngReg), Pre_HyInIdeal m →
    θ_run (Cert.HyInIdeal.defs (F := Ideal)) (onTc (τ := Cert.HyInIdeal.τ) (Cert.HyInIdeal.main (F := Ideal))) ⟨m, fun _ => 0, g⟩ (fun r => (∀ c : Dev Cert.HyInIdeal.nD,
      r.2.mem ((c.tc : Thread Cert.HyInIdeal.nD Cert.HyInIdeal.τ).loc Cert.HyInIdeal.main_arg0) = m ((c.tc : Thread Cert.HyInIdeal.nD Cert.HyInIdeal.τ).loc Cert.HyInIdeal.main_arg0)
      ∧ r.2.mem ((c.tc : Thread Cert.HyInIdeal.nD Cert.HyInIdeal.τ).loc Cert.HyInIdeal.main_arg1) = m ((c.tc : Thread Cert.HyInIdeal.nD Cert.HyInIdeal.τ).loc Cert.HyInIdeal.main_arg1))
      ∧ r.2.sem = fun _ => 0)

def quiescent_HyInReferenceIdeal [hHyInReferenceIdeal : Cert.HyInReferenceIdeal.Facts] : Prop :=
  ∀ (m : (ℓ : Loc Cert.HyInReferenceIdeal.nD Cert.HyInReferenceIdeal.τ Cert.HyInReferenceIdeal.sig) → Buf (Elt Ideal) ℓ) (g : Dev Cert.HyInReferenceIdeal.nD → PrngReg), Pre_HyInReferenceIdeal m →
    θ_run (Cert.HyInReferenceIdeal.defs (F := Ideal)) (onTc (τ := Cert.HyInReferenceIdeal.τ) (Cert.HyInReferenceIdeal.main (F := Ideal))) ⟨m, fun _ => 0, g⟩ (fun r => (∀ c : Dev Cert.HyInReferenceIdeal.nD,
      r.2.mem ((c.tc : Thread Cert.HyInReferenceIdeal.nD Cert.HyInReferenceIdeal.τ).loc Cert.HyInReferenceIdeal.main_arg0) = m ((c.tc : Thread Cert.HyInReferenceIdeal.nD Cert.HyInReferenceIdeal.τ).loc Cert.HyInReferenceIdeal.main_arg0)
      ∧ r.2.mem ((c.tc : Thread Cert.HyInReferenceIdeal.nD Cert.HyInReferenceIdeal.τ).loc Cert.HyInReferenceIdeal.main_arg1) = m ((c.tc : Thread Cert.HyInReferenceIdeal.nD Cert.HyInReferenceIdeal.τ).loc Cert.HyInReferenceIdeal.main_arg1))
      ∧ r.2.sem = fun _ => 0)

def quiescent_MlUp [hMlUp : Cert.MlUp.Facts] : Prop :=
  ∀ (m : (ℓ : Loc Cert.MlUp.nD Cert.MlUp.τ Cert.MlUp.sig) → Buf (Elt Bits) ℓ) (g : Dev Cert.MlUp.nD → PrngReg), Pre_MlUp m →
    θ_run (Cert.MlUp.defs (F := Bits)) (onTc (τ := Cert.MlUp.τ) (Cert.MlUp.main (F := Bits))) ⟨m, fun _ => 0, g⟩ (fun r => (∀ c : Dev Cert.MlUp.nD,
      r.2.mem ((c.tc : Thread Cert.MlUp.nD Cert.MlUp.τ).loc Cert.MlUp.main_arg0) = m ((c.tc : Thread Cert.MlUp.nD Cert.MlUp.τ).loc Cert.MlUp.main_arg0)
      ∧ r.2.mem ((c.tc : Thread Cert.MlUp.nD Cert.MlUp.τ).loc Cert.MlUp.main_arg1) = m ((c.tc : Thread Cert.MlUp.nD Cert.MlUp.τ).loc Cert.MlUp.main_arg1))
      ∧ r.2.sem = fun _ => 0)

def quiescent_MlUpIdeal [hMlUpIdeal : Cert.MlUpIdeal.Facts] : Prop :=
  ∀ (m : (ℓ : Loc Cert.MlUpIdeal.nD Cert.MlUpIdeal.τ Cert.MlUpIdeal.sig) → Buf (Elt Ideal) ℓ) (g : Dev Cert.MlUpIdeal.nD → PrngReg), Pre_MlUpIdeal m →
    θ_run (Cert.MlUpIdeal.defs (F := Ideal)) (onTc (τ := Cert.MlUpIdeal.τ) (Cert.MlUpIdeal.main (F := Ideal))) ⟨m, fun _ => 0, g⟩ (fun r => (∀ c : Dev Cert.MlUpIdeal.nD,
      r.2.mem ((c.tc : Thread Cert.MlUpIdeal.nD Cert.MlUpIdeal.τ).loc Cert.MlUpIdeal.main_arg0) = m ((c.tc : Thread Cert.MlUpIdeal.nD Cert.MlUpIdeal.τ).loc Cert.MlUpIdeal.main_arg0)
      ∧ r.2.mem ((c.tc : Thread Cert.MlUpIdeal.nD Cert.MlUpIdeal.τ).loc Cert.MlUpIdeal.main_arg1) = m ((c.tc : Thread Cert.MlUpIdeal.nD Cert.MlUpIdeal.τ).loc Cert.MlUpIdeal.main_arg1))
      ∧ r.2.sem = fun _ => 0)

def quiescent_MlUpReferenceIdeal [hMlUpReferenceIdeal : Cert.MlUpReferenceIdeal.Facts] : Prop :=
  ∀ (m : (ℓ : Loc Cert.MlUpReferenceIdeal.nD Cert.MlUpReferenceIdeal.τ Cert.MlUpReferenceIdeal.sig) → Buf (Elt Ideal) ℓ) (g : Dev Cert.MlUpReferenceIdeal.nD → PrngReg), Pre_MlUpReferenceIdeal m →
    θ_run (Cert.MlUpReferenceIdeal.defs (F := Ideal)) (onTc (τ := Cert.MlUpReferenceIdeal.τ) (Cert.MlUpReferenceIdeal.main (F := Ideal))) ⟨m, fun _ => 0, g⟩ (fun r => (∀ c : Dev Cert.MlUpReferenceIdeal.nD,
      r.2.mem ((c.tc : Thread Cert.MlUpReferenceIdeal.nD Cert.MlUpReferenceIdeal.τ).loc Cert.MlUpReferenceIdeal.main_arg0) = m ((c.tc : Thread Cert.MlUpReferenceIdeal.nD Cert.MlUpReferenceIdeal.τ).loc Cert.MlUpReferenceIdeal.main_arg0)
      ∧ r.2.mem ((c.tc : Thread Cert.MlUpReferenceIdeal.nD Cert.MlUpReferenceIdeal.τ).loc Cert.MlUpReferenceIdeal.main_arg1) = m ((c.tc : Thread Cert.MlUpReferenceIdeal.nD Cert.MlUpReferenceIdeal.τ).loc Cert.MlUpReferenceIdeal.main_arg1))
      ∧ r.2.sem = fun _ => 0)

def quiescent_HyOut [hHyOut : Cert.HyOut.Facts] : Prop :=
  ∀ (m : (ℓ : Loc Cert.HyOut.nD Cert.HyOut.τ Cert.HyOut.sig) → Buf (Elt Bits) ℓ) (g : Dev Cert.HyOut.nD → PrngReg), Pre_HyOut m →
    θ_run (Cert.HyOut.defs (F := Bits)) (onTc (τ := Cert.HyOut.τ) (Cert.HyOut.main (F := Bits))) ⟨m, fun _ => 0, g⟩ (fun r => (∀ c : Dev Cert.HyOut.nD,
      r.2.mem ((c.tc : Thread Cert.HyOut.nD Cert.HyOut.τ).loc Cert.HyOut.main_arg0) = m ((c.tc : Thread Cert.HyOut.nD Cert.HyOut.τ).loc Cert.HyOut.main_arg0)
      ∧ r.2.mem ((c.tc : Thread Cert.HyOut.nD Cert.HyOut.τ).loc Cert.HyOut.main_arg1) = m ((c.tc : Thread Cert.HyOut.nD Cert.HyOut.τ).loc Cert.HyOut.main_arg1)
      ∧ r.2.mem ((c.tc : Thread Cert.HyOut.nD Cert.HyOut.τ).loc Cert.HyOut.main_arg2) = m ((c.tc : Thread Cert.HyOut.nD Cert.HyOut.τ).loc Cert.HyOut.main_arg2)
      ∧ r.2.mem ((c.tc : Thread Cert.HyOut.nD Cert.HyOut.τ).loc Cert.HyOut.main_arg3) = m ((c.tc : Thread Cert.HyOut.nD Cert.HyOut.τ).loc Cert.HyOut.main_arg3))
      ∧ r.2.sem = fun _ => 0)

def quiescent_HyOutIdeal [hHyOutIdeal : Cert.HyOutIdeal.Facts] : Prop :=
  ∀ (m : (ℓ : Loc Cert.HyOutIdeal.nD Cert.HyOutIdeal.τ Cert.HyOutIdeal.sig) → Buf (Elt Ideal) ℓ) (g : Dev Cert.HyOutIdeal.nD → PrngReg), Pre_HyOutIdeal m →
    θ_run (Cert.HyOutIdeal.defs (F := Ideal)) (onTc (τ := Cert.HyOutIdeal.τ) (Cert.HyOutIdeal.main (F := Ideal))) ⟨m, fun _ => 0, g⟩ (fun r => (∀ c : Dev Cert.HyOutIdeal.nD,
      r.2.mem ((c.tc : Thread Cert.HyOutIdeal.nD Cert.HyOutIdeal.τ).loc Cert.HyOutIdeal.main_arg0) = m ((c.tc : Thread Cert.HyOutIdeal.nD Cert.HyOutIdeal.τ).loc Cert.HyOutIdeal.main_arg0)
      ∧ r.2.mem ((c.tc : Thread Cert.HyOutIdeal.nD Cert.HyOutIdeal.τ).loc Cert.HyOutIdeal.main_arg1) = m ((c.tc : Thread Cert.HyOutIdeal.nD Cert.HyOutIdeal.τ).loc Cert.HyOutIdeal.main_arg1)
      ∧ r.2.mem ((c.tc : Thread Cert.HyOutIdeal.nD Cert.HyOutIdeal.τ).loc Cert.HyOutIdeal.main_arg2) = m ((c.tc : Thread Cert.HyOutIdeal.nD Cert.HyOutIdeal.τ).loc Cert.HyOutIdeal.main_arg2)
      ∧ r.2.mem ((c.tc : Thread Cert.HyOutIdeal.nD Cert.HyOutIdeal.τ).loc Cert.HyOutIdeal.main_arg3) = m ((c.tc : Thread Cert.HyOutIdeal.nD Cert.HyOutIdeal.τ).loc Cert.HyOutIdeal.main_arg3))
      ∧ r.2.sem = fun _ => 0)

def quiescent_HyOutReferenceIdeal [hHyOutReferenceIdeal : Cert.HyOutReferenceIdeal.Facts] : Prop :=
  ∀ (m : (ℓ : Loc Cert.HyOutReferenceIdeal.nD Cert.HyOutReferenceIdeal.τ Cert.HyOutReferenceIdeal.sig) → Buf (Elt Ideal) ℓ) (g : Dev Cert.HyOutReferenceIdeal.nD → PrngReg), Pre_HyOutReferenceIdeal m →
    θ_run (Cert.HyOutReferenceIdeal.defs (F := Ideal)) (onTc (τ := Cert.HyOutReferenceIdeal.τ) (Cert.HyOutReferenceIdeal.main (F := Ideal))) ⟨m, fun _ => 0, g⟩ (fun r => (∀ c : Dev Cert.HyOutReferenceIdeal.nD,
      r.2.mem ((c.tc : Thread Cert.HyOutReferenceIdeal.nD Cert.HyOutReferenceIdeal.τ).loc Cert.HyOutReferenceIdeal.main_arg0) = m ((c.tc : Thread Cert.HyOutReferenceIdeal.nD Cert.HyOutReferenceIdeal.τ).loc Cert.HyOutReferenceIdeal.main_arg0)
      ∧ r.2.mem ((c.tc : Thread Cert.HyOutReferenceIdeal.nD Cert.HyOutReferenceIdeal.τ).loc Cert.HyOutReferenceIdeal.main_arg1) = m ((c.tc : Thread Cert.HyOutReferenceIdeal.nD Cert.HyOutReferenceIdeal.τ).loc Cert.HyOutReferenceIdeal.main_arg1)
      ∧ r.2.mem ((c.tc : Thread Cert.HyOutReferenceIdeal.nD Cert.HyOutReferenceIdeal.τ).loc Cert.HyOutReferenceIdeal.main_arg2) = m ((c.tc : Thread Cert.HyOutReferenceIdeal.nD Cert.HyOutReferenceIdeal.τ).loc Cert.HyOutReferenceIdeal.main_arg2)
      ∧ r.2.mem ((c.tc : Thread Cert.HyOutReferenceIdeal.nD Cert.HyOutReferenceIdeal.τ).loc Cert.HyOutReferenceIdeal.main_arg3) = m ((c.tc : Thread Cert.HyOutReferenceIdeal.nD Cert.HyOutReferenceIdeal.τ).loc Cert.HyOutReferenceIdeal.main_arg3))
      ∧ r.2.sem = fun _ => 0)

def quiescent_MlDown [hMlDown : Cert.MlDown.Facts] : Prop :=
  ∀ (m : (ℓ : Loc Cert.MlDown.nD Cert.MlDown.τ Cert.MlDown.sig) → Buf (Elt Bits) ℓ) (g : Dev Cert.MlDown.nD → PrngReg), Pre_MlDown m →
    θ_run (Cert.MlDown.defs (F := Bits)) (onTc (τ := Cert.MlDown.τ) (Cert.MlDown.main (F := Bits))) ⟨m, fun _ => 0, g⟩ (fun r => (∀ c : Dev Cert.MlDown.nD,
      r.2.mem ((c.tc : Thread Cert.MlDown.nD Cert.MlDown.τ).loc Cert.MlDown.main_arg0) = m ((c.tc : Thread Cert.MlDown.nD Cert.MlDown.τ).loc Cert.MlDown.main_arg0)
      ∧ r.2.mem ((c.tc : Thread Cert.MlDown.nD Cert.MlDown.τ).loc Cert.MlDown.main_arg1) = m ((c.tc : Thread Cert.MlDown.nD Cert.MlDown.τ).loc Cert.MlDown.main_arg1)
      ∧ r.2.mem ((c.tc : Thread Cert.MlDown.nD Cert.MlDown.τ).loc Cert.MlDown.main_arg2) = m ((c.tc : Thread Cert.MlDown.nD Cert.MlDown.τ).loc Cert.MlDown.main_arg2)
      ∧ r.2.mem ((c.tc : Thread Cert.MlDown.nD Cert.MlDown.τ).loc Cert.MlDown.main_arg3) = m ((c.tc : Thread Cert.MlDown.nD Cert.MlDown.τ).loc Cert.MlDown.main_arg3))
      ∧ r.2.sem = fun _ => 0)

def quiescent_MlDownIdeal [hMlDownIdeal : Cert.MlDownIdeal.Facts] : Prop :=
  ∀ (m : (ℓ : Loc Cert.MlDownIdeal.nD Cert.MlDownIdeal.τ Cert.MlDownIdeal.sig) → Buf (Elt Ideal) ℓ) (g : Dev Cert.MlDownIdeal.nD → PrngReg), Pre_MlDownIdeal m →
    θ_run (Cert.MlDownIdeal.defs (F := Ideal)) (onTc (τ := Cert.MlDownIdeal.τ) (Cert.MlDownIdeal.main (F := Ideal))) ⟨m, fun _ => 0, g⟩ (fun r => (∀ c : Dev Cert.MlDownIdeal.nD,
      r.2.mem ((c.tc : Thread Cert.MlDownIdeal.nD Cert.MlDownIdeal.τ).loc Cert.MlDownIdeal.main_arg0) = m ((c.tc : Thread Cert.MlDownIdeal.nD Cert.MlDownIdeal.τ).loc Cert.MlDownIdeal.main_arg0)
      ∧ r.2.mem ((c.tc : Thread Cert.MlDownIdeal.nD Cert.MlDownIdeal.τ).loc Cert.MlDownIdeal.main_arg1) = m ((c.tc : Thread Cert.MlDownIdeal.nD Cert.MlDownIdeal.τ).loc Cert.MlDownIdeal.main_arg1)
      ∧ r.2.mem ((c.tc : Thread Cert.MlDownIdeal.nD Cert.MlDownIdeal.τ).loc Cert.MlDownIdeal.main_arg2) = m ((c.tc : Thread Cert.MlDownIdeal.nD Cert.MlDownIdeal.τ).loc Cert.MlDownIdeal.main_arg2)
      ∧ r.2.mem ((c.tc : Thread Cert.MlDownIdeal.nD Cert.MlDownIdeal.τ).loc Cert.MlDownIdeal.main_arg3) = m ((c.tc : Thread Cert.MlDownIdeal.nD Cert.MlDownIdeal.τ).loc Cert.MlDownIdeal.main_arg3))
      ∧ r.2.sem = fun _ => 0)

def quiescent_MlDownReferenceIdeal [hMlDownReferenceIdeal : Cert.MlDownReferenceIdeal.Facts] : Prop :=
  ∀ (m : (ℓ : Loc Cert.MlDownReferenceIdeal.nD Cert.MlDownReferenceIdeal.τ Cert.MlDownReferenceIdeal.sig) → Buf (Elt Ideal) ℓ) (g : Dev Cert.MlDownReferenceIdeal.nD → PrngReg), Pre_MlDownReferenceIdeal m →
    θ_run (Cert.MlDownReferenceIdeal.defs (F := Ideal)) (onTc (τ := Cert.MlDownReferenceIdeal.τ) (Cert.MlDownReferenceIdeal.main (F := Ideal))) ⟨m, fun _ => 0, g⟩ (fun r => (∀ c : Dev Cert.MlDownReferenceIdeal.nD,
      r.2.mem ((c.tc : Thread Cert.MlDownReferenceIdeal.nD Cert.MlDownReferenceIdeal.τ).loc Cert.MlDownReferenceIdeal.main_arg0) = m ((c.tc : Thread Cert.MlDownReferenceIdeal.nD Cert.MlDownReferenceIdeal.τ).loc Cert.MlDownReferenceIdeal.main_arg0)
      ∧ r.2.mem ((c.tc : Thread Cert.MlDownReferenceIdeal.nD Cert.MlDownReferenceIdeal.τ).loc Cert.MlDownReferenceIdeal.main_arg1) = m ((c.tc : Thread Cert.MlDownReferenceIdeal.nD Cert.MlDownReferenceIdeal.τ).loc Cert.MlDownReferenceIdeal.main_arg1)
      ∧ r.2.mem ((c.tc : Thread Cert.MlDownReferenceIdeal.nD Cert.MlDownReferenceIdeal.τ).loc Cert.MlDownReferenceIdeal.main_arg2) = m ((c.tc : Thread Cert.MlDownReferenceIdeal.nD Cert.MlDownReferenceIdeal.τ).loc Cert.MlDownReferenceIdeal.main_arg2)
      ∧ r.2.mem ((c.tc : Thread Cert.MlDownReferenceIdeal.nD Cert.MlDownReferenceIdeal.τ).loc Cert.MlDownReferenceIdeal.main_arg3) = m ((c.tc : Thread Cert.MlDownReferenceIdeal.nD Cert.MlDownReferenceIdeal.τ).loc Cert.MlDownReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_v95) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Down_DownIdeal : Prop :=
  True

def algebraic_DownIdeal_DownReferenceIdeal [hDownIdeal : Cert.DownIdeal.Facts] [hDownReferenceIdeal : Cert.DownReferenceIdeal.Facts] [hPre_routed : Cert.Pre_routed.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v161) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_Up_UpIdeal : Prop :=
  True

def algebraic_UpIdeal_UpReferenceIdeal [hUpIdeal : Cert.UpIdeal.Facts] [hUpReferenceIdeal : Cert.UpReferenceIdeal.Facts] [hPre_routed_up : Cert.Pre_routed_up.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v202) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v3)) (v1 : (c : Dev Cert.NormIdeal.nD) → Buf (Elt Ideal) ((c.tc : Thread Cert.NormIdeal.nD Cert.NormIdeal.τ).loc Cert.NormIdeal.main_v4)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_v4) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v14) = v0 c
          ∧ r.2.mem ((c.tc : Thread Cert.NormReferenceIdeal.nD Cert.NormReferenceIdeal.τ).loc Cert.NormReferenceIdeal.main_v29) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v9) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)
      ∧ m' ((c.tc : Thread Cert.FfnDownReferenceIdeal.nD Cert.FfnDownReferenceIdeal.τ).loc Cert.FfnDownReferenceIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v22) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2)
          ∧ r.2.mem ((c.tc : Thread Cert.FfnDownReferenceIdeal.nD Cert.FfnDownReferenceIdeal.τ).loc Cert.FfnDownReferenceIdeal.main_arg3) = m' ((c.tc : Thread Cert.FfnDownReferenceIdeal.nD Cert.FfnDownReferenceIdeal.τ).loc Cert.FfnDownReferenceIdeal.main_arg3))

def preserves_HyIn_HyInIdeal : Prop :=
  True

def algebraic_HyInIdeal_HyInReferenceIdeal [hHyInIdeal : Cert.HyInIdeal.Facts] [hHyInReferenceIdeal : Cert.HyInReferenceIdeal.Facts] : Prop :=
  ∀ (m : (ℓ : Loc Cert.HyInIdeal.nD Cert.HyInIdeal.τ Cert.HyInIdeal.sig) → Buf (Elt Ideal) ℓ) (g : Dev Cert.HyInIdeal.nD → PrngReg)
    (m' : (ℓ : Loc Cert.HyInReferenceIdeal.nD Cert.HyInReferenceIdeal.τ Cert.HyInReferenceIdeal.sig) → Buf (Elt Ideal) ℓ) (g' : Dev Cert.HyInReferenceIdeal.nD → PrngReg), Pre_HyInIdeal m →
    (∀ c : Dev Cert.HyInIdeal.nD,
      m' ((c.tc : Thread Cert.HyInReferenceIdeal.nD Cert.HyInReferenceIdeal.τ).loc Cert.HyInReferenceIdeal.main_arg0) = m ((c.tc : Thread Cert.HyInIdeal.nD Cert.HyInIdeal.τ).loc Cert.HyInIdeal.main_arg0)
      ∧ m' ((c.tc : Thread Cert.HyInReferenceIdeal.nD Cert.HyInReferenceIdeal.τ).loc Cert.HyInReferenceIdeal.main_arg1) = m ((c.tc : Thread Cert.HyInIdeal.nD Cert.HyInIdeal.τ).loc Cert.HyInIdeal.main_arg1)) →
    ∃ (v0 : (c : Dev Cert.HyInIdeal.nD) → Buf (Elt Ideal) ((c.tc : Thread Cert.HyInIdeal.nD Cert.HyInIdeal.τ).loc Cert.HyInIdeal.main_v0)),
      θ_run (Cert.HyInIdeal.defs (F := Ideal)) (onTc (τ := Cert.HyInIdeal.τ) (Cert.HyInIdeal.main (F := Ideal))) ⟨m, fun _ => 0, g⟩ (fun r => ∀ c : Dev Cert.HyInIdeal.nD,
          r.2.mem ((c.tc : Thread Cert.HyInIdeal.nD Cert.HyInIdeal.τ).loc Cert.HyInIdeal.main_v0) = v0 c
          ∧ r.2.mem ((c.tc : Thread Cert.HyInIdeal.nD Cert.HyInIdeal.τ).loc Cert.HyInIdeal.main_arg0) = m ((c.tc : Thread Cert.HyInIdeal.nD Cert.HyInIdeal.τ).loc Cert.HyInIdeal.main_arg0)
          ∧ r.2.mem ((c.tc : Thread Cert.HyInIdeal.nD Cert.HyInIdeal.τ).loc Cert.HyInIdeal.main_arg1) = m ((c.tc : Thread Cert.HyInIdeal.nD Cert.HyInIdeal.τ).loc Cert.HyInIdeal.main_arg1))
      ∧ θ_run (Cert.HyInReferenceIdeal.defs (F := Ideal)) (onTc (τ := Cert.HyInReferenceIdeal.τ) (Cert.HyInReferenceIdeal.main (F := Ideal))) ⟨m', fun _ => 0, g'⟩ (fun r => ∀ c : Dev Cert.HyInReferenceIdeal.nD,
          r.2.mem ((c.tc : Thread Cert.HyInReferenceIdeal.nD Cert.HyInReferenceIdeal.τ).loc Cert.HyInReferenceIdeal.main_v1) = v0 c
          ∧ r.2.mem ((c.tc : Thread Cert.HyInReferenceIdeal.nD Cert.HyInReferenceIdeal.τ).loc Cert.HyInReferenceIdeal.main_arg0) = m' ((c.tc : Thread Cert.HyInReferenceIdeal.nD Cert.HyInReferenceIdeal.τ).loc Cert.HyInReferenceIdeal.main_arg0)
          ∧ r.2.mem ((c.tc : Thread Cert.HyInReferenceIdeal.nD Cert.HyInReferenceIdeal.τ).loc Cert.HyInReferenceIdeal.main_arg1) = m' ((c.tc : Thread Cert.HyInReferenceIdeal.nD Cert.HyInReferenceIdeal.τ).loc Cert.HyInReferenceIdeal.main_arg1))

def preserves_MlUp_MlUpIdeal : Prop :=
  True

def algebraic_MlUpIdeal_MlUpReferenceIdeal [hMlUpIdeal : Cert.MlUpIdeal.Facts] [hMlUpReferenceIdeal : Cert.MlUpReferenceIdeal.Facts] : Prop :=
  ∀ (m : (ℓ : Loc Cert.MlUpIdeal.nD Cert.MlUpIdeal.τ Cert.MlUpIdeal.sig) → Buf (Elt Ideal) ℓ) (g : Dev Cert.MlUpIdeal.nD → PrngReg)
    (m' : (ℓ : Loc Cert.MlUpReferenceIdeal.nD Cert.MlUpReferenceIdeal.τ Cert.MlUpReferenceIdeal.sig) → Buf (Elt Ideal) ℓ) (g' : Dev Cert.MlUpReferenceIdeal.nD → PrngReg), Pre_MlUpIdeal m →
    (∀ c : Dev Cert.MlUpIdeal.nD,
      m' ((c.tc : Thread Cert.MlUpReferenceIdeal.nD Cert.MlUpReferenceIdeal.τ).loc Cert.MlUpReferenceIdeal.main_arg0) = m ((c.tc : Thread Cert.MlUpIdeal.nD Cert.MlUpIdeal.τ).loc Cert.MlUpIdeal.main_arg0)
      ∧ m' ((c.tc : Thread Cert.MlUpReferenceIdeal.nD Cert.MlUpReferenceIdeal.τ).loc Cert.MlUpReferenceIdeal.main_arg1) = m ((c.tc : Thread Cert.MlUpIdeal.nD Cert.MlUpIdeal.τ).loc Cert.MlUpIdeal.main_arg1)) →
    ∃ (v0 : (c : Dev Cert.MlUpIdeal.nD) → Buf (Elt Ideal) ((c.tc : Thread Cert.MlUpIdeal.nD Cert.MlUpIdeal.τ).loc Cert.MlUpIdeal.main_v0)),
      θ_run (Cert.MlUpIdeal.defs (F := Ideal)) (onTc (τ := Cert.MlUpIdeal.τ) (Cert.MlUpIdeal.main (F := Ideal))) ⟨m, fun _ => 0, g⟩ (fun r => ∀ c : Dev Cert.MlUpIdeal.nD,
          r.2.mem ((c.tc : Thread Cert.MlUpIdeal.nD Cert.MlUpIdeal.τ).loc Cert.MlUpIdeal.main_v0) = v0 c
          ∧ r.2.mem ((c.tc : Thread Cert.MlUpIdeal.nD Cert.MlUpIdeal.τ).loc Cert.MlUpIdeal.main_arg0) = m ((c.tc : Thread Cert.MlUpIdeal.nD Cert.MlUpIdeal.τ).loc Cert.MlUpIdeal.main_arg0)
          ∧ r.2.mem ((c.tc : Thread Cert.MlUpIdeal.nD Cert.MlUpIdeal.τ).loc Cert.MlUpIdeal.main_arg1) = m ((c.tc : Thread Cert.MlUpIdeal.nD Cert.MlUpIdeal.τ).loc Cert.MlUpIdeal.main_arg1))
      ∧ θ_run (Cert.MlUpReferenceIdeal.defs (F := Ideal)) (onTc (τ := Cert.MlUpReferenceIdeal.τ) (Cert.MlUpReferenceIdeal.main (F := Ideal))) ⟨m', fun _ => 0, g'⟩ (fun r => ∀ c : Dev Cert.MlUpReferenceIdeal.nD,
          r.2.mem ((c.tc : Thread Cert.MlUpReferenceIdeal.nD Cert.MlUpReferenceIdeal.τ).loc Cert.MlUpReferenceIdeal.main_v1) = v0 c
          ∧ r.2.mem ((c.tc : Thread Cert.MlUpReferenceIdeal.nD Cert.MlUpReferenceIdeal.τ).loc Cert.MlUpReferenceIdeal.main_arg0) = m' ((c.tc : Thread Cert.MlUpReferenceIdeal.nD Cert.MlUpReferenceIdeal.τ).loc Cert.MlUpReferenceIdeal.main_arg0)
          ∧ r.2.mem ((c.tc : Thread Cert.MlUpReferenceIdeal.nD Cert.MlUpReferenceIdeal.τ).loc Cert.MlUpReferenceIdeal.main_arg1) = m' ((c.tc : Thread Cert.MlUpReferenceIdeal.nD Cert.MlUpReferenceIdeal.τ).loc Cert.MlUpReferenceIdeal.main_arg1))

def preserves_HyOut_HyOutIdeal : Prop :=
  True

def algebraic_HyOutIdeal_HyOutReferenceIdeal [hHyOutIdeal : Cert.HyOutIdeal.Facts] [hHyOutReferenceIdeal : Cert.HyOutReferenceIdeal.Facts] : Prop :=
  ∀ (m : (ℓ : Loc Cert.HyOutIdeal.nD Cert.HyOutIdeal.τ Cert.HyOutIdeal.sig) → Buf (Elt Ideal) ℓ) (g : Dev Cert.HyOutIdeal.nD → PrngReg)
    (m' : (ℓ : Loc Cert.HyOutReferenceIdeal.nD Cert.HyOutReferenceIdeal.τ Cert.HyOutReferenceIdeal.sig) → Buf (Elt Ideal) ℓ) (g' : Dev Cert.HyOutReferenceIdeal.nD → PrngReg), Pre_HyOutIdeal m →
    (∀ c : Dev Cert.HyOutIdeal.nD,
      m' ((c.tc : Thread Cert.HyOutReferenceIdeal.nD Cert.HyOutReferenceIdeal.τ).loc Cert.HyOutReferenceIdeal.main_arg0) = m ((c.tc : Thread Cert.HyOutIdeal.nD Cert.HyOutIdeal.τ).loc Cert.HyOutIdeal.main_arg0)
      ∧ m' ((c.tc : Thread Cert.HyOutReferenceIdeal.nD Cert.HyOutReferenceIdeal.τ).loc Cert.HyOutReferenceIdeal.main_arg1) = m ((c.tc : Thread Cert.HyOutIdeal.nD Cert.HyOutIdeal.τ).loc Cert.HyOutIdeal.main_arg1)
      ∧ m' ((c.tc : Thread Cert.HyOutReferenceIdeal.nD Cert.HyOutReferenceIdeal.τ).loc Cert.HyOutReferenceIdeal.main_arg2) = m ((c.tc : Thread Cert.HyOutIdeal.nD Cert.HyOutIdeal.τ).loc Cert.HyOutIdeal.main_arg2)
      ∧ m' ((c.tc : Thread Cert.HyOutReferenceIdeal.nD Cert.HyOutReferenceIdeal.τ).loc Cert.HyOutReferenceIdeal.main_arg3) = m ((c.tc : Thread Cert.HyOutIdeal.nD Cert.HyOutIdeal.τ).loc Cert.HyOutIdeal.main_arg3)) →
    ∃ (v0 : (c : Dev Cert.HyOutIdeal.nD) → Buf (Elt Ideal) ((c.tc : Thread Cert.HyOutIdeal.nD Cert.HyOutIdeal.τ).loc Cert.HyOutIdeal.main_v0)),
      θ_run (Cert.HyOutIdeal.defs (F := Ideal)) (onTc (τ := Cert.HyOutIdeal.τ) (Cert.HyOutIdeal.main (F := Ideal))) ⟨m, fun _ => 0, g⟩ (fun r => ∀ c : Dev Cert.HyOutIdeal.nD,
          r.2.mem ((c.tc : Thread Cert.HyOutIdeal.nD Cert.HyOutIdeal.τ).loc Cert.HyOutIdeal.main_v0) = v0 c
          ∧ r.2.mem ((c.tc : Thread Cert.HyOutIdeal.nD Cert.HyOutIdeal.τ).loc Cert.HyOutIdeal.main_arg0) = m ((c.tc : Thread Cert.HyOutIdeal.nD Cert.HyOutIdeal.τ).loc Cert.HyOutIdeal.main_arg0)
          ∧ r.2.mem ((c.tc : Thread Cert.HyOutIdeal.nD Cert.HyOutIdeal.τ).loc Cert.HyOutIdeal.main_arg1) = m ((c.tc : Thread Cert.HyOutIdeal.nD Cert.HyOutIdeal.τ).loc Cert.HyOutIdeal.main_arg1)
          ∧ r.2.mem ((c.tc : Thread Cert.HyOutIdeal.nD Cert.HyOutIdeal.τ).loc Cert.HyOutIdeal.main_arg2) = m ((c.tc : Thread Cert.HyOutIdeal.nD Cert.HyOutIdeal.τ).loc Cert.HyOutIdeal.main_arg2)
          ∧ r.2.mem ((c.tc : Thread Cert.HyOutIdeal.nD Cert.HyOutIdeal.τ).loc Cert.HyOutIdeal.main_arg3) = m ((c.tc : Thread Cert.HyOutIdeal.nD Cert.HyOutIdeal.τ).loc Cert.HyOutIdeal.main_arg3))
      ∧ θ_run (Cert.HyOutReferenceIdeal.defs (F := Ideal)) (onTc (τ := Cert.HyOutReferenceIdeal.τ) (Cert.HyOutReferenceIdeal.main (F := Ideal))) ⟨m', fun _ => 0, g'⟩ (fun r => ∀ c : Dev Cert.HyOutReferenceIdeal.nD,
          r.2.mem ((c.tc : Thread Cert.HyOutReferenceIdeal.nD Cert.HyOutReferenceIdeal.τ).loc Cert.HyOutReferenceIdeal.main_v20) = v0 c
          ∧ r.2.mem ((c.tc : Thread Cert.HyOutReferenceIdeal.nD Cert.HyOutReferenceIdeal.τ).loc Cert.HyOutReferenceIdeal.main_arg0) = m' ((c.tc : Thread Cert.HyOutReferenceIdeal.nD Cert.HyOutReferenceIdeal.τ).loc Cert.HyOutReferenceIdeal.main_arg0)
          ∧ r.2.mem ((c.tc : Thread Cert.HyOutReferenceIdeal.nD Cert.HyOutReferenceIdeal.τ).loc Cert.HyOutReferenceIdeal.main_arg1) = m' ((c.tc : Thread Cert.HyOutReferenceIdeal.nD Cert.HyOutReferenceIdeal.τ).loc Cert.HyOutReferenceIdeal.main_arg1)
          ∧ r.2.mem ((c.tc : Thread Cert.HyOutReferenceIdeal.nD Cert.HyOutReferenceIdeal.τ).loc Cert.HyOutReferenceIdeal.main_arg2) = m' ((c.tc : Thread Cert.HyOutReferenceIdeal.nD Cert.HyOutReferenceIdeal.τ).loc Cert.HyOutReferenceIdeal.main_arg2)
          ∧ r.2.mem ((c.tc : Thread Cert.HyOutReferenceIdeal.nD Cert.HyOutReferenceIdeal.τ).loc Cert.HyOutReferenceIdeal.main_arg3) = m' ((c.tc : Thread Cert.HyOutReferenceIdeal.nD Cert.HyOutReferenceIdeal.τ).loc Cert.HyOutReferenceIdeal.main_arg3))

def preserves_MlDown_MlDownIdeal : Prop :=
  True

def algebraic_MlDownIdeal_MlDownReferenceIdeal [hMlDownIdeal : Cert.MlDownIdeal.Facts] [hMlDownReferenceIdeal : Cert.MlDownReferenceIdeal.Facts] : Prop :=
  ∀ (m : (ℓ : Loc Cert.MlDownIdeal.nD Cert.MlDownIdeal.τ Cert.MlDownIdeal.sig) → Buf (Elt Ideal) ℓ) (g : Dev Cert.MlDownIdeal.nD → PrngReg)
    (m' : (ℓ : Loc Cert.MlDownReferenceIdeal.nD Cert.MlDownReferenceIdeal.τ Cert.MlDownReferenceIdeal.sig) → Buf (Elt Ideal) ℓ) (g' : Dev Cert.MlDownReferenceIdeal.nD → PrngReg), Pre_MlDownIdeal m →
    (∀ c : Dev Cert.MlDownIdeal.nD,
      m' ((c.tc : Thread Cert.MlDownReferenceIdeal.nD Cert.MlDownReferenceIdeal.τ).loc Cert.MlDownReferenceIdeal.main_arg0) = m ((c.tc : Thread Cert.MlDownIdeal.nD Cert.MlDownIdeal.τ).loc Cert.MlDownIdeal.main_arg0)
      ∧ m' ((c.tc : Thread Cert.MlDownReferenceIdeal.nD Cert.MlDownReferenceIdeal.τ).loc Cert.MlDownReferenceIdeal.main_arg1) = m ((c.tc : Thread Cert.MlDownIdeal.nD Cert.MlDownIdeal.τ).loc Cert.MlDownIdeal.main_arg1)
      ∧ m' ((c.tc : Thread Cert.MlDownReferenceIdeal.nD Cert.MlDownReferenceIdeal.τ).loc Cert.MlDownReferenceIdeal.main_arg2) = m ((c.tc : Thread Cert.MlDownIdeal.nD Cert.MlDownIdeal.τ).loc Cert.MlDownIdeal.main_arg2)
      ∧ m' ((c.tc : Thread Cert.MlDownReferenceIdeal.nD Cert.MlDownReferenceIdeal.τ).loc Cert.MlDownReferenceIdeal.main_arg3) = m ((c.tc : Thread Cert.MlDownIdeal.nD Cert.MlDownIdeal.τ).loc Cert.MlDownIdeal.main_arg3)) →
    ∃ (v0 : (c : Dev Cert.MlDownIdeal.nD) → Buf (Elt Ideal) ((c.tc : Thread Cert.MlDownIdeal.nD Cert.MlDownIdeal.τ).loc Cert.MlDownIdeal.main_v0)),
      θ_run (Cert.MlDownIdeal.defs (F := Ideal)) (onTc (τ := Cert.MlDownIdeal.τ) (Cert.MlDownIdeal.main (F := Ideal))) ⟨m, fun _ => 0, g⟩ (fun r => ∀ c : Dev Cert.MlDownIdeal.nD,
          r.2.mem ((c.tc : Thread Cert.MlDownIdeal.nD Cert.MlDownIdeal.τ).loc Cert.MlDownIdeal.main_v0) = v0 c
          ∧ r.2.mem ((c.tc : Thread Cert.MlDownIdeal.nD Cert.MlDownIdeal.τ).loc Cert.MlDownIdeal.main_arg0) = m ((c.tc : Thread Cert.MlDownIdeal.nD Cert.MlDownIdeal.τ).loc Cert.MlDownIdeal.main_arg0)
          ∧ r.2.mem ((c.tc : Thread Cert.MlDownIdeal.nD Cert.MlDownIdeal.τ).loc Cert.MlDownIdeal.main_arg1) = m ((c.tc : Thread Cert.MlDownIdeal.nD Cert.MlDownIdeal.τ).loc Cert.MlDownIdeal.main_arg1)
          ∧ r.2.mem ((c.tc : Thread Cert.MlDownIdeal.nD Cert.MlDownIdeal.τ).loc Cert.MlDownIdeal.main_arg2) = m ((c.tc : Thread Cert.MlDownIdeal.nD Cert.MlDownIdeal.τ).loc Cert.MlDownIdeal.main_arg2)
          ∧ r.2.mem ((c.tc : Thread Cert.MlDownIdeal.nD Cert.MlDownIdeal.τ).loc Cert.MlDownIdeal.main_arg3) = m ((c.tc : Thread Cert.MlDownIdeal.nD Cert.MlDownIdeal.τ).loc Cert.MlDownIdeal.main_arg3))
      ∧ θ_run (Cert.MlDownReferenceIdeal.defs (F := Ideal)) (onTc (τ := Cert.MlDownReferenceIdeal.τ) (Cert.MlDownReferenceIdeal.main (F := Ideal))) ⟨m', fun _ => 0, g'⟩ (fun r => ∀ c : Dev Cert.MlDownReferenceIdeal.nD,
          r.2.mem ((c.tc : Thread Cert.MlDownReferenceIdeal.nD Cert.MlDownReferenceIdeal.τ).loc Cert.MlDownReferenceIdeal.main_v20) = v0 c
          ∧ r.2.mem ((c.tc : Thread Cert.MlDownReferenceIdeal.nD Cert.MlDownReferenceIdeal.τ).loc Cert.MlDownReferenceIdeal.main_arg0) = m' ((c.tc : Thread Cert.MlDownReferenceIdeal.nD Cert.MlDownReferenceIdeal.τ).loc Cert.MlDownReferenceIdeal.main_arg0)
          ∧ r.2.mem ((c.tc : Thread Cert.MlDownReferenceIdeal.nD Cert.MlDownReferenceIdeal.τ).loc Cert.MlDownReferenceIdeal.main_arg1) = m' ((c.tc : Thread Cert.MlDownReferenceIdeal.nD Cert.MlDownReferenceIdeal.τ).loc Cert.MlDownReferenceIdeal.main_arg1)
          ∧ r.2.mem ((c.tc : Thread Cert.MlDownReferenceIdeal.nD Cert.MlDownReferenceIdeal.τ).loc Cert.MlDownReferenceIdeal.main_arg2) = m' ((c.tc : Thread Cert.MlDownReferenceIdeal.nD Cert.MlDownReferenceIdeal.τ).loc Cert.MlDownReferenceIdeal.main_arg2)
          ∧ r.2.mem ((c.tc : Thread Cert.MlDownReferenceIdeal.nD Cert.MlDownReferenceIdeal.τ).loc Cert.MlDownReferenceIdeal.main_arg3) = m' ((c.tc : Thread Cert.MlDownReferenceIdeal.nD Cert.MlDownReferenceIdeal.τ).loc Cert.MlDownReferenceIdeal.main_arg3))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts) (hUp : Cert.Up.Facts) (hUpIdeal : Cert.UpIdeal.Facts) (hUpReferenceIdeal : Cert.UpReferenceIdeal.Facts) (hNorm : Cert.Norm.Facts) (hNormIdeal : Cert.NormIdeal.Facts) (hNormReferenceIdeal : Cert.NormReferenceIdeal.Facts) (hFfn : Cert.Ffn.Facts) (hFfnIdeal : Cert.FfnIdeal.Facts) (hFfnReferenceIdeal : Cert.FfnReferenceIdeal.Facts) (hFfnDown : Cert.FfnDown.Facts) (hFfnDownIdeal : Cert.FfnDownIdeal.Facts) (hFfnDownReferenceIdeal : Cert.FfnDownReferenceIdeal.Facts) (hHyIn : Cert.HyIn.Facts) (hHyInIdeal : Cert.HyInIdeal.Facts) (hHyInReferenceIdeal : Cert.HyInReferenceIdeal.Facts) (hMlUp : Cert.MlUp.Facts) (hMlUpIdeal : Cert.MlUpIdeal.Facts) (hMlUpReferenceIdeal : Cert.MlUpReferenceIdeal.Facts) (hHyOut : Cert.HyOut.Facts) (hHyOutIdeal : Cert.HyOutIdeal.Facts) (hHyOutReferenceIdeal : Cert.HyOutReferenceIdeal.Facts) (hMlDown : Cert.MlDown.Facts) (hMlDownIdeal : Cert.MlDownIdeal.Facts) (hMlDownReferenceIdeal : Cert.MlDownReferenceIdeal.Facts) (hPre_finite : Cert.Pre_finite.Facts) (hPre_routed : Cert.Pre_routed.Facts) (hPre_routed_up : Cert.Pre_routed_up.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Down (hDown := hDown) (hPre_routed := hPre_routed)
    ∧ quiescent_DownIdeal (hDownIdeal := hDownIdeal) (hPre_routed := hPre_routed)
    ∧ quiescent_DownReferenceIdeal (hDownReferenceIdeal := hDownReferenceIdeal)
    ∧ quiescent_DownReferenceIdeal_pre_routed (hDownReferenceIdeal := hDownReferenceIdeal) (hPre_routed := hPre_routed)
    ∧ quiescent_Up (hUp := hUp) (hPre_routed_up := hPre_routed_up)
    ∧ quiescent_UpIdeal (hUpIdeal := hUpIdeal) (hPre_routed_up := hPre_routed_up)
    ∧ quiescent_UpReferenceIdeal (hUpReferenceIdeal := hUpReferenceIdeal)
    ∧ quiescent_UpReferenceIdeal_pre_routed_up (hUpReferenceIdeal := hUpReferenceIdeal) (hPre_routed_up := hPre_routed_up)
    ∧ quiescent_Norm (hNorm := hNorm)
    ∧ quiescent_NormIdeal (hNormIdeal := hNormIdeal)
    ∧ quiescent_NormReferenceIdeal (hNormReferenceIdeal := hNormReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_HyIn (hHyIn := hHyIn)
    ∧ quiescent_HyInIdeal (hHyInIdeal := hHyInIdeal)
    ∧ quiescent_HyInReferenceIdeal (hHyInReferenceIdeal := hHyInReferenceIdeal)
    ∧ quiescent_MlUp (hMlUp := hMlUp)
    ∧ quiescent_MlUpIdeal (hMlUpIdeal := hMlUpIdeal)
    ∧ quiescent_MlUpReferenceIdeal (hMlUpReferenceIdeal := hMlUpReferenceIdeal)
    ∧ quiescent_HyOut (hHyOut := hHyOut)
    ∧ quiescent_HyOutIdeal (hHyOutIdeal := hHyOutIdeal)
    ∧ quiescent_HyOutReferenceIdeal (hHyOutReferenceIdeal := hHyOutReferenceIdeal)
    ∧ quiescent_MlDown (hMlDown := hMlDown)
    ∧ quiescent_MlDownIdeal (hMlDownIdeal := hMlDownIdeal)
    ∧ quiescent_MlDownReferenceIdeal (hMlDownReferenceIdeal := hMlDownReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Down_DownIdeal
    ∧ algebraic_DownIdeal_DownReferenceIdeal (hDownIdeal := hDownIdeal) (hDownReferenceIdeal := hDownReferenceIdeal) (hPre_routed := hPre_routed)
    ∧ preserves_Up_UpIdeal
    ∧ algebraic_UpIdeal_UpReferenceIdeal (hUpIdeal := hUpIdeal) (hUpReferenceIdeal := hUpReferenceIdeal) (hPre_routed_up := hPre_routed_up)
    ∧ preserves_Norm_NormIdeal
    ∧ algebraic_NormIdeal_NormReferenceIdeal (hNormIdeal := hNormIdeal) (hNormReferenceIdeal := hNormReferenceIdeal)
    ∧ preserves_Ffn_FfnIdeal
    ∧ algebraic_FfnIdeal_FfnReferenceIdeal (hFfnIdeal := hFfnIdeal) (hFfnReferenceIdeal := hFfnReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_HyIn_HyInIdeal
    ∧ algebraic_HyInIdeal_HyInReferenceIdeal (hHyInIdeal := hHyInIdeal) (hHyInReferenceIdeal := hHyInReferenceIdeal)
    ∧ preserves_MlUp_MlUpIdeal
    ∧ algebraic_MlUpIdeal_MlUpReferenceIdeal (hMlUpIdeal := hMlUpIdeal) (hMlUpReferenceIdeal := hMlUpReferenceIdeal)
    ∧ preserves_HyOut_HyOutIdeal
    ∧ algebraic_HyOutIdeal_HyOutReferenceIdeal (hHyOutIdeal := hHyOutIdeal) (hHyOutReferenceIdeal := hHyOutReferenceIdeal)
    ∧ preserves_MlDown_MlDownIdeal
    ∧ algebraic_MlDownIdeal_MlDownReferenceIdeal (hMlDownIdeal := hMlDownIdeal) (hMlDownReferenceIdeal := hMlDownReferenceIdeal)
-- ==== Pre_finite.lean ====
abbrev S12288x2048 : Shape := ⟨2, ![12288, 2048]⟩
abbrev S12288x128 : Shape := ⟨2, ![12288, 128]⟩
abbrev S8192x2048 : Shape := ⟨2, ![8192, 2048]⟩
abbrev S_ : Shape := ⟨0, ![]⟩
abbrev S8192 : Shape := ⟨1, ![8192]⟩
abbrev S8192x32 : Shape := ⟨2, ![8192, 32]⟩

class Facts : Prop where
  slices_S12288x2048_S8192x2048_0_0 : S12288x2048.Slices ![0, 0] S8192x2048
  bitsLt_bf16_f32 : FTy.bits .bf16 < FTy.bits .f32
  bcast_S_S8192x2048 : S_.BroadcastsInDim S8192x2048 (![] : Fin 0 → Fin S8192x2048.rank)
  reducesTo_S8192x2048_S8192_d1 : S8192x2048.ReducesTo [1] S8192
  h_S_ : 0 < S_.numel
  slices_S12288x128_S8192x32_0_0 : S12288x128.Slices ![0, 0] S8192x32
  bcast_S_S8192x32 : S_.BroadcastsInDim S8192x32 (![] : Fin 0 → Fin S8192x32.rank)
  reducesTo_S8192x32_S8192_d1 : S8192x32.ReducesTo [1] S8192

variable [Facts]

def fn_part1 {F : FTy → Type} [FloatOps F] (main_arg3 : FVec F S12288x128 .f32) (main_v12 : IVec S8192 1) (main_v17 : IVec S8192x2048 1) (main_c_3 : IVec S_ 1) : IVec S8192 1 :=
  let main_v18 : IVec S8192 1 := (fun x v => Host.reduce IntOp.andi x v reducesTo_S8192x2048_S8192_d1 h_S_) main_v17 main_c_3
  let main_v19 : IVec S8192 1 := andi main_v12 main_v18
  let main_v20 : FVec F S8192x32 .f32 := (extractStridedSlice S8192x32 ![0, 0] · slices_S12288x128_S8192x32_0_0) main_arg3
  let main_v21 : FVec F S8192x32 .f32 := Host.absf main_v20
  let main_cst_4 : FVec F S_ .f32 := constant S_ .f32 0x7F800000#32
  let main_v22 : FVec F S8192x32 .f32 := broadcastInDim S8192x32 ![] bcast_S_S8192x32 main_cst_4
  let main_v23 : IVec S8192x32 1 := cmpf .olt main_v21 main_v22
  let main_c_5 : IVec S_ 1 := constantI S_ 1 1#1
  let main_v24 : IVec S8192 1 := (fun x v => Host.reduce IntOp.andi x v reducesTo_S8192x32_S8192_d1 h_S_) main_v23 main_c_5
  let main_v25 : IVec S8192 1 := andi main_v19 main_v24
  main_v25

def fn {F : FTy → Type} [FloatOps F] (main_arg0 : FVec F S12288x2048 .bf16) (main_arg1 : FVec F S12288x2048 .bf16) (main_arg2 : FVec F S12288x2048 .bf16) (main_arg3 : FVec F S12288x128 .f32) : IVec S8192 1 :=
  let main_v0 : FVec F S8192x2048 .bf16 := (extractStridedSlice S8192x2048 ![0, 0] · slices_S12288x2048_S8192x2048_0_0) main_arg0
  let main_v1 : FVec F S8192x2048 .f32 := (extf .f32 · bitsLt_bf16_f32) main_v0
  let main_v2 : FVec F S8192x2048 .f32 := Host.absf main_v1
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_c : IVec S_ 1 := constantI S_ 1 1#1
  let main_v5 : IVec S8192 1 := (fun x v => Host.reduce IntOp.andi x v reducesTo_S8192x2048_S8192_d1 h_S_) main_v4 main_c
  let main_v6 : FVec F S8192x2048 .bf16 := (extractStridedSlice S8192x2048 ![0, 0] · slices_S12288x2048_S8192x2048_0_0) main_arg1
  let main_v7 : FVec F S8192x2048 .f32 := (extf .f32 · bitsLt_bf16_f32) main_v6
  let main_v8 : FVec F S8192x2048 .f32 := Host.absf main_v7
  let main_cst_0 : FVec F S_ .f32 := constant S_ .f32 0x7F800000#32
  let main_v9 : FVec F S8192x2048 .f32 := broadcastInDim S8192x2048 ![] bcast_S_S8192x2048 main_cst_0
  let main_v10 : IVec S8192x2048 1 := cmpf .olt main_v8 main_v9
  let main_c_1 : IVec S_ 1 := constantI S_ 1 1#1
  let main_v11 : IVec S8192 1 := (fun x v => Host.reduce IntOp.andi x v reducesTo_S8192x2048_S8192_d1 h_S_) main_v10 main_c_1
  let main_v12 : IVec S8192 1 := andi main_v5 main_v11
  let main_v13 : FVec F S8192x2048 .bf16 := (extractStridedSlice S8192x2048 ![0, 0] · slices_S12288x2048_S8192x2048_0_0) main_arg2
  let main_v14 : FVec F S8192x2048 .f32 := (extf .f32 · bitsLt_bf16_f32) main_v13
  let main_v15 : FVec F S8192x2048 .f32 := Host.absf main_v14
  let main_cst_2 : FVec F S_ .f32 := constant S_ .f32 0x7F800000#32
  let main_v16 : FVec F S8192x2048 .f32 := broadcastInDim S8192x2048 ![] bcast_S_S8192x2048 main_cst_2
  let main_v17 : IVec S8192x2048 1 := cmpf .olt main_v15 main_v16
  let main_c_3 : IVec S_ 1 := constantI S_ 1 1#1
  fn_part1 (F := F) main_arg3 main_v12 main_v17 main_c_3
-- ==== Pre_routed.lean ====
abbrev S33 : Shape := ⟨1, ![33]⟩
abbrev S32768x3584 : Shape := ⟨2, ![32768, 3584]⟩
abbrev S2x8x3584x1024 : Shape := ⟨4, ![2, 8, 3584, 1024]⟩
abbrev S_ : Shape := ⟨0, ![]⟩

class Facts : Prop where
  bcast_S_S33 : S_.BroadcastsInDim S33 (![] : Fin 0 → Fin S33.rank)

variable [Facts]

def fn_where {F : FTy → Type} [FloatOps F] (arg0 : IVec S33 1) (arg1 : IVec S33 1) (arg2 : IVec S33 1) : IVec S33 1 :=
  let v0 : IVec S33 1 := select arg0 arg1 arg2
  v0

def fn {F : FTy → Type} [FloatOps F] (main_arg0 : IVec S33 32) (main_arg1 : FVec F S32768x3584 .bf16) (main_arg2 : FVec F S2x8x3584x1024 .f32) : IVec S33 1 :=
  let main_v0 : IVec S33 32 := iotaInDim S33 32 0
  let main_c : IVec S_ 32 := constantI S_ 32 32#32
  let main_v1 : IVec S33 32 := broadcastInDim S33 ![] bcast_S_S33 main_c
  let main_v2 : IVec S33 1 := cmpi .slt main_v0 main_v1
  let main_c_0 : IVec S_ 32 := constantI S_ 32 0#32
  let main_v3 : IVec S33 32 := broadcastInDim S33 ![] bcast_S_S33 main_c_0
  let main_v4 : IVec S33 1 := cmpi .sge main_arg0 main_v3
  let main_c_1 : IVec S_ 32 := constantI S_ 32 8#32
  let main_v5 : IVec S33 32 := broadcastInDim S33 ![] bcast_S_S33 main_c_1
  let main_v6 : IVec S33 1 := cmpi .slt main_arg0 main_v5
  let main_v7 : IVec S33 1 := andi main_v4 main_v6
  let main_c_2 : IVec S_ 32 := constantI S_ 32 1#32
  let main_v8 : IVec S33 32 := broadcastInDim S33 ![] bcast_S_S33 main_c_2
  let main_v9 : IVec S33 1 := cmpi .sge main_arg0 main_v8
  let main_v10 : IVec S33 1 := fn_where (F := F) main_v2 main_v7 main_v9
  main_v10
-- ==== Pre_routed_up.lean ====
abbrev S33 : Shape := ⟨1, ![33]⟩
abbrev S32768x1024 : Shape := ⟨2, ![32768, 1024]⟩
abbrev S2x8x1024x3584 : Shape := ⟨4, ![2, 8, 1024, 3584]⟩
abbrev S_ : Shape := ⟨0, ![]⟩

class Facts : Prop where
  bcast_S_S33 : S_.BroadcastsInDim S33 (![] : Fin 0 → Fin S33.rank)

variable [Facts]

def fn_where {F : FTy → Type} [FloatOps F] (arg0 : IVec S33 1) (arg1 : IVec S33 1) (arg2 : IVec S33 1) : IVec S33 1 :=
  let v0 : IVec S33 1 := select arg0 arg1 arg2
  v0

def fn {F : FTy → Type} [FloatOps F] (main_arg0 : IVec S33 32) (main_arg1 : FVec F S32768x1024 .bf16) (main_arg2 : FVec F S2x8x1024x3584 .f32) (main_arg3 : FVec F S2x8x1024x3584 .f32) : IVec S33 1 :=
  let main_v0 : IVec S33 32 := iotaInDim S33 32 0
  let main_c : IVec S_ 32 := constantI S_ 32 32#32
  let main_v1 : IVec S33 32 := broadcastInDim S33 ![] bcast_S_S33 main_c
  let main_v2 : IVec S33 1 := cmpi .slt main_v0 main_v1
  let main_c_0 : IVec S_ 32 := constantI S_ 32 0#32
  let main_v3 : IVec S33 32 := broadcastInDim S33 ![] bcast_S_S33 main_c_0
  let main_v4 : IVec S33 1 := cmpi .sge main_arg0 main_v3
  let main_c_1 : IVec S_ 32 := constantI S_ 32 8#32
  let main_v5 : IVec S33 32 := broadcastInDim S33 ![] bcast_S_S33 main_c_1
  let main_v6 : IVec S33 1 := cmpi .slt main_arg0 main_v5
  let main_v7 : IVec S33 1 := andi main_v4 main_v6
  let main_c_2 : IVec S_ 32 := constantI S_ 32 1#32
  let main_v8 : IVec S33 32 := broadcastInDim S33 ![] bcast_S_S33 main_c_2
  let main_v9 : IVec S33 1 := cmpi .sge main_arg0 main_v8
  let main_v10 : IVec S33 1 := fn_where (F := F) main_v2 main_v7 main_v9
  main_v10
-- ==== Kernel.lean ====
abbrev S12288x2048 : Shape := ⟨2, ![12288, 2048]⟩
abbrev S12288x128 : Shape := ⟨2, ![12288, 128]⟩
abbrev S256x128 : Shape := ⟨2, ![256, 128]⟩
abbrev S256x256 : Shape := ⟨2, ![256, 256]⟩
abbrev S128x12288 : Shape := ⟨2, ![128, 12288]⟩
abbrev S2x8192x2048 : Shape := ⟨3, ![2, 8192, 2048]⟩
abbrev S32x2x8x256x256 : Shape := ⟨5, ![32, 2, 8, 256, 256]⟩
abbrev S32x2x8x1x256 : Shape := ⟨5, ![32, 2, 8, 1, 256]⟩
abbrev S32x2x8x1x1 : Shape := ⟨5, ![32, 2, 8, 1, 1]⟩
abbrev S256x2048 : Shape := ⟨2, ![256, 2048]⟩
abbrev S128x256 : Shape := ⟨2, ![128, 256]⟩
abbrev S1x256x2048 : Shape := ⟨3, ![1, 256, 2048]⟩
abbrev S1x1x8x256x256 : Shape := ⟨5, ![1, 1, 8, 256, 256]⟩
abbrev S1x1x8x1x256 : Shape := ⟨5, ![1, 1, 8, 1, 256]⟩
abbrev S1x1x8x1x1 : Shape := ⟨5, ![1, 1, 8, 1, 1]⟩
abbrev S256 : Shape := ⟨1, ![256]⟩
abbrev S256x1 : Shape := ⟨2, ![256, 1]⟩
abbrev S1x256 : Shape := ⟨2, ![1, 256]⟩
abbrev S1x1 : Shape := ⟨2, ![1, 1]⟩
abbrev S1x256x256 : Shape := ⟨3, ![1, 256, 256]⟩
abbrev S1 : Shape := ⟨1, ![1]⟩
abbrev S1x1x1x256x256 : Shape := ⟨5, ![1, 1, 1, 256, 256]⟩
abbrev S1x1x1x1x256 : Shape := ⟨5, ![1, 1, 1, 1, 256]⟩
abbrev S1x1x1x1x1 : Shape := ⟨5, ![1, 1, 1, 1, 1]⟩

abbrev nBuf : Space → Nat
  | .hbm => 10
  | .vmem => 22
  | .smem => 0
  | _ => 0

abbrev bufTy : (tb : Table) → Fin (tcTables nBuf tb) → BufTy
  | .hbm, ⟨0, _⟩ => ⟨S12288x2048, .bf16⟩
  | .hbm, ⟨1, _⟩ => ⟨S12288x2048, .bf16⟩
  | .hbm, ⟨2, _⟩ => ⟨S12288x2048, .bf16⟩
  | .hbm, ⟨3, _⟩ => ⟨S12288x128, .f32⟩
  | .hbm, ⟨4, _⟩ => ⟨S12288x128, .f32⟩
  | .hbm, ⟨5, _⟩ => ⟨S128x12288, .f32⟩
  | .hbm, ⟨6, _⟩ => ⟨S2x8192x2048, .f32⟩
  | .hbm, ⟨7, _⟩ => ⟨S32x2x8x256x256, .f32⟩
  | .hbm, ⟨8, _⟩ => ⟨S32x2x8x1x256, .f32⟩
  | .hbm, ⟨9, _⟩ => ⟨S32x2x8x1x1, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x128, .f32⟩
  | .local _ .vmem, ⟨11, _⟩ => ⟨S256x128, .f32⟩
  | .local _ .vmem, ⟨12, _⟩ => ⟨S128x256, .f32⟩
  | .local _ .vmem, ⟨13, _⟩ => ⟨S128x256, .f32⟩
  | .local _ .vmem, ⟨14, _⟩ => ⟨S1x256x2048, .f32⟩
  | .local _ .vmem, ⟨15, _⟩ => ⟨S1x256x2048, .f32⟩
  | .local _ .vmem, ⟨16, _⟩ => ⟨S1x1x8x256x256, .f32⟩
  | .local _ .vmem, ⟨17, _⟩ => ⟨S1x1x8x256x256, .f32⟩
  | .local _ .vmem, ⟨18, _⟩ => ⟨S1x1x8x1x256, .f32⟩
  | .local _ .vmem, ⟨19, _⟩ => ⟨S1x1x8x1x256, .f32⟩
  | .local _ .vmem, ⟨20, _⟩ => ⟨S1x1x8x1x1, .f32⟩
  | .local _ .vmem, ⟨21, _⟩ => ⟨S1x1x8x1x1, .f32⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![2, 32, 1], ![false, false, false]⟩

def k1_off1 (i : grid1.Coords) (c0_i32_7 : BitVec 32) : Fin 2 → Nat :=
  let arg0 : BitVec 32 := BitVec.ofNat 32 (i 0).val
  let c16_i32 : BitVec 32 := 16#32
  let v15 : BitVec 32 := Scalar.muli arg0 c16_i32
  let v16 : BitVec 32 := Scalar.addi v15 c0_i32_7
  let c8_i32 : BitVec 32 := 8#32
  let v17 : BitVec 32 := Scalar.addi v16 c8_i32
  let v30 : Index := Scalar.indexCast v17
  let c0_11 : Index := 0#32
  ![v30.toNat, 0]
def k1_off2 (i : grid1.Coords) (c0_i32_7 : BitVec 32) : Fin 2 → Nat :=
  let arg0 : BitVec 32 := BitVec.ofNat 32 (i 0).val
  let c16_i32 : BitVec 32 := 16#32
  let v15 : BitVec 32 := Scalar.muli arg0 c16_i32
  let v16 : BitVec 32 := Scalar.addi v15 c0_i32_7
  let v33 : Index := Scalar.indexCast v16
  let c0_12 : Index := 0#32
  ![v33.toNat, 0]
def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi c0_i32 v0
  let v2 : BitVec 32 := Scalar.addi v1 arg2
  let c2_i32 : BitVec 32 := 2#32
  let v3 : BitVec 32 := Scalar.muli c2_i32 arg2
  let c0_i32_0 : BitVec 32 := 0#32
  let v4 : BitVec 32 := Scalar.subi c0_i32_0 v3
  let v5 : BitVec 32 := Scalar.muli arg0 v4
  let v6 : BitVec 32 := Scalar.addi v2 v5
  let c0_i32_1 : BitVec 32 := 0#32
  let c0_i32_2 : BitVec 32 := 0#32
  ![v6.toNat, c0_i32_1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi c0_i32 v0
  let v2 : BitVec 32 := Scalar.addi v1 arg2
  let c2_i32 : BitVec 32 := 2#32
  let v3 : BitVec 32 := Scalar.muli c2_i32 arg2
  let c0_i32_0 : BitVec 32 := 0#32
  let v4 : BitVec 32 := Scalar.subi c0_i32_0 v3
  let v5 : BitVec 32 := Scalar.muli arg0 v4
  let v6 : BitVec 32 := Scalar.addi v2 v5
  let c0_i32_1 : BitVec 32 := 0#32
  let c0_i32_2 : BitVec 32 := 0#32
  ![v6.toNat, c0_i32_1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi c0_i32 v0
  let v2 : BitVec 32 := Scalar.addi v1 arg2
  let c2_i32 : BitVec 32 := 2#32
  let v3 : BitVec 32 := Scalar.muli c2_i32 arg2
  let c0_i32_0 : BitVec 32 := 0#32
  let v4 : BitVec 32 := Scalar.subi c0_i32_0 v3
  let v5 : BitVec 32 := Scalar.muli arg0 v4
  let v6 : BitVec 32 := Scalar.addi v2 v5
  let c0_i32_1 : BitVec 32 := 0#32
  let c0_i32_2 : BitVec 32 := 0#32
  ![v6.toNat, c0_i32_1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi c0_i32 v0
  let v2 : BitVec 32 := Scalar.addi v1 arg2
  let c2_i32 : BitVec 32 := 2#32
  let v3 : BitVec 32 := Scalar.muli c2_i32 arg2
  let c0_i32_0 : BitVec 32 := 0#32
  let v4 : BitVec 32 := Scalar.subi c0_i32_0 v3
  let v5 : BitVec 32 := Scalar.muli arg0 v4
  let v6 : BitVec 32 := Scalar.addi v2 v5
  let c0_i32_1 : BitVec 32 := 0#32
  let c0_i32_2 : BitVec 32 := 0#32
  ![v6.toNat, c0_i32_1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi c0_i32 v0
  let v2 : BitVec 32 := Scalar.addi v1 arg2
  let c2_i32 : BitVec 32 := 2#32
  let v3 : BitVec 32 := Scalar.muli c2_i32 arg2
  let c0_i32_0 : BitVec 32 := 0#32
  let v4 : BitVec 32 := Scalar.subi c0_i32_0 v3
  let v5 : BitVec 32 := Scalar.muli arg0 v4
  let v6 : BitVec 32 := Scalar.addi v2 v5
  let c0_i32_1 : BitVec 32 := 0#32
  let c0_i32_2 : BitVec 32 := 0#32
  ![c0_i32_1.toNat, v6.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c2_i32 : BitVec 32 := 2#32
  let v2 : BitVec 32 := Scalar.muli c2_i32 arg2
  let c0_i32 : BitVec 32 := 0#32
  let v3 : BitVec 32 := Scalar.subi c0_i32 v2
  let v4 : BitVec 32 := Scalar.muli arg0 v3
  let v5 : BitVec 32 := Scalar.addi v1 v4
  let c0_i32_0 : BitVec 32 := 0#32
  let c0_i32_1 : BitVec 32 := 0#32
  ![arg0.toNat, v5.toNat, c0_i32_0.toNat]

def cc1_transform_6 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, arg0.toNat, c0_i32.toNat, c0_i32_0.toNat, c0_i32_1.toNat]

def cc1_transform_7 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, arg0.toNat, c0_i32.toNat, c0_i32_0.toNat, c0_i32_1.toNat]

def cc1_transform_8 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, arg0.toNat, c0_i32.toNat, c0_i32_0.toNat, c0_i32_1.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S256x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S128x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S1x1x8x256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev stage1_7 : Fin 2 → Memref sig .tc .vmem S1x1x8x1x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev stage1_8 : Fin 2 → Memref sig .tc .vmem S1x1x8x1x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, false]
-- ==== ReferenceIdeal.lean ====
abbrev S12288x2048 : Shape := ⟨2, ![12288, 2048]⟩
abbrev S12288x128 : Shape := ⟨2, ![12288, 128]⟩
abbrev S8192x2048 : Shape := ⟨2, ![8192, 2048]⟩
abbrev S32x256x8x256 : Shape := ⟨4, ![32, 256, 8, 256]⟩
abbrev S32x8x256x256 : Shape := ⟨4, ![32, 8, 256, 256]⟩
abbrev S8192x32 : Shape := ⟨2, ![8192, 32]⟩
abbrev S32x256x2x16 : Shape := ⟨4, ![32, 256, 2, 16]⟩
abbrev S2x32x256x16 : Shape := ⟨4, ![2, 32, 256, 16]⟩
abbrev S2x32x256x8 : Shape := ⟨4, ![2, 32, 256, 8]⟩
abbrev S2x32x8x256 : Shape := ⟨4, ![2, 32, 8, 256]⟩
abbrev S_ : Shape := ⟨0, ![]⟩
abbrev S64x8x256x256 : Shape := ⟨4, ![64, 8, 256, 256]⟩
abbrev S64x8x256 : Shape := ⟨3, ![64, 8, 256]⟩
abbrev S64x8 : Shape := ⟨2, ![64, 8]⟩
abbrev S1x32x8x256 : Shape := ⟨4, ![1, 32, 8, 256]⟩
abbrev S32x8x256 : Shape := ⟨3, ![32, 8, 256]⟩
abbrev S64x8x4x64x256 : Shape := ⟨5, ![64, 8, 4, 64, 256]⟩
abbrev S4x64x8x64x256 : Shape := ⟨5, ![4, 64, 8, 64, 256]⟩
abbrev S64x8x4x64 : Shape := ⟨4, ![64, 8, 4, 64]⟩
abbrev S4x64x8x64 : Shape := ⟨4, ![4, 64, 8, 64]⟩
abbrev S64x64 : Shape := ⟨2, ![64, 64]⟩
abbrev S1x64x8x64x256 : Shape := ⟨5, ![1, 64, 8, 64, 256]⟩
abbrev S64x8x64x256 : Shape := ⟨4, ![64, 8, 64, 256]⟩
abbrev S1x64x8x64 : Shape := ⟨4, ![1, 64, 8, 64]⟩
abbrev S64x8x64 : Shape := ⟨3, ![64, 8, 64]⟩
abbrev S64x8x1 : Shape := ⟨3, ![64, 8, 1]⟩
abbrev S64x8x64x1 : Shape := ⟨4, ![64, 8, 64, 1]⟩
abbrev S64x8x1x64 : Shape := ⟨4, ![64, 8, 1, 64]⟩
abbrev S64x8x64x64 : Shape := ⟨4, ![64, 8, 64, 64]⟩
abbrev S64x8x1x1 : Shape := ⟨4, ![64, 8, 1, 1]⟩
abbrev S1x32x8x256x256 : Shape := ⟨5, ![1, 32, 8, 256, 256]⟩
abbrev S2x32x8x256x256 : Shape := ⟨5, ![2, 32, 8, 256, 256]⟩
abbrev S2x32x256x8x256 : Shape := ⟨5, ![2, 32, 256, 8, 256]⟩
abbrev S2x8192x2048 : Shape := ⟨3, ![2, 8192, 2048]⟩
abbrev S32x1x8x256x256 : Shape := ⟨5, ![32, 1, 8, 256, 256]⟩
abbrev S32x2x8x256x256 : Shape := ⟨5, ![32, 2, 8, 256, 256]⟩
abbrev S32x1x8x256 : Shape := ⟨4, ![32, 1, 8, 256]⟩
abbrev S32x2x8x256 : Shape := ⟨4, ![32, 2, 8, 256]⟩
abbrev S32x8 : Shape := ⟨2, ![32, 8]⟩
abbrev S32x1x8 : Shape := ⟨3, ![32, 1, 8]⟩
abbrev S32x2x8 : Shape := ⟨3, ![32, 2, 8]⟩
abbrev S32x2x8x1x256 : Shape := ⟨5, ![32, 2, 8, 1, 256]⟩
abbrev S32x2x8x1x1 : Shape := ⟨5, ![32, 2, 8, 1, 1]⟩

abbrev nBuf : Space → Nat
  | .hbm => 242
  | .vmem => 0
  | .smem => 0
  | _ => 0

abbrev hbmTy0_0 (i : Nat) : BufTy := match i % 128 with
  | 0 => ⟨S12288x2048, .bf16⟩
  | 1 => ⟨S12288x2048, .bf16⟩
  | 2 => ⟨S12288x2048, .bf16⟩
  | 3 => ⟨S12288x128, .f32⟩
  | 4 => ⟨S8192x2048, .bf16⟩
  | 5 => ⟨S8192x2048, .f32⟩
  | 6 => ⟨S32x256x8x256, .f32⟩
  | 7 => ⟨S32x8x256x256, .f32⟩
  | 8 => ⟨S8192x2048, .bf16⟩
  | 9 => ⟨S8192x2048, .f32⟩
  | 10 => ⟨S32x256x8x256, .f32⟩
  | 11 => ⟨S32x8x256x256, .f32⟩
  | 12 => ⟨S8192x2048, .bf16⟩
  | 13 => ⟨S8192x2048, .f32⟩
  | 14 => ⟨S32x256x8x256, .f32⟩
  | 15 => ⟨S32x8x256x256, .f32⟩
  | 16 => ⟨S8192x32, .f32⟩
  | 17 => ⟨S32x256x2x16, .f32⟩
  | 18 => ⟨S2x32x256x16, .f32⟩
  | 19 => ⟨S2x32x256x8, .f32⟩
  | 20 => ⟨S2x32x8x256, .f32⟩
  | 21 => ⟨S2x32x256x8, .f32⟩
  | 22 => ⟨S2x32x8x256, .f32⟩
  | 23 => ⟨S2x32x8x256, .f32⟩
  | 24 => ⟨S_, .f32⟩
  | 25 => ⟨S2x32x8x256, .f32⟩
  | 26 => ⟨S2x32x8x256, .f32⟩
  | 27 => ⟨S2x32x8x256, .f32⟩
  | 28 => ⟨S2x32x8x256, .f32⟩
  | 29 => ⟨S2x32x8x256, .i1⟩
  | 30 => ⟨S2x32x8x256, .f32⟩
  | 31 => ⟨S2x32x8x256, .f32⟩
  | 32 => ⟨S2x32x8x256, .f32⟩
  | 33 => ⟨S2x32x8x256, .f32⟩
  | 34 => ⟨S2x32x8x256, .f32⟩
  | 35 => ⟨S2x32x8x256, .f32⟩
  | 36 => ⟨S2x32x8x256, .f32⟩
  | 37 => ⟨S2x32x8x256, .f32⟩
  | 38 => ⟨S2x32x8x256, .f32⟩
  | 39 => ⟨S_, .f32⟩
  | 40 => ⟨S64x8x256x256, .f32⟩
  | 41 => ⟨S_, .f32⟩
  | 42 => ⟨S64x8x256, .f32⟩
  | 43 => ⟨S_, .f32⟩
  | 44 => ⟨S64x8, .f32⟩
  | 45 => ⟨S32x8x256x256, .f32⟩
  | 46 => ⟨S64x8x256x256, .f32⟩
  | 47 => ⟨S32x8x256x256, .f32⟩
  | 48 => ⟨S64x8x256x256, .f32⟩
  | 49 => ⟨S32x8x256x256, .f32⟩
  | 50 => ⟨S64x8x256x256, .f32⟩
  | 51 => ⟨S1x32x8x256, .f32⟩
  | 52 => ⟨S32x8x256, .f32⟩
  | 53 => ⟨S1x32x8x256, .f32⟩
  | 54 => ⟨S32x8x256, .f32⟩
  | 55 => ⟨S32x8x256, .f32⟩
  | 56 => ⟨S64x8x256, .f32⟩
  | 57 => ⟨S1x32x8x256, .f32⟩
  | 58 => ⟨S32x8x256, .f32⟩
  | 59 => ⟨S1x32x8x256, .f32⟩
  | 60 => ⟨S32x8x256, .f32⟩
  | 61 => ⟨S32x8x256, .f32⟩
  | 62 => ⟨S64x8x256, .f32⟩
  | 63 => ⟨S64x8x4x64x256, .f32⟩
  | 64 => ⟨S4x64x8x64x256, .f32⟩
  | 65 => ⟨S64x8x4x64x256, .f32⟩
  | 66 => ⟨S4x64x8x64x256, .f32⟩
  | 67 => ⟨S64x8x4x64x256, .f32⟩
  | 68 => ⟨S4x64x8x64x256, .f32⟩
  | 69 => ⟨S64x8x4x64, .f32⟩
  | 70 => ⟨S4x64x8x64, .f32⟩
  | 71 => ⟨S64x8x4x64, .f32⟩
  | 72 => ⟨S4x64x8x64, .f32⟩
  | 73 => ⟨S_, .i1⟩
  | 74 => ⟨S64x64, .i1⟩
  | 75 => ⟨S64x64, .i32⟩
  | 76 => ⟨S_, .i32⟩
  | 77 => ⟨S64x64, .i32⟩
  | 78 => ⟨S64x64, .i32⟩
  | 79 => ⟨S64x64, .i32⟩
  | 80 => ⟨S64x64, .i1⟩
  | 81 => ⟨S_, .i1⟩
  | 82 => ⟨S64x64, .i1⟩
  | 83 => ⟨S64x64, .i1⟩
  | 84 => ⟨S_, .f32⟩
  | 85 => ⟨S4x64x8x64x256, .f32⟩
  | 86 => ⟨S_, .i32⟩
  | 87 => ⟨S4x64x8x64x256, .f32⟩
  | 88 => ⟨S4x64x8x64x256, .f32⟩
  | 89 => ⟨S4x64x8x64x256, .f32⟩
  | 90 => ⟨S4x64x8x64, .f32⟩
  | 91 => ⟨S4x64x8x64, .f32⟩
  | 92 => ⟨S64x64, .i1⟩
  | 93 => ⟨S_, .i32⟩
  | 94 => ⟨S64x8x256x256, .f32⟩
  | 95 => ⟨S64x8x256, .f32⟩
  | 96 => ⟨S64x8, .f32⟩
  | 97 => ⟨S4x64x8x64x256, .f32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S1x64x8x64x256, .f32⟩
  | 105 => ⟨S64x8x64x256, .f32⟩
  | 106 => ⟨S_, .i32⟩
  | 107 => ⟨S_, .i32⟩
  | 108 => ⟨S_, .i32⟩
  | 109 => ⟨S_, .i32⟩
  | 110 => ⟨S1x64x8x64x256, .f32⟩
  | 111 => ⟨S64x8x64x256, .f32⟩
  | 112 => ⟨S_, .i32⟩
  | 113 => ⟨S_, .i32⟩
  | 114 => ⟨S_, .i32⟩
  | 115 => ⟨S_, .i32⟩
  | 116 => ⟨S1x64x8x64x256, .f32⟩
  | 117 => ⟨S64x8x64x256, .f32⟩
  | 118 => ⟨S_, .i32⟩
  | 119 => ⟨S_, .i32⟩
  | 120 => ⟨S_, .i32⟩
  | 121 => ⟨S1x64x8x64, .f32⟩
  | 122 => ⟨S64x8x64, .f32⟩
  | 123 => ⟨S_, .i32⟩
  | 124 => ⟨S_, .i32⟩
  | 125 => ⟨S_, .i32⟩
  | 126 => ⟨S1x64x8x64, .f32⟩
  | 127 => ⟨S64x8x64, .f32⟩
  | _ => ⟨S12288x2048, .bf16⟩

abbrev hbmTy0_1 (i : Nat) : BufTy := match i % 128 with
  | 0 => ⟨S_, .f32⟩
  | 1 => ⟨S_, .f32⟩
  | 2 => ⟨S64x8x64, .f32⟩
  | 3 => ⟨S64x8x1, .f32⟩
  | 4 => ⟨S64x8x64, .f32⟩
  | 5 => ⟨S64x8x64, .f32⟩
  | 6 => ⟨S64x8x64x1, .f32⟩
  | 7 => ⟨S64x8x1x64, .f32⟩
  | 8 => ⟨S64x8x64x64, .f32⟩
  | 9 => ⟨S64x8x64x64, .f32⟩
  | 10 => ⟨S64x8x64x64, .f32⟩
  | 11 => ⟨S64x8x1x64, .f32⟩
  | 12 => ⟨S64x8x64x64, .f32⟩
  | 13 => ⟨S64x8x64x64, .f32⟩
  | 14 => ⟨S_, .f32⟩
  | 15 => ⟨S_, .f32⟩
  | 16 => ⟨S64x8x64x64, .i1⟩
  | 17 => ⟨S64x8x64x64, .f32⟩
  | 18 => ⟨S64x8x64x64, .f32⟩
  | 19 => ⟨S_, .f32⟩
  | 20 => ⟨S64x8x64, .f32⟩
  | 21 => ⟨S64x8x64, .f32⟩
  | 22 => ⟨S64x8x64, .f32⟩
  | 23 => ⟨S64x8x64, .f32⟩
  | 24 => ⟨S64x8x64x64, .f32⟩
  | 25 => ⟨S64x8x64x1, .f32⟩
  | 26 => ⟨S64x8x64x64, .f32⟩
  | 27 => ⟨S64x8x64x64, .f32⟩
  | 28 => ⟨S64x8x64x64, .f32⟩
  | 29 => ⟨S64x8x64x64, .f32⟩
  | 30 => ⟨S64x8x64x1, .f32⟩
  | 31 => ⟨S64x8x64x256, .f32⟩
  | 32 => ⟨S64x8x64x256, .f32⟩
  | 33 => ⟨S64x8x64x256, .f32⟩
  | 34 => ⟨S64x8x64x256, .f32⟩
  | 35 => ⟨S64x8x64x256, .f32⟩
  | 36 => ⟨S64x8x64, .f32⟩
  | 37 => ⟨S64x8x64, .f32⟩
  | 38 => ⟨S_, .f32⟩
  | 39 => ⟨S64x8x64, .f32⟩
  | 40 => ⟨S64x8x64, .f32⟩
  | 41 => ⟨S64x8x64, .f32⟩
  | 42 => ⟨S64x8x64, .f32⟩
  | 43 => ⟨S64x8x64, .f32⟩
  | 44 => ⟨S64x8x64, .f32⟩
  | 45 => ⟨S64x8x64x1, .f32⟩
  | 46 => ⟨S64x8x64x256, .f32⟩
  | 47 => ⟨S64x8x64x256, .f32⟩
  | 48 => ⟨S64x8x1, .f32⟩
  | 49 => ⟨S64x8, .f32⟩
  | 50 => ⟨S64x8x1, .f32⟩
  | 51 => ⟨S64x8x64, .f32⟩
  | 52 => ⟨S64x8x64, .f32⟩
  | 53 => ⟨S64x8x64, .f32⟩
  | 54 => ⟨S64x8, .f32⟩
  | 55 => ⟨S_, .f32⟩
  | 56 => ⟨S64x8, .f32⟩
  | 57 => ⟨S64x8, .f32⟩
  | 58 => ⟨S64x8, .f32⟩
  | 59 => ⟨S64x8, .f32⟩
  | 60 => ⟨S64x8, .f32⟩
  | 61 => ⟨S64x8x1, .f32⟩
  | 62 => ⟨S64x8x64, .f32⟩
  | 63 => ⟨S64x8x64, .f32⟩
  | 64 => ⟨S64x8x64, .f32⟩
  | 65 => ⟨S64x8x64x1, .f32⟩
  | 66 => ⟨S64x8x64x256, .f32⟩
  | 67 => ⟨S64x8x64x256, .f32⟩
  | 68 => ⟨S64x8x1x1, .f32⟩
  | 69 => ⟨S64x8x256x256, .f32⟩
  | 70 => ⟨S64x8x256x256, .f32⟩
  | 71 => ⟨S64x8x256x256, .f32⟩
  | 72 => ⟨S64x8x256x256, .f32⟩
  | 73 => ⟨S64x8x1, .f32⟩
  | 74 => ⟨S64x8x256, .f32⟩
  | 75 => ⟨S64x8x256, .f32⟩
  | 76 => ⟨S_, .f32⟩
  | 77 => ⟨S64x8x256, .f32⟩
  | 78 => ⟨S64x8x256, .f32⟩
  | 79 => ⟨S1x64x8x64x256, .f32⟩
  | 80 => ⟨S_, .i32⟩
  | 81 => ⟨S_, .i32⟩
  | 82 => ⟨S_, .i32⟩
  | 83 => ⟨S_, .i32⟩
  | 84 => ⟨S4x64x8x64x256, .f32⟩
  | 85 => ⟨S_, .i32⟩
  | 86 => ⟨S_, .i32⟩
  | 87 => ⟨S64x8x4x64x256, .f32⟩
  | 88 => ⟨S64x8x256x256, .f32⟩
  | 89 => ⟨S32x8x256x256, .f32⟩
  | 90 => ⟨S32x8x256x256, .f32⟩
  | 91 => ⟨S32x8x256x256, .f32⟩
  | 92 => ⟨S1x32x8x256x256, .f32⟩
  | 93 => ⟨S1x32x8x256x256, .f32⟩
  | 94 => ⟨S2x32x8x256x256, .f32⟩
  | 95 => ⟨S2x32x256x8x256, .f32⟩
  | 96 => ⟨S2x8192x2048, .f32⟩
  | 97 => ⟨S32x8x256x256, .f32⟩
  | 98 => ⟨S32x8x256x256, .f32⟩
  | 99 => ⟨S32x1x8x256x256, .f32⟩
  | 100 => ⟨S32x1x8x256x256, .f32⟩
  | 101 => ⟨S32x2x8x256x256, .f32⟩
  | 102 => ⟨S32x8x256, .f32⟩
  | 103 => ⟨S32x8x256, .f32⟩
  | 104 => ⟨S32x1x8x256, .f32⟩
  | 105 => ⟨S32x1x8x256, .f32⟩
  | 106 => ⟨S32x2x8x256, .f32⟩
  | 107 => ⟨S32x8, .f32⟩
  | 108 => ⟨S32x8, .f32⟩
  | 109 => ⟨S32x1x8, .f32⟩
  | 110 => ⟨S32x1x8, .f32⟩
  | 111 => ⟨S32x2x8, .f32⟩
  | 112 => ⟨S32x2x8x1x256, .f32⟩
  | 113 => ⟨S32x2x8x1x1, .f32⟩
  | _ => ⟨S12288x2048, .bf16⟩

abbrev hbmTy (i : Nat) : BufTy := match i / 128 with
  | 0 => hbmTy0_0 i
  | 1 => hbmTy0_1 i
  | _ => ⟨S12288x2048, .bf16⟩

abbrev bufTy : (tb : Table) → Fin (tcTables nBuf tb) → BufTy
  | .hbm, ⟨i, _⟩ => hbmTy i
  | _, _ => ⟨S12288x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_0 : Ref sig .tc := ⟨.hbm, 39, rfl⟩
abbrev main_v34 : Ref sig .tc := ⟨.hbm, 40, rfl⟩
abbrev main_cst_1 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_c : Ref sig .tc := ⟨.hbm, 73, rfl⟩
abbrev main_v65 : Ref sig .tc := ⟨.hbm, 74, rfl⟩
abbrev main_call5_v0 : Ref sig .tc := ⟨.hbm, 75, rfl⟩
abbrev main_call5_c : Ref sig .tc := ⟨.hbm, 76, rfl⟩
abbrev main_call5_v1 : Ref sig .tc := ⟨.hbm, 77, rfl⟩
abbrev main_call5_v2 : Ref sig .tc := ⟨.hbm, 78, rfl⟩
abbrev main_call5_v3 : Ref sig .tc := ⟨.hbm, 79, rfl⟩
abbrev main_call5_v4 : Ref sig .tc := ⟨.hbm, 80, rfl⟩
abbrev main_call5_c_0 : Ref sig .tc := ⟨.hbm, 81, rfl⟩
abbrev main_call5_v5 : Ref sig .tc := ⟨.hbm, 82, rfl⟩
abbrev main_v66 : Ref sig .tc := ⟨.hbm, 83, rfl⟩
abbrev main_cst_3 : Ref sig .tc := ⟨.hbm, 84, rfl⟩
abbrev main_v67 : Ref sig .tc := ⟨.hbm, 85, rfl⟩
abbrev main_c_4 : Ref sig .tc := ⟨.hbm, 86, rfl⟩
abbrev main_v68_0 : Ref sig .tc := ⟨.hbm, 87, rfl⟩
abbrev main_v68_1 : Ref sig .tc := ⟨.hbm, 88, rfl⟩
abbrev main_v68_2 : Ref sig .tc := ⟨.hbm, 89, rfl⟩
abbrev main_v68_3 : Ref sig .tc := ⟨.hbm, 90, rfl⟩
abbrev main_v68_4 : Ref sig .tc := ⟨.hbm, 91, rfl⟩
abbrev main_v68_5 : Ref sig .tc := ⟨.hbm, 92, rfl⟩
abbrev main_v68_6 : Ref sig .tc := ⟨.hbm, 93, rfl⟩
abbrev main_v68_7 : Ref sig .tc := ⟨.hbm, 94, rfl⟩
abbrev main_v68_8 : Ref sig .tc := ⟨.hbm, 95, rfl⟩
abbrev main_v68_9 : Ref sig .tc := ⟨.hbm, 96, rfl⟩
abbrev main_v68_10 : Ref sig .tc := ⟨.hbm, 97, rfl⟩
abbrev main_while0c_c_15 : Ref sig .tc := ⟨.hbm, 98, rfl⟩
abbrev main_while0c_v96 : Ref sig .tc := ⟨.hbm, 99, rfl⟩
abbrev main_while0b_call6_c : Ref sig .tc := ⟨.hbm, 100, rfl⟩
abbrev main_while0b_call6_c_0 : Ref sig .tc := ⟨.hbm, 101, rfl⟩
abbrev main_while0b_call6_c_1 : Ref sig .tc := ⟨.hbm, 102, rfl⟩
abbrev main_while0b_call6_c_2 : Ref sig .tc := ⟨.hbm, 103, rfl⟩
abbrev main_while0b_call6_v0 : Ref sig .tc := ⟨.hbm, 104, rfl⟩
abbrev main_while0b_v96 : Ref sig .tc := ⟨.hbm, 105, rfl⟩
abbrev main_while0b_call7_c : Ref sig .tc := ⟨.hbm, 106, rfl⟩
abbrev main_while0b_call7_c_0 : Ref sig .tc := ⟨.hbm, 107, rfl⟩
abbrev main_while0b_call7_c_1 : Ref sig .tc := ⟨.hbm, 108, rfl⟩
abbrev main_while0b_call7_c_2 : Ref sig .tc := ⟨.hbm, 109, rfl⟩
abbrev main_while0b_call7_v0 : Ref sig .tc := ⟨.hbm, 110, rfl⟩
abbrev main_while0b_v97 : Ref sig .tc := ⟨.hbm, 111, rfl⟩
abbrev main_while0b_call8_c : Ref sig .tc := ⟨.hbm, 112, rfl⟩
abbrev main_while0b_call8_c_0 : Ref sig .tc := ⟨.hbm, 113, rfl⟩
abbrev main_while0b_call8_c_1 : Ref sig .tc := ⟨.hbm, 114, rfl⟩
abbrev main_while0b_call8_c_2 : Ref sig .tc := ⟨.hbm, 115, rfl⟩
abbrev main_while0b_call8_v0 : Ref sig .tc := ⟨.hbm, 116, rfl⟩
abbrev main_while0b_v98 : Ref sig .tc := ⟨.hbm, 117, rfl⟩
abbrev main_while0b_call9_c : Ref sig .tc := ⟨.hbm, 118, rfl⟩
abbrev main_while0b_call9_c_0 : Ref sig .tc := ⟨.hbm, 119, rfl⟩
abbrev main_while0b_call9_c_1 : Ref sig .tc := ⟨.hbm, 120, rfl⟩
abbrev main_while0b_call9_v0 : Ref sig .tc := ⟨.hbm, 121, rfl⟩
abbrev main_while0b_v99 : Ref sig .tc := ⟨.hbm, 122, rfl⟩
abbrev main_while0b_call10_c : Ref sig .tc := ⟨.hbm, 123, rfl⟩
abbrev main_while0b_call10_c_0 : Ref sig .tc := ⟨.hbm, 124, rfl⟩
abbrev main_while0b_call10_c_1 : Ref sig .tc := ⟨.hbm, 125, rfl⟩
abbrev main_while0b_call10_v0 : Ref sig .tc := ⟨.hbm, 126, rfl⟩
abbrev main_while0b_v100 : Ref sig .tc := ⟨.hbm, 127, rfl⟩
abbrev main_while0b_call11_call0_cst : Ref sig .tc := ⟨.hbm, 128, rfl⟩
abbrev main_while0b_call11_call0_v0 : Ref sig .tc := ⟨.hbm, 129, rfl⟩
abbrev main_while0b_v101 : Ref sig .tc := ⟨.hbm, 130, rfl⟩
abbrev main_while0b_v102 : Ref sig .tc := ⟨.hbm, 131, rfl⟩
abbrev main_while0b_v103 : Ref sig .tc := ⟨.hbm, 132, rfl⟩
abbrev main_while0b_v104 : Ref sig .tc := ⟨.hbm, 133, rfl⟩
abbrev main_while0b_v105 : Ref sig .tc := ⟨.hbm, 134, rfl⟩
abbrev main_while0b_v106 : Ref sig .tc := ⟨.hbm, 135, rfl⟩
abbrev main_while0b_v107 : Ref sig .tc := ⟨.hbm, 136, rfl⟩
abbrev main_while0b_v108 : Ref sig .tc := ⟨.hbm, 137, rfl⟩
abbrev main_while0b_v109 : Ref sig .tc := ⟨.hbm, 138, rfl⟩
abbrev main_while0b_v110 : Ref sig .tc := ⟨.hbm, 139, rfl⟩
abbrev main_while0b_v111 : Ref sig .tc := ⟨.hbm, 140, rfl⟩
abbrev main_while0b_v112 : Ref sig .tc := ⟨.hbm, 141, rfl⟩
abbrev main_while0b_cst_15 : Ref sig .tc := ⟨.hbm, 142, rfl⟩
abbrev main_while0b_call12_v0 : Ref sig .tc := ⟨.hbm, 143, rfl⟩
abbrev main_while0b_call12_v1 : Ref sig .tc := ⟨.hbm, 144, rfl⟩
abbrev main_while0b_call12_v2 : Ref sig .tc := ⟨.hbm, 145, rfl⟩
abbrev main_while0b_v113 : Ref sig .tc := ⟨.hbm, 146, rfl⟩
abbrev main_while0b_cst_16 : Ref sig .tc := ⟨.hbm, 147, rfl⟩
abbrev main_while0b_v114 : Ref sig .tc := ⟨.hbm, 148, rfl⟩
abbrev main_while0b_v115 : Ref sig .tc := ⟨.hbm, 149, rfl⟩
abbrev main_while0b_v116 : Ref sig .tc := ⟨.hbm, 150, rfl⟩
abbrev main_while0b_v117 : Ref sig .tc := ⟨.hbm, 151, rfl⟩
abbrev main_while0b_v118 : Ref sig .tc := ⟨.hbm, 152, rfl⟩
abbrev main_while0b_v119 : Ref sig .tc := ⟨.hbm, 153, rfl⟩
abbrev main_while0b_v120 : Ref sig .tc := ⟨.hbm, 154, rfl⟩
abbrev main_while0b_v121 : Ref sig .tc := ⟨.hbm, 155, rfl⟩
abbrev main_while0b_v122 : Ref sig .tc := ⟨.hbm, 156, rfl⟩
abbrev main_while0b_v123 : Ref sig .tc := ⟨.hbm, 157, rfl⟩
abbrev main_while0b_v124 : Ref sig .tc := ⟨.hbm, 158, rfl⟩
abbrev main_while0b_v125 : Ref sig .tc := ⟨.hbm, 159, rfl⟩
abbrev main_while0b_v126 : Ref sig .tc := ⟨.hbm, 160, rfl⟩
abbrev main_while0b_v127 : Ref sig .tc := ⟨.hbm, 161, rfl⟩
abbrev main_while0b_v128 : Ref sig .tc := ⟨.hbm, 162, rfl⟩
abbrev main_while0b_v129 : Ref sig .tc := ⟨.hbm, 163, rfl⟩
abbrev main_while0b_v130 : Ref sig .tc := ⟨.hbm, 164, rfl⟩
abbrev main_while0b_v131 : Ref sig .tc := ⟨.hbm, 165, rfl⟩
abbrev main_while0b_cst_17 : Ref sig .tc := ⟨.hbm, 166, rfl⟩
abbrev main_while0b_v132 : Ref sig .tc := ⟨.hbm, 167, rfl⟩
abbrev main_while0b_v133 : Ref sig .tc := ⟨.hbm, 168, rfl⟩
abbrev main_while0b_v134 : Ref sig .tc := ⟨.hbm, 169, rfl⟩
abbrev main_while0b_v135 : Ref sig .tc := ⟨.hbm, 170, rfl⟩
abbrev main_while0b_v136 : Ref sig .tc := ⟨.hbm, 171, rfl⟩
abbrev main_while0b_v137 : Ref sig .tc := ⟨.hbm, 172, rfl⟩
abbrev main_while0b_v138 : Ref sig .tc := ⟨.hbm, 173, rfl⟩
abbrev main_while0b_v139 : Ref sig .tc := ⟨.hbm, 174, rfl⟩
abbrev main_while0b_v140 : Ref sig .tc := ⟨.hbm, 175, rfl⟩
abbrev main_while0b_v141 : Ref sig .tc := ⟨.hbm, 176, rfl⟩
abbrev main_while0b_v142 : Ref sig .tc := ⟨.hbm, 177, rfl⟩
abbrev main_while0b_v143 : Ref sig .tc := ⟨.hbm, 178, rfl⟩
abbrev main_while0b_v144 : Ref sig .tc := ⟨.hbm, 179, rfl⟩
abbrev main_while0b_v145 : Ref sig .tc := ⟨.hbm, 180, rfl⟩
abbrev main_while0b_v146 : Ref sig .tc := ⟨.hbm, 181, rfl⟩
abbrev main_while0b_v147 : Ref sig .tc := ⟨.hbm, 182, rfl⟩
abbrev main_while0b_cst_18 : Ref sig .tc := ⟨.hbm, 183, rfl⟩
abbrev main_while0b_v148 : Ref sig .tc := ⟨.hbm, 184, rfl⟩
abbrev main_while0b_v149 : Ref sig .tc := ⟨.hbm, 185, rfl⟩
abbrev main_while0b_v150 : Ref sig .tc := ⟨.hbm, 186, rfl⟩
abbrev main_while0b_v151 : Ref sig .tc := ⟨.hbm, 187, rfl⟩
abbrev main_while0b_v152 : Ref sig .tc := ⟨.hbm, 188, rfl⟩
abbrev main_while0b_v153 : Ref sig .tc := ⟨.hbm, 189, rfl⟩
abbrev main_while0b_v154 : Ref sig .tc := ⟨.hbm, 190, rfl⟩
abbrev main_while0b_v155 : Ref sig .tc := ⟨.hbm, 191, rfl⟩
abbrev main_while0b_v156 : Ref sig .tc := ⟨.hbm, 192, rfl⟩
abbrev main_while0b_v157 : Ref sig .tc := ⟨.hbm, 193, rfl⟩
abbrev main_while0b_v158 : Ref sig .tc := ⟨.hbm, 194, rfl⟩
abbrev main_while0b_v159 : Ref sig .tc := ⟨.hbm, 195, rfl⟩
abbrev main_while0b_v160 : Ref sig .tc := ⟨.hbm, 196, rfl⟩
abbrev main_while0b_v161 : Ref sig .tc := ⟨.hbm, 197, rfl⟩
abbrev main_while0b_v162 : Ref sig .tc := ⟨.hbm, 198, rfl⟩
abbrev main_while0b_v163 : Ref sig .tc := ⟨.hbm, 199, rfl⟩
abbrev main_while0b_v164 : Ref sig .tc := ⟨.hbm, 200, rfl⟩
abbrev main_while0b_v165 : Ref sig .tc := ⟨.hbm, 201, rfl⟩
abbrev main_while0b_v166 : Ref sig .tc := ⟨.hbm, 202, rfl⟩
abbrev main_while0b_v167 : Ref sig .tc := ⟨.hbm, 203, rfl⟩
abbrev main_while0b_cst_19 : Ref sig .tc := ⟨.hbm, 204, rfl⟩
abbrev main_while0b_v168 : Ref sig .tc := ⟨.hbm, 205, rfl⟩
abbrev main_while0b_v169 : Ref sig .tc := ⟨.hbm, 206, rfl⟩
abbrev main_while0b_call13_v0 : Ref sig .tc := ⟨.hbm, 207, rfl⟩
abbrev main_while0b_call13_c : Ref sig .tc := ⟨.hbm, 208, rfl⟩
abbrev main_while0b_call13_c_0 : Ref sig .tc := ⟨.hbm, 209, rfl⟩
abbrev main_while0b_call13_c_1 : Ref sig .tc := ⟨.hbm, 210, rfl⟩
abbrev main_while0b_call13_c_2 : Ref sig .tc := ⟨.hbm, 211, rfl⟩
abbrev main_while0b_v170 : Ref sig .tc := ⟨.hbm, 212, rfl⟩
abbrev main_while0b_c_20 : Ref sig .tc := ⟨.hbm, 213, rfl⟩
abbrev main_while0b_v171 : Ref sig .tc := ⟨.hbm, 214, rfl⟩
abbrev main_v69 : Ref sig .tc := ⟨.hbm, 215, rfl⟩
abbrev main_v70 : Ref sig .tc := ⟨.hbm, 216, rfl⟩
abbrev main_v71 : Ref sig .tc := ⟨.hbm, 217, rfl⟩
abbrev main_v72 : Ref sig .tc := ⟨.hbm, 218, rfl⟩
abbrev main_v73 : Ref sig .tc := ⟨.hbm, 219, rfl⟩
abbrev main_v74 : Ref sig .tc := ⟨.hbm, 220, rfl⟩
abbrev main_v75 : Ref sig .tc := ⟨.hbm, 221, rfl⟩
abbrev main_v76 : Ref sig .tc := ⟨.hbm, 222, rfl⟩
abbrev main_v77 : Ref sig .tc := ⟨.hbm, 223, rfl⟩
abbrev main_v78 : Ref sig .tc := ⟨.hbm, 224, rfl⟩
abbrev main_v79 : Ref sig .tc := ⟨.hbm, 225, rfl⟩
abbrev main_v80 : Ref sig .tc := ⟨.hbm, 226, rfl⟩
abbrev main_v81 : Ref sig .tc := ⟨.hbm, 227, rfl⟩
abbrev main_v82 : Ref sig .tc := ⟨.hbm, 228, rfl⟩
abbrev main_v83 : Ref sig .tc := ⟨.hbm, 229, rfl⟩
abbrev main_v84 : Ref sig .tc := ⟨.hbm, 230, rfl⟩
abbrev main_v85 : Ref sig .tc := ⟨.hbm, 231, rfl⟩
abbrev main_v86 : Ref sig .tc := ⟨.hbm, 232, rfl⟩
abbrev main_v87 : Ref sig .tc := ⟨.hbm, 233, rfl⟩
abbrev main_v88 : Ref sig .tc := ⟨.hbm, 234, rfl⟩
abbrev main_v89 : Ref sig .tc := ⟨.hbm, 235, rfl⟩
abbrev main_v90 : Ref sig .tc := ⟨.hbm, 236, rfl⟩
abbrev main_v91 : Ref sig .tc := ⟨.hbm, 237, rfl⟩
abbrev main_v92 : Ref sig .tc := ⟨.hbm, 238, rfl⟩
abbrev main_v93 : Ref sig .tc := ⟨.hbm, 239, rfl⟩
abbrev main_v94 : Ref sig .tc := ⟨.hbm, 240, rfl⟩
abbrev main_v95 : Ref sig .tc := ⟨.hbm, 241, rfl⟩

abbrev nD : Nat := 1
abbrev τ : Topo := Topo.v7x

variable {F : FTy → Type} [FloatOps F]

abbrev main_while0_count : Scf.Loop 32 := ⟨0#32, 4#32, 1#32⟩
-- ==== Down.lean ====
abbrev S33 : Shape := ⟨1, ![33]⟩
abbrev S32768x3584 : Shape := ⟨2, ![32768, 3584]⟩
abbrev S2x8x3584x1024 : Shape := ⟨4, ![2, 8, 3584, 1024]⟩
abbrev S32768x1024 : Shape := ⟨2, ![32768, 1024]⟩
abbrev S1024x3584 : Shape := ⟨2, ![1024, 3584]⟩
abbrev S1 : Shape := ⟨1, ![1]⟩
abbrev S1x1x3584x512 : Shape := ⟨4, ![1, 1, 3584, 512]⟩
abbrev S1024x512 : Shape := ⟨2, ![1024, 512]⟩
abbrev S3584x512 : Shape := ⟨2, ![3584, 512]⟩

abbrev nBuf : Space → Nat
  | .hbm => 3
  | .vmem => 7
  | .smem => 1
  | _ => 0

abbrev bufTy : (tb : Table) → Fin (tcTables nBuf tb) → BufTy
  | .hbm, ⟨0, _⟩ => ⟨S32768x3584, .bf16⟩
  | .hbm, ⟨1, _⟩ => ⟨S2x8x3584x1024, .f32⟩
  | .hbm, ⟨2, _⟩ => ⟨S32768x1024, .f32⟩
  | .local _ .vmem, ⟨0, _⟩ => ⟨S1024x3584, .bf16⟩
  | .local _ .vmem, ⟨1, _⟩ => ⟨S1024x3584, .bf16⟩
  | .local _ .vmem, ⟨2, _⟩ => ⟨S1x1x3584x512, .f32⟩
  | .local _ .vmem, ⟨3, _⟩ => ⟨S1x1x3584x512, .f32⟩
  | .local _ .vmem, ⟨4, _⟩ => ⟨S1024x512, .f32⟩
  | .local _ .vmem, ⟨5, _⟩ => ⟨S1024x512, .f32⟩
  | .local _ .vmem, ⟨6, _⟩ => ⟨S3584x512, .bf16⟩
  | .local _ .smem, ⟨0, _⟩ => ⟨S33, .i32⟩
  | _, _ => ⟨S32768x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v9 : Index := Scalar.indexCast arg1
  ![v9.toNat]
def k0_off3 (i : grid0.Coords) : Fin 1 → Nat :=
  let arg1 : BitVec 32 := BitVec.ofNat 32 (i 1).val
  let c1_i32 : BitVec 32 := 1#32
  let v11 : BitVec 32 := Scalar.subi arg1 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (inb_S33_S1_32 : ∀ a, (![32] : Fin 1 → Nat) a + S1.size a ≤ S33.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c32 : Index := 32#32
  let v0 : BitVec 32 := pf.at 0 (Rect.unit (s := S33) ![32] S1.size inb_S33_S1_32) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S33.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S33) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x3584x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownReferenceIdeal.lean ====
abbrev S33 : Shape := ⟨1, ![33]⟩
abbrev S32768x3584 : Shape := ⟨2, ![32768, 3584]⟩
abbrev S2x8x3584x1024 : Shape := ⟨4, ![2, 8, 3584, 1024]⟩
abbrev S_ : Shape := ⟨0, ![]⟩
abbrev S32768x1024 : Shape := ⟨2, ![32768, 1024]⟩
abbrev S32 : Shape := ⟨1, ![32]⟩
abbrev S1 : Shape := ⟨1, ![1]⟩
abbrev S32x1 : Shape := ⟨2, ![32, 1]⟩
abbrev S32x1024 : Shape := ⟨2, ![32, 1024]⟩
abbrev S32768 : Shape := ⟨1, ![32768]⟩
abbrev S32768x1 : Shape := ⟨2, ![32768, 1]⟩
abbrev S1x1x3584x1024 : Shape := ⟨4, ![1, 1, 3584, 1024]⟩
abbrev S3584x1024 : Shape := ⟨2, ![3584, 1024]⟩

abbrev nBuf : Space → Nat
  | .hbm => 174
  | .vmem => 0
  | .smem => 0
  | _ => 0

abbrev hbmTy0_0 (i : Nat) : BufTy := match i % 128 with
  | 0 => ⟨S33, .i32⟩
  | 1 => ⟨S32768x3584, .bf16⟩
  | 2 => ⟨S2x8x3584x1024, .f32⟩
  | 3 => ⟨S32768x3584, .f32⟩
  | 4 => ⟨S_, .f32⟩
  | 5 => ⟨S32768x1024, .f32⟩
  | 6 => ⟨S32, .i32⟩
  | 7 => ⟨S_, .i32⟩
  | 8 => ⟨S32, .i32⟩
  | 9 => ⟨S32, .i1⟩
  | 10 => ⟨S32, .i32⟩
  | 11 => ⟨S1, .i32⟩
  | 12 => ⟨S_, .i32⟩
  | 13 => ⟨S32, .i32⟩
  | 14 => ⟨S32, .i1⟩
  | 15 => ⟨S32, .i1⟩
  | 16 => ⟨S32, .f32⟩
  | 17 => ⟨S32x1, .f32⟩
  | 18 => ⟨S32x1024, .f32⟩
  | 19 => ⟨S32768, .f32⟩
  | 20 => ⟨S32768x1, .f32⟩
  | 21 => ⟨S1x1x3584x1024, .f32⟩
  | 22 => ⟨S3584x1024, .f32⟩
  | 23 => ⟨S32768x1024, .f32⟩
  | 24 => ⟨S32768x1024, .f32⟩
  | 25 => ⟨S32768x1024, .f32⟩
  | 26 => ⟨S32768x1024, .f32⟩
  | 27 => ⟨S32, .i32⟩
  | 28 => ⟨S_, .i32⟩
  | 29 => ⟨S32, .i32⟩
  | 30 => ⟨S32, .i1⟩
  | 31 => ⟨S32, .i32⟩
  | 32 => ⟨S1, .i32⟩
  | 33 => ⟨S_, .i32⟩
  | 34 => ⟨S32, .i32⟩
  | 35 => ⟨S32, .i1⟩
  | 36 => ⟨S32, .i1⟩
  | 37 => ⟨S32, .f32⟩
  | 38 => ⟨S32x1, .f32⟩
  | 39 => ⟨S32x1024, .f32⟩
  | 40 => ⟨S32768, .f32⟩
  | 41 => ⟨S32768x1, .f32⟩
  | 42 => ⟨S1x1x3584x1024, .f32⟩
  | 43 => ⟨S3584x1024, .f32⟩
  | 44 => ⟨S32768x1024, .f32⟩
  | 45 => ⟨S32768x1024, .f32⟩
  | 46 => ⟨S32768x1024, .f32⟩
  | 47 => ⟨S32768x1024, .f32⟩
  | 48 => ⟨S32, .i32⟩
  | 49 => ⟨S_, .i32⟩
  | 50 => ⟨S32, .i32⟩
  | 51 => ⟨S32, .i1⟩
  | 52 => ⟨S32, .i32⟩
  | 53 => ⟨S1, .i32⟩
  | 54 => ⟨S_, .i32⟩
  | 55 => ⟨S32, .i32⟩
  | 56 => ⟨S32, .i1⟩
  | 57 => ⟨S32, .i1⟩
  | 58 => ⟨S32, .f32⟩
  | 59 => ⟨S32x1, .f32⟩
  | 60 => ⟨S32x1024, .f32⟩
  | 61 => ⟨S32768, .f32⟩
  | 62 => ⟨S32768x1, .f32⟩
  | 63 => ⟨S1x1x3584x1024, .f32⟩
  | 64 => ⟨S3584x1024, .f32⟩
  | 65 => ⟨S32768x1024, .f32⟩
  | 66 => ⟨S32768x1024, .f32⟩
  | 67 => ⟨S32768x1024, .f32⟩
  | 68 => ⟨S32768x1024, .f32⟩
  | 69 => ⟨S32, .i32⟩
  | 70 => ⟨S_, .i32⟩
  | 71 => ⟨S32, .i32⟩
  | 72 => ⟨S32, .i1⟩
  | 73 => ⟨S32, .i32⟩
  | 74 => ⟨S1, .i32⟩
  | 75 => ⟨S_, .i32⟩
  | 76 => ⟨S32, .i32⟩
  | 77 => ⟨S32, .i1⟩
  | 78 => ⟨S32, .i1⟩
  | 79 => ⟨S32, .f32⟩
  | 80 => ⟨S32x1, .f32⟩
  | 81 => ⟨S32x1024, .f32⟩
  | 82 => ⟨S32768, .f32⟩
  | 83 => ⟨S32768x1, .f32⟩
  | 84 => ⟨S1x1x3584x1024, .f32⟩
  | 85 => ⟨S3584x1024, .f32⟩
  | 86 => ⟨S32768x1024, .f32⟩
  | 87 => ⟨S32768x1024, .f32⟩
  | 88 => ⟨S32768x1024, .f32⟩
  | 89 => ⟨S32768x1024, .f32⟩
  | 90 => ⟨S32, .i32⟩
  | 91 => ⟨S_, .i32⟩
  | 92 => ⟨S32, .i32⟩
  | 93 => ⟨S32, .i1⟩
  | 94 => ⟨S32, .i32⟩
  | 95 => ⟨S1, .i32⟩
  | 96 => ⟨S_, .i32⟩
  | 97 => ⟨S32, .i32⟩
  | 98 => ⟨S32, .i1⟩
  | 99 => ⟨S32, .i1⟩
  | 100 => ⟨S32, .f32⟩
  | 101 => ⟨S32x1, .f32⟩
  | 102 => ⟨S32x1024, .f32⟩
  | 103 => ⟨S32768, .f32⟩
  | 104 => ⟨S32768x1, .f32⟩
  | 105 => ⟨S1x1x3584x1024, .f32⟩
  | 106 => ⟨S3584x1024, .f32⟩
  | 107 => ⟨S32768x1024, .f32⟩
  | 108 => ⟨S32768x1024, .f32⟩
  | 109 => ⟨S32768x1024, .f32⟩
  | 110 => ⟨S32768x1024, .f32⟩
  | 111 => ⟨S32, .i32⟩
  | 112 => ⟨S_, .i32⟩
  | 113 => ⟨S32, .i32⟩
  | 114 => ⟨S32, .i1⟩
  | 115 => ⟨S32, .i32⟩
  | 116 => ⟨S1, .i32⟩
  | 117 => ⟨S_, .i32⟩
  | 118 => ⟨S32, .i32⟩
  | 119 => ⟨S32, .i1⟩
  | 120 => ⟨S32, .i1⟩
  | 121 => ⟨S32, .f32⟩
  | 122 => ⟨S32x1, .f32⟩
  | 123 => ⟨S32x1024, .f32⟩
  | 124 => ⟨S32768, .f32⟩
  | 125 => ⟨S32768x1, .f32⟩
  | 126 => ⟨S1x1x3584x1024, .f32⟩
  | 127 => ⟨S3584x1024, .f32⟩
  | _ => ⟨S33, .i32⟩

abbrev hbmTy0_1 (i : Nat) : BufTy := match i % 128 with
  | 0 => ⟨S32768x1024, .f32⟩
  | 1 => ⟨S32768x1024, .f32⟩
  | 2 => ⟨S32768x1024, .f32⟩
  | 3 => ⟨S32768x1024, .f32⟩
  | 4 => ⟨S32, .i32⟩
  | 5 => ⟨S_, .i32⟩
  | 6 => ⟨S32, .i32⟩
  | 7 => ⟨S32, .i1⟩
  | 8 => ⟨S32, .i32⟩
  | 9 => ⟨S1, .i32⟩
  | 10 => ⟨S_, .i32⟩
  | 11 => ⟨S32, .i32⟩
  | 12 => ⟨S32, .i1⟩
  | 13 => ⟨S32, .i1⟩
  | 14 => ⟨S32, .f32⟩
  | 15 => ⟨S32x1, .f32⟩
  | 16 => ⟨S32x1024, .f32⟩
  | 17 => ⟨S32768, .f32⟩
  | 18 => ⟨S32768x1, .f32⟩
  | 19 => ⟨S1x1x3584x1024, .f32⟩
  | 20 => ⟨S3584x1024, .f32⟩
  | 21 => ⟨S32768x1024, .f32⟩
  | 22 => ⟨S32768x1024, .f32⟩
  | 23 => ⟨S32768x1024, .f32⟩
  | 24 => ⟨S32768x1024, .f32⟩
  | 25 => ⟨S32, .i32⟩
  | 26 => ⟨S_, .i32⟩
  | 27 => ⟨S32, .i32⟩
  | 28 => ⟨S32, .i1⟩
  | 29 => ⟨S32, .i32⟩
  | 30 => ⟨S1, .i32⟩
  | 31 => ⟨S_, .i32⟩
  | 32 => ⟨S32, .i32⟩
  | 33 => ⟨S32, .i1⟩
  | 34 => ⟨S32, .i1⟩
  | 35 => ⟨S32, .f32⟩
  | 36 => ⟨S32x1, .f32⟩
  | 37 => ⟨S32x1024, .f32⟩
  | 38 => ⟨S32768, .f32⟩
  | 39 => ⟨S32768x1, .f32⟩
  | 40 => ⟨S1x1x3584x1024, .f32⟩
  | 41 => ⟨S3584x1024, .f32⟩
  | 42 => ⟨S32768x1024, .f32⟩
  | 43 => ⟨S32768x1024, .f32⟩
  | 44 => ⟨S32768x1024, .f32⟩
  | 45 => ⟨S32768x1024, .f32⟩
  | _ => ⟨S33, .i32⟩

abbrev hbmTy (i : Nat) : BufTy := match i / 128 with
  | 0 => hbmTy0_0 i
  | 1 => hbmTy0_1 i
  | _ => ⟨S33, .i32⟩

abbrev bufTy : (tb : Table) → Fin (tcTables nBuf tb) → BufTy
  | .hbm, ⟨i, _⟩ => hbmTy i
  | _, _ => ⟨S33, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_c_1 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_c_2 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_c_3 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_c_4 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_c_5 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_c_6 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩

abbrev nD : Nat := 1
abbrev τ : Topo := Topo.v7x

variable {F : FTy → Type} [FloatOps F]
-- ==== Up.lean ====
abbrev S33 : Shape := ⟨1, ![33]⟩
abbrev S32768x1024 : Shape := ⟨2, ![32768, 1024]⟩
abbrev S2x8x1024x3584 : Shape := ⟨4, ![2, 8, 1024, 3584]⟩
abbrev S32768x3584 : Shape := ⟨2, ![32768, 3584]⟩
abbrev S1024x1024 : Shape := ⟨2, ![1024, 1024]⟩
abbrev S1 : Shape := ⟨1, ![1]⟩
abbrev S1x1x1024x512 : Shape := ⟨4, ![1, 1, 1024, 512]⟩
abbrev S1024x512 : Shape := ⟨2, ![1024, 512]⟩

abbrev nBuf : Space → Nat
  | .hbm => 4
  | .vmem => 10
  | .smem => 1
  | _ => 0

abbrev bufTy : (tb : Table) → Fin (tcTables nBuf tb) → BufTy
  | .hbm, ⟨0, _⟩ => ⟨S32768x1024, .bf16⟩
  | .hbm, ⟨1, _⟩ => ⟨S2x8x1024x3584, .f32⟩
  | .hbm, ⟨2, _⟩ => ⟨S2x8x1024x3584, .f32⟩
  | .hbm, ⟨3, _⟩ => ⟨S32768x3584, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .smem, ⟨0, _⟩ => ⟨S33, .i32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![7, 32], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v9 : Index := Scalar.indexCast arg1
  ![v9.toNat]
def k0_off3 (i : grid0.Coords) : Fin 1 → Nat :=
  let arg1 : BitVec 32 := BitVec.ofNat 32 (i 1).val
  let c1_i32 : BitVec 32 := 1#32
  let v11 : BitVec 32 := Scalar.subi arg1 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (inb_S33_S1_32 : ∀ a, (![32] : Fin 1 → Nat) a + S1.size a ≤ S33.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c32 : Index := 32#32
  let v0 : BitVec 32 := pf.at 0 (Rect.unit (s := S33) ![32] S1.size inb_S33_S1_32) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S33.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S33) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S33.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S33) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpReferenceIdeal.lean ====
abbrev S33 : Shape := ⟨1, ![33]⟩
abbrev S32768x1024 : Shape := ⟨2, ![32768, 1024]⟩
abbrev S2x8x1024x3584 : Shape := ⟨4, ![2, 8, 1024, 3584]⟩
abbrev S_ : Shape := ⟨0, ![]⟩
abbrev S32768x3584 : Shape := ⟨2, ![32768, 3584]⟩
abbrev S32 : Shape := ⟨1, ![32]⟩
abbrev S1 : Shape := ⟨1, ![1]⟩
abbrev S32x1 : Shape := ⟨2, ![32, 1]⟩
abbrev S32x1024 : Shape := ⟨2, ![32, 1024]⟩
abbrev S32768 : Shape := ⟨1, ![32768]⟩
abbrev S32768x1 : Shape := ⟨2, ![32768, 1]⟩
abbrev S1x1x1024x3584 : Shape := ⟨4, ![1, 1, 1024, 3584]⟩
abbrev S1024x3584 : Shape := ⟨2, ![1024, 3584]⟩

abbrev nBuf : Space → Nat
  | .hbm => 280
  | .vmem => 0
  | .smem => 0
  | _ => 0

abbrev hbmTy0_0 (i : Nat) : BufTy := match i % 128 with
  | 0 => ⟨S33, .i32⟩
  | 1 => ⟨S32768x1024, .bf16⟩
  | 2 => ⟨S2x8x1024x3584, .f32⟩
  | 3 => ⟨S2x8x1024x3584, .f32⟩
  | 4 => ⟨S32768x1024, .f32⟩
  | 5 => ⟨S_, .f32⟩
  | 6 => ⟨S32768x3584, .f32⟩
  | 7 => ⟨S32, .i32⟩
  | 8 => ⟨S_, .i32⟩
  | 9 => ⟨S32, .i32⟩
  | 10 => ⟨S32, .i1⟩
  | 11 => ⟨S32, .i32⟩
  | 12 => ⟨S1, .i32⟩
  | 13 => ⟨S_, .i32⟩
  | 14 => ⟨S32, .i32⟩
  | 15 => ⟨S32, .i1⟩
  | 16 => ⟨S32, .i1⟩
  | 17 => ⟨S32, .f32⟩
  | 18 => ⟨S32x1, .f32⟩
  | 19 => ⟨S32x1024, .f32⟩
  | 20 => ⟨S32768, .f32⟩
  | 21 => ⟨S32768x1, .f32⟩
  | 22 => ⟨S1x1x1024x3584, .f32⟩
  | 23 => ⟨S1024x3584, .f32⟩
  | 24 => ⟨S32768x3584, .f32⟩
  | 25 => ⟨S32768x3584, .f32⟩
  | 26 => ⟨S32768x3584, .f32⟩
  | 27 => ⟨S_, .f32⟩
  | 28 => ⟨S32768x3584, .f32⟩
  | 29 => ⟨S32768x3584, .f32⟩
  | 30 => ⟨S_, .f32⟩
  | 31 => ⟨S32768x3584, .f32⟩
  | 32 => ⟨S32768x3584, .f32⟩
  | 33 => ⟨S32768x3584, .f32⟩
  | 34 => ⟨S1x1x1024x3584, .f32⟩
  | 35 => ⟨S1024x3584, .f32⟩
  | 36 => ⟨S32768x3584, .f32⟩
  | 37 => ⟨S32768x3584, .f32⟩
  | 38 => ⟨S32768x3584, .f32⟩
  | 39 => ⟨S32768x3584, .f32⟩
  | 40 => ⟨S32768x3584, .f32⟩
  | 41 => ⟨S32, .i32⟩
  | 42 => ⟨S_, .i32⟩
  | 43 => ⟨S32, .i32⟩
  | 44 => ⟨S32, .i1⟩
  | 45 => ⟨S32, .i32⟩
  | 46 => ⟨S1, .i32⟩
  | 47 => ⟨S_, .i32⟩
  | 48 => ⟨S32, .i32⟩
  | 49 => ⟨S32, .i1⟩
  | 50 => ⟨S32, .i1⟩
  | 51 => ⟨S32, .f32⟩
  | 52 => ⟨S32x1, .f32⟩
  | 53 => ⟨S32x1024, .f32⟩
  | 54 => ⟨S32768, .f32⟩
  | 55 => ⟨S32768x1, .f32⟩
  | 56 => ⟨S1x1x1024x3584, .f32⟩
  | 57 => ⟨S1024x3584, .f32⟩
  | 58 => ⟨S32768x3584, .f32⟩
  | 59 => ⟨S32768x3584, .f32⟩
  | 60 => ⟨S32768x3584, .f32⟩
  | 61 => ⟨S_, .f32⟩
  | 62 => ⟨S32768x3584, .f32⟩
  | 63 => ⟨S32768x3584, .f32⟩
  | 64 => ⟨S_, .f32⟩
  | 65 => ⟨S32768x3584, .f32⟩
  | 66 => ⟨S32768x3584, .f32⟩
  | 67 => ⟨S32768x3584, .f32⟩
  | 68 => ⟨S1x1x1024x3584, .f32⟩
  | 69 => ⟨S1024x3584, .f32⟩
  | 70 => ⟨S32768x3584, .f32⟩
  | 71 => ⟨S32768x3584, .f32⟩
  | 72 => ⟨S32768x3584, .f32⟩
  | 73 => ⟨S32768x3584, .f32⟩
  | 74 => ⟨S32768x3584, .f32⟩
  | 75 => ⟨S32, .i32⟩
  | 76 => ⟨S_, .i32⟩
  | 77 => ⟨S32, .i32⟩
  | 78 => ⟨S32, .i1⟩
  | 79 => ⟨S32, .i32⟩
  | 80 => ⟨S1, .i32⟩
  | 81 => ⟨S_, .i32⟩
  | 82 => ⟨S32, .i32⟩
  | 83 => ⟨S32, .i1⟩
  | 84 => ⟨S32, .i1⟩
  | 85 => ⟨S32, .f32⟩
  | 86 => ⟨S32x1, .f32⟩
  | 87 => ⟨S32x1024, .f32⟩
  | 88 => ⟨S32768, .f32⟩
  | 89 => ⟨S32768x1, .f32⟩
  | 90 => ⟨S1x1x1024x3584, .f32⟩
  | 91 => ⟨S1024x3584, .f32⟩
  | 92 => ⟨S32768x3584, .f32⟩
  | 93 => ⟨S32768x3584, .f32⟩
  | 94 => ⟨S32768x3584, .f32⟩
  | 95 => ⟨S_, .f32⟩
  | 96 => ⟨S32768x3584, .f32⟩
  | 97 => ⟨S32768x3584, .f32⟩
  | 98 => ⟨S_, .f32⟩
  | 99 => ⟨S32768x3584, .f32⟩
  | 100 => ⟨S32768x3584, .f32⟩
  | 101 => ⟨S32768x3584, .f32⟩
  | 102 => ⟨S1x1x1024x3584, .f32⟩
  | 103 => ⟨S1024x3584, .f32⟩
  | 104 => ⟨S32768x3584, .f32⟩
  | 105 => ⟨S32768x3584, .f32⟩
  | 106 => ⟨S32768x3584, .f32⟩
  | 107 => ⟨S32768x3584, .f32⟩
  | 108 => ⟨S32768x3584, .f32⟩
  | 109 => ⟨S32, .i32⟩
  | 110 => ⟨S_, .i32⟩
  | 111 => ⟨S32, .i32⟩
  | 112 => ⟨S32, .i1⟩
  | 113 => ⟨S32, .i32⟩
  | 114 => ⟨S1, .i32⟩
  | 115 => ⟨S_, .i32⟩
  | 116 => ⟨S32, .i32⟩
  | 117 => ⟨S32, .i1⟩
  | 118 => ⟨S32, .i1⟩
  | 119 => ⟨S32, .f32⟩
  | 120 => ⟨S32x1, .f32⟩
  | 121 => ⟨S32x1024, .f32⟩
  | 122 => ⟨S32768, .f32⟩
  | 123 => ⟨S32768x1, .f32⟩
  | 124 => ⟨S1x1x1024x3584, .f32⟩
  | 125 => ⟨S1024x3584, .f32⟩
  | 126 => ⟨S32768x3584, .f32⟩
  | 127 => ⟨S32768x3584, .f32⟩
  | _ => ⟨S33, .i32⟩

abbrev hbmTy0_1 (i : Nat) : BufTy := match i % 128 with
  | 0 => ⟨S32768x3584, .f32⟩
  | 1 => ⟨S_, .f32⟩
  | 2 => ⟨S32768x3584, .f32⟩
  | 3 => ⟨S32768x3584, .f32⟩
  | 4 => ⟨S_, .f32⟩
  | 5 => ⟨S32768x3584, .f32⟩
  | 6 => ⟨S32768x3584, .f32⟩
  | 7 => ⟨S32768x3584, .f32⟩
  | 8 => ⟨S1x1x1024x3584, .f32⟩
  | 9 => ⟨S1024x3584, .f32⟩
  | 10 => ⟨S32768x3584, .f32⟩
  | 11 => ⟨S32768x3584, .f32⟩
  | 12 => ⟨S32768x3584, .f32⟩
  | 13 => ⟨S32768x3584, .f32⟩
  | 14 => ⟨S32768x3584, .f32⟩
  | 15 => ⟨S32, .i32⟩
  | 16 => ⟨S_, .i32⟩
  | 17 => ⟨S32, .i32⟩
  | 18 => ⟨S32, .i1⟩
  | 19 => ⟨S32, .i32⟩
  | 20 => ⟨S1, .i32⟩
  | 21 => ⟨S_, .i32⟩
  | 22 => ⟨S32, .i32⟩
  | 23 => ⟨S32, .i1⟩
  | 24 => ⟨S32, .i1⟩
  | 25 => ⟨S32, .f32⟩
  | 26 => ⟨S32x1, .f32⟩
  | 27 => ⟨S32x1024, .f32⟩
  | 28 => ⟨S32768, .f32⟩
  | 29 => ⟨S32768x1, .f32⟩
  | 30 => ⟨S1x1x1024x3584, .f32⟩
  | 31 => ⟨S1024x3584, .f32⟩
  | 32 => ⟨S32768x3584, .f32⟩
  | 33 => ⟨S32768x3584, .f32⟩
  | 34 => ⟨S32768x3584, .f32⟩
  | 35 => ⟨S_, .f32⟩
  | 36 => ⟨S32768x3584, .f32⟩
  | 37 => ⟨S32768x3584, .f32⟩
  | 38 => ⟨S_, .f32⟩
  | 39 => ⟨S32768x3584, .f32⟩
  | 40 => ⟨S32768x3584, .f32⟩
  | 41 => ⟨S32768x3584, .f32⟩
  | 42 => ⟨S1x1x1024x3584, .f32⟩
  | 43 => ⟨S1024x3584, .f32⟩
  | 44 => ⟨S32768x3584, .f32⟩
  | 45 => ⟨S32768x3584, .f32⟩
  | 46 => ⟨S32768x3584, .f32⟩
  | 47 => ⟨S32768x3584, .f32⟩
  | 48 => ⟨S32768x3584, .f32⟩
  | 49 => ⟨S32, .i32⟩
  | 50 => ⟨S_, .i32⟩
  | 51 => ⟨S32, .i32⟩
  | 52 => ⟨S32, .i1⟩
  | 53 => ⟨S32, .i32⟩
  | 54 => ⟨S1, .i32⟩
  | 55 => ⟨S_, .i32⟩
  | 56 => ⟨S32, .i32⟩
  | 57 => ⟨S32, .i1⟩
  | 58 => ⟨S32, .i1⟩
  | 59 => ⟨S32, .f32⟩
  | 60 => ⟨S32x1, .f32⟩
  | 61 => ⟨S32x1024, .f32⟩
  | 62 => ⟨S32768, .f32⟩
  | 63 => ⟨S32768x1, .f32⟩
  | 64 => ⟨S1x1x1024x3584, .f32⟩
  | 65 => ⟨S1024x3584, .f32⟩
  | 66 => ⟨S32768x3584, .f32⟩
  | 67 => ⟨S32768x3584, .f32⟩
  | 68 => ⟨S32768x3584, .f32⟩
  | 69 => ⟨S_, .f32⟩
  | 70 => ⟨S32768x3584, .f32⟩
  | 71 => ⟨S32768x3584, .f32⟩
  | 72 => ⟨S_, .f32⟩
  | 73 => ⟨S32768x3584, .f32⟩
  | 74 => ⟨S32768x3584, .f32⟩
  | 75 => ⟨S32768x3584, .f32⟩
  | 76 => ⟨S1x1x1024x3584, .f32⟩
  | 77 => ⟨S1024x3584, .f32⟩
  | 78 => ⟨S32768x3584, .f32⟩
  | 79 => ⟨S32768x3584, .f32⟩
  | 80 => ⟨S32768x3584, .f32⟩
  | 81 => ⟨S32768x3584, .f32⟩
  | 82 => ⟨S32768x3584, .f32⟩
  | 83 => ⟨S32, .i32⟩
  | 84 => ⟨S_, .i32⟩
  | 85 => ⟨S32, .i32⟩
  | 86 => ⟨S32, .i1⟩
  | 87 => ⟨S32, .i32⟩
  | 88 => ⟨S1, .i32⟩
  | 89 => ⟨S_, .i32⟩
  | 90 => ⟨S32, .i32⟩
  | 91 => ⟨S32, .i1⟩
  | 92 => ⟨S32, .i1⟩
  | 93 => ⟨S32, .f32⟩
  | 94 => ⟨S32x1, .f32⟩
  | 95 => ⟨S32x1024, .f32⟩
  | 96 => ⟨S32768, .f32⟩
  | 97 => ⟨S32768x1, .f32⟩
  | 98 => ⟨S1x1x1024x3584, .f32⟩
  | 99 => ⟨S1024x3584, .f32⟩
  | 100 => ⟨S32768x3584, .f32⟩
  | 101 => ⟨S32768x3584, .f32⟩
  | 102 => ⟨S32768x3584, .f32⟩
  | 103 => ⟨S_, .f32⟩
  | 104 => ⟨S32768x3584, .f32⟩
  | 105 => ⟨S32768x3584, .f32⟩
  | 106 => ⟨S_, .f32⟩
  | 107 => ⟨S32768x3584, .f32⟩
  | 108 => ⟨S32768x3584, .f32⟩
  | 109 => ⟨S32768x3584, .f32⟩
  | 110 => ⟨S1x1x1024x3584, .f32⟩
  | 111 => ⟨S1024x3584, .f32⟩
  | 112 => ⟨S32768x3584, .f32⟩
  | 113 => ⟨S32768x3584, .f32⟩
  | 114 => ⟨S32768x3584, .f32⟩
  | 115 => ⟨S32768x3584, .f32⟩
  | 116 => ⟨S32768x3584, .f32⟩
  | 117 => ⟨S32, .i32⟩
  | 118 => ⟨S_, .i32⟩
  | 119 => ⟨S32, .i32⟩
  | 120 => ⟨S32, .i1⟩
  | 121 => ⟨S32, .i32⟩
  | 122 => ⟨S1, .i32⟩
  | 123 => ⟨S_, .i32⟩
  | 124 => ⟨S32, .i32⟩
  | 125 => ⟨S32, .i1⟩
  | 126 => ⟨S32, .i1⟩
  | 127 => ⟨S32, .f32⟩
  | _ => ⟨S33, .i32⟩

abbrev hbmTy0_2 (i : Nat) : BufTy := match i % 128 with
  | 0 => ⟨S32x1, .f32⟩
  | 1 => ⟨S32x1024, .f32⟩
  | 2 => ⟨S32768, .f32⟩
  | 3 => ⟨S32768x1, .f32⟩
  | 4 => ⟨S1x1x1024x3584, .f32⟩
  | 5 => ⟨S1024x3584, .f32⟩
  | 6 => ⟨S32768x3584, .f32⟩
  | 7 => ⟨S32768x3584, .f32⟩
  | 8 => ⟨S32768x3584, .f32⟩
  | 9 => ⟨S_, .f32⟩
  | 10 => ⟨S32768x3584, .f32⟩
  | 11 => ⟨S32768x3584, .f32⟩
  | 12 => ⟨S_, .f32⟩
  | 13 => ⟨S32768x3584, .f32⟩
  | 14 => ⟨S32768x3584, .f32⟩
  | 15 => ⟨S32768x3584, .f32⟩
  | 16 => ⟨S1x1x1024x3584, .f32⟩
  | 17 => ⟨S1024x3584, .f32⟩
  | 18 => ⟨S32768x3584, .f32⟩
  | 19 => ⟨S32768x3584, .f32⟩
  | 20 => ⟨S32768x3584, .f32⟩
  | 21 => ⟨S32768x3584, .f32⟩
  | 22 => ⟨S32768x3584, .f32⟩
  | 23 => ⟨S32768x3584, .bf16⟩
  | _ => ⟨S33, .i32⟩

abbrev hbmTy (i : Nat) : BufTy := match i / 128 with
  | 0 => hbmTy0_0 i
  | 1 => hbmTy0_1 i
  | 2 => hbmTy0_2 i
  | _ => ⟨S33, .i32⟩

abbrev bufTy : (tb : Table) → Fin (tcTables nBuf tb) → BufTy
  | .hbm, ⟨i, _⟩ => hbmTy i
  | _, _ => ⟨S33, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_1 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call2_v0 : Ref sig .tc := ⟨.hbm, 93, rfl⟩
abbrev main_call2_v1 : Ref sig .tc := ⟨.hbm, 94, rfl⟩
abbrev main_call2_cst : Ref sig .tc := ⟨.hbm, 95, rfl⟩
abbrev main_call2_v2 : Ref sig .tc := ⟨.hbm, 96, rfl⟩
abbrev main_call2_v3 : Ref sig .tc := ⟨.hbm, 97, rfl⟩
abbrev main_call2_cst_0 : Ref sig .tc := ⟨.hbm, 98, rfl⟩
abbrev main_call2_v4 : Ref sig .tc := ⟨.hbm, 99, rfl⟩
abbrev main_call2_v5 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_2 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_call3_v0 : Ref sig .tc := ⟨.hbm, 127, rfl⟩
abbrev main_call3_v1 : Ref sig .tc := ⟨.hbm, 128, rfl⟩
abbrev main_call3_cst : Ref sig .tc := ⟨.hbm, 129, rfl⟩
abbrev main_call3_v2 : Ref sig .tc := ⟨.hbm, 130, rfl⟩
abbrev main_call3_v3 : Ref sig .tc := ⟨.hbm, 131, rfl⟩
abbrev main_call3_cst_0 : Ref sig .tc := ⟨.hbm, 132, rfl⟩
abbrev main_call3_v4 : Ref sig .tc := ⟨.hbm, 133, rfl⟩
abbrev main_call3_v5 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_c_3 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_call4_v0 : Ref sig .tc := ⟨.hbm, 161, rfl⟩
abbrev main_call4_v1 : Ref sig .tc := ⟨.hbm, 162, rfl⟩
abbrev main_call4_cst : Ref sig .tc := ⟨.hbm, 163, rfl⟩
abbrev main_call4_v2 : Ref sig .tc := ⟨.hbm, 164, rfl⟩
abbrev main_call4_v3 : Ref sig .tc := ⟨.hbm, 165, rfl⟩
abbrev main_call4_cst_0 : Ref sig .tc := ⟨.hbm, 166, rfl⟩
abbrev main_call4_v4 : Ref sig .tc := ⟨.hbm, 167, rfl⟩
abbrev main_call4_v5 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_c_4 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_call5_v0 : Ref sig .tc := ⟨.hbm, 195, rfl⟩
abbrev main_call5_v1 : Ref sig .tc := ⟨.hbm, 196, rfl⟩
abbrev main_call5_cst : Ref sig .tc := ⟨.hbm, 197, rfl⟩
abbrev main_call5_v2 : Ref sig .tc := ⟨.hbm, 198, rfl⟩
abbrev main_call5_v3 : Ref sig .tc := ⟨.hbm, 199, rfl⟩
abbrev main_call5_cst_0 : Ref sig .tc := ⟨.hbm, 200, rfl⟩
abbrev main_call5_v4 : Ref sig .tc := ⟨.hbm, 201, rfl⟩
abbrev main_call5_v5 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_c_5 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_call6_v0 : Ref sig .tc := ⟨.hbm, 229, rfl⟩
abbrev main_call6_v1 : Ref sig .tc := ⟨.hbm, 230, rfl⟩
abbrev main_call6_cst : Ref sig .tc := ⟨.hbm, 231, rfl⟩
abbrev main_call6_v2 : Ref sig .tc := ⟨.hbm, 232, rfl⟩
abbrev main_call6_v3 : Ref sig .tc := ⟨.hbm, 233, rfl⟩
abbrev main_call6_cst_0 : Ref sig .tc := ⟨.hbm, 234, rfl⟩
abbrev main_call6_v4 : Ref sig .tc := ⟨.hbm, 235, rfl⟩
abbrev main_call6_v5 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_c_6 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_call7_v0 : Ref sig .tc := ⟨.hbm, 263, rfl⟩
abbrev main_call7_v1 : Ref sig .tc := ⟨.hbm, 264, rfl⟩
abbrev main_call7_cst : Ref sig .tc := ⟨.hbm, 265, rfl⟩
abbrev main_call7_v2 : Ref sig .tc := ⟨.hbm, 266, rfl⟩
abbrev main_call7_v3 : Ref sig .tc := ⟨.hbm, 267, rfl⟩
abbrev main_call7_cst_0 : Ref sig .tc := ⟨.hbm, 268, rfl⟩
abbrev main_call7_v4 : Ref sig .tc := ⟨.hbm, 269, rfl⟩
abbrev main_call7_v5 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩

abbrev nD : Nat := 1
abbrev τ : Topo := Topo.v7x

variable {F : FTy → Type} [FloatOps F]
-- ==== Norm.lean ====
abbrev S12288x1024 : Shape := ⟨2, ![12288, 1024]⟩
abbrev S1024 : Shape := ⟨1, ![1024]⟩
abbrev S1x1024 : Shape := ⟨2, ![1, 1024]⟩
abbrev S8192x1024 : Shape := ⟨2, ![8192, 1024]⟩
abbrev S512x1024 : Shape := ⟨2, ![512, 1024]⟩
abbrev S512 : Shape := ⟨1, ![512]⟩
abbrev S512x1 : Shape := ⟨2, ![512, 1]⟩
abbrev S4096x1024 : Shape := ⟨2, ![4096, 1024]⟩
abbrev S32x256x1024 : Shape := ⟨3, ![32, 256, 1024]⟩
abbrev S2x2048x1024 : Shape := ⟨3, ![2, 2048, 1024]⟩

abbrev nBuf : Space → Nat
  | .hbm => 7
  | .vmem => 10
  | .smem => 0
  | _ => 0

abbrev bufTy : (tb : Table) → Fin (tcTables nBuf tb) → BufTy
  | .hbm, ⟨0, _⟩ => ⟨S12288x1024, .f32⟩
  | .hbm, ⟨1, _⟩ => ⟨S1024, .f32⟩
  | .hbm, ⟨2, _⟩ => ⟨S1x1024, .f32⟩
  | .hbm, ⟨3, _⟩ => ⟨S8192x1024, .f32⟩
  | .hbm, ⟨4, _⟩ => ⟨S4096x1024, .f32⟩
  | .hbm, ⟨5, _⟩ => ⟨S32x256x1024, .f32⟩
  | .hbm, ⟨6, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== NormReferenceIdeal.lean ====
abbrev S12288x1024 : Shape := ⟨2, ![12288, 1024]⟩
abbrev S1024 : Shape := ⟨1, ![1024]⟩
abbrev S8192x1024 : Shape := ⟨2, ![8192, 1024]⟩
abbrev S32x256x1024 : Shape := ⟨3, ![32, 256, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S4096x1024 : Shape := ⟨2, ![4096, 1024]⟩
abbrev S2x2048x1024 : Shape := ⟨3, ![2, 2048, 1024]⟩
abbrev S2x2048 : Shape := ⟨2, ![2, 2048]⟩
abbrev S2x2048x1 : Shape := ⟨3, ![2, 2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S1024, .f32⟩
  | .hbm, ⟨2, _⟩ => ⟨S8192x1024, .f32⟩
  | .hbm, ⟨3, _⟩ => ⟨S32x256x1024, .f32⟩
  | .hbm, ⟨4, _⟩ => ⟨S32x256x1024, .f32⟩
  | .hbm, ⟨5, _⟩ => ⟨S_, .f32⟩
  | .hbm, ⟨6, _⟩ => ⟨S32x256, .f32⟩
  | .hbm, ⟨7, _⟩ => ⟨S32x256x1, .f32⟩
  | .hbm, ⟨8, _⟩ => ⟨S_, .f32⟩
  | .hbm, ⟨9, _⟩ => ⟨S32x256x1, .f32⟩
  | .hbm, ⟨10, _⟩ => ⟨S32x256x1, .f32⟩
  | .hbm, ⟨11, _⟩ => ⟨S_, .f32⟩
  | .hbm, ⟨12, _⟩ => ⟨S32x256x1, .f32⟩
  | .hbm, ⟨13, _⟩ => ⟨S32x256x1, .f32⟩
  | .hbm, ⟨14, _⟩ => ⟨S32x256x1, .f32⟩
  | .hbm, ⟨15, _⟩ => ⟨S32x256x1024, .f32⟩
  | .hbm, ⟨16, _⟩ => ⟨S32x256x1024, .f32⟩
  | .hbm, ⟨17, _⟩ => ⟨S1x1x1024, .f32⟩
  | .hbm, ⟨18, _⟩ => ⟨S32x256x1024, .f32⟩
  | .hbm, ⟨19, _⟩ => ⟨S32x256x1024, .f32⟩
  | .hbm, ⟨20, _⟩ => ⟨S4096x1024, .f32⟩
  | .hbm, ⟨21, _⟩ => ⟨S2x2048x1024, .f32⟩
  | .hbm, ⟨22, _⟩ => ⟨S2x2048x1024, .f32⟩
  | .hbm, ⟨23, _⟩ => ⟨S_, .f32⟩
  | .hbm, ⟨24, _⟩ => ⟨S2x2048, .f32⟩
  | .hbm, ⟨25, _⟩ => ⟨S2x2048x1, .f32⟩
  | .hbm, ⟨26, _⟩ => ⟨S_, .f32⟩
  | .hbm, ⟨27, _⟩ => ⟨S2x2048x1, .f32⟩
  | .hbm, ⟨28, _⟩ => ⟨S2x2048x1, .f32⟩
  | .hbm, ⟨29, _⟩ => ⟨S_, .f32⟩
  | .hbm, ⟨30, _⟩ => ⟨S2x2048x1, .f32⟩
  | .hbm, ⟨31, _⟩ => ⟨S2x2048x1, .f32⟩
  | .hbm, ⟨32, _⟩ => ⟨S2x2048x1, .f32⟩
  | .hbm, ⟨33, _⟩ => ⟨S2x2048x1024, .f32⟩
  | .hbm, ⟨34, _⟩ => ⟨S2x2048x1024, .f32⟩
  | .hbm, ⟨35, _⟩ => ⟨S1x1x1024, .f32⟩
  | .hbm, ⟨36, _⟩ => ⟨S2x2048x1024, .f32⟩
  | .hbm, ⟨37, _⟩ => ⟨S2x2048x1024, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Ffn.lean ====
abbrev S12288x1024 : Shape := ⟨2, ![12288, 1024]⟩
abbrev S2x1024x2816 : Shape := ⟨3, ![2, 1024, 2816]⟩
abbrev S2048x2816 : Shape := ⟨2, ![2048, 2816]⟩
abbrev S12288x2816 : Shape := ⟨2, ![12288, 2816]⟩
abbrev S1024x1024 : Shape := ⟨2, ![1024, 1024]⟩
abbrev S1024x256 : Shape := ⟨2, ![1024, 256]⟩

abbrev nBuf : Space → Nat
  | .hbm => 6
  | .vmem => 10
  | .smem => 0
  | _ => 0

abbrev bufTy : (tb : Table) → Fin (tcTables nBuf tb) → BufTy
  | .hbm, ⟨0, _⟩ => ⟨S12288x1024, .bf16⟩
  | .hbm, ⟨1, _⟩ => ⟨S2x1024x2816, .f32⟩
  | .hbm, ⟨2, _⟩ => ⟨S2x1024x2816, .f32⟩
  | .hbm, ⟨3, _⟩ => ⟨S2048x2816, .f32⟩
  | .hbm, ⟨4, _⟩ => ⟨S2048x2816, .f32⟩
  | .hbm, ⟨5, _⟩ => ⟨S12288x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | _, _ => ⟨S12288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnReferenceIdeal.lean ====
abbrev S12288x1024 : Shape := ⟨2, ![12288, 1024]⟩
abbrev S2x1024x2816 : Shape := ⟨3, ![2, 1024, 2816]⟩
abbrev S1x1024x2816 : Shape := ⟨3, ![1, 1024, 2816]⟩
abbrev S1024x2816 : Shape := ⟨2, ![1024, 2816]⟩
abbrev S12288x2816 : Shape := ⟨2, ![12288, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S12288x1024, .bf16⟩
  | .hbm, ⟨1, _⟩ => ⟨S2x1024x2816, .f32⟩
  | .hbm, ⟨2, _⟩ => ⟨S2x1024x2816, .f32⟩
  | .hbm, ⟨3, _⟩ => ⟨S12288x1024, .f32⟩
  | .hbm, ⟨4, _⟩ => ⟨S1x1024x2816, .f32⟩
  | .hbm, ⟨5, _⟩ => ⟨S1024x2816, .f32⟩
  | .hbm, ⟨6, _⟩ => ⟨S12288x2816, .f32⟩
  | .hbm, ⟨7, _⟩ => ⟨S12288x2816, .f32⟩
  | .hbm, ⟨8, _⟩ => ⟨S12288x2816, .f32⟩
  | .hbm, ⟨9, _⟩ => ⟨S_, .f32⟩
  | .hbm, ⟨10, _⟩ => ⟨S12288x2816, .f32⟩
  | .hbm, ⟨11, _⟩ => ⟨S12288x2816, .f32⟩
  | .hbm, ⟨12, _⟩ => ⟨S_, .f32⟩
  | .hbm, ⟨13, _⟩ => ⟨S12288x2816, .f32⟩
  | .hbm, ⟨14, _⟩ => ⟨S12288x2816, .f32⟩
  | .hbm, ⟨15, _⟩ => ⟨S12288x2816, .f32⟩
  | .hbm, ⟨16, _⟩ => ⟨S1x1024x2816, .f32⟩
  | .hbm, ⟨17, _⟩ => ⟨S1024x2816, .f32⟩
  | .hbm, ⟨18, _⟩ => ⟨S12288x2816, .f32⟩
  | .hbm, ⟨19, _⟩ => ⟨S12288x2816, .f32⟩
  | .hbm, ⟨20, _⟩ => ⟨S12288x2816, .bf16⟩
  | _, _ => ⟨S12288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== FfnDown.lean ====
abbrev S12288x2816 : Shape := ⟨2, ![12288, 2816]⟩
abbrev S2x2816x1024 : Shape := ⟨3, ![2, 2816, 1024]⟩
abbrev S12288x1024 : Shape := ⟨2, ![12288, 1024]⟩
abbrev S3x1x1024 : Shape := ⟨3, ![3, 1, 1024]⟩
abbrev S5632x1024 : Shape := ⟨2, ![5632, 1024]⟩
abbrev S1024x2816 : Shape := ⟨2, ![1024, 2816]⟩
abbrev S2816x512 : Shape := ⟨2, ![2816, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 6
  | .vmem => 11
  | .smem => 0
  | _ => 0

abbrev bufTy : (tb : Table) → Fin (tcTables nBuf tb) → BufTy
  | .hbm, ⟨0, _⟩ => ⟨S12288x2816, .bf16⟩
  | .hbm, ⟨1, _⟩ => ⟨S2x2816x1024, .f32⟩
  | .hbm, ⟨2, _⟩ => ⟨S12288x1024, .f32⟩
  | .hbm, ⟨3, _⟩ => ⟨S3x1x1024, .f32⟩
  | .hbm, ⟨4, _⟩ => ⟨S5632x1024, .f32⟩
  | .hbm, ⟨5, _⟩ => ⟨S12288x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .f32⟩
  | .local _ .vmem, ⟨3, _⟩ => ⟨S2816x512, .f32⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S2816x512, .bf16⟩
  | _, _ => ⟨S12288x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  ![v21.toNat, c0_i32_7.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2816x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnDownReferenceIdeal.lean ====
abbrev S12288x2816 : Shape := ⟨2, ![12288, 2816]⟩
abbrev S2x2816x1024 : Shape := ⟨3, ![2, 2816, 1024]⟩
abbrev S12288x1024 : Shape := ⟨2, ![12288, 1024]⟩
abbrev S3x1x1024 : Shape := ⟨3, ![3, 1, 1024]⟩
abbrev S1x2816x1024 : Shape := ⟨3, ![1, 2816, 1024]⟩
abbrev S2816x1024 : Shape := ⟨2, ![2816, 1024]⟩
abbrev S8192x1024 : Shape := ⟨2, ![8192, 1024]⟩
abbrev S32x256x1024 : Shape := ⟨3, ![32, 256, 1024]⟩
abbrev S1x1x1024 : Shape := ⟨3, ![1, 1, 1024]⟩
abbrev S4096x1024 : Shape := ⟨2, ![4096, 1024]⟩
abbrev S2x2048x1024 : Shape := ⟨3, ![2, 2048, 1024]⟩
abbrev S2x1x1024 : Shape := ⟨3, ![2, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S12288x2816, .bf16⟩
  | .hbm, ⟨1, _⟩ => ⟨S2x2816x1024, .f32⟩
  | .hbm, ⟨2, _⟩ => ⟨S12288x1024, .f32⟩
  | .hbm, ⟨3, _⟩ => ⟨S3x1x1024, .f32⟩
  | .hbm, ⟨4, _⟩ => ⟨S12288x2816, .f32⟩
  | .hbm, ⟨5, _⟩ => ⟨S1x2816x1024, .f32⟩
  | .hbm, ⟨6, _⟩ => ⟨S2816x1024, .f32⟩
  | .hbm, ⟨7, _⟩ => ⟨S12288x1024, .f32⟩
  | .hbm, ⟨8, _⟩ => ⟨S8192x1024, .f32⟩
  | .hbm, ⟨9, _⟩ => ⟨S32x256x1024, .f32⟩
  | .hbm, ⟨10, _⟩ => ⟨S1x1x1024, .f32⟩
  | .hbm, ⟨11, _⟩ => ⟨S8192x1024, .f32⟩
  | .hbm, ⟨12, _⟩ => ⟨S32x256x1024, .f32⟩
  | .hbm, ⟨13, _⟩ => ⟨S32x256x1024, .f32⟩
  | .hbm, ⟨14, _⟩ => ⟨S32x256x1024, .f32⟩
  | .hbm, ⟨15, _⟩ => ⟨S32x256x1024, .f32⟩
  | .hbm, ⟨16, _⟩ => ⟨S4096x1024, .f32⟩
  | .hbm, ⟨17, _⟩ => ⟨S2x2048x1024, .f32⟩
  | .hbm, ⟨18, _⟩ => ⟨S2x1x1024, .f32⟩
  | .hbm, ⟨19, _⟩ => ⟨S4096x1024, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S8192x1024, .f32⟩
  | .hbm, ⟨25, _⟩ => ⟨S4096x1024, .f32⟩
  | .hbm, ⟨26, _⟩ => ⟨S12288x1024, .f32⟩
  | _, _ => ⟨S12288x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]
-- ==== HyIn.lean ====
abbrev S12288x1024 : Shape := ⟨2, ![12288, 1024]⟩
abbrev S1024x3072 : Shape := ⟨2, ![1024, 3072]⟩
abbrev S12288x3072 : Shape := ⟨2, ![12288, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S12288x1024, .bf16⟩
  | .hbm, ⟨1, _⟩ => ⟨S1024x3072, .f32⟩
  | .hbm, ⟨2, _⟩ => ⟨S12288x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | _, _ => ⟨S12288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HyInReferenceIdeal.lean ====
abbrev S12288x1024 : Shape := ⟨2, ![12288, 1024]⟩
abbrev S1024x3072 : Shape := ⟨2, ![1024, 3072]⟩
abbrev S12288x3072 : Shape := ⟨2, ![12288, 3072]⟩

abbrev nBuf : Space → Nat
  | .hbm => 4
  | .vmem => 0
  | .smem => 0
  | _ => 0

abbrev bufTy : (tb : Table) → Fin (tcTables nBuf tb) → BufTy
  | .hbm, ⟨0, _⟩ => ⟨S12288x1024, .bf16⟩
  | .hbm, ⟨1, _⟩ => ⟨S1024x3072, .f32⟩
  | .hbm, ⟨2, _⟩ => ⟨S12288x1024, .f32⟩
  | .hbm, ⟨3, _⟩ => ⟨S12288x3072, .f32⟩
  | _, _ => ⟨S12288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MlUp.lean ====
abbrev S12288x1024 : Shape := ⟨2, ![12288, 1024]⟩
abbrev S1024x4096 : Shape := ⟨2, ![1024, 4096]⟩
abbrev S12288x4096 : Shape := ⟨2, ![12288, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S12288x1024, .bf16⟩
  | .hbm, ⟨1, _⟩ => ⟨S1024x4096, .f32⟩
  | .hbm, ⟨2, _⟩ => ⟨S12288x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | _, _ => ⟨S12288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlUpReferenceIdeal.lean ====
abbrev S12288x1024 : Shape := ⟨2, ![12288, 1024]⟩
abbrev S1024x4096 : Shape := ⟨2, ![1024, 4096]⟩
abbrev S12288x4096 : Shape := ⟨2, ![12288, 4096]⟩

abbrev nBuf : Space → Nat
  | .hbm => 4
  | .vmem => 0
  | .smem => 0
  | _ => 0

abbrev bufTy : (tb : Table) → Fin (tcTables nBuf tb) → BufTy
  | .hbm, ⟨0, _⟩ => ⟨S12288x1024, .bf16⟩
  | .hbm, ⟨1, _⟩ => ⟨S1024x4096, .f32⟩
  | .hbm, ⟨2, _⟩ => ⟨S12288x1024, .f32⟩
  | .hbm, ⟨3, _⟩ => ⟨S12288x4096, .f32⟩
  | _, _ => ⟨S12288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== HyOut.lean ====
abbrev S12288x1024 : Shape := ⟨2, ![12288, 1024]⟩
abbrev S1024x1024 : Shape := ⟨2, ![1024, 1024]⟩
abbrev S3x1x1024 : Shape := ⟨3, ![3, 1, 1024]⟩
abbrev S1x1x1024 : Shape := ⟨3, ![1, 1, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S12288x1024, .bf16⟩
  | .hbm, ⟨1, _⟩ => ⟨S1024x1024, .f32⟩
  | .hbm, ⟨2, _⟩ => ⟨S12288x1024, .f32⟩
  | .hbm, ⟨3, _⟩ => ⟨S3x1x1024, .f32⟩
  | .hbm, ⟨4, _⟩ => ⟨S12288x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | _, _ => ⟨S12288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  ![v21.toNat, c0_i32_7.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== HyOutReferenceIdeal.lean ====
abbrev S12288x1024 : Shape := ⟨2, ![12288, 1024]⟩
abbrev S1024x1024 : Shape := ⟨2, ![1024, 1024]⟩
abbrev S3x1x1024 : Shape := ⟨3, ![3, 1, 1024]⟩
abbrev S8192x1024 : Shape := ⟨2, ![8192, 1024]⟩
abbrev S32x256x1024 : Shape := ⟨3, ![32, 256, 1024]⟩
abbrev S1x1x1024 : Shape := ⟨3, ![1, 1, 1024]⟩
abbrev S4096x1024 : Shape := ⟨2, ![4096, 1024]⟩
abbrev S2x2048x1024 : Shape := ⟨3, ![2, 2048, 1024]⟩
abbrev S2x1x1024 : Shape := ⟨3, ![2, 1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S12288x1024, .bf16⟩
  | .hbm, ⟨1, _⟩ => ⟨S1024x1024, .f32⟩
  | .hbm, ⟨2, _⟩ => ⟨S12288x1024, .f32⟩
  | .hbm, ⟨3, _⟩ => ⟨S3x1x1024, .f32⟩
  | .hbm, ⟨4, _⟩ => ⟨S12288x1024, .f32⟩
  | .hbm, ⟨5, _⟩ => ⟨S12288x1024, .f32⟩
  | .hbm, ⟨6, _⟩ => ⟨S8192x1024, .f32⟩
  | .hbm, ⟨7, _⟩ => ⟨S32x256x1024, .f32⟩
  | .hbm, ⟨8, _⟩ => ⟨S1x1x1024, .f32⟩
  | .hbm, ⟨9, _⟩ => ⟨S8192x1024, .f32⟩
  | .hbm, ⟨10, _⟩ => ⟨S32x256x1024, .f32⟩
  | .hbm, ⟨11, _⟩ => ⟨S32x256x1024, .f32⟩
  | .hbm, ⟨12, _⟩ => ⟨S32x256x1024, .f32⟩
  | .hbm, ⟨13, _⟩ => ⟨S32x256x1024, .f32⟩
  | .hbm, ⟨14, _⟩ => ⟨S4096x1024, .f32⟩
  | .hbm, ⟨15, _⟩ => ⟨S2x2048x1024, .f32⟩
  | .hbm, ⟨16, _⟩ => ⟨S2x1x1024, .f32⟩
  | .hbm, ⟨17, _⟩ => ⟨S4096x1024, .f32⟩
  | .hbm, ⟨18, _⟩ => ⟨S2x2048x1024, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S8192x1024, .f32⟩
  | .hbm, ⟨23, _⟩ => ⟨S4096x1024, .f32⟩
  | .hbm, ⟨24, _⟩ => ⟨S12288x1024, .f32⟩
  | _, _ => ⟨S12288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== MlDown.lean ====
abbrev S12288x2048 : Shape := ⟨2, ![12288, 2048]⟩
abbrev S2048x1024 : Shape := ⟨2, ![2048, 1024]⟩
abbrev S12288x1024 : Shape := ⟨2, ![12288, 1024]⟩
abbrev S3x1x1024 : Shape := ⟨3, ![3, 1, 1024]⟩
abbrev S1024x2048 : Shape := ⟨2, ![1024, 2048]⟩
abbrev S2048x512 : Shape := ⟨2, ![2048, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 5
  | .vmem => 11
  | .smem => 0
  | _ => 0

abbrev bufTy : (tb : Table) → Fin (tcTables nBuf tb) → BufTy
  | .hbm, ⟨0, _⟩ => ⟨S12288x2048, .bf16⟩
  | .hbm, ⟨1, _⟩ => ⟨S2048x1024, .f32⟩
  | .hbm, ⟨2, _⟩ => ⟨S12288x1024, .f32⟩
  | .hbm, ⟨3, _⟩ => ⟨S3x1x1024, .f32⟩
  | .hbm, ⟨4, _⟩ => ⟨S12288x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S2048x512, .bf16⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  ![v21.toNat, c0_i32_7.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MlDownReferenceIdeal.lean ====
abbrev S12288x2048 : Shape := ⟨2, ![12288, 2048]⟩
abbrev S2048x1024 : Shape := ⟨2, ![2048, 1024]⟩
abbrev S12288x1024 : Shape := ⟨2, ![12288, 1024]⟩
abbrev S3x1x1024 : Shape := ⟨3, ![3, 1, 1024]⟩
abbrev S8192x1024 : Shape := ⟨2, ![8192, 1024]⟩
abbrev S32x256x1024 : Shape := ⟨3, ![32, 256, 1024]⟩
abbrev S1x1x1024 : Shape := ⟨3, ![1, 1, 1024]⟩
abbrev S4096x1024 : Shape := ⟨2, ![4096, 1024]⟩
abbrev S2x2048x1024 : Shape := ⟨3, ![2, 2048, 1024]⟩
abbrev S2x1x1024 : Shape := ⟨3, ![2, 1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S12288x2048, .bf16⟩
  | .hbm, ⟨1, _⟩ => ⟨S2048x1024, .f32⟩
  | .hbm, ⟨2, _⟩ => ⟨S12288x1024, .f32⟩
  | .hbm, ⟨3, _⟩ => ⟨S3x1x1024, .f32⟩
  | .hbm, ⟨4, _⟩ => ⟨S12288x2048, .f32⟩
  | .hbm, ⟨5, _⟩ => ⟨S12288x1024, .f32⟩
  | .hbm, ⟨6, _⟩ => ⟨S8192x1024, .f32⟩
  | .hbm, ⟨7, _⟩ => ⟨S32x256x1024, .f32⟩
  | .hbm, ⟨8, _⟩ => ⟨S1x1x1024, .f32⟩
  | .hbm, ⟨9, _⟩ => ⟨S8192x1024, .f32⟩
  | .hbm, ⟨10, _⟩ => ⟨S32x256x1024, .f32⟩
  | .hbm, ⟨11, _⟩ => ⟨S32x256x1024, .f32⟩
  | .hbm, ⟨12, _⟩ => ⟨S32x256x1024, .f32⟩
  | .hbm, ⟨13, _⟩ => ⟨S32x256x1024, .f32⟩
  | .hbm, ⟨14, _⟩ => ⟨S4096x1024, .f32⟩
  | .hbm, ⟨15, _⟩ => ⟨S2x2048x1024, .f32⟩
  | .hbm, ⟨16, _⟩ => ⟨S2x1x1024, .f32⟩
  | .hbm, ⟨17, _⟩ => ⟨S4096x1024, .f32⟩
  | .hbm, ⟨18, _⟩ => ⟨S2x2048x1024, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S8192x1024, .f32⟩
  | .hbm, ⟨23, _⟩ => ⟨S4096x1024, .f32⟩
  | .hbm, ⟨24, _⟩ => ⟨S12288x1024, .f32⟩
  | _, _ => ⟨S12288x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== Proof.UpBody.lean ====
/- The up projection's kernel body at one grid point, by the cases of its control. -/
module

public import proofs.«01_k».proof.Proof.Gen.UpIdeal.Launch
public import proofs.«01_k».proof.Proof.Gen.UpIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.VecWindow

@[expose] public section

set_option maxRecDepth 16384

noncomputable section

namespace Cert.UpIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.UpIdeal Cert.UpIdeal.Gen

variable {F : FTy → Type} [FloatOps F]

local notation "𝕄" => MT nD τ sig Unit (Elt F) ℕ (UR sig nD τ) ℕ

/-- The table of the tiles' experts as the body is handed it: its whole buffer. -/
abbrev tableM : Memref sig .tc .smem S33 .i32 := Memref.whole main_arg0

theorem tableM_whole : tableM.IsWhole := Memref.isWhole_whole _

/-- The table held at half the share, read-only. -/
abbrev tablePt (c : Dev nD) {S : Shape} {e : EltTy} (M : Memref sig .tc .smem S e) (f : Buf (Elt F) (M.view.loc (c : Thread nD τ))) : sProp 𝕄 :=
  M.view.loc (c : Thread nD τ) ↦{fullShare.right} f

/-- The word of the table at the one-element rectangle at `off`. -/
abbrev word (c : Dev nD) (xt : Buf (Elt F) (tableM.view.loc (c : Thread nD τ))) (off : Fin 1 → ℕ) (h : ∀ a, off a + S1.size a ≤ S33.size a) : BitVec 32 :=
  View.readAt (Elt F) tableM.view (Rect.unit (s := S33) off S1.size h).toLoadRect xt (Shape.Idx.first (numel1_S1.symm ▸ Nat.one_pos))

/-- The point's tile lies below the number of tiles in use, the table's last word. -/
abbrev used (c : Dev nD) (i : grid0.Coords) (xt : Buf (Elt F) (tableM.view.loc (c : Thread nD τ))) : Prop :=
  k0_cond1 i (word c xt ![32] inb_S33_S1_32) = 1#1

/-- The point's tile is the first one or has another expert than the tile before. -/
abbrev turn (c : Dev nD) (i : grid0.Coords) (xt : Buf (Elt F) (tableM.view.loc (c : Thread nD τ))) : Prop :=
  Scalar.cmpi .ne (Scalar.extui (Scalar.ori (Scalar.cmpi .eq (BitVec.ofNat 32 (i 1).val) 0#32)
    (Scalar.cmpi .ne (word c xt (k0_off2 i) (k0_off2_inb i)) (word c xt (k0_off3 i) (k0_off3_inb i)))) : BitVec 32) 0#32 = 1#1

/-- What a scratch holds after a point that found it at `xs` and fills it with `p` when the expert changes. -/
def scr (c : Dev nD) (i : grid0.Coords) (p xs : Vec F S1024x512 .bf16) (xt : Buf (Elt F) (tableM.view.loc (c : Thread nD τ))) : Vec F S1024x512 .bf16 :=
  if used c i xt then if turn c i xt then p else xs else xs

/-- What the output's block holds after a point that found the scratches at `sg` and `su`. -/
def out (c : Dev nD) (i : grid0.Coords) (x0 : Vec F S1024x1024 .bf16) (x1 x2 : Vec F S1x1x1024x512 .f32) (sg su : Vec F S1024x512 .bf16) (xt : Buf (Elt F) (tableM.view.loc (c : Thread nD τ))) : Vec F S1024x512 .bf16 :=
  if used c i xt then k0_pay3 x0 (scr c i (k0_pay1 x1) sg xt) (scr c i (k0_pay2 x2) su xt) else k0_pay4

/-- A bit widened to a word is nonzero when it is set. -/
theorem widened_iff (b : BitVec 1) : Scalar.cmpi .ne (Scalar.extui b : BitVec 32) 0#32 = 1#1 ↔ b = 1#1 := by
  revert b; decide

/-- The first outer condition as a comparison of integers. -/
theorem cond1_iff (i : grid0.Coords) (w : BitVec 32) : k0_cond1 i w = 1#1 ↔ (BitVec.ofNat 32 (i 1).val).toInt < w.toInt := by
  unfold k0_cond1
  exact (widened_iff _).trans ((iff_of_eq (congrArg (· = 1#1) (WordCmp.cmpi_slt_eq _ _))).trans (WordCmp.ofBool_decide_eq_one_iff _))

/-- The two outer conditions are each other's negation. -/
theorem cond3_iff (i : grid0.Coords) (w : BitVec 32) : k0_cond3 i w = 1#1 ↔ ¬ k0_cond1 i w = 1#1 := by
  rw [cond1_iff, not_lt]
  unfold k0_cond3
  exact (widened_iff _).trans ((iff_of_eq (congrArg (· = 1#1) (WordCmp.cmpi_sge_eq _ _))).trans (WordCmp.ofBool_decide_eq_one_iff _))

/-- The turn condition in words of the table. -/
theorem not_turn (c : Dev nD) (i : grid0.Coords) (xt : Buf (Elt F) (tableM.view.loc (c : Thread nD τ))) (h : ¬ turn c i xt) :
    BitVec.ofNat 32 (i 1).val ≠ 0#32 ∧ word c xt (k0_off2 i) (k0_off2_inb i) = word c xt (k0_off3 i) (k0_off3_inb i) := by
  rw [turn, widened_iff] at h
  revert h
  generalize word c xt (k0_off2 i) (k0_off2_inb i) = a
  generalize word c xt (k0_off3 i) (k0_off3_inb i) = b
  generalize BitVec.ofNat 32 (i 1).val = d
  intro h
  by_cases hd : d = 0#32
  · subst hd; refine absurd ?_ h
    show IntOp.ori (BitVec.ofBool (0#32 == 0#32)) (BitVec.ofBool (a != b)) = 1#1
    rw [WordCmp.ori_ofBool, WordCmp.ofBool_eq_one_iff]; simp
  · refine ⟨hd, ?_⟩
    by_contra hab
    refine h ?_
    show IntOp.ori (BitVec.ofBool (d == 0#32)) (BitVec.ofBool (a != b)) = 1#1
    rw [WordCmp.ori_ofBool, WordCmp.ofBool_eq_one_iff, bne_iff_ne.mpr hab, Bool.or_true]

set_option maxHeartbeats 8000000 in
/-- The body from any contents of the scratches and of the output's block. -/
theorem body_run (c : Dev nD) (i : grid0.Coords) (arg3 : Memref sig .tc .vmem S1024x1024 .bf16) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole)
    (x0 : Vec F S1024x1024 .bf16) (x1 x2 : Vec F S1x1x1024x512 .f32) (sg su : Vec F S1024x512 .bf16) (xt : Buf (Elt F) (tableM.view.loc (c : Thread nD τ)))
    (E : Set ℕ) (K : PUnit → sProp 𝕄) :
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare sg ∗ owns (c : Thread nD τ) arg8 fullShare su ∗ tablePt c tableM xt
            ∗ (iprop(owns (c : Thread nD τ) arg3 fullShare x0 ∗ owns (c : Thread nD τ) arg4 fullShare x1 ∗ owns (c : Thread nD τ) arg5 fullShare x2 ∗ owns (c : Thread nD τ) arg6 fullShare (out c i x0 x1 x2 sg su xt) ∗ owns (c : Thread nD τ) arg7 fullShare (scr c i (k0_pay1 x1) sg xt) ∗ owns (c : Thread nD τ) arg8 fullShare (scr c i (k0_pay2 x2) su xt) ∗ tablePt c tableM xt) -∗ K ⟨⟩))
          ⊢ wp frame (wpE (defs₀ (F := F)) Variants.none c none) E (cc0_moe_up i tableM tableM_whole arg3 harg3 arg4 harg4 arg5 harg5 arg6 harg6 arg7 harg7 arg8 harg8) K := by
    simp only [cc0_moe_up_eq_skeleton]; unfold cc0_moe_up_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, HT0, Hk⟩
    obtain rfl := harg3.eq_unread hf0; obtain rfl := harg4.eq_unread hf1; obtain rfl := harg5.eq_unread hf2; obtain rfl := harg7.eq_unread hf4; obtain rfl := harg8.eq_unread hf5
    sl_exec
    sl_step; iapply Hk
    isplitl [H0]; · iexists _; isplitr; (swap; · iexact H0); ipureintro; exact harg3.read_unread _
    isplitl [H1]; · iexists _; isplitr; (swap; · iexact H1); ipureintro; exact harg4.read_unread _
    isplitl [H2]; · iexists _; isplitr; (swap; · iexact H2); ipureintro; exact harg5.read_unread _
    isplitl [H3]
    · iexists _; isplitr
      swap; · iexact H3
      ipureintro
      unfold body_run.sl.v20 body_run.sl.v22 body_run.sl.r body_run.sl.v18 body_run.sl.v17 body_run.sl.v16 body_run.sl.v15 body_run.sl.v8 body_run.sl.r_1 body_run.sl.r_2 out scr
      by_cases hU : used c i xt
      · have h3 : ¬ k0_cond3 i (word c xt ![32] inb_S33_S1_32) = 1#1 := fun h => (cond3_iff i _).mp h hU
        rw [dif_neg h3, dif_pos hU, if_pos hU, if_pos hU, if_pos hU, View.read_writes_full, View.readAt_full, View.readAt_full, View.readAt_full]
        have e0 : View.read (Elt F) arg3.view (harg3.unread x0) = x0 := harg3.read_unread _
        rw [e0]
        by_cases hT : turn c i xt
        · rw [dif_pos hT, dif_pos hT, if_pos hT, if_pos hT]
          refine congrArg₂ (k0_pay3 x0) ?_ ?_
          · rw [View.read_writes_full]; exact congrArg _ (harg4.read_unread _)
          · rw [View.readAt_full, View.read_writes_full, View.readAt_full]; exact congrArg _ (harg5.read_unread _)
        · rw [dif_neg hT, dif_neg hT, if_neg hT, if_neg hT]
          refine congrArg₂ (k0_pay3 x0) (harg7.read_unread _) ?_
          rw [View.readAt_full]; exact harg8.read_unread _
      · have h3 : k0_cond3 i (word c xt ![32] inb_S33_S1_32) = 1#1 := (cond3_iff i _).mpr hU
        rw [dif_pos h3, if_neg hU, View.read_writes_full]
    isplitl [H4]
    · iexists _; isplitr
      swap; · iexact H4
      ipureintro
      unfold body_run.sl.r body_run.sl.v18 body_run.sl.v17 body_run.sl.v16 body_run.sl.v15 body_run.sl.v8 body_run.sl.r_1 body_run.sl.r_2 scr
      by_cases hU : used c i xt
      · rw [dif_pos hU, if_pos hU]
        by_cases hT : turn c i xt
        · rw [dif_pos hT, if_pos hT, View.read_writes_full, View.readAt_full]
          exact congrArg _ (harg4.read_unread _)
        · rw [dif_neg hT, if_neg hT]; exact harg7.read_unread _
      · rw [dif_neg hU, if_neg hU]; exact harg7.read_unread _
    isplitl [H5]
    · iexists _; isplitr
      swap; · iexact H5
      ipureintro
      unfold body_run.sl.r body_run.sl.v18 body_run.sl.v17 body_run.sl.v16 body_run.sl.v15 body_run.sl.v8 body_run.sl.r_1 body_run.sl.r_2 scr
      by_cases hU : used c i xt
      · rw [dif_pos hU, if_pos hU]
        by_cases hT : turn c i xt
        · rw [dif_pos hT, if_pos hT, View.read_writes_full, View.readAt_full]
          exact congrArg _ (harg5.read_unread _)
        · rw [dif_neg hT, if_neg hT]; exact harg8.read_unread _
      · rw [dif_neg hU, if_neg hU]; exact harg8.read_unread _
    iexact HT0

end Cert.UpIdeal.Body

end
-- ==== Proof.UpRun.lean ====
/- The up projection's run at any float values: what every block of the output holds, and that the arguments are unchanged. -/
module

public import proofs.«01_k».proof.Proof.UpBody
public import Idealize.ShloMosaic.Lib.Claim
public import Idealize.ShloMosaic.Lib.Pipeline.ValueKit

@[expose] public section

set_option maxRecDepth 16384

noncomputable section

namespace Cert.UpIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.UpIdeal Cert.UpIdeal.Gen Cert.UpIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- The tables' halves the region hands the body (Lib/Pipeline/Frame.lean `ΦT`), table by table: what the body
    obligation hands the run and takes back. -/
theorem PhiT0_eq (c : Dev nD) : (Pipeline.ΦT pre0 (tbl m) c : sProp 𝕄) = iprop(tablePt c tableM (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_UpIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (by decide : main_arg0 ∈ Pipeline.restRefs sig spec0)).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 2).trans (((dats 0 c).arrAt_in 2 rfl _).trans ((hA c 2).trans (V_main_arg3 m c)))⟩) h

/-- Window 0 is never idle (an input). -/
theorem liveAt0_0 (hO : Ok m) : ∀ t : Fin (cfgM m hO).N, (cfgM m hO).idle 0 (grid0.coords t) = false :=
  fun _ => rfl
/-- Window 1 is never idle (an input). -/
theorem liveAt0_1 (hO : Ok m) : ∀ t : Fin (cfgM m hO).N, (cfgM m hO).idle 1 (grid0.coords t) = false :=
  fun _ => rfl
/-- Window 2 is never idle (an input). -/
theorem liveAt0_2 (hO : Ok m) : ∀ t : Fin (cfgM m hO).N, (cfgM m hO).idle 2 (grid0.coords t) = false :=
  fun _ => rfl
/-- Each window's current staging memref at point `t`, spelled as the pipeline passes it (`bodyAt0`), and its wholeness. -/
abbrev ms0_0 (hO : Ok m) (t : Fin (cfgM m hO).N) : Memref sig .tc .vmem S1024x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1024x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1024x512 .bf16 := spec0_3.stage ((cfgM m hO).slots t 3)
abbrev hs0_3 (hO : Ok m) (t : Fin (cfgM m hO).N) : (ms0_3 m hO t).IsWhole := hstage0_3 (((cfgM m hO).slots t 3).cast nbuf0_3)
/-- The scratch operands: whole scoped buffers of the kernel's own, passed beside the windows. -/
abbrev scM0_0 : Memref sig .tc .vmem S1024x512 .bf16 := Memref.whole cc0_scratch0
abbrev scM0_1 : Memref sig .tc .vmem S1024x512 .bf16 := Memref.whole cc0_scratch1
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The table's words -/

/-- Word `k` of the table. -/
def tw (k : Fin 33) : BitVec 32 := (show Vec F S33 .i32 from m ((0 : Dev nD).tc.loc main_arg0)) (fun a => ⟨k.val, by fin_cases a; exact k.isLt⟩)

theorem word_eq (c : Dev nD) (off : Fin 1 → ℕ) (h : ∀ a, off a + S1.size a ≤ S33.size a) (k : Fin 33) (hk : off 0 = k.val) :
    word c (tbl m 0) off h = tw m k := by
  unfold tw word
  refine congrArg (m ((0 : Dev nD).tc.loc main_arg0)) (funext fun a => Fin.ext ?_)
  fin_cases a
  show off 0 + 1 * 0 = k.val
  omega

theorem at_eq (off : Fin 1 → ℕ) (h : ∀ a, off a + S1.size a ≤ S33.size a) (k : Fin 33) (hk : off 0 = k.val) :
    (tbl m).at 0 (Rect.unit (s := S33) off S1.size h) numel1_S1 = tw m k := by
  unfold tw
  refine congrArg (m ((0 : Dev nD).tc.loc main_arg0)) (funext fun a => Fin.ext ?_)
  fin_cases a
  show off 0 + 1 * 0 = k.val
  omega

/-- The point's tile. -/
def tile (i : grid0.Coords) : Fin 33 := ⟨(i 1).val, by have h : (i 1).val < 32 := (i 1).isLt; omega⟩

/-- The point's tile is in use. -/
abbrev usedAt (t : Fin grid0.N) : Prop := used (0 : Dev nD) (grid0.coords t) (tbl m 0)

theorem coord_word (t : Fin grid0.N) (a : Fin 2) : (BitVec.ofNat 32 (grid0.coords t a).val).toNat = (grid0.coords t a).val :=
  (by decide +kernel : ∀ (t : Fin grid0.N) (a : Fin 2), (BitVec.ofNat 32 (grid0.coords t a).val).toNat = (grid0.coords t a).val) t a

theorem coord_int (t : Fin grid0.N) (a : Fin 2) : (BitVec.ofNat 32 (grid0.coords t a).val).toInt = (grid0.coords t a).val :=
  (by decide +kernel : ∀ (t : Fin grid0.N) (a : Fin 2), (BitVec.ofNat 32 (grid0.coords t a).val).toInt = (grid0.coords t a).val) t a

theorem coord1 : ∀ t : Fin grid0.N, (grid0.coords t 1).val = t.val % 32 := by decide +kernel
theorem coord0 : ∀ t : Fin grid0.N, (grid0.coords t 0).val = t.val / 32 := by decide +kernel
theorem off2 : ∀ t : Fin grid0.N, k0_off2 (grid0.coords t) 0 = t.val % 32 := by decide +kernel
theorem off3 : ∀ t : Fin grid0.N, k0_off3 (grid0.coords t) 0 = t.val % 32 - 1 := by decide +kernel
theorem coord1_ne : ∀ t : Fin grid0.N, BitVec.ofNat 32 (grid0.coords t 1).val ≠ 0#32 → t.val % 32 ≠ 0 := by decide +kernel

/-- A tile is used when it lies below the table's last word. -/
theorem usedAt_iff (t : Fin grid0.N) : usedAt m t ↔ ((t.val % 32 : ℕ) : ℤ) < (tw m 32).toInt := by
  unfold usedAt used
  rw [cond1_iff, coord_int, coord1, word_eq m 0 _ _ 32 rfl]

theorem index1 (hO : Ok m) (t : Fin (cfgM m hO).N) :
    ((cfgM m hO).win 1).index t = ![0, (tw m (tile (grid0.coords t))).toNat, 0, (grid0.coords t 0).val] := by
  show cc0_transform_1 k0_off1_inb numel1_S1 (tbl m) (grid0.coords t) = _
  funext a
  fin_cases a
  · rfl
  · exact congrArg BitVec.toNat (at_eq m (k0_off1 (grid0.coords t)) (k0_off1_inb _) (tile (grid0.coords t)) (coord_word t 1))
  · rfl
  · exact coord_word t 0

theorem index2 (hO : Ok m) (t : Fin (cfgM m hO).N) :
    ((cfgM m hO).win 2).index t = ![0, (tw m (tile (grid0.coords t))).toNat, 0, (grid0.coords t 0).val] := by
  show cc0_transform_2 k0_off1_inb numel1_S1 (tbl m) (grid0.coords t) = _
  funext a
  fin_cases a
  · rfl
  · exact congrArg BitVec.toNat (at_eq m (k0_off1 (grid0.coords t)) (k0_off1_inb _) (tile (grid0.coords t)) (coord_word t 1))
  · rfl
  · exact coord_word t 0

/-- The smaller of a word and another's predecessor, the word being below the other. -/
theorem below_last (a w : BitVec 32) (h : a.toInt < w.toInt) (h0 : 0 ≤ a.toInt) : Scalar.minsi a (Scalar.subi w 1#32) = a := by
  have e : (w - 1#32).toInt = w.toInt - 1 := by
    have hw := w.isLt
    rw [BitVec.toInt_eq_toNat_cond] at h0 h ⊢
    rw [BitVec.toInt_eq_toNat_cond] at h ⊢
    rw [BitVec.toNat_sub]
    simp only [BitVec.toNat_ofNat]
    split_ifs at * <;> omega
  show IntOp.minsi a (w - 1#32) = a
  unfold IntOp.minsi
  split_ifs with hs
  · rfl
  · rw [BitVec.slt_iff_toInt_lt] at hs
    exact BitVec.eq_of_toInt_eq (by omega)

theorem index0 (hO : Ok m) (t : Fin (cfgM m hO).N) (h : usedAt m t) :
    ((cfgM m hO).win 0).index t = ![(grid0.coords t 1).val, 0] := by
  show cc0_transform_0 inb_S33_S1_32 numel1_S1 (tbl m) (grid0.coords t) = _
  rw [usedAt_iff] at h
  have e := at_eq m ![32] inb_S33_S1_32 32 rfl
  funext a
  fin_cases a
  · refine Eq.trans (congrArg (fun w => BitVec.toNat (Scalar.minsi (BitVec.ofNat 32 (grid0.coords t 1).val) (Scalar.subi w 1#32))) e) ?_
    rw [below_last _ _ (by rw [coord_int, coord1]; exact h) (by rw [coord_int]; omega)]
    exact coord_word t 1
  · rfl

theorem index3 (hO : Ok m) (t : Fin (cfgM m hO).N) :
    ((cfgM m hO).win 3).index t = ![(grid0.coords t 1).val, (grid0.coords t 0).val] := by
  show cc0_transform_3 (grid0.coords t) = _
  unfold cc0_transform_3
  dsimp only
  rw [coord_word t 0, coord_word t 1]

/-- A block of the weights read off the array. -/
theorem iblk1_apply (hO : Ok m) (c : Dev nD) (t : Fin (cfgM m hO).N) (y : S1x1x1024x512.Idx) (z : S2x8x1024x3584.Idx)
    (h0 : (z 0).val = 0) (h1 : (z 1).val = (tw m (tile (grid0.coords t))).toNat) (h2 : (z 2).val = (y 2).val)
    (h3 : (z 3).val = 512 * (grid0.coords t 0).val + (y 3).val) :
    iblk m hO c 1 t y = (show Vec F S2x8x1024x3584 .f32 from m ((c : Thread nD τ).loc main_arg2)) z := by
  blk_simp [iblk]
  refine congrArg _ ?_
  blk_ext [index1 m hO t, h0, h1, h2, h3]

/-- Two points of one column with the same expert have the same block of the weights. -/
theorem iblk1_congr (hO : Ok m) (c : Dev nD) (t t' : Fin (cfgM m hO).N) (h0 : grid0.coords t 0 = grid0.coords t' 0)
    (h1 : tw m (tile (grid0.coords t)) = tw m (tile (grid0.coords t'))) : iblk m hO c 1 t = iblk m hO c 1 t' := by
  funext y
  blk_simp [iblk]
  refine congrArg _ ?_
  blk_ext [index1 m hO t, index1 m hO t', h0, h1]

/-- A block of the second weights read off the array. -/
theorem iblk2_apply (hO : Ok m) (c : Dev nD) (t : Fin (cfgM m hO).N) (y : S1x1x1024x512.Idx) (z : S2x8x1024x3584.Idx)
    (h0 : (z 0).val = 0) (h1 : (z 1).val = (tw m (tile (grid0.coords t))).toNat) (h2 : (z 2).val = (y 2).val)
    (h3 : (z 3).val = 512 * (grid0.coords t 0).val + (y 3).val) :
    iblk m hO c 2 t y = (show Vec F S2x8x1024x3584 .f32 from m ((c : Thread nD τ).loc main_arg3)) z := by
  blk_simp [iblk]
  refine congrArg _ ?_
  blk_ext [index2 m hO t, h0, h1, h2, h3]

/-- Two points of one column with the same expert have the same block of the second weights. -/
theorem iblk2_congr (hO : Ok m) (c : Dev nD) (t t' : Fin (cfgM m hO).N) (h0 : grid0.coords t 0 = grid0.coords t' 0)
    (h1 : tw m (tile (grid0.coords t)) = tw m (tile (grid0.coords t'))) : iblk m hO c 2 t = iblk m hO c 2 t' := by
  funext y
  blk_simp [iblk]
  refine congrArg _ ?_
  blk_ext [index2 m hO t, index2 m hO t', h0, h1]

/-- A used tile that is not the first, with the expert of the tile before: the point before is used too and has the same block of the weights. -/
theorem keep (hO : Ok m) (c : Dev nD) (t : Fin (cfgM m hO).N) (hU : usedAt m t) (hT : ¬ turn (0 : Dev nD) (grid0.coords t) (tbl m 0)) :
    ∃ t' : Fin (cfgM m hO).N, t.val = t'.val + 1 ∧ usedAt m t' ∧ iblk m hO c 1 t' = iblk m hO c 1 t ∧ iblk m hO c 2 t' = iblk m hO c 2 t := by
  obtain ⟨hd, hw⟩ := not_turn (0 : Dev nD) (grid0.coords t) (tbl m 0) hT
  have hN : t.val < 224 := lt_of_lt_of_eq t.isLt (show (cfgM m hO).N = 224 from N_0)
  have hm := coord1_ne t hd
  have hp : t.val - 1 < (cfgM m hO).N := lt_of_le_of_lt (Nat.sub_le _ _) t.isLt
  refine ⟨⟨t.val - 1, hp⟩, by show t.val = t.val - 1 + 1; omega, ?_, ?_⟩
  · rw [usedAt_iff] at hU ⊢
    refine lt_trans ?_ hU
    show (((t.val - 1) % 32 : ℕ) : ℤ) < _
    omega
  · have h0 : grid0.coords (⟨t.val - 1, hp⟩ : Fin grid0.N) 0 = grid0.coords t 0 := Fin.ext (by
      rw [coord0, coord0]; show (t.val - 1) / 32 = t.val / 32; omega)
    have e1 := word_eq m 0 (k0_off2 (grid0.coords t)) (k0_off2_inb _) (tile (grid0.coords t)) ((off2 t).trans (coord1 t).symm)
    have e2 := word_eq m 0 (k0_off3 (grid0.coords t)) (k0_off3_inb _) (tile (grid0.coords (⟨t.val - 1, hp⟩ : Fin grid0.N)))
      ((off3 t).trans (Eq.trans (by show t.val % 32 - 1 = (t.val - 1) % 32; omega) (coord1 ⟨t.val - 1, hp⟩).symm))
    rw [e1, e2] at hw
    exact ⟨iblk1_congr m hO c _ _ h0 hw.symm, iblk2_congr m hO c _ _ h0 hw.symm⟩

/-! ## The proof data -/

/-- What the output's block holds after point `t`. -/
def outAt (hO : Ok m) (c : Dev nD) (t : Fin (cfgM m hO).N) : Vec F S1024x512 .bf16 :=
  if usedAt m t then k0_pay3 (iblk m hO c 0 t) (k0_pay1 (iblk m hO c 1 t)) (k0_pay2 (iblk m hO c 2 t)) else k0_pay4

/-- What is known of the scratches' contents before point `n`: after a used point they are that point's blocks of the weights. -/
def Known (hO : Ok m) (c : Dev nD) (n : ℕ) (h : n ≤ (cfgM m hO).N) (sg su : Vec F S1024x512 .bf16) : Prop :=
  ∀ t : Fin (cfgM m hO).N, n = t.val + 1 → usedAt m t → sg = k0_pay1 (iblk m hO c 1 t) ∧ su = k0_pay2 (iblk m hO c 2 t)

theorem known_zero (hO : Ok m) (c : Dev nD) (sg su : Vec F S1024x512 .bf16) : Known m hO c 0 (Nat.zero_le _) sg su := by
  unfold Known; intro t h; exact absurd h.symm (Nat.succ_ne_zero _)

/-- The invariant: the scratches at contents of which `Known` holds, the generator's register, and the table. -/
def PhiS (hO : Ok m) (c : Dev nD) (n : ℕ) (h : n ≤ (cfgM m hO).N) : sProp 𝕄 :=
  iprop(iprop((∃ sg su, ⌜Known m hO c n h sg su⌝ ∗ owns (c : Thread nD τ) scM0_0 fullShare sg ∗ owns (c : Thread nD τ) scM0_1 fullShare su) ∗ (∃ r, prngReg c r)) ∗ Pipeline.ΦT pre0 (tbl m) c)

/-- The proof data: the arrays as launched, the inputs' blocks in place, the output's at `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outAt m hO c t
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = outAt m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-- The output is never idle: one of the two outer conditions holds. -/
theorem live0_3 (hO : Ok m) (t : Fin (cfgM m hO).N) : (cfgM m hO).idle 3 (grid0.coords t) = false := by
  show (!(k0_cond1 (grid0.coords t) ((tbl m).atD 0 ![32]) == 1#1) && !(k0_cond3 (grid0.coords t) ((tbl m).atD 0 ![32]) == 1#1)) = false
  generalize (tbl m).atD 0 ![32] = w
  have h := cond3_iff (grid0.coords t) w
  by_cases h1 : k0_cond1 (grid0.coords t) w = 1#1
  · rw [beq_iff_eq.mpr h1]; rfl
  · rw [beq_iff_eq.mpr (h.mpr h1), Bool.not_true, Bool.and_false]

theorem scr_used (hO : Ok m) (c : Dev nD) (t : Fin (cfgM m hO).N) (sg su : Vec F S1024x512 .bf16) (hs : Known m hO c t.val (Nat.le_of_lt t.isLt) sg su) (hU : usedAt m t) :
    scr c (grid0.coords t) (k0_pay1 (iblk m hO c 1 t)) sg (tbl m 0) = k0_pay1 (iblk m hO c 1 t)
      ∧ scr c (grid0.coords t) (k0_pay2 (iblk m hO c 2 t)) su (tbl m 0) = k0_pay2 (iblk m hO c 2 t) := by
  obtain rfl : c = 0 := Subsingleton.elim _ _
  unfold scr
  rw [if_pos hU, if_pos hU]
  by_cases hT : turn (0 : Dev nD) (grid0.coords t) (tbl m 0)
  · rw [if_pos hT, if_pos hT]; exact ⟨rfl, rfl⟩
  · rw [if_neg hT, if_neg hT]
    obtain ⟨t', h0, hu, he1, he2⟩ := keep m hO 0 t hU hT
    obtain ⟨hg, hu⟩ := hs t' h0 hu
    rw [hg, hu, he1, he2]
    exact ⟨rfl, rfl⟩

theorem out_eq (hO : Ok m) (c : Dev nD) (t : Fin (cfgM m hO).N) (sg su : Vec F S1024x512 .bf16) (hs : Known m hO c t.val (Nat.le_of_lt t.isLt) sg su) :
    out c (grid0.coords t) (iblk m hO c 0 t) (iblk m hO c 1 t) (iblk m hO c 2 t) sg su (tbl m 0) = outAt m hO c t := by
  obtain rfl : c = 0 := Subsingleton.elim _ _
  unfold out outAt
  by_cases hU : usedAt m t
  · rw [if_pos hU, if_pos hU, (scr_used m hO 0 t sg su hs hU).1, (scr_used m hO 0 t sg su hs hU).2]
  · rw [if_neg hU, if_neg hU]

theorem known_succ (hO : Ok m) (c : Dev nD) (t : Fin (cfgM m hO).N) (sg su : Vec F S1024x512 .bf16) (hs : Known m hO c t.val (Nat.le_of_lt t.isLt) sg su) :
    Known m hO c (t.val + 1) t.isLt (scr c (grid0.coords t) (k0_pay1 (iblk m hO c 1 t)) sg (tbl m 0)) (scr c (grid0.coords t) (k0_pay2 (iblk m hO c 2 t)) su (tbl m 0)) := by
  unfold Known
  intro t' h hU
  obtain rfl : t' = t := Fin.ext (Nat.succ.inj h).symm
  exact scr_used m hO c t' sg su hs hU

/-- The kernel body at point `t`, on what the pipeline calls it with. -/
abbrev bodyAt0 (a : (pcfg0 (F := F)).Adm) (t : Fin (cfg0 a).N) : Prog (TpuEff nD τ sig (Elt F) Λ₀ .tc) PUnit :=
  cc0_moe_up (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _) (Memref.whole cc0_scratch1) (Memref.isWhole_whole _)

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t)

set_option maxHeartbeats 1600000 in
/-- The body at any point: `body_run` at the point's blocks. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).owesAt () t.succ = (dats m hO 0 c).owesAt () t.castSucc from rfl]
  rw [show (dats m hO 0 c).Φ t.succ = PhiS m hO c (t.val + 1) t.isLt from rfl, PhiS_castSucc m hO c t]
  unfold PhiS
  rw [PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [live0_3 m hO t]; try rfl, after0_3]
  iintro ⟨⟨⟨⟨%sg, %su, %hs, HS0, HS1⟩, Hg⟩, HT0⟩, Ho, ⟨%d0, H0⟩, ⟨%d1, H1⟩, ⟨%d2, H2⟩, ⟨%d3, H3⟩⟩
  have e1 := out_eq m hO c t sg su hs
  have e2 := known_succ m hO c t sg su hs
  iapply (body_run c (grid0.coords t) _ _ _ _ _ _ _ _ _ _ _ _ (iblk m hO c 0 t) (iblk m hO c 1 t) (iblk m hO c 2 t) sg su (tbl m 0) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HT0]; · iexact HT0
  rw [e1]
  iintro ⟨H0, H1, H2, H3, HS0, HS1, HT0⟩
  isplitl [HS0 HS1 Hg HT0]
  · isplitl [HS0 HS1 Hg]
    · isplitl [HS0 HS1]
      · iexists _; iexists _
        isplitr; · ipureintro; exact e2
        isplitl [HS0]; · iexact HS0
        iexact HS1
      iexact Hg
    iexact HT0
  isplitl [Ho]; · iexact Ho
  isplitl [H0]; · iexact H0
  isplitl [H1]; · iexact H1
  isplitl [H2]; · iexact H2
  iexact H3

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiA0_eq]
  unfold PhiS
  iintro ⟨⟨⟨⟨%d, HS⟩, ⟨%d', HS'⟩⟩, Hg⟩, HT⟩
  isplitl [HS HS' Hg]
  · isplitl [HS HS']
    · iexists _; iexists _
      isplitr; · ipureintro; exact known_zero m hO c d d'
      isplitl [HS]; · iexact HS
      iexact HS'
    iexact Hg
  iexact HT

/-- After the last point the invariant gives the scratch and the register back. -/
theorem hout (hO : Ok m) (c : Dev nD) : (dats m hO 0 c).Φ (Fin.last (cfgM m hO).N) ⊢ Pipeline.ΦA spec0 c := by
  rw [show (dats m hO 0 c).Φ (Fin.last (cfgM m hO).N) = PhiS m hO c (Fin.last (cfgM m hO).N).val (Nat.le_of_lt_succ (Fin.last (cfgM m hO).N).isLt) from rfl, PhiA0_eq]
  unfold PhiS
  iintro ⟨⟨⟨%sg, %su, -, HS, HS'⟩, Hg⟩, -⟩
  isplitl [HS HS']
  · isplitl [HS]; · iexists _; iexact HS
    iexists _; iexact HS'
  iexact Hg

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO) (A_eq m hO) (run_main m ρ hO)

/-- THE FRAME: `Cert.quiescent_UpIdeal`'s statement (Defs.lean) at any `F` — Proof.lean cites it at `Bits`:
    `theorem Cert.Proof.claim : Cert.Claim := ⟨Cert.UpIdeal.Gen.facts, fun m ρ _ => Cert.UpIdeal.Gen.frame m ρ⟩`; here for every contents of the PREFETCHED TABLES, UNDER `Gen.Ok m` (the pipeline's side condition of
    them), which Proof.lean proves from the precondition: `⟨…, fun m ρ h => Cert.UpIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.UpIdeal.Run

end
-- ==== Proof.DownBody.lean ====
/- The down projection's kernel body at one grid point, by the three cases of its control. -/
module

public import proofs.«01_k».proof.Proof.Gen.DownIdeal.Launch
public import proofs.«01_k».proof.Proof.Gen.DownIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.VecWindow

@[expose] public section

set_option maxRecDepth 16384

noncomputable section

namespace Cert.DownIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.DownIdeal Cert.DownIdeal.Gen

variable {F : FTy → Type} [FloatOps F]

local notation "𝕄" => MT nD τ sig Unit (Elt F) ℕ (UR sig nD τ) ℕ

/-- The table of the tiles' experts as the body is handed it: its whole buffer. -/
abbrev tableM : Memref sig .tc .smem S33 .i32 := Memref.whole main_arg0

theorem tableM_whole : tableM.IsWhole := Memref.isWhole_whole _

/-- The table held at half the share, read-only. -/
abbrev tablePt (c : Dev nD) {S : Shape} {e : EltTy} (M : Memref sig .tc .smem S e) (f : Buf (Elt F) (M.view.loc (c : Thread nD τ))) : sProp 𝕄 :=
  M.view.loc (c : Thread nD τ) ↦{fullShare.right} f

/-- The word of the table at the one-element rectangle at `off`. -/
abbrev word (c : Dev nD) (xt : Buf (Elt F) (tableM.view.loc (c : Thread nD τ))) (off : Fin 1 → ℕ) (h : ∀ a, off a + S1.size a ≤ S33.size a) : BitVec 32 :=
  View.readAt (Elt F) tableM.view (Rect.unit (s := S33) off S1.size h).toLoadRect xt (Shape.Idx.first (numel1_S1.symm ▸ Nat.one_pos))

/-- The point's tile lies below the number of tiles in use, the table's last word. -/
abbrev used (c : Dev nD) (i : grid0.Coords) (xt : Buf (Elt F) (tableM.view.loc (c : Thread nD τ))) : Prop :=
  k0_cond1 i (word c xt ![32] inb_S33_S1_32) = 1#1

/-- The point's tile is the first one or has another expert than the tile before. -/
abbrev turn (c : Dev nD) (i : grid0.Coords) (xt : Buf (Elt F) (tableM.view.loc (c : Thread nD τ))) : Prop :=
  Scalar.cmpi .ne (Scalar.extui (Scalar.ori (Scalar.cmpi .eq (BitVec.ofNat 32 (i 1).val) 0#32)
    (Scalar.cmpi .ne (word c xt (k0_off2 i) (k0_off2_inb i)) (word c xt (k0_off3 i) (k0_off3_inb i)))) : BitVec 32) 0#32 = 1#1

/-- What the scratch holds after a point that found it at `xs`. -/
def scr (c : Dev nD) (i : grid0.Coords) (x1 : Vec F S1x1x3584x512 .f32) (xs : Vec F S3584x512 .bf16) (xt : Buf (Elt F) (tableM.view.loc (c : Thread nD τ))) : Vec F S3584x512 .bf16 :=
  if used c i xt then if turn c i xt then k0_pay1 x1 else xs else xs

/-- What the output's block holds after a point that found the scratch at `xs`. -/
def out (c : Dev nD) (i : grid0.Coords) (x0 : Vec F S1024x3584 .bf16) (x1 : Vec F S1x1x3584x512 .f32) (xs : Vec F S3584x512 .bf16) (xt : Buf (Elt F) (tableM.view.loc (c : Thread nD τ))) : Vec F S1024x512 .f32 :=
  if used c i xt then k0_pay2 x0 (scr c i x1 xs xt) else k0_pay3

/-- A bit widened to a word is nonzero when it is set. -/
theorem widened_iff (b : BitVec 1) : Scalar.cmpi .ne (Scalar.extui b : BitVec 32) 0#32 = 1#1 ↔ b = 1#1 := by
  revert b; decide

/-- The first outer condition as a comparison of integers. -/
theorem cond1_iff (i : grid0.Coords) (w : BitVec 32) : k0_cond1 i w = 1#1 ↔ (BitVec.ofNat 32 (i 1).val).toInt < w.toInt := by
  unfold k0_cond1
  exact (widened_iff _).trans ((iff_of_eq (congrArg (· = 1#1) (WordCmp.cmpi_slt_eq _ _))).trans (WordCmp.ofBool_decide_eq_one_iff _))

/-- The two outer conditions are each other's negation. -/
theorem cond3_iff (i : grid0.Coords) (w : BitVec 32) : k0_cond3 i w = 1#1 ↔ ¬ k0_cond1 i w = 1#1 := by
  rw [cond1_iff, not_lt]
  unfold k0_cond3
  exact (widened_iff _).trans ((iff_of_eq (congrArg (· = 1#1) (WordCmp.cmpi_sge_eq _ _))).trans (WordCmp.ofBool_decide_eq_one_iff _))

/-- The turn condition in words of the table. -/
theorem not_turn (c : Dev nD) (i : grid0.Coords) (xt : Buf (Elt F) (tableM.view.loc (c : Thread nD τ))) (h : ¬ turn c i xt) :
    BitVec.ofNat 32 (i 1).val ≠ 0#32 ∧ word c xt (k0_off2 i) (k0_off2_inb i) = word c xt (k0_off3 i) (k0_off3_inb i) := by
  rw [turn, widened_iff] at h
  revert h
  generalize word c xt (k0_off2 i) (k0_off2_inb i) = a
  generalize word c xt (k0_off3 i) (k0_off3_inb i) = b
  generalize BitVec.ofNat 32 (i 1).val = d
  intro h
  by_cases hd : d = 0#32
  · subst hd; refine absurd ?_ h
    show IntOp.ori (BitVec.ofBool (0#32 == 0#32)) (BitVec.ofBool (a != b)) = 1#1
    rw [WordCmp.ori_ofBool, WordCmp.ofBool_eq_one_iff]; simp
  · refine ⟨hd, ?_⟩
    by_contra hab
    refine h ?_
    show IntOp.ori (BitVec.ofBool (d == 0#32)) (BitVec.ofBool (a != b)) = 1#1
    rw [WordCmp.ori_ofBool, WordCmp.ofBool_eq_one_iff, bne_iff_ne.mpr hab, Bool.or_true]

set_option maxHeartbeats 4000000 in
/-- The body from any contents of the scratch and of the output's block. -/
theorem body_run (c : Dev nD) (i : grid0.Coords) (arg3 : Memref sig .tc .vmem S1024x3584 .bf16) (harg3 : arg3.IsWhole) (arg4 : Memref sig .tc .vmem S1x1x3584x512 .f32) (harg4 : arg4.IsWhole) (arg5 : Memref sig .tc .vmem S1024x512 .f32) (harg5 : arg5.IsWhole) (arg6 : Memref sig .tc .vmem S3584x512 .bf16) (harg6 : arg6.IsWhole)
    (x0 : Vec F S1024x3584 .bf16) (x1 : Vec F S1x1x3584x512 .f32) (xs : Vec F S3584x512 .bf16) (xt : Buf (Elt F) (tableM.view.loc (c : Thread nD τ)))
    (E : Set ℕ) (K : PUnit → sProp 𝕄) :
        iprop(owns (c : Thread nD τ) arg3 fullShare x0 ∗ owns (c : Thread nD τ) arg4 fullShare x1 ∗ (∃ d, owns (c : Thread nD τ) arg5 fullShare d) ∗ owns (c : Thread nD τ) arg6 fullShare xs ∗ tablePt c tableM xt
            ∗ (iprop(owns (c : Thread nD τ) arg3 fullShare x0 ∗ owns (c : Thread nD τ) arg4 fullShare x1 ∗ owns (c : Thread nD τ) arg5 fullShare (out c i x0 x1 xs xt) ∗ owns (c : Thread nD τ) arg6 fullShare (scr c i x1 xs xt) ∗ tablePt c tableM xt) -∗ K ⟨⟩))
          ⊢ wp frame (wpE (defs₀ (F := F)) Variants.none c none) E (cc0_moe_down i tableM tableM_whole arg3 harg3 arg4 harg4 arg5 harg5 arg6 harg6) K := by
    simp only [cc0_moe_down_eq_skeleton]; unfold cc0_moe_down_skel
    unfold owns
    iintro ⟨⟨%f0, %hf0, H0⟩, ⟨%f1, %hf1, H1⟩, ⟨%d2, %f2, -, H2⟩, ⟨%f3, %hf3, H3⟩, HT0, Hk⟩
    obtain rfl := harg3.eq_unread hf0; obtain rfl := harg4.eq_unread hf1; obtain rfl := harg6.eq_unread hf3
    sl_exec
    sl_step; iapply Hk
    isplitl [H0]; · iexists _; isplitr; (swap; · iexact H0); ipureintro; exact harg3.read_unread _
    isplitl [H1]; · iexists _; isplitr; (swap; · iexact H1); ipureintro; exact harg4.read_unread _
    isplitl [H2]
    · iexists _; isplitr
      swap; · iexact H2
      ipureintro
      unfold body_run.sl.r body_run.sl.v20 body_run.sl.v18 body_run.sl.v17 body_run.sl.v16 body_run.sl.v15 body_run.sl.v8 body_run.sl.r_1 body_run.sl.r_2 out scr
      by_cases hU : used c i xt
      · have h3 : ¬ k0_cond3 i (word c xt ![32] inb_S33_S1_32) = 1#1 := fun h => (cond3_iff i _).mp h hU
        rw [dif_neg h3, dif_pos hU, if_pos hU, if_pos hU, View.read_writes_full, View.readAt_full, View.readAt_full]
        have e0 : View.read (Elt F) arg3.view (harg3.unread x0) = x0 := harg3.read_unread _
        rw [e0]
        refine congrArg _ ?_
        by_cases hT : turn c i xt
        · rw [dif_pos hT, if_pos hT, View.read_writes_full, View.readAt_full]
          exact congrArg _ (harg4.read_unread _)
        · rw [dif_neg hT, if_neg hT]; exact harg6.read_unread _
      · have h3 : k0_cond3 i (word c xt ![32] inb_S33_S1_32) = 1#1 := (cond3_iff i _).mpr hU
        rw [dif_pos h3, if_neg hU, View.read_writes_full]
    isplitl [H3]
    · iexists _; isplitr
      swap; · iexact H3
      ipureintro
      unfold body_run.sl.r body_run.sl.v18 body_run.sl.v17 body_run.sl.v16 body_run.sl.v15 body_run.sl.v8 body_run.sl.r_1 body_run.sl.r_2 scr
      by_cases hU : used c i xt
      · rw [dif_pos hU, if_pos hU]
        by_cases hT : turn c i xt
        · rw [dif_pos hT, if_pos hT, View.read_writes_full, View.readAt_full]
          exact congrArg _ (harg4.read_unread _)
        · rw [dif_neg hT, if_neg hT]; exact harg6.read_unread _
      · rw [dif_neg hU, if_neg hU]; exact harg6.read_unread _
    iexact HT0

end Cert.DownIdeal.Body

end
-- ==== Proof.DownRun.lean ====
/- The down projection's run at any float values: what every block of the output holds, and that the arguments are unchanged. -/
module

public import proofs.«01_k».proof.Proof.DownBody
public import Idealize.ShloMosaic.Lib.Claim
public import Idealize.ShloMosaic.Lib.Pipeline.ValueKit

@[expose] public section

set_option maxRecDepth 16384

noncomputable section

namespace Cert.DownIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DownIdeal Cert.DownIdeal.Gen Cert.DownIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- The tables' halves the region hands the body (Lib/Pipeline/Frame.lean `ΦT`), table by table: what the body
    obligation hands the run and takes back. -/
theorem PhiT0_eq (c : Dev nD) : (Pipeline.ΦT pre0 (tbl m) c : sProp 𝕄) = iprop(tablePt c tableM (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_DownIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (by decide : main_arg0 ∈ Pipeline.restRefs sig spec0)).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c)))⟩) h

/-- Window 0 is never idle (an input). -/
theorem liveAt0_0 (hO : Ok m) : ∀ t : Fin (cfgM m hO).N, (cfgM m hO).idle 0 (grid0.coords t) = false :=
  fun _ => rfl
/-- Window 1 is never idle (an input). -/
theorem liveAt0_1 (hO : Ok m) : ∀ t : Fin (cfgM m hO).N, (cfgM m hO).idle 1 (grid0.coords t) = false :=
  fun _ => rfl
/-- Each window's current staging memref at point `t`, spelled as the pipeline passes it (`bodyAt0`), and its wholeness. -/
abbrev ms0_0 (hO : Ok m) (t : Fin (cfgM m hO).N) : Memref sig .tc .vmem S1024x3584 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x3584x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1024x512 .f32 := spec0_2.stage ((cfgM m hO).slots t 2)
abbrev hs0_2 (hO : Ok m) (t : Fin (cfgM m hO).N) : (ms0_2 m hO t).IsWhole := hstage0_2 (((cfgM m hO).slots t 2).cast nbuf0_2)
/-- The scratch operands: whole scoped buffers of the kernel's own, passed beside the windows. -/
abbrev scM0_0 : Memref sig .tc .vmem S3584x512 .bf16 := Memref.whole cc0_scratch0
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The table's words -/

/-- Word `k` of the table. -/
def tw (k : Fin 33) : BitVec 32 := (show Vec F S33 .i32 from m ((0 : Dev nD).tc.loc main_arg0)) (fun a => ⟨k.val, by fin_cases a; exact k.isLt⟩)

theorem word_eq (c : Dev nD) (off : Fin 1 → ℕ) (h : ∀ a, off a + S1.size a ≤ S33.size a) (k : Fin 33) (hk : off 0 = k.val) :
    word c (tbl m 0) off h = tw m k := by
  unfold tw word
  refine congrArg (m ((0 : Dev nD).tc.loc main_arg0)) (funext fun a => Fin.ext ?_)
  fin_cases a
  show off 0 + 1 * 0 = k.val
  omega

theorem at_eq (off : Fin 1 → ℕ) (h : ∀ a, off a + S1.size a ≤ S33.size a) (k : Fin 33) (hk : off 0 = k.val) :
    (tbl m).at 0 (Rect.unit (s := S33) off S1.size h) numel1_S1 = tw m k := by
  unfold tw
  refine congrArg (m ((0 : Dev nD).tc.loc main_arg0)) (funext fun a => Fin.ext ?_)
  fin_cases a
  show off 0 + 1 * 0 = k.val
  omega

/-- The point's tile. -/
def tile (i : grid0.Coords) : Fin 33 := ⟨(i 1).val, by have h : (i 1).val < 32 := (i 1).isLt; omega⟩

/-- The point's tile is in use. -/
abbrev usedAt (t : Fin grid0.N) : Prop := used (0 : Dev nD) (grid0.coords t) (tbl m 0)

theorem coord_word (t : Fin grid0.N) (a : Fin 2) : (BitVec.ofNat 32 (grid0.coords t a).val).toNat = (grid0.coords t a).val :=
  (by decide +kernel : ∀ (t : Fin grid0.N) (a : Fin 2), (BitVec.ofNat 32 (grid0.coords t a).val).toNat = (grid0.coords t a).val) t a

theorem coord_int (t : Fin grid0.N) (a : Fin 2) : (BitVec.ofNat 32 (grid0.coords t a).val).toInt = (grid0.coords t a).val :=
  (by decide +kernel : ∀ (t : Fin grid0.N) (a : Fin 2), (BitVec.ofNat 32 (grid0.coords t a).val).toInt = (grid0.coords t a).val) t a

theorem coord1 : ∀ t : Fin grid0.N, (grid0.coords t 1).val = t.val % 32 := by decide +kernel
theorem coord0 : ∀ t : Fin grid0.N, (grid0.coords t 0).val = t.val / 32 := by decide +kernel
theorem off2 : ∀ t : Fin grid0.N, k0_off2 (grid0.coords t) 0 = t.val % 32 := by decide +kernel
theorem off3 : ∀ t : Fin grid0.N, k0_off3 (grid0.coords t) 0 = t.val % 32 - 1 := by decide +kernel
theorem coord1_ne : ∀ t : Fin grid0.N, BitVec.ofNat 32 (grid0.coords t 1).val ≠ 0#32 → t.val % 32 ≠ 0 := by decide +kernel

/-- A tile is used when it lies below the table's last word. -/
theorem usedAt_iff (t : Fin grid0.N) : usedAt m t ↔ ((t.val % 32 : ℕ) : ℤ) < (tw m 32).toInt := by
  unfold usedAt used
  rw [cond1_iff, coord_int, coord1, word_eq m 0 _ _ 32 rfl]

theorem index1 (hO : Ok m) (t : Fin (cfgM m hO).N) :
    ((cfgM m hO).win 1).index t = ![0, (tw m (tile (grid0.coords t))).toNat, 0, (grid0.coords t 0).val] := by
  show cc0_transform_1 k0_off1_inb numel1_S1 (tbl m) (grid0.coords t) = _
  funext a
  fin_cases a
  · rfl
  · exact congrArg BitVec.toNat (at_eq m (k0_off1 (grid0.coords t)) (k0_off1_inb _) (tile (grid0.coords t)) (coord_word t 1))
  · rfl
  · exact coord_word t 0

/-- The smaller of a word and another's predecessor, the word being below the other. -/
theorem below_last (a w : BitVec 32) (h : a.toInt < w.toInt) (h0 : 0 ≤ a.toInt) : Scalar.minsi a (Scalar.subi w 1#32) = a := by
  have e : (w - 1#32).toInt = w.toInt - 1 := by
    have hw := w.isLt
    rw [BitVec.toInt_eq_toNat_cond] at h0 h ⊢
    rw [BitVec.toInt_eq_toNat_cond] at h ⊢
    rw [BitVec.toNat_sub]
    simp only [BitVec.toNat_ofNat]
    split_ifs at * <;> omega
  show IntOp.minsi a (w - 1#32) = a
  unfold IntOp.minsi
  split_ifs with hs
  · rfl
  · rw [BitVec.slt_iff_toInt_lt] at hs
    exact BitVec.eq_of_toInt_eq (by omega)

theorem index0 (hO : Ok m) (t : Fin (cfgM m hO).N) (h : usedAt m t) :
    ((cfgM m hO).win 0).index t = ![(grid0.coords t 1).val, 0] := by
  show cc0_transform_0 inb_S33_S1_32 numel1_S1 (tbl m) (grid0.coords t) = _
  rw [usedAt_iff] at h
  have e := at_eq m ![32] inb_S33_S1_32 32 rfl
  funext a
  fin_cases a
  · refine Eq.trans (congrArg (fun w => BitVec.toNat (Scalar.minsi (BitVec.ofNat 32 (grid0.coords t 1).val) (Scalar.subi w 1#32))) e) ?_
    rw [below_last _ _ (by rw [coord_int, coord1]; exact h) (by rw [coord_int]; omega)]
    exact coord_word t 1
  · rfl

theorem index2 (hO : Ok m) (t : Fin (cfgM m hO).N) :
    ((cfgM m hO).win 2).index t = ![(grid0.coords t 1).val, (grid0.coords t 0).val] := by
  show cc0_transform_2 (grid0.coords t) = _
  unfold cc0_transform_2
  dsimp only
  rw [coord_word t 0, coord_word t 1]

/-- A block of the weights read off the array. -/
theorem iblk1_apply (hO : Ok m) (c : Dev nD) (t : Fin (cfgM m hO).N) (y : S1x1x3584x512.Idx) (z : S2x8x3584x1024.Idx)
    (h0 : (z 0).val = 0) (h1 : (z 1).val = (tw m (tile (grid0.coords t))).toNat) (h2 : (z 2).val = (y 2).val)
    (h3 : (z 3).val = 512 * (grid0.coords t 0).val + (y 3).val) :
    iblk m hO c 1 t y = (show Vec F S2x8x3584x1024 .f32 from m ((c : Thread nD τ).loc main_arg2)) z := by
  blk_simp [iblk]
  refine congrArg _ ?_
  blk_ext [index1 m hO t, h0, h1, h2, h3]

/-- Two points of one column with the same expert have the same block of the weights. -/
theorem iblk1_congr (hO : Ok m) (c : Dev nD) (t t' : Fin (cfgM m hO).N) (h0 : grid0.coords t 0 = grid0.coords t' 0)
    (h1 : tw m (tile (grid0.coords t)) = tw m (tile (grid0.coords t'))) : iblk m hO c 1 t = iblk m hO c 1 t' := by
  funext y
  blk_simp [iblk]
  refine congrArg _ ?_
  blk_ext [index1 m hO t, index1 m hO t', h0, h1]

/-- A used tile that is not the first, with the expert of the tile before: the point before is used too and has the same block of the weights. -/
theorem keep (hO : Ok m) (c : Dev nD) (t : Fin (cfgM m hO).N) (hU : usedAt m t) (hT : ¬ turn (0 : Dev nD) (grid0.coords t) (tbl m 0)) :
    ∃ t' : Fin (cfgM m hO).N, t.val = t'.val + 1 ∧ usedAt m t' ∧ iblk m hO c 1 t' = iblk m hO c 1 t := by
  obtain ⟨hd, hw⟩ := not_turn (0 : Dev nD) (grid0.coords t) (tbl m 0) hT
  have hN : t.val < 64 := lt_of_lt_of_eq t.isLt (show (cfgM m hO).N = 64 from N_0)
  have hm := coord1_ne t hd
  have hp : t.val - 1 < (cfgM m hO).N := lt_of_le_of_lt (Nat.sub_le _ _) t.isLt
  refine ⟨⟨t.val - 1, hp⟩, by show t.val = t.val - 1 + 1; omega, ?_, ?_⟩
  · rw [usedAt_iff] at hU ⊢
    refine lt_trans ?_ hU
    show (((t.val - 1) % 32 : ℕ) : ℤ) < _
    omega
  · refine iblk1_congr m hO c _ _ (Fin.ext ?_) ?_
    · rw [coord0, coord0]; show (t.val - 1) / 32 = t.val / 32; omega
    · have e1 := word_eq m 0 (k0_off2 (grid0.coords t)) (k0_off2_inb _) (tile (grid0.coords t)) ((off2 t).trans (coord1 t).symm)
      have e2 := word_eq m 0 (k0_off3 (grid0.coords t)) (k0_off3_inb _) (tile (grid0.coords (⟨t.val - 1, hp⟩ : Fin grid0.N)))
        ((off3 t).trans (Eq.trans (by show t.val % 32 - 1 = (t.val - 1) % 32; omega) (coord1 ⟨t.val - 1, hp⟩).symm))
      rw [e1, e2] at hw
      exact hw.symm

/-! ## The proof data -/

/-- What the output's block holds after point `t`. -/
def outAt (hO : Ok m) (c : Dev nD) (t : Fin (cfgM m hO).N) : Vec F S1024x512 .f32 :=
  if usedAt m t then k0_pay2 (iblk m hO c 0 t) (k0_pay1 (iblk m hO c 1 t)) else k0_pay3

/-- What is known of the scratch's contents before point `n`: after a used point they are that point's block of the weights. -/
def Known (hO : Ok m) (c : Dev nD) (n : ℕ) (h : n ≤ (cfgM m hO).N) (s : Vec F S3584x512 .bf16) : Prop :=
  ∀ t : Fin (cfgM m hO).N, n = t.val + 1 → usedAt m t → s = k0_pay1 (iblk m hO c 1 t)

theorem known_zero (hO : Ok m) (c : Dev nD) (s : Vec F S3584x512 .bf16) : Known m hO c 0 (Nat.zero_le _) s := by
  unfold Known; intro t h; exact absurd h.symm (Nat.succ_ne_zero _)

/-- The invariant: the scratch at contents of which `Known` holds, the generator's register, and the table. -/
def PhiS (hO : Ok m) (c : Dev nD) (n : ℕ) (h : n ≤ (cfgM m hO).N) : sProp 𝕄 :=
  iprop(iprop((∃ s, ⌜Known m hO c n h s⌝ ∗ owns (c : Thread nD τ) scM0_0 fullShare s) ∗ (∃ r, prngReg c r)) ∗ Pipeline.ΦT pre0 (tbl m) c)

/-- The proof data: the arrays as launched, the inputs' blocks in place, the output's at `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outAt m hO c t
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = outAt m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-- The output is never idle: one of the two outer conditions holds. -/
theorem live0_2 (hO : Ok m) (t : Fin (cfgM m hO).N) : (cfgM m hO).idle 2 (grid0.coords t) = false := by
  show (!(k0_cond1 (grid0.coords t) ((tbl m).atD 0 ![32]) == 1#1) && !(k0_cond3 (grid0.coords t) ((tbl m).atD 0 ![32]) == 1#1)) = false
  generalize (tbl m).atD 0 ![32] = w
  have h := cond3_iff (grid0.coords t) w
  by_cases h1 : k0_cond1 (grid0.coords t) w = 1#1
  · rw [beq_iff_eq.mpr h1]; rfl
  · rw [beq_iff_eq.mpr (h.mpr h1), Bool.not_true, Bool.and_false]

theorem scr_used (hO : Ok m) (c : Dev nD) (t : Fin (cfgM m hO).N) (s : Vec F S3584x512 .bf16) (hs : Known m hO c t.val (Nat.le_of_lt t.isLt) s) (hU : usedAt m t) :
    scr c (grid0.coords t) (iblk m hO c 1 t) s (tbl m 0) = k0_pay1 (iblk m hO c 1 t) := by
  obtain rfl : c = 0 := Subsingleton.elim _ _
  unfold scr
  rw [if_pos hU]
  by_cases hT : turn (0 : Dev nD) (grid0.coords t) (tbl m 0)
  · rw [if_pos hT]
  · rw [if_neg hT]
    obtain ⟨t', h0, hu, he⟩ := keep m hO 0 t hU hT
    rw [hs t' h0 hu, he]

theorem out_eq (hO : Ok m) (c : Dev nD) (t : Fin (cfgM m hO).N) (s : Vec F S3584x512 .bf16) (hs : Known m hO c t.val (Nat.le_of_lt t.isLt) s) :
    out c (grid0.coords t) (iblk m hO c 0 t) (iblk m hO c 1 t) s (tbl m 0) = outAt m hO c t := by
  obtain rfl : c = 0 := Subsingleton.elim _ _
  unfold out outAt
  by_cases hU : usedAt m t
  · rw [if_pos hU, if_pos hU, scr_used m hO 0 t s hs hU]
  · rw [if_neg hU, if_neg hU]

theorem known_succ (hO : Ok m) (c : Dev nD) (t : Fin (cfgM m hO).N) (s : Vec F S3584x512 .bf16) (hs : Known m hO c t.val (Nat.le_of_lt t.isLt) s) :
    Known m hO c (t.val + 1) t.isLt (scr c (grid0.coords t) (iblk m hO c 1 t) s (tbl m 0)) := by
  unfold Known
  intro t' h hU
  obtain rfl : t' = t := Fin.ext (Nat.succ.inj h).symm
  exact scr_used m hO c t' s hs hU

/-- The kernel body at point `t`, on what the pipeline calls it with. -/
abbrev bodyAt0 (a : (pcfg0 (F := F)).Adm) (t : Fin (cfg0 a).N) : Prog (TpuEff nD τ sig (Elt F) Λ₀ .tc) PUnit :=
  cc0_moe_down (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (Memref.whole cc0_scratch0) (Memref.isWhole_whole _)

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t)

set_option maxHeartbeats 1600000 in
/-- The body at any point: `body_run` at the point's blocks. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).owesAt () t.succ = (dats m hO 0 c).owesAt () t.castSucc from rfl]
  rw [show (dats m hO 0 c).Φ t.succ = PhiS m hO c (t.val + 1) t.isLt from rfl, PhiS_castSucc m hO c t]
  unfold PhiS
  rw [PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [live0_2 m hO t]; try rfl, after0_2]
  iintro ⟨⟨⟨⟨%s, %hs, HS0⟩, Hg⟩, HT0⟩, Ho, ⟨%d0, H0⟩, ⟨%d1, H1⟩, ⟨%d2, H2⟩⟩
  have e1 := out_eq m hO c t s hs
  have e2 := known_succ m hO c t s hs
  iapply (body_run c (grid0.coords t) _ _ _ _ _ _ _ _ (iblk m hO c 0 t) (iblk m hO c 1 t) s (tbl m 0) Set.univ _)
  isplitl [H0]; · iexact H0
  isplitl [H1]; · iexact H1
  isplitl [H2]; · iexists _; iexact H2
  isplitl [HS0]; · iexact HS0
  isplitl [HT0]; · iexact HT0
  rw [e1]
  iintro ⟨H0, H1, H2, HS0, HT0⟩
  isplitl [HS0 Hg HT0]
  · isplitl [HS0 Hg]
    · isplitl [HS0]
      · iexists _
        isplitr; · ipureintro; exact e2
        iexact HS0
      iexact Hg
    iexact HT0
  isplitl [Ho]; · iexact Ho
  isplitl [H0]; · iexact H0
  isplitl [H1]; · iexact H1
  iexact H2

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiA0_eq]
  unfold PhiS
  iintro ⟨⟨⟨%d, HS⟩, Hg⟩, HT⟩
  isplitl [HS Hg]
  · isplitl [HS]
    · iexists _
      isplitr; · ipureintro; exact known_zero m hO c d
      iexact HS
    iexact Hg
  iexact HT

/-- After the last point the invariant gives the scratch and the register back. -/
theorem hout (hO : Ok m) (c : Dev nD) : (dats m hO 0 c).Φ (Fin.last (cfgM m hO).N) ⊢ Pipeline.ΦA spec0 c := by
  rw [show (dats m hO 0 c).Φ (Fin.last (cfgM m hO).N) = PhiS m hO c (Fin.last (cfgM m hO).N).val (Nat.le_of_lt_succ (Fin.last (cfgM m hO).N).isLt) from rfl, PhiA0_eq]
  unfold PhiS
  iintro ⟨⟨⟨%s, -, HS⟩, Hg⟩, -⟩
  isplitl [HS]
  · iexists _; iexact HS
  iexact Hg

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ hO (dats m hO) (A_eq m hO) (run_main m ρ hO)

/-- THE FRAME: `Cert.quiescent_DownIdeal`'s statement (Defs.lean) at any `F` — Proof.lean cites it at `Bits`:
    `theorem Cert.Proof.claim : Cert.Claim := ⟨Cert.DownIdeal.Gen.facts, fun m ρ _ => Cert.DownIdeal.Gen.frame m ρ⟩`; here for every contents of the PREFETCHED TABLES, UNDER `Gen.Ok m` (the pipeline's side condition of
    them), which Proof.lean proves from the precondition: `⟨…, fun m ρ h => Cert.DownIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hO) ((θ_run defs _ _).mono (fun _ h => h.2) (run_main_quiescent m ρ hO))

end Cert.DownIdeal.Run

end
-- ==== Proof.DownPre.lean ====
/- The precondition of the down projection: its side conditions, what it says of the table, and that every block then lies
   inside its array. -/
module

public import proofs.«01_k».proof.Pre_routed
public import proofs.«01_k».proof.Proof.DownRun
public import Idealize.ShloMosaic.Lib.WordCmp
public import Idealize.ShloMosaic.Lib.ReduceAll

@[expose] public section

set_option maxRecDepth 16384

noncomputable section

namespace Cert.Pre_routed

open Idealize Idealize.ShloMosaic

theorem facts : Facts where
  bcast_S_S33 := by decide

/-- A truth word made of a proposition is one exactly when the proposition holds. -/
theorem word_true (p : Prop) [Decidable p] (h : BitVec.ofBool (decide p) = 1#1) : p := by
  by_contra hn
  rw [decide_eq_false hn] at h
  exact absurd h (by decide)

variable {F : FTy → Type} [FloatOps F] [Facts] {x0 : IVec S33 32} {x1 : FVec F S32768x3584 .bf16} {x2 : FVec F S2x8x3584x1024 .f32}

/-- What the precondition says of a tile's word. -/
theorem expert_of (h : fn (F := F) x0 x1 x2 = fun _ => 1#1) (k : S33.Idx) (hk : (k 0).val < 32) : 0 ≤ (x0 k).toInt ∧ (x0 k).toInt < 8 := by
  have H := congrFun h k
  unfold fn fn_where at H
  dsimp only at H
  have hs : cmpi .slt (iotaInDim S33 32 0) (broadcastInDim S33 ![] Facts.bcast_S_S33 (constantI S_ 32 32#32)) k = 1#1 := by
    show IntOp.cmpi .slt (BitVec.ofNat 32 (k 0).val) (BitVec.ofNat 32 32) = 1#1
    rw [WordCmp.cmpi_slt_ofNat_eq_one_iff (by omega) (by omega)]
    exact hk
  have H' : IntOp.andi (IntOp.cmpi .sge (x0 k) 0#32) (IntOp.cmpi .slt (x0 k) 8#32) = 1#1 := by
    refine Eq.trans ?_ H
    exact (WordCmp.select_of_eq_one hs _ _).symm
  obtain ⟨h1, h2⟩ := IntOp.andi_eq_one.1 H'
  rw [WordCmp.cmpi_sge_eq] at h1
  rw [WordCmp.cmpi_slt_eq] at h2
  exact ⟨word_true _ h1, word_true _ h2⟩

/-- What it says of the table's last word, the number of the tiles in use. -/
theorem count_of (h : fn (F := F) x0 x1 x2 = fun _ => 1#1) (k : S33.Idx) (hk : (k 0).val = 32) : 1 ≤ (x0 k).toInt := by
  have H := congrFun h k
  unfold fn fn_where at H
  dsimp only at H
  have hs : cmpi .slt (iotaInDim S33 32 0) (broadcastInDim S33 ![] Facts.bcast_S_S33 (constantI S_ 32 32#32)) k = 0#1 := by
    show IntOp.cmpi .slt (BitVec.ofNat 32 (k 0).val) (BitVec.ofNat 32 32) = 0#1
    rw [hk]; rfl
  have H' : IntOp.cmpi .sge (x0 k) 1#32 = 1#1 := by
    refine Eq.trans ?_ H
    exact (WordCmp.select_of_eq_zero hs _ _).symm
  rw [WordCmp.cmpi_sge_eq] at H'
  exact word_true _ H'

end Cert.Pre_routed

namespace Cert.DownIdeal.Run

open Idealize.ShloMosaic Idealize.ShloMosaic.TcCoe
open Cert.DownIdeal Cert.DownIdeal.Gen Cert.DownIdeal.Body

variable {F : FTy → Type} [FloatOps F] (m : (ℓ : Loc nD τ sig) → Buf (Elt F) ℓ)

/-- Every tile's word is one of the eight experts, and at least one tile is in use. -/
structure Routed : Prop where
  expert : ∀ k : Fin 33, k.val < 32 → (tw m k).toNat < 8
  count : 1 ≤ (tw m 32).toInt

theorem routed_of [Cert.Pre_routed.Facts]
    (h : Cert.Pre_routed.fn (F := F) (m ((0 : Dev nD).tc.loc main_arg0)) (m ((0 : Dev nD).tc.loc main_arg1)) (m ((0 : Dev nD).tc.loc main_arg2)) = fun _ => 1#1) :
    Routed m where
  expert k hk := by
    have := Cert.Pre_routed.expert_of h (fun a => ⟨k.val, by fin_cases a; exact k.isLt⟩) hk
    have e : (tw m k).toInt < 8 ∧ 0 ≤ (tw m k).toInt := ⟨this.2, this.1⟩
    have hw := (tw m k).isLt
    rw [BitVec.toInt_eq_toNat_cond] at e
    split_ifs at e <;> omega
  count := Cert.Pre_routed.count_of h (fun a => ⟨32, by fin_cases a; decide⟩) rfl

/-- The smaller of a tile's number and a positive word's predecessor is a tile's number. -/
theorem min_below (a : ℕ) (ha : a < 32) (w : BitVec 32) (hw : 1 ≤ w.toInt) :
    (Scalar.minsi (BitVec.ofNat 32 a) (Scalar.subi w 1#32)).toNat < 32 := by
  have e : (w - 1#32).toInt = w.toInt - 1 ∧ ((w - 1#32).toNat : ℤ) = w.toInt - 1 := by
    have hl := w.isLt
    rw [BitVec.toInt_eq_toNat_cond] at hw
    rw [BitVec.toInt_eq_toNat_cond, BitVec.toInt_eq_toNat_cond, BitVec.toNat_sub]
    simp only [BitVec.toNat_ofNat]
    split_ifs at * <;> omega
  have ea : (BitVec.ofNat 32 a).toInt = a := by
    rw [BitVec.toInt_eq_toNat_cond, BitVec.toNat_ofNat]
    split_ifs <;> omega
  show (IntOp.minsi (BitVec.ofNat 32 a) (w - 1#32)).toNat < 32
  unfold IntOp.minsi
  split_ifs with hs
  · rw [BitVec.toNat_ofNat]; omega
  · rw [BitVec.slt_iff_toInt_lt, ea] at hs
    omega

/-- Then every block lies inside its array. -/
theorem ok_of (h : Routed m) : Ok m := by
  have h1 : ∀ i : grid0.Coords, (i 1).val < 32 := fun i => (i 1).isLt
  have h0 : ∀ i : grid0.Coords, (i 0).val < 2 := fun i => (i 0).isLt
  refine ⟨fun i => ⟨?_, .inr (Affine.block_words_dvd (of_decide_eq_true rfl) (by decide))⟩, fun i => ⟨?_, .inl rfl⟩⟩
  · have e := at_eq m ![32] inb_S33_S1_32 32 rfl
    have hb := min_below _ (h1 i) _ h.count
    intro a
    fin_cases a
    · show ((Scalar.minsi (BitVec.ofNat 32 (i 1).val) (Scalar.subi ((tbl m).at 0 (Rect.unit (s := S33) ![32] S1.size inb_S33_S1_32) numel1_S1) 1#32)).toNat + 1) * 1024 ≤ 32768
      rw [e]
      omega
    · show ((0#32).toNat + 1) * 3584 ≤ 3584
      decide
  · have e := at_eq m (k0_off1 i) (k0_off1_inb i) (tile i) (by
      show (BitVec.ofNat 32 (i 1).val).toNat = (i 1).val
      rw [BitVec.toNat_ofNat]; have := h1 i; omega)
    have hb := h.expert (tile i) (h1 i)
    intro a
    fin_cases a
    · show ((0#32).toNat + 1) * 1 ≤ 2
      decide
    · show (((tbl m).at 0 (Rect.unit (s := S33) (k0_off1 i) S1.size (k0_off1_inb i)) numel1_S1).toNat + 1) * 1 ≤ 8
      rw [e]
      omega
    · show ((0#32).toNat + 1) * 3584 ≤ 3584
      decide
    · show ((BitVec.ofNat 32 (i 0).val).toNat + 1) * 512 ≤ 1024
      rw [BitVec.toNat_ofNat]
      have := h0 i
      omega

end Cert.DownIdeal.Run

end
-- ==== Proof.UpPre.lean ====
/- The precondition of the up projection: its side conditions, what it says of the table, and that every block then lies
   inside its array. -/
module

public import proofs.«01_k».proof.Pre_routed_up
public import proofs.«01_k».proof.Proof.UpRun
public import proofs.«01_k».proof.Proof.DownPre
public import Idealize.ShloMosaic.Lib.WordCmp
public import Idealize.ShloMosaic.Lib.ReduceAll

@[expose] public section

set_option maxRecDepth 16384

noncomputable section

namespace Cert.Pre_routed_up

open Idealize Idealize.ShloMosaic

theorem facts : Facts where
  bcast_S_S33 := by decide

variable {F : FTy → Type} [FloatOps F] [Facts] {x0 : IVec S33 32} {x1 : FVec F S32768x1024 .bf16} {x2 x3 : FVec F S2x8x1024x3584 .f32}

/-- What the precondition says of a tile's word. -/
theorem expert_of (h : fn (F := F) x0 x1 x2 x3 = fun _ => 1#1) (k : S33.Idx) (hk : (k 0).val < 32) : 0 ≤ (x0 k).toInt ∧ (x0 k).toInt < 8 := by
  have H := congrFun h k
  unfold fn fn_where at H
  dsimp only at H
  have hs : cmpi .slt (iotaInDim S33 32 0) (broadcastInDim S33 ![] Facts.bcast_S_S33 (constantI S_ 32 32#32)) k = 1#1 := by
    show IntOp.cmpi .slt (BitVec.ofNat 32 (k 0).val) (BitVec.ofNat 32 32) = 1#1
    rw [WordCmp.cmpi_slt_ofNat_eq_one_iff (by omega) (by omega)]
    exact hk
  have H' : IntOp.andi (IntOp.cmpi .sge (x0 k) 0#32) (IntOp.cmpi .slt (x0 k) 8#32) = 1#1 := by
    refine Eq.trans ?_ H
    exact (WordCmp.select_of_eq_one hs _ _).symm
  obtain ⟨h1, h2⟩ := IntOp.andi_eq_one.1 H'
  rw [WordCmp.cmpi_sge_eq] at h1
  rw [WordCmp.cmpi_slt_eq] at h2
  exact ⟨Cert.Pre_routed.word_true _ h1, Cert.Pre_routed.word_true _ h2⟩

/-- What it says of the table's last word, the number of the tiles in use. -/
theorem count_of (h : fn (F := F) x0 x1 x2 x3 = fun _ => 1#1) (k : S33.Idx) (hk : (k 0).val = 32) : 1 ≤ (x0 k).toInt := by
  have H := congrFun h k
  unfold fn fn_where at H
  dsimp only at H
  have hs : cmpi .slt (iotaInDim S33 32 0) (broadcastInDim S33 ![] Facts.bcast_S_S33 (constantI S_ 32 32#32)) k = 0#1 := by
    show IntOp.cmpi .slt (BitVec.ofNat 32 (k 0).val) (BitVec.ofNat 32 32) = 0#1
    rw [hk]; rfl
  have H' : IntOp.cmpi .sge (x0 k) 1#32 = 1#1 := by
    refine Eq.trans ?_ H
    exact (WordCmp.select_of_eq_zero hs _ _).symm
  rw [WordCmp.cmpi_sge_eq] at H'
  exact Cert.Pre_routed.word_true _ H'

end Cert.Pre_routed_up

namespace Cert.UpIdeal.Run

open Idealize.ShloMosaic Idealize.ShloMosaic.TcCoe
open Cert.UpIdeal Cert.UpIdeal.Gen Cert.UpIdeal.Body

variable {F : FTy → Type} [FloatOps F] (m : (ℓ : Loc nD τ sig) → Buf (Elt F) ℓ)

/-- Every tile's word is one of the eight experts, and at least one tile is in use. -/
structure Routed : Prop where
  expert : ∀ k : Fin 33, k.val < 32 → (tw m k).toNat < 8
  count : 1 ≤ (tw m 32).toInt

theorem routed_of [Cert.Pre_routed_up.Facts]
    (h : Cert.Pre_routed_up.fn (F := F) (m ((0 : Dev nD).tc.loc main_arg0)) (m ((0 : Dev nD).tc.loc main_arg1)) (m ((0 : Dev nD).tc.loc main_arg2)) (m ((0 : Dev nD).tc.loc main_arg3)) = fun _ => 1#1) :
    Routed m where
  expert k hk := by
    have := Cert.Pre_routed_up.expert_of h (fun a => ⟨k.val, by fin_cases a; exact k.isLt⟩) hk
    have e : (tw m k).toInt < 8 ∧ 0 ≤ (tw m k).toInt := ⟨this.2, this.1⟩
    have hw := (tw m k).isLt
    rw [BitVec.toInt_eq_toNat_cond] at e
    split_ifs at e <;> omega
  count := Cert.Pre_routed_up.count_of h (fun a => ⟨32, by fin_cases a; decide⟩) rfl

/-- Then every block lies inside its array. -/
theorem ok_of (h : Routed m) : Ok m := by
  have h1 : ∀ i : grid0.Coords, (i 1).val < 32 := fun i => (i 1).isLt
  have h0 : ∀ i : grid0.Coords, (i 0).val < 7 := fun i => (i 0).isLt
  have hw : ∀ (i : grid0.Coords) (a : Fin 4), ((![0, ((tbl m).at 0 (Rect.unit (s := S33) (k0_off1 i) S1.size (k0_off1_inb i)) numel1_S1).toNat, 0, (BitVec.ofNat 32 (i 0).val).toNat] : Fin 4 → ℕ) a + 1)
      * (![1, 1, 1024, 512] : Fin 4 → ℕ) a ≤ (![2, 8, 1024, 3584] : Fin 4 → ℕ) a := fun i => by
    have e := at_eq m (k0_off1 i) (k0_off1_inb i) (tile i) (by
      show (BitVec.ofNat 32 (i 1).val).toNat = (i 1).val
      rw [BitVec.toNat_ofNat]; have := h1 i; omega)
    have hb := h.expert (tile i) (h1 i)
    intro a
    fin_cases a
    · show (0 + 1) * 1 ≤ 2
      decide
    · show (((tbl m).at 0 (Rect.unit (s := S33) (k0_off1 i) S1.size (k0_off1_inb i)) numel1_S1).toNat + 1) * 1 ≤ 8
      rw [e]
      omega
    · show (0 + 1) * 1024 ≤ 1024
      decide
    · show ((BitVec.ofNat 32 (i 0).val).toNat + 1) * 512 ≤ 3584
      rw [BitVec.toNat_ofNat]
      have := h0 i
      omega
  refine ⟨fun i => ⟨?_, .inr (Affine.block_words_dvd (of_decide_eq_true rfl) (by decide))⟩, fun i => ⟨hw i, .inl rfl⟩, fun i => ⟨hw i, .inl rfl⟩⟩
  · have e := at_eq m ![32] inb_S33_S1_32 32 rfl
    have hb := Cert.DownIdeal.Run.min_below _ (h1 i) _ h.count
    intro a
    fin_cases a
    · show ((Scalar.minsi (BitVec.ofNat 32 (i 1).val) (Scalar.subi ((tbl m).at 0 (Rect.unit (s := S33) ![32] S1.size inb_S33_S1_32) numel1_S1) 1#32)).toNat + 1) * 1024 ≤ 32768
      rw [e]
      omega
    · show ((0#32).toNat + 1) * 1024 ≤ 1024
      decide

end Cert.UpIdeal.Run

end
-- ==== Proof.UpValue.lean ====
/- What the up projection leaves: every row of a used tile through its expert's gated unit, and nothing in the others. -/
module

public import proofs.«01_k».proof.Proof.UpPre
public import Idealize.ShloMosaic.Lib.MatmulPlain
public import Idealize.ShloMosaic.Lib.Pointwise
public import Idealize.ShloMosaic.Lib.ValueIdx
public import Idealize.ShloMosaic.Lib.Pipeline.Covers

@[expose] public section

set_option maxRecDepth 16384

noncomputable section

namespace Cert.UpIdeal.Value

open Idealize Idealize.ShloMosaic Idealize.ShloMosaic.TcCoe Idealize.SL.Sem
open Cert.UpIdeal Cert.UpIdeal.Gen Cert.UpIdeal.Body Cert.UpIdeal.Run
open scoped BigOperators

/-- The gated unit of two numbers: the first times its logistic, times the second. -/
def unit (g u : EReal) : EReal :=
  g * FloatOps.divf (F := Ideal) (φ := .f32) (Ideal.ofBits .f32 0x3F800000#32) (Ideal.ofBits .f32 0x3F800000#32 + FloatOps.exp (F := Ideal) (φ := .f32) (-g)) * u

/-- A row's product with one expert's column. -/
def dot (x : Vec Ideal S32768x1024 .bf16) (w : Vec Ideal S2x8x1024x3584 .f32) (e : Fin 8) (r : Fin 32768) (j : Fin 3584) : EReal :=
  ∑ k : Fin 1024, x (ix2 r k) * w (ix4 (0 : Fin 2) e k j)

/-- One entry of the result: the gated unit of the row's products with its tile's expert's two columns, or zero in a tile that is not used. -/
def entry (te : Fin 33 → BitVec 32) (x : Vec Ideal S32768x1024 .bf16) (wg wu : Vec Ideal S2x8x1024x3584 .f32) (r : Fin 32768) (j : Fin 3584) : EReal :=
  if ((r.val / 1024 : ℕ) : ℤ) < (te 32).toInt then
    unit (dot x wg ⟨(te ⟨r.val / 1024, by omega⟩).toNat % 8, Nat.mod_lt _ (by omega)⟩ r j) (dot x wu ⟨(te ⟨r.val / 1024, by omega⟩).toNat % 8, Nat.mod_lt _ (by omega)⟩ r j)
  else 0

/-- The result. -/
def result (te : Fin 33 → BitVec 32) (x : Vec Ideal S32768x1024 .bf16) (wg wu : Vec Ideal S2x8x1024x3584 .f32) : Vec Ideal S32768x3584 .bf16 :=
  fun i => entry te x wg wu (i 0) (i 1)

theorem zero32 : Ideal.ofBits .f32 0x00000000#32 = 0 := by simp [Ideal.ofBits, Ideal.ieee]

theorem dot_at (a : Vec Ideal S1024x1024 .bf16) (b : Vec Ideal S1024x512 .bf16) (p : Fin 1024) (q : Fin 512) :
    matmul (F := Ideal) (φ₁ := .bf16) (φ₂ := .bf16) dot_S1024x1024_S1024x512_S1024x512_1_0_0_1_n_n none a b (constant S1024x512 .f32 0x00000000#32) (ix2 p q) = ∑ k : Fin 1024, a (ix2 p k) * b (ix2 k q) := by
  refine (Ideal.matmul_plain_apply (M := 1024) (K := 1024) (N := 512) (φ₁ := .bf16) (φ₂ := .bf16) none a b _ p q).trans ?_
  show Ideal.ofBits .f32 0x00000000#32 + _ = _
  rw [zero32, zero_add]
  refine Finset.sum_congr rfl fun k _ => ?_
  congr 2 <;> (funext x; fin_cases x <;> rfl)

theorem pay3_at (a : Vec Ideal S1024x1024 .bf16) (b b' : Vec Ideal S1024x512 .bf16) (p : Fin 1024) (q : Fin 512) :
    k0_pay3 a b b' (ix2 p q) = unit (∑ k : Fin 1024, a (ix2 p k) * b (ix2 k q)) (∑ k : Fin 1024, a (ix2 p k) * b' (ix2 k q)) := by
  rw [← dot_at, ← dot_at]
  unfold k0_pay3
  generalize matmul (F := Ideal) (φ₁ := .bf16) (φ₂ := .bf16) dot_S1024x1024_S1024x512_S1024x512_1_0_0_1_n_n none a b (constant S1024x512 .f32 0x00000000#32) = g
  generalize matmul (F := Ideal) (φ₁ := .bf16) (φ₂ := .bf16) dot_S1024x1024_S1024x512_S1024x512_1_0_0_1_n_n none a b' (constant S1024x512 .f32 0x00000000#32) = u
  show g (ix2 p q) * FloatOps.divf (F := Ideal) (φ := .f32) (Ideal.ofBits .f32 0x3F800000#32) (Ideal.ofBits .f32 0x3F800000#32 + FloatOps.exp (F := Ideal) (φ := .f32) (Ideal.ofBits .f32 0x00000000#32 - g (ix2 p q))) * u (ix2 p q) = _
  rw [zero32, zero_sub]
  rfl

theorem pay1_at (v : Vec Ideal S1x1x1024x512 .f32) (k : Fin 1024) (q : Fin 512) : k0_pay1 v (ix2 k q) = v (ix4 (0 : Fin 1) (0 : Fin 1) k q) := by
  unfold k0_pay1
  pointwise

theorem pay2_at (v : Vec Ideal S1x1x1024x512 .f32) (k : Fin 1024) (q : Fin 512) : k0_pay2 v (ix2 k q) = v (ix4 (0 : Fin 1) (0 : Fin 1) k q) := by
  unfold k0_pay2
  pointwise

theorem pay4_at (y : S1024x512.Idx) : k0_pay4 (F := Ideal) y = 0 := by
  show Ideal.ofBits .bf16 0x0000#16 = 0
  simp [Ideal.ofBits, Ideal.ieee]

variable (m : (ℓ : Loc nD τ sig) → Buf (Elt Ideal) ℓ) (ρ : Dev nD → PrngReg)

theorem iblk0_at (hO : Ok m) (c : Dev nD) (t : Fin (cfgM m hO).N) (hU : usedAt m t) (p : Fin 1024) (k : Fin 1024) (r : Fin 32768)
    (hr : r.val = 1024 * (grid0.coords t 1).val + p.val) :
    iblk m hO c 0 t (ix2 p k) = (show Vec Ideal S32768x1024 .bf16 from m (c.tc.loc main_arg1)) (ix2 r k) := by
  blk_simp [iblk]
  refine congrArg _ ?_
  blk_ext [index0 m hO t hU, hr]

/-- Every block of the output is some point's. -/
theorem covers (hO : Ok m) : ((cfgM m hO).win 3).Covers :=
  ((cfgM m hO).win 3).covers_of_index_surj rfl (show ∀ a : Fin 2, 0 < (![1024, 512] : Fin 2 → ℕ) a by decide) fun β => by
    have h0 : (β (0 : Fin 2)).val < 32 := lt_of_lt_of_eq (β (0 : Fin 2)).isLt (show (32768 + 1024 - 1) / 1024 = 32 by norm_num)
    have h1 : (β (1 : Fin 2)).val < 7 := lt_of_lt_of_eq (β (1 : Fin 2)).isLt (show (3584 + 512 - 1) / 512 = 7 by norm_num)
    have hN : 32 * (β (1 : Fin 2)).val + (β (0 : Fin 2)).val < grid0.N := by
      rw [show grid0.N = 224 from N_0]; omega
    refine ⟨⟨32 * (β (1 : Fin 2)).val + (β (0 : Fin 2)).val, hN⟩, fun a => ?_⟩
    rw [index3 m hO]
    have c0 := coord0 ⟨32 * (β (1 : Fin 2)).val + (β (0 : Fin 2)).val, hN⟩
    have c1 := coord1 ⟨32 * (β (1 : Fin 2)).val + (β (0 : Fin 2)).val, hN⟩
    fin_cases a
    · refine c1.trans ?_
      show (32 * (β (1 : Fin 2)).val + (β (0 : Fin 2)).val) % 32 = (β (0 : Fin 2)).val
      omega
    · refine c0.trans ?_
      show (32 * (β (1 : Fin 2)).val + (β (0 : Fin 2)).val) / 32 = (β (1 : Fin 2)).val
      omega

/-- A block of the output is the result's. -/
theorem out_at (hO : Ok m) (hR : Routed m) (c : Dev nD) (t : Fin (cfgM m hO).N) (p : Fin 1024) (q : Fin 512) (r : Fin 32768) (j : Fin 3584)
    (hr : r.val = 1024 * (grid0.coords t 1).val + p.val) (hj : j.val = 512 * (grid0.coords t 0).val + q.val) :
    outAt m hO c t (ix2 p q) = entry (tw m) (m (c.tc.loc main_arg1)) (m (c.tc.loc main_arg2)) (m (c.tc.loc main_arg3)) r j := by
  have ht : r.val / 1024 = (grid0.coords t 1).val := by omega
  have hi := usedAt_iff m t
  rw [← coord1 t, ← ht] at hi
  unfold outAt entry
  by_cases hU : usedAt m t
  · rw [if_pos hU, if_pos (hi.1 hU)]
    refine (pay3_at _ _ _ p q).trans ?_
    have ht' : tile (grid0.coords t) = ⟨r.val / 1024, by omega⟩ := Fin.ext ht.symm
    have hb := hR.expert (tile (grid0.coords t)) (by rw [ht']; show r.val / 1024 < 32; omega)
    rw [ht'] at hb
    have hw : (tw m ⟨r.val / 1024, by omega⟩).toNat % 8 = (tw m (tile (grid0.coords t))).toNat := by rw [ht']; exact Nat.mod_eq_of_lt hb
    refine congrArg₂ unit ?_ ?_
    · exact Finset.sum_congr rfl fun k _ => congrArg₂ (· * ·) (iblk0_at m hO c t hU p k r hr) ((pay1_at _ k q).trans (iblk1_apply m hO c t _ _ rfl hw rfl hj))
    · exact Finset.sum_congr rfl fun k _ => congrArg₂ (· * ·) (iblk0_at m hO c t hU p k r hr) ((pay2_at _ k q).trans (iblk2_apply m hO c t _ _ rfl hw rfl hj))
  · rw [if_neg hU, if_neg (fun h => hU (hi.2 h)), pay4_at]

theorem block_idx (y : S1024x512.Idx) : ∃ (p : Fin 1024) (q : Fin 512), y = ix2 p q := ⟨y 0, y 1, eq_ix2 (n0 := 1024) (n1 := 512) y⟩

theorem final (hO : Ok m) (hR : Routed m) (c : Dev nD) :
    (dats m hO 0 c).arrAt 3 (cfgM m hO).N = result (tw m) (m (c.tc.loc main_arg1)) (m (c.tc.loc main_arg2)) (m (c.tc.loc main_arg3)) := by
  refine (dats m hO 0 c).arrAt_eq_of_covers 3 _ (covers m hO) fun t hf y => ?_
  blk_simp
  rw [after0_3]
  obtain ⟨p, q, rfl⟩ := block_idx y
  refine out_at m hO hR c t p q _ _ ?_ ?_
  · blk_simp [index3 m hO t]
    rw [Nat.mul_comm]
  · blk_simp [index3 m hO t]
    rw [Nat.mul_comm]

/-- The run: the result, the arguments unchanged, the counters at zero. -/
theorem run (hR : Routed m) : θ_run defs (onTc (τ := τ) (main (F := Ideal))) ⟨m, fun _ => 0, ρ⟩ (fun r => ∀ c : Dev nD,
      r.2.mem ((c.tc : Thread nD τ).loc main_v0) = result (tw m) (m (c.tc.loc main_arg1)) (m (c.tc.loc main_arg2)) (m (c.tc.loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 3).trans (final m (ok_of m hR) hR c), h.2 c⟩)
    (θ_run_and (run_main m ρ (ok_of m hR)) (unchanged m ρ (ok_of m hR)))

end Cert.UpIdeal.Value

end
-- ==== Proof.DownValue.lean ====
/- What the down projection leaves: every row of a used tile times its expert's matrix, and nothing in the others. -/
module

public import proofs.«01_k».proof.Proof.DownPre
public import Idealize.ShloMosaic.Lib.MatmulPlain
public import Idealize.ShloMosaic.Lib.Pointwise
public import Idealize.ShloMosaic.Lib.ValueIdx
public import Idealize.ShloMosaic.Lib.Pipeline.Covers

@[expose] public section

set_option maxRecDepth 16384

noncomputable section

namespace Cert.DownIdeal.Value

open Idealize Idealize.ShloMosaic Idealize.ShloMosaic.TcCoe Idealize.SL.Sem
open Cert.DownIdeal Cert.DownIdeal.Gen Cert.DownIdeal.Body Cert.DownIdeal.Run
open scoped BigOperators

/-- One entry of the result: the row's product with its tile's expert's column, or zero in a tile that is not used. -/
def entry (te : Fin 33 → BitVec 32) (h : Vec Ideal S32768x3584 .bf16) (w : Vec Ideal S2x8x3584x1024 .f32) (r : Fin 32768) (j : Fin 1024) : EReal :=
  if ((r.val / 1024 : ℕ) : ℤ) < (te 32).toInt then
    ∑ k : Fin 3584, h (ix2 r k) * w (ix4 (0 : Fin 2) (⟨(te ⟨r.val / 1024, by omega⟩).toNat % 8, Nat.mod_lt _ (by omega)⟩ : Fin 8) k j)
  else 0

/-- The result. -/
def result (te : Fin 33 → BitVec 32) (h : Vec Ideal S32768x3584 .bf16) (w : Vec Ideal S2x8x3584x1024 .f32) : Vec Ideal S32768x1024 .f32 :=
  fun i => entry te h w (i 0) (i 1)

theorem pay2_at (a : Vec Ideal S1024x3584 .bf16) (b : Vec Ideal S3584x512 .bf16) (p : Fin 1024) (q : Fin 512) :
    k0_pay2 a b (ix2 p q) = ∑ k : Fin 3584, a (ix2 p k) * b (ix2 k q) := by
  unfold k0_pay2
  refine (Ideal.matmul_plain_apply (M := 1024) (K := 3584) (N := 512) (φ₁ := .bf16) (φ₂ := .bf16) none a b _ p q).trans ?_
  show Ideal.ofBits .f32 0x00000000#32 + _ = _
  rw [show Ideal.ofBits .f32 0x00000000#32 = 0 by simp [Ideal.ofBits, Ideal.ieee], zero_add]
  refine Finset.sum_congr rfl fun k _ => ?_
  congr 2 <;> (funext x; fin_cases x <;> rfl)

theorem pay1_at (v : Vec Ideal S1x1x3584x512 .f32) (k : Fin 3584) (q : Fin 512) : k0_pay1 v (ix2 k q) = v (ix4 (0 : Fin 1) (0 : Fin 1) k q) := by
  unfold k0_pay1
  pointwise

theorem pay3_at (y : S1024x512.Idx) : k0_pay3 (F := Ideal) y = 0 := by
  show Ideal.ofBits .f32 0x00000000#32 = 0
  simp [Ideal.ofBits, Ideal.ieee]

variable (m : (ℓ : Loc nD τ sig) → Buf (Elt Ideal) ℓ) (ρ : Dev nD → PrngReg)

theorem iblk0_at (hO : Ok m) (c : Dev nD) (t : Fin (cfgM m hO).N) (hU : usedAt m t) (p : Fin 1024) (k : Fin 3584) (r : Fin 32768)
    (hr : r.val = 1024 * (grid0.coords t 1).val + p.val) :
    iblk m hO c 0 t (ix2 p k) = (show Vec Ideal S32768x3584 .bf16 from m (c.tc.loc main_arg1)) (ix2 r k) := by
  blk_simp [iblk]
  refine congrArg _ ?_
  blk_ext [index0 m hO t hU, hr]

/-- Every block of the output is some point's. -/
theorem covers (hO : Ok m) : ((cfgM m hO).win 2).Covers :=
  ((cfgM m hO).win 2).covers_of_index_surj rfl (show ∀ a : Fin 2, 0 < (![1024, 512] : Fin 2 → ℕ) a by decide) fun β => by
    have h0 : (β (0 : Fin 2)).val < 32 := lt_of_lt_of_eq (β (0 : Fin 2)).isLt (show (32768 + 1024 - 1) / 1024 = 32 by norm_num)
    have h1 : (β (1 : Fin 2)).val < 2 := lt_of_lt_of_eq (β (1 : Fin 2)).isLt (show (1024 + 512 - 1) / 512 = 2 by norm_num)
    have hN : 32 * (β (1 : Fin 2)).val + (β (0 : Fin 2)).val < grid0.N := by
      rw [show grid0.N = 64 from N_0]; omega
    refine ⟨⟨32 * (β (1 : Fin 2)).val + (β (0 : Fin 2)).val, hN⟩, fun a => ?_⟩
    rw [index2 m hO]
    have c0 := coord0 ⟨32 * (β (1 : Fin 2)).val + (β (0 : Fin 2)).val, hN⟩
    have c1 := coord1 ⟨32 * (β (1 : Fin 2)).val + (β (0 : Fin 2)).val, hN⟩
    fin_cases a
    · refine c1.trans ?_
      show (32 * (β (1 : Fin 2)).val + (β (0 : Fin 2)).val) % 32 = (β (0 : Fin 2)).val
      omega
    · refine c0.trans ?_
      show (32 * (β (1 : Fin 2)).val + (β (0 : Fin 2)).val) / 32 = (β (1 : Fin 2)).val
      omega

/-- A block of the output is the result's. -/
theorem out_at (hO : Ok m) (hR : Routed m) (c : Dev nD) (t : Fin (cfgM m hO).N) (p : Fin 1024) (q : Fin 512) (r : Fin 32768) (j : Fin 1024)
    (hr : r.val = 1024 * (grid0.coords t 1).val + p.val) (hj : j.val = 512 * (grid0.coords t 0).val + q.val) :
    outAt m hO c t (ix2 p q) = entry (tw m) (m (c.tc.loc main_arg1)) (m (c.tc.loc main_arg2)) r j := by
  have ht : r.val / 1024 = (grid0.coords t 1).val := by omega
  have hi := usedAt_iff m t
  rw [← coord1 t, ← ht] at hi
  unfold outAt entry
  by_cases hU : usedAt m t
  · rw [if_pos hU, if_pos (hi.1 hU)]
    refine (pay2_at _ _ p q).trans ?_
    refine Finset.sum_congr rfl fun k _ => ?_
    refine congrArg₂ (· * ·) (iblk0_at m hO c t hU p k r hr) ((pay1_at _ k q).trans (iblk1_apply m hO c t _ _ rfl ?_ rfl hj))
    have ht' : tile (grid0.coords t) = ⟨r.val / 1024, by omega⟩ := Fin.ext ht.symm
    have hb := hR.expert (tile (grid0.coords t)) (by rw [ht']; show r.val / 1024 < 32; omega)
    rw [ht'] at hb ⊢
    exact Nat.mod_eq_of_lt hb
  · rw [if_neg hU, if_neg (fun h => hU (hi.2 h)), pay3_at]

theorem block_idx (y : S1024x512.Idx) : ∃ (p : Fin 1024) (q : Fin 512), y = ix2 p q := ⟨y 0, y 1, eq_ix2 (n0 := 1024) (n1 := 512) y⟩

theorem final (hO : Ok m) (hR : Routed m) (c : Dev nD) :
    (dats m hO 0 c).arrAt 2 (cfgM m hO).N = result (tw m) (m (c.tc.loc main_arg1)) (m (c.tc.loc main_arg2)) := by
  refine (dats m hO 0 c).arrAt_eq_of_covers 2 _ (covers m hO) fun t hf y => ?_
  blk_simp
  rw [after0_2]
  obtain ⟨p, q, rfl⟩ := block_idx y
  refine out_at m hO hR c t p q _ _ ?_ ?_
  · blk_simp [index2 m hO t]
    rw [Nat.mul_comm]
  · blk_simp [index2 m hO t]
    rw [Nat.mul_comm]

/-- The run: the result, the arguments unchanged, the counters at zero. -/
theorem run (hR : Routed m) : θ_run defs (onTc (τ := τ) (main (F := Ideal))) ⟨m, fun _ => 0, ρ⟩ (fun r => ∀ c : Dev nD,
      r.2.mem ((c.tc : Thread nD τ).loc main_v0) = result (tw m) (m (c.tc.loc main_arg1)) (m (c.tc.loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 2).trans (final m (ok_of m hR) hR c), h.2 c⟩)
    (θ_run_and (run_main m ρ (ok_of m hR)) (unchanged m ρ (ok_of m hR)))

end Cert.DownIdeal.Value

end
-- ==== Proof.DownRef.lean ====
/- What the down projection's reference leaves, and its run. -/
module

public import proofs.«01_k».proof.Proof.Gen.DownReferenceIdeal.Run
public import proofs.«01_k».proof.Proof.DownValue
public import Idealize.ShloMosaic.Lib.StackMember
public import Idealize.ShloMosaic.Lib.Claim

@[expose] public section

set_option maxRecDepth 16384

noncomputable section

namespace Cert.DownReferenceIdeal.Read

open Idealize Idealize.ShloMosaic Idealize.ShloMosaic.TcCoe Idealize.SL.Sem
open Cert.DownReferenceIdeal Cert.DownReferenceIdeal.Gen Cert.DownReferenceIdeal.Value
open scoped BigOperators

/-- Word `k` of a table. -/
def word (x : IVec S33 32) (k : Fin 33) : BitVec 32 := x (fun a => ⟨k.val, by fin_cases a; exact k.isLt⟩)

/-- A row's product with one expert's column. -/
def prod (h : Vec Ideal S32768x3584 .bf16) (w : Vec Ideal S2x8x3584x1024 .f32) (e : Fin 8) (r : Fin 32768) (j : Fin 1024) : EReal :=
  ∑ k : Fin 3584, h (ix2 r k) * w (ix4 (0 : Fin 2) e k j)

/-- The number of a conjunction's truth word. -/
theorem truth_number (P Q : Prop) [Decidable P] [Decidable Q] :
    FloatOps.uitofp (F := Ideal) .f32 (IntOp.andi (BitVec.ofBool (decide P)) (BitVec.ofBool (decide Q))) = if P ∧ Q then (1 : EReal) else 0 := by
  by_cases hP : P <;> by_cases hQ : Q <;> simp only [hP, hQ, decide_true, decide_false, and_self, and_true, and_false, false_and, if_true, if_false]
  · show (((1 : ℕ) : ℝ) : EReal) = 1
    norm_num
  all_goals
    show (((0 : ℕ) : ℝ) : EReal) = 0
    norm_num

/-- One expert's share of a row: its product when the row's tile is the expert's and in use. -/
theorem member_at (x : IVec S33 32) (e : Fin 8) (r : Fin 32768) (j : Fin 1024) :
    broadcastInDim S32768x1024 ![0, 1] bcast_S32768x1_S32768x1024_0_1 (broadcastInDim S32768x1 ![0] bcast_S32768_S32768x1_0 (shapeCast S32768 (broadcastInDim S32x1024 ![0, 1] bcast_S32x1_S32x1024_0_1 (broadcastInDim S32x1 ![0] bcast_S32_S32x1_0 (uitofp (F := Ideal) .f32 (andi (cmpi .eq (extractStridedSlice S32 ![0] x slices_S33_S32_0) (broadcastInDim S32 ![] bcast_S_S32 (constantI S_ 32 (BitVec.ofNat 32 e.val)))) (cmpi .slt (iotaInDim S32 32 0) (broadcastInDim S32 ![] bcast_S_S32 (shapeCast _ (extractStridedSlice S1 ![32] x slices_S33_S1_32) shapeCasts_S1_S_))))))) shapeCasts_S32x1024_S32768)) (ix2 r j)
      = if word x ⟨r.val / 1024, by omega⟩ = BitVec.ofNat 32 e.val ∧ ((r.val / 1024 : ℕ) : ℤ) < (word x 32).toInt then 1 else 0 := by
  pointwise
  rw [WordCmp.cmpi_eq_eq, WordCmp.cmpi_slt_eq, show x (ix1 ⟨r.val / 1024, by omega⟩) = word x ⟨r.val / 1024, by omega⟩ from congrArg x (by funext a; fin_cases a; rfl),
    show x (ix1 32) = word x 32 from congrArg x (by funext a; fin_cases a; rfl),
    show (BitVec.ofNat 32 (r.val / 1024)).toInt = ((r.val / 1024 : ℕ) : ℤ) by
      rw [BitVec.toInt_eq_toNat_cond, BitVec.toNat_ofNat]; split_ifs <;> omega]
  exact truth_number _ _

theorem prod_at (h : Vec Ideal S32768x3584 .bf16) (w : Vec Ideal S2x8x3584x1024 .f32) (e : Fin 8) (hs : S2x8x3584x1024.Slices ![0, e.val, 0, 0] S1x1x3584x1024) (r : Fin 32768) (j : Fin 1024) :
    Host.dotGeneral dot_S32768x3584_S3584x1024_S32768x1024_1_0_0_1_n_n none (φ₁ := .f32) (φ₂ := .f32) (extf (F := Ideal) .f32 h bitsLt_bf16_f32) (shapeCast S3584x1024 (extractStridedSlice S1x1x3584x1024 ![0, e.val, 0, 0] w hs) shapeCasts_S1x1x3584x1024_S3584x1024) (ix2 r j)
      = prod h w e r j := by
  refine (StackMember.dotGeneral_plain_apply (m := 32768) (k := 3584) (n := 1024) none _ _ r j).trans ?_
  unfold prod
  refine Finset.sum_congr rfl fun k _ => ?_
  pointwise
  exact congrArg₂ (· * ·) (congrArg h (by funext a; fin_cases a <;> rfl)) rfl

/-- The sum of the eight shares: the one of the tile's expert, or nothing. -/
theorem sum_shares (t : BitVec 32) (ht : t.toNat < 8) (P : Prop) [Decidable P] (S : Fin 8 → EReal) :
    ∑ e : Fin 8, (if t = BitVec.ofNat 32 e.val ∧ P then (1 : EReal) else 0) * S e = if P then S ⟨t.toNat % 8, Nat.mod_lt _ (by omega)⟩ else 0 := by
  by_cases hP : P
  · rw [if_pos hP, Finset.sum_eq_single (⟨t.toNat % 8, Nat.mod_lt _ (by omega)⟩ : Fin 8)]
    · rw [if_pos ⟨BitVec.eq_of_toNat_eq (by rw [BitVec.toNat_ofNat]; show t.toNat = t.toNat % 8 % 2 ^ 32; omega), hP⟩, one_mul]
    · intro e _ hne
      rw [if_neg fun h => hne (Fin.ext (by
        have := congrArg BitVec.toNat h.1
        rw [BitVec.toNat_ofNat] at this
        have he := e.isLt
        show e.val = t.toNat % 8
        omega)), zero_mul]
    · intro h; exact absurd (Finset.mem_univ _) h
  · rw [if_neg hP]
    refine Finset.sum_eq_zero fun e _ => ?_
    rw [if_neg fun h => hP h.2, zero_mul]

variable (m : (ℓ : Loc nD τ sig) → Buf (Elt Ideal) ℓ) (ρ : Dev nD → PrngReg)

/-- The reference's result at an index. -/
theorem res_at (c : Dev nD) (r : Fin 32768) (j : Fin 1024) :
    res_out0 (F := Ideal) m c (ix2 r j)
      = ∑ e : Fin 8, (if word (m (c.tc.loc main_arg0)) ⟨r.val / 1024, by omega⟩ = BitVec.ofNat 32 e.val ∧ ((r.val / 1024 : ℕ) : ℤ) < (word (m (c.tc.loc main_arg0)) 32).toInt then (1 : EReal) else 0)
          * prod (m (c.tc.loc main_arg1)) (m (c.tc.loc main_arg2)) e r j := by
  have z : broadcastInDim S32768x1024 ![] bcast_S_S32768x1024 (constant (F := Ideal) S_ .f32 0x00000000#32) (ix2 r j) = (0 : EReal) := by
    show Ideal.ofBits .f32 0x00000000#32 = 0
    simp [Ideal.ofBits, Ideal.ieee]
  have T := fun (e : Fin 8) hs => congrArg₂ (fun a b : EReal => a * b) (member_at (m (c.tc.loc main_arg0)) e r j) (prod_at (m (c.tc.loc main_arg1)) (m (c.tc.loc main_arg2)) e hs r j)
  have A : ∀ {a b a' b' : EReal}, a = a' → b = b' → a + b = a' + b' := fun h h' => congrArg₂ _ h h'
  rw [Fin.sum_univ_eight, ← zero_add (_ * prod _ _ 0 r j)]
  unfold res_out0 res_main_v161
  exact A (A (A (A (A (A (A (A z (T 0 _)) (T 1 _)) (T 2 _)) (T 3 _)) (T 4 _)) (T 5 _)) (T 6 _)) (T 7 _)

/-- The reference's run, with the counters. -/
theorem run_frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems (by decide) r.2⟩) (run m ρ)

end Cert.DownReferenceIdeal.Read

end
-- ==== Proof.UpRef.lean ====
/- What the up projection's reference leaves, and its run. -/
module

public import proofs.«01_k».proof.Proof.Gen.UpReferenceIdeal.Run
public import proofs.«01_k».proof.Proof.UpValue
public import proofs.«01_k».proof.Proof.DownRef
public import Idealize.ShloMosaic.Lib.StackMember
public import Idealize.ShloMosaic.Lib.Claim

@[expose] public section

set_option maxRecDepth 16384

noncomputable section

namespace Cert.UpReferenceIdeal.Read

open Idealize Idealize.ShloMosaic Idealize.ShloMosaic.TcCoe Idealize.SL.Sem
open Cert.UpReferenceIdeal Cert.UpReferenceIdeal.Gen Cert.UpReferenceIdeal.Value
open Idealize.ShloMosaic.StableHlo
open scoped BigOperators

/-- Word `k` of a table. -/
def word (x : IVec S33 32) (k : Fin 33) : BitVec 32 := x (fun a => ⟨k.val, by fin_cases a; exact k.isLt⟩)

/-- One expert's share of a row: its product when the row's tile is the expert's and in use. -/
theorem member_at (x : IVec S33 32) (e : Fin 8) (r : Fin 32768) (j : Fin 3584) :
    broadcastInDim S32768x3584 ![0, 1] bcast_S32768x1_S32768x3584_0_1 (broadcastInDim S32768x1 ![0] bcast_S32768_S32768x1_0 (shapeCast S32768 (broadcastInDim S32x1024 ![0, 1] bcast_S32x1_S32x1024_0_1 (broadcastInDim S32x1 ![0] bcast_S32_S32x1_0 (uitofp (F := Ideal) .f32 (andi (cmpi .eq (extractStridedSlice S32 ![0] x slices_S33_S32_0) (broadcastInDim S32 ![] bcast_S_S32 (constantI S_ 32 (BitVec.ofNat 32 e.val)))) (cmpi .slt (iotaInDim S32 32 0) (broadcastInDim S32 ![] bcast_S_S32 (shapeCast _ (extractStridedSlice S1 ![32] x slices_S33_S1_32) shapeCasts_S1_S_))))))) shapeCasts_S32x1024_S32768)) (ix2 r j)
      = if word x ⟨r.val / 1024, by omega⟩ = BitVec.ofNat 32 e.val ∧ ((r.val / 1024 : ℕ) : ℤ) < (word x 32).toInt then 1 else 0 := by
  pointwise
  rw [WordCmp.cmpi_eq_eq, WordCmp.cmpi_slt_eq, show x (ix1 ⟨r.val / 1024, by omega⟩) = word x ⟨r.val / 1024, by omega⟩ from congrArg x (by funext a; fin_cases a; rfl),
    show x (ix1 32) = word x 32 from congrArg x (by funext a; fin_cases a; rfl),
    show (BitVec.ofNat 32 (r.val / 1024)).toInt = ((r.val / 1024 : ℕ) : ℤ) by
      rw [BitVec.toInt_eq_toNat_cond, BitVec.toNat_ofNat]; split_ifs <;> omega]
  exact Cert.DownReferenceIdeal.Read.truth_number _ _

/-- A row's product with one expert's column, as the reference takes it. -/
theorem dot_at (x : Vec Ideal S32768x1024 .bf16) (w : Vec Ideal S2x8x1024x3584 .f32) (e : Fin 8) (hs : S2x8x1024x3584.Slices ![0, e.val, 0, 0] S1x1x1024x3584) (r : Fin 32768) (j : Fin 3584) :
    Host.dotGeneral dot_S32768x1024_S1024x3584_S32768x3584_1_0_0_1_n_n none (φ₁ := .f32) (φ₂ := .f32) (extf (F := Ideal) .f32 x bitsLt_bf16_f32) (shapeCast S1024x3584 (extractStridedSlice S1x1x1024x3584 ![0, e.val, 0, 0] w hs) shapeCasts_S1x1x1024x3584_S1024x3584) (ix2 r j)
      = Cert.UpIdeal.Value.dot x w e r j := by
  refine (StackMember.dotGeneral_plain_apply (m := 32768) (k := 1024) (n := 3584) none _ _ r j).trans ?_
  unfold Cert.UpIdeal.Value.dot
  refine Finset.sum_congr rfl fun k _ => ?_
  pointwise
  exact congrArg₂ (· * ·) (congrArg x (by funext a; fin_cases a <;> rfl)) rfl

/-- The gated unit of two products, as the reference takes it. -/
theorem unit_at (g u : Vec Ideal S32768x3584 .f32) (i : S32768x3584.Idx) (g' u' : EReal) (hg : g i = g') (hu : u i = u') :
    mulf (F := Ideal) (φ := .f32) (mulf g (Host.divf (broadcastInDim S32768x3584 ![] bcast_S_S32768x3584 (constant (F := Ideal) S_ .f32 0x3F800000#32)) (addf (broadcastInDim S32768x3584 ![] bcast_S_S32768x3584 (constant (F := Ideal) S_ .f32 0x3F800000#32)) (Host.exp (Host.negf g))))) u i
      = Cert.UpIdeal.Value.unit g' u' := by
  subst hg hu
  rfl

variable (m : (ℓ : Loc nD τ sig) → Buf (Elt Ideal) ℓ) (ρ : Dev nD → PrngReg)

/-- The reference's result at an index. -/
theorem res_at (c : Dev nD) (r : Fin 32768) (j : Fin 3584) :
    truncf (F := Ideal) .bf16 (res_main_v201 (F := Ideal) (launchContents m c)) bitsLt_bf16_f32 (ix2 r j)
      = ∑ e : Fin 8, (if word (m (c.tc.loc main_arg0)) ⟨r.val / 1024, by omega⟩ = BitVec.ofNat 32 e.val ∧ ((r.val / 1024 : ℕ) : ℤ) < (word (m (c.tc.loc main_arg0)) 32).toInt then (1 : EReal) else 0)
          * Cert.UpIdeal.Value.unit (Cert.UpIdeal.Value.dot (m (c.tc.loc main_arg1)) (m (c.tc.loc main_arg2)) e r j) (Cert.UpIdeal.Value.dot (m (c.tc.loc main_arg1)) (m (c.tc.loc main_arg3)) e r j) := by
  have z : broadcastInDim S32768x3584 ![] bcast_S_S32768x3584 (constant (F := Ideal) S_ .f32 0x00000000#32) (ix2 r j) = (0 : EReal) := by
    show Ideal.ofBits .f32 0x00000000#32 = 0
    simp [Ideal.ofBits, Ideal.ieee]
  have T := fun (e : Fin 8) hs => congrArg₂ (fun a b : EReal => a * b) (member_at (m (c.tc.loc main_arg0)) e r j)
    (unit_at _ _ (ix2 r j) _ _ (dot_at (m (c.tc.loc main_arg1)) (m (c.tc.loc main_arg2)) e hs r j) (dot_at (m (c.tc.loc main_arg1)) (m (c.tc.loc main_arg3)) e hs r j))
  have A : ∀ {a b a' b' : EReal}, a = a' → b = b' → a + b = a' + b' := fun h h' => congrArg₂ _ h h'
  rw [Fin.sum_univ_eight, ← zero_add (_ * Cert.UpIdeal.Value.unit (Cert.UpIdeal.Value.dot _ _ 0 r j) _)]
  unfold res_main_v201 res_main_v101
  exact A (A (A (A (A (A (A (A z (T 0 _)) (T 1 _)) (T 2 _)) (T 3 _)) (T 4 _)) (T 5 _)) (T 6 _)) (T 7 _)

/-- The reference's run, with the counters. -/
theorem run_frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2, sem_eq_zero_of_no_sems (by decide) r.2⟩) (run m ρ)

end Cert.UpReferenceIdeal.Read

end
-- ==== Proof.UpWords.lean ====
/- The up projection's program at words and its idealization are one text: the same body, the same pipeline, the same main. So the
   run proved over any floats serves both. -/
module

public import proofs.«01_k».proof.Defs
public import proofs.«01_k».proof.Proof.Gen.Up
public import proofs.«01_k».proof.Proof.UpRun

@[expose] public section

set_option maxRecDepth 16384

noncomputable section

namespace Cert.Up.Words

open Idealize.ShloMosaic Idealize.SL.Sem

local instance : Cert.Up.Facts := Cert.Up.Gen.facts
local instance : Cert.UpIdeal.Facts := Cert.UpIdeal.Gen.facts

/-- The kernel's body: the two texts compared statement by statement. -/
theorem body_eq : @Cert.Up.cc0_moe_up Bits _ _ = @Cert.UpIdeal.cc0_moe_up Bits _ _ := by
  funext i a ha b hb c hc d hd e he f hf g hg
  unfold Cert.Up.cc0_moe_up Cert.UpIdeal.cc0_moe_up
  refine congrArg₂ Prog.bind rfl (funext fun v0 => ?_)
  dsimp only
  refine dite_congr rfl (fun _ => ?_) (fun _ => ?_)
  · refine congrArg₂ Prog.bind rfl (funext fun _ => congrArg₂ Prog.bind rfl (funext fun _ => ?_))
    refine ite_congr rfl (fun _ => ?_) (fun _ => ?_)
    · refine congrArg₂ Prog.bind rfl (funext fun _ => congrArg₂ Prog.bind rfl (funext fun _ => ?_))
      refine congrArg₂ Prog.bind rfl (funext fun _ => congrArg₂ Prog.bind rfl (funext fun _ => ?_))
      refine congrArg₂ Prog.bind rfl (funext fun _ => congrArg₂ Prog.bind rfl (funext fun _ => ?_))
      refine congrArg₂ Prog.bind rfl (funext fun _ => congrArg₂ Prog.bind rfl (funext fun _ => ?_))
      exact congrArg₂ Prog.bind rfl (funext fun _ => congrArg₂ Prog.bind rfl (funext fun _ => congrArg₂ Prog.bind rfl (funext fun _ => rfl)))
    · refine congrArg₂ Prog.bind rfl (funext fun _ => congrArg₂ Prog.bind rfl (funext fun _ => ?_))
      refine congrArg₂ Prog.bind rfl (funext fun _ => congrArg₂ Prog.bind rfl (funext fun _ => ?_))
      exact congrArg₂ Prog.bind rfl (funext fun _ => congrArg₂ Prog.bind rfl (funext fun _ => rfl))
  · refine congrArg₂ Prog.bind rfl (funext fun _ => ?_)
    refine dite_congr rfl (fun _ => ?_) (fun _ => rfl)
    exact congrArg₂ Prog.bind rfl (funext fun _ => congrArg₂ Prog.bind rfl (funext fun _ => rfl))

theorem labels_eq : @Cert.Up.defs₀ Bits _ _ = @Cert.UpIdeal.defs₀ Bits _ _ := by
  unfold Cert.Up.defs₀ Cert.UpIdeal.defs₀
  refine congrArg (Defs.onTc (nD := Cert.UpIdeal.nD) (τ := Cert.UpIdeal.τ) (sig := Cert.UpIdeal.sig) (Val := Elt Bits) (Λ := Cert.UpIdeal.Λ₀)) ?_
  funext l x
  match l, x with
  | 0, (t, s) => exact congrFun (congrFun (congrFun (congrFun (congrFun (congrFun (congrFun (congrFun (congrFun (congrFun (congrFun (congrFun (congrFun (congrFun (congrFun body_eq _) _) _) _) _) _) _) _) _) _) _) _) _) _) _
  | ⟨_ + 1, h⟩, _ => exact absurd h (Nat.not_lt.2 (Nat.le_add_left _ _))

theorem defs_eq : @Cert.Up.defs Bits _ _ = @Cert.UpIdeal.defs Bits _ _ :=
  congrArg (Pipeline.defs (@Cert.UpIdeal.pcfgs Bits _ _)) labels_eq

/-- The frame of the program at words, from the run over any floats. -/
theorem frame (m : (ℓ : Loc Cert.Up.nD Cert.Up.τ Cert.Up.sig) → Buf (Elt Bits) ℓ) (ρ : Dev Cert.Up.nD → PrngReg)
    (hok : Cert.UpIdeal.Run.Ok (F := Bits) m) :
    θ_run (Cert.Up.defs (F := Bits)) (onTc (τ := Cert.Up.τ) (Cert.Up.main (F := Bits))) ⟨m, fun _ => 0, ρ⟩ (fun r => (∀ c : Dev Cert.Up.nD,
      r.2.mem (c.tc.loc Cert.Up.main_arg0) = m (c.tc.loc Cert.Up.main_arg0)
      ∧ r.2.mem (c.tc.loc Cert.Up.main_arg1) = m (c.tc.loc Cert.Up.main_arg1)
      ∧ r.2.mem (c.tc.loc Cert.Up.main_arg2) = m (c.tc.loc Cert.Up.main_arg2)
      ∧ r.2.mem (c.tc.loc Cert.Up.main_arg3) = m (c.tc.loc Cert.Up.main_arg3)) ∧ r.2.sem = fun _ => 0) := by
  rw [defs_eq]
  exact Cert.UpIdeal.Run.frame (F := Bits) m ρ hok

end Cert.Up.Words

end
-- ==== Proof.NormRun.lean ====
/- The last norm's run with its results: what its two result arrays hold when it ends, and its arguments as they were. -/
module

public import proofs.«01_k».proof.Proof.Gen.Norm
public import proofs.«01_k».proof.Proof.Gen.Norm.Frame
public import proofs.«01_k».proof.Proof.Gen.NormIdeal.Frame

@[expose] public section

set_option maxRecDepth 16384

noncomputable section

namespace Cert.NormIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.NormIdeal Cert.NormIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first result: the first call's array, its rows regrouped. -/
theorem W4_v3 (c : Dev nD) : W4 m ρ c (Proc.devRef .tc main_v3)
    = shapeCast S32x256x1024 ((dat0 (V1 m ρ) c).arrAt 2 cfg0.N) shapeCasts_S8192x1024_S32x256x1024 := by
  rw [show (dat0 (V1 m ρ) c).arrAt 2 cfg0.N = W3 m ρ c (Proc.devRef .tc main_v1) from
    ((W3_of m ρ c main_v1 (by decide)).trans (W2_arr m ρ c 2)).symm]
  rfl

/-- The second result: the second call's array, its rows regrouped. -/
theorem W4_v4 (c : Dev nD) : W4 m ρ c (Proc.devRef .tc main_v4)
    = shapeCast S2x2048x1024 ((dat1 (V2 m ρ) c).arrAt 2 cfg1.N) shapeCasts_S4096x1024_S2x2048x1024 := by
  rw [show (dat1 (V2 m ρ) c).arrAt 2 cfg1.N = W3 m ρ c (Proc.devRef .tc main_v2) from (W3_arr m ρ c 2).symm]
  rfl

set_option backward.isDefEq.respectTransparency.types false in
/-- The run, every buffer at the last boundary's contents: the frame's launch, with the results read beside the arguments. -/
theorem run : θ_run defs (onTc (τ := τ) (main (F := F))) ⟨m, fun _ => 0, ρ⟩ (fun r => ∀ c : Dev nD,
      r.2.mem (c.tc.loc main_v3) = shapeCast S32x256x1024 ((dat0 (V1 m ρ) c).arrAt 2 cfg0.N) shapeCasts_S8192x1024_S32x256x1024
      ∧ r.2.mem (c.tc.loc main_v4) = shapeCast S2x2048x1024 ((dat1 (V2 m ρ) c).arrAt 2 cfg1.N) shapeCasts_S4096x1024_S2x2048x1024
      ∧ r.2.mem (c.tc.loc main_arg0) = m (c.tc.loc main_arg0)
      ∧ r.2.mem (c.tc.loc main_arg1) = m (c.tc.loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v3 (by decide))).trans (W4_v3 m ρ c),
       (h c _ (mem_uc main_v4 (by decide))).trans (W4_v4 m ρ c),
       (h c _ (mem_uc main_arg0 (by decide))).trans (W4_main_arg0 m ρ c),
       (h c _ (mem_uc main_arg1 (by decide))).trans (W4_main_arg1 m ρ c)⟩)

end Cert.NormIdeal.Run

end
-- ==== Proof.NormValue.lean ====
/- The last norm at coordinates: a row's mean square, its entries scaled, and what the two calls leave. -/
module

public import proofs.«01_k».proof.Proof.NormRun
public import Idealize.ShloMosaic.Lib.Pipeline.ValueKit
public import Idealize.ShloMosaic.Lib.Pipeline.Covers

@[expose] public section

set_option maxRecDepth 16384

noncomputable section

namespace Cert.NormIdeal.Value

open Idealize Idealize.ShloMosaic Idealize.ShloMosaic.TcCoe Idealize.SL.Sem
open Cert.NormIdeal Cert.NormIdeal.Gen
open scoped BigOperators

/-- An entry of a row over the root of the row's mean square, times its column's gain. -/
def scaled (x : Fin 1024 → EReal) (a g : EReal) : EReal :=
  a * FloatOps.rsqrt (F := Ideal) (φ := .f32)
    (FloatOps.divf (F := Ideal) (φ := .f32) (∑ k, x k * x k) (Ideal.ofBits .f32 0x44800000#32) + Ideal.ofBits .f32 0x358637BD#32) * g

/-- Entry (r, j) of the normed rows. -/
def entry (x : Vec Ideal S12288x1024 .f32) (g : Vec Ideal S1024 .f32) (r : Fin 12288) (j : Fin 1024) : EReal :=
  scaled (fun k => x (ix2 r k)) (x (ix2 r j)) (g (ix1 j))

theorem pay0_at (x : Vec Ideal S512x1024 .f32) (g : Vec Ideal S1x1024 .f32) (p : Fin 512) (j : Fin 1024) :
    k0_pay1 x g (ix2 p j) = scaled (fun k => x (ix2 p k)) (x (ix2 p j)) (g (ix2 0 j)) := by
  unfold k0_pay1 scaled
  pointwise

theorem pay1_at (x : Vec Ideal S512x1024 .f32) (g : Vec Ideal S1x1024 .f32) (p : Fin 512) (j : Fin 1024) :
    k1_pay1 x g (ix2 p j) = scaled (fun k => x (ix2 p k)) (x (ix2 p j)) (g (ix2 0 j)) := pay0_at x g p j

/-- The first call's rows. -/
def ctx (x : Vec Ideal S12288x1024 .f32) (g : Vec Ideal S1024 .f32) : Vec Ideal S8192x1024 .f32 :=
  fun i => entry x g ⟨(i 0).val, by have h := (i 0).isLt; simp at h; omega⟩ (i 1)

/-- The second call's rows. -/
def lat (x : Vec Ideal S12288x1024 .f32) (g : Vec Ideal S1024 .f32) : Vec Ideal S4096x1024 .f32 :=
  fun i => entry x g ⟨8192 + (i 0).val, by have h := (i 0).isLt; simp at h; omega⟩ (i 1)

section
variable (V : (c : Dev nD) → (b : Ref sig .tc) → Buf (Elt Ideal) (c.tc.loc b))

theorem idx0_0 : ∀ t : Fin cfg0.N, win0_0.index t = ![(grid0.coords t 0).val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![(grid0.coords t 0).val, 0] := (by decide +kernel : ∀ t : Fin grid0.N, _)
theorem idx1_0 : ∀ t : Fin cfg1.N, win1_0.index t = ![(grid1.coords t 0).val + 16, 0] := (by decide +kernel : ∀ t : Fin grid1.N, _)
theorem idx1_1 : ∀ t : Fin cfg1.N, win1_1.index t = ![0, 0] := (by decide +kernel : ∀ t : Fin grid1.N, _)
theorem idx1_2 : ∀ t : Fin cfg1.N, win1_2.index t = ![(grid1.coords t 0).val, 0] := (by decide +kernel : ∀ t : Fin grid1.N, _)

theorem iblk0_0 (c : Dev nD) (t : Fin cfg0.N) (r : Fin 12288) (p : Fin 512) (hr : r.val = 512 * (grid0.coords t 0).val + p.val) (j : Fin 1024) :
    iblk0 V c 0 t (ix2 p j) = V c main_arg0 (ix2 r j) := by
  blk_simp [iblk0]
  refine congrArg _ ?_
  blk_ext [idx0_0, hr]

theorem iblk0_1 (c : Dev nD) (t : Fin cfg0.N) (j : Fin 1024) : iblk0 V c 1 t (ix2 0 j) = V c main_v0 (ix2 0 j) := by
  blk_simp [iblk0]
  refine congrArg _ ?_
  blk_ext [idx0_1]

theorem iblk1_0 (c : Dev nD) (t : Fin cfg1.N) (r : Fin 12288) (p : Fin 512) (hr : r.val = 8192 + (512 * (grid1.coords t 0).val + p.val)) (j : Fin 1024) :
    iblk1 V c 0 t (ix2 p j) = V c main_arg0 (ix2 r j) := by
  blk_simp [iblk1]
  refine congrArg _ ?_
  blk_ext [idx1_0, hr]

theorem iblk1_1 (c : Dev nD) (t : Fin cfg1.N) (j : Fin 1024) : iblk1 V c 1 t (ix2 0 j) = V c main_v0 (ix2 0 j) := by
  blk_simp [iblk1]
  refine congrArg _ ?_
  blk_ext [idx1_1]

theorem out0_at (c : Dev nD) (g : Vec Ideal S1024 .f32) (hg : ∀ j, V c main_v0 (ix2 0 j) = g (ix1 j)) (t : Fin cfg0.N) (r : Fin 12288) (p : Fin 512)
    (hr : r.val = 512 * (grid0.coords t 0).val + p.val) (j : Fin 1024) :
    k0_pay1 (iblk0 V c 0 t) (iblk0 V c 1 t) (ix2 p j) = entry (V c main_arg0) g r j := by
  refine (pay0_at _ _ p j).trans ?_
  unfold entry
  rw [show (fun k => iblk0 V c 0 t (ix2 p k)) = fun k => V c main_arg0 (ix2 r k) from funext fun k => iblk0_0 V c t r p hr k,
    iblk0_0 V c t r p hr j, iblk0_1 V c t j, hg]

theorem out1_at (c : Dev nD) (g : Vec Ideal S1024 .f32) (hg : ∀ j, V c main_v0 (ix2 0 j) = g (ix1 j)) (t : Fin cfg1.N) (r : Fin 12288) (p : Fin 512)
    (hr : r.val = 8192 + (512 * (grid1.coords t 0).val + p.val)) (j : Fin 1024) :
    k1_pay1 (iblk1 V c 0 t) (iblk1 V c 1 t) (ix2 p j) = entry (V c main_arg0) g r j := by
  refine (pay1_at _ _ p j).trans ?_
  unfold entry
  rw [show (fun k => iblk1 V c 0 t (ix2 p k)) = fun k => V c main_arg0 (ix2 r k) from funext fun k => iblk1_0 V c t r p hr k,
    iblk1_0 V c t r p hr j, iblk1_1 V c t j, hg]

theorem final0 (c : Dev nD) (g : Vec Ideal S1024 .f32) (hg : ∀ j, V c main_v0 (ix2 0 j) = g (ix1 j)) :
    (dat0 (F := Ideal) V c).arrAt 2 cfg0.N = ctx (V c main_arg0) g := by
  refine (dat0 V c).arrAt_eq_of_covers 2 _ (by decide +kernel) fun t hf y => ?_
  blk_simp
  rw [after0_2]
  frame_out
  obtain ⟨p, j, rfl⟩ : ∃ (p : Fin 512) (j : Fin 1024), y = ix2 p j := ⟨y 0, y 1, eq_ix2 (n0 := 512) (n1 := 1024) y⟩
  have ht : (grid0.coords t 0).val < 16 := (grid0.coords t 0).isLt
  refine (out0_at V c g hg t ⟨512 * (grid0.coords t 0).val + p.val, by omega⟩ p rfl j).trans ?_
  unfold ctx
  refine congrArg₂ (entry (V c main_arg0) g) (Fin.ext ?_) (Fin.ext ?_)
  · blk_simp [idx0_2]
    exact congrArg (· + p.val) (Nat.mul_comm _ _)
  · blk_simp [idx0_2]

theorem final1 (c : Dev nD) (g : Vec Ideal S1024 .f32) (hg : ∀ j, V c main_v0 (ix2 0 j) = g (ix1 j)) :
    (dat1 (F := Ideal) V c).arrAt 2 cfg1.N = lat (V c main_arg0) g := by
  refine (dat1 V c).arrAt_eq_of_covers 2 _ (by decide +kernel) fun t hf y => ?_
  blk_simp
  rw [after1_2]
  frame_out
  obtain ⟨p, j, rfl⟩ : ∃ (p : Fin 512) (j : Fin 1024), y = ix2 p j := ⟨y 0, y 1, eq_ix2 (n0 := 512) (n1 := 1024) y⟩
  have ht : (grid1.coords t 0).val < 8 := (grid1.coords t 0).isLt
  refine (out1_at V c g hg t ⟨8192 + (512 * (grid1.coords t 0).val + p.val), by omega⟩ p rfl j).trans ?_
  unfold lat
  refine congrArg₂ (entry (V c main_arg0) g) (Fin.ext ?_) (Fin.ext ?_)
  · blk_simp [idx1_2]
    exact congrArg (fun n => 8192 + (n + p.val)) (Nat.mul_comm _ _)
  · blk_simp [idx1_2]

end

/-! ### The run -/

variable (m : (ℓ : Loc nD τ sig) → Buf (Elt Ideal) ℓ) (ρ : Dev nD → PrngReg)

theorem V1_v0 (c : Dev nD) (j : Fin 1024) : V1 m ρ c main_v0 (ix2 0 j) = m (c.tc.loc main_arg1) (ix1 j) := by
  show broadcastInDim S1x1024 ![1] bcast_S1024_S1x1024_1 (m (c.tc.loc main_arg1)) (ix2 0 j) = _
  pointwise

theorem V2_v0 (c : Dev nD) (j : Fin 1024) : V2 m ρ c main_v0 (ix2 0 j) = m (c.tc.loc main_arg1) (ix1 j) := by
  rw [show V2 m ρ c main_v0 = V1 m ρ c main_v0 from W2_of m ρ c main_v0 (by decide)]
  exact V1_v0 m ρ c j

/-- The first result: 32 groups of 256 normed rows. -/
def res0 (x : Vec Ideal S12288x1024 .f32) (g : Vec Ideal S1024 .f32) : Vec Ideal S32x256x1024 .f32 :=
  shapeCast S32x256x1024 (ctx x g) shapeCasts_S8192x1024_S32x256x1024

/-- The second result: 2 groups of 2048 normed rows. -/
def res1 (x : Vec Ideal S12288x1024 .f32) (g : Vec Ideal S1024 .f32) : Vec Ideal S2x2048x1024 .f32 :=
  shapeCast S2x2048x1024 (lat x g) shapeCasts_S4096x1024_S2x2048x1024

/-- The run: the two results, the arguments unchanged. -/
theorem run : θ_run defs (onTc (τ := τ) (main (F := Ideal))) ⟨m, fun _ => 0, ρ⟩ (fun r => ∀ c : Dev nD,
      r.2.mem ((c.tc : Thread nD τ).loc main_v3) = res0 (m (c.tc.loc main_arg0)) (m (c.tc.loc main_arg1))
      ∧ r.2.mem ((c.tc : Thread nD τ).loc main_v4) = res1 (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ?_) (Run.run m ρ)
  obtain ⟨h0, h1, ha⟩ := h c
  refine ⟨h0.trans ?_, h1.trans ?_, ha⟩
  · rw [final0 (V1 m ρ) c _ (V1_v0 m ρ c), show V1 m ρ c main_arg0 = m (c.tc.loc main_arg0) from W1_args m ρ c main_arg0 (by decide)]
    rfl
  · rw [final1 (V2 m ρ) c _ (V2_v0 m ρ c), show V2 m ρ c main_arg0 = m (c.tc.loc main_arg0) from W2_args m ρ c main_arg0 (by decide)]
    rfl

end Cert.NormIdeal.Value

end
-- ==== Proof.NormRef.lean ====
/- What the last norm's reference leaves, and its run. -/
module

public import proofs.«01_k».proof.Proof.Gen.NormReferenceIdeal.Run
public import proofs.«01_k».proof.Proof.NormValue
public import Idealize.ShloMosaic.Lib.Claim

@[expose] public section

set_option maxRecDepth 16384

noncomputable section

namespace Cert.NormReferenceIdeal.Read

open Idealize Idealize.ShloMosaic Idealize.ShloMosaic.TcCoe Idealize.SL.Sem
open Cert.NormReferenceIdeal Cert.NormReferenceIdeal.Gen Cert.NormReferenceIdeal.Value
open Cert.NormIdeal.Value (scaled entry ctx lat res0 res1)
open scoped BigOperators

/-- The context rows as the reference norms them. -/
def rows0 (x : Vec Ideal S12288x1024 .f32) : Vec Ideal S32x256x1024 .f32 :=
  shapeCast _ (extractStridedSlice S8192x1024 ![0, 0] x slices_S12288x1024_S8192x1024_0_0) shapeCasts_S8192x1024_S32x256x1024

/-- The latent rows as the reference norms them. -/
def rows1 (x : Vec Ideal S12288x1024 .f32) : Vec Ideal S2x2048x1024 .f32 :=
  shapeCast _ (extractStridedSlice S4096x1024 ![8192, 0] x slices_S12288x1024_S4096x1024_8192_0) shapeCasts_S4096x1024_S2x2048x1024

theorem rows0_at (x : Vec Ideal S12288x1024 .f32) (a : Fin 32) (b : Fin 256) (j : Fin 1024) :
    rows0 x (ix3 a b j) = x (ix2 ⟨256 * a.val + b.val, by omega⟩ j) := by
  unfold rows0
  pointwise
  refine congrArg x ?_
  funext i
  fin_cases i <;> first | rfl | (refine Fin.ext ?_; simp [ix2]; omega)

theorem rows1_at (x : Vec Ideal S12288x1024 .f32) (a : Fin 2) (b : Fin 2048) (j : Fin 1024) :
    rows1 x (ix3 a b j) = x (ix2 ⟨8192 + (2048 * a.val + b.val), by omega⟩ j) := by
  unfold rows1
  pointwise
  refine congrArg x ?_
  funext i
  fin_cases i <;> first | rfl | (refine Fin.ext ?_; simp [ix2]; omega)

/-- A row over the root of its mean square, as the reference takes it. -/
theorem norm0_at (y : Vec Ideal S32x256x1024 .f32) (g : Vec Ideal S1024 .f32) (a : Fin 32) (b : Fin 256) (j : Fin 1024) :
    mulf (F := Ideal) (φ := .f32) (mulf y (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf y y) (constant (F := Ideal) S_ .f32 0x00000000#32) reducesTo_S32x256x1024_S32x256_d2 h_S_)) (broadcastInDim S32x256x1 ![] bcast_S_S32x256x1 (constant (F := Ideal) S_ .f32 0x44800000#32))) (broadcastInDim S32x256x1 ![] bcast_S_S32x256x1 (constant (F := Ideal) S_ .f32 0x358637BD#32)))))) (broadcastInDim S32x256x1024 ![0, 1, 2] bcast_S1x1x1024_S32x256x1024_0_1_2 (broadcastInDim S1x1x1024 ![2] bcast_S1024_S1x1x1024_2 g)) (ix3 a b j)
      = scaled (fun k => y (ix3 a b k)) (y (ix3 a b j)) (g (ix1 j)) := by
  unfold scaled
  pointwise

theorem norm1_at (y : Vec Ideal S2x2048x1024 .f32) (g : Vec Ideal S1024 .f32) (a : Fin 2) (b : Fin 2048) (j : Fin 1024) :
    mulf (F := Ideal) (φ := .f32) (mulf y (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf y y) (constant (F := Ideal) S_ .f32 0x00000000#32) reducesTo_S2x2048x1024_S2x2048_d2 h_S_)) (broadcastInDim S2x2048x1 ![] bcast_S_S2x2048x1 (constant (F := Ideal) S_ .f32 0x44800000#32))) (broadcastInDim S2x2048x1 ![] bcast_S_S2x2048x1 (constant (F := Ideal) S_ .f32 0x358637BD#32)))))) (broadcastInDim S2x2048x1024 ![0, 1, 2] bcast_S1x1x1024_S2x2048x1024_0_1_2 (broadcastInDim S1x1x1024 ![2] bcast_S1024_S1x1x1024_2 g)) (ix3 a b j)
      = scaled (fun k => y (ix3 a b k)) (y (ix3 a b j)) (g (ix1 j)) := by
  unfold scaled
  pointwise

/-- The kernel's results at an index. -/
theorem res0_at (x : Vec Ideal S12288x1024 .f32) (g : Vec Ideal S1024 .f32) (a : Fin 32) (b : Fin 256) (j : Fin 1024) :
    res0 x g (ix3 a b j) = entry x g ⟨256 * a.val + b.val, by omega⟩ j := by
  unfold res0
  pointwise
  unfold ctx
  refine congrArg₂ (entry x g) (Fin.ext ?_) (Fin.ext ?_) <;> simp [ix2] <;> omega

theorem res1_at (x : Vec Ideal S12288x1024 .f32) (g : Vec Ideal S1024 .f32) (a : Fin 2) (b : Fin 2048) (j : Fin 1024) :
    res1 x g (ix3 a b j) = entry x g ⟨8192 + (2048 * a.val + b.val), by omega⟩ j := by
  unfold res1
  pointwise
  unfold lat
  refine congrArg₂ (entry x g) (Fin.ext ?_) (Fin.ext ?_) <;> simp [ix2] <;> omega

/-- The reference's first result is the kernel's. -/
theorem norm0 (x : Vec Ideal S12288x1024 .f32) (g : Vec Ideal S1024 .f32) :
    mulf (F := Ideal) (φ := .f32) (mulf (rows0 x) (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf (rows0 x) (rows0 x)) (constant (F := Ideal) S_ .f32 0x00000000#32) reducesTo_S32x256x1024_S32x256_d2 h_S_)) (broadcastInDim S32x256x1 ![] bcast_S_S32x256x1 (constant (F := Ideal) S_ .f32 0x44800000#32))) (broadcastInDim S32x256x1 ![] bcast_S_S32x256x1 (constant (F := Ideal) S_ .f32 0x358637BD#32)))))) (broadcastInDim S32x256x1024 ![0, 1, 2] bcast_S1x1x1024_S32x256x1024_0_1_2 (broadcastInDim S1x1x1024 ![2] bcast_S1024_S1x1x1024_2 g))
      = res0 x g := by
  funext i
  obtain ⟨a, b, j, rfl⟩ : ∃ (a : Fin 32) (b : Fin 256) (j : Fin 1024), i = ix3 a b j := ⟨i 0, i 1, i 2, eq_ix3 (n0 := 32) (n1 := 256) (n2 := 1024) i⟩
  refine (norm0_at _ g a b j).trans ((?_ : _ = _).trans (res0_at x g a b j).symm)
  unfold entry
  rw [rows0_at, show (fun k => rows0 x (ix3 a b k)) = fun k => x (ix2 ⟨256 * a.val + b.val, by omega⟩ k) from funext fun k => rows0_at x a b k]

theorem norm1 (x : Vec Ideal S12288x1024 .f32) (g : Vec Ideal S1024 .f32) :
    mulf (F := Ideal) (φ := .f32) (mulf (rows1 x) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (rows1 x) (rows1 x)) (constant (F := Ideal) S_ .f32 0x00000000#32) reducesTo_S2x2048x1024_S2x2048_d2 h_S_)) (broadcastInDim S2x2048x1 ![] bcast_S_S2x2048x1 (constant (F := Ideal) S_ .f32 0x44800000#32))) (broadcastInDim S2x2048x1 ![] bcast_S_S2x2048x1 (constant (F := Ideal) S_ .f32 0x358637BD#32)))))) (broadcastInDim S2x2048x1024 ![0, 1, 2] bcast_S1x1x1024_S2x2048x1024_0_1_2 (broadcastInDim S1x1x1024 ![2] bcast_S1024_S1x1x1024_2 g))
      = res1 x g := by
  funext i
  obtain ⟨a, b, j, rfl⟩ : ∃ (a : Fin 2) (b : Fin 2048) (j : Fin 1024), i = ix3 a b j := ⟨i 0, i 1, i 2, eq_ix3 (n0 := 2) (n1 := 2048) (n2 := 1024) i⟩
  refine (norm1_at _ g a b j).trans ((?_ : _ = _).trans (res1_at x g a b j).symm)
  unfold entry
  rw [rows1_at, show (fun k => rows1 x (ix3 a b k)) = fun k => x (ix2 ⟨8192 + (2048 * a.val + b.val), by omega⟩ k) from funext fun k => rows1_at x a b k]

variable (m : (ℓ : Loc nD τ sig) → Buf (Elt Ideal) ℓ) (ρ : Dev nD → PrngReg)

/-- The reference's run: the kernel's results of its arguments, the arguments unchanged. -/
theorem run_value : θ_run (defs (F := Ideal)) (onTc (τ := τ) (main (F := Ideal))) ⟨m, fun _ => 0, ρ⟩ (fun r => ∀ c : Dev nD,
      r.2.mem ((c.tc : Thread nD τ).loc main_v14) = res0 (m (c.tc.loc main_arg0)) (m (c.tc.loc main_arg1))
      ∧ r.2.mem ((c.tc : Thread nD τ).loc main_v29) = res1 (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨(h c).1.trans (norm0 _ _), (h c).2.1.trans (norm1 _ _), (h c).2.2⟩) (run m ρ)

/-- The reference's run, with the counters. -/
theorem run_frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2.2, sem_eq_zero_of_no_sems (by decide) r.2⟩) (run m ρ)

end Cert.NormReferenceIdeal.Read

end
-- ==== Proof.FfnValue.lean ====
/- What the dense feed-forward's first call leaves: every row's gated unit of its products with the two weights' columns. -/
module

public import proofs.«01_k».proof.Proof.Gen.FfnIdeal.Frame
public import proofs.«01_k».proof.Proof.UpValue
public import Idealize.ShloMosaic.Lib.MatmulPlain
public import Idealize.ShloMosaic.Lib.Pointwise
public import Idealize.ShloMosaic.Lib.ValueIdx
public import Idealize.ShloMosaic.Lib.Pipeline.ValueKit
public import Idealize.ShloMosaic.Lib.Pipeline.ValueKit.Held
public import Idealize.ShloMosaic.Lib.Pipeline.Covers

@[expose] public section

set_option maxRecDepth 16384

noncomputable section

namespace Cert.FfnIdeal.Value

open Idealize Idealize.ShloMosaic Idealize.ShloMosaic.TcCoe Idealize.SL.Sem
open Cert.FfnIdeal Cert.FfnIdeal.Gen
open Cert.UpIdeal.Value (unit zero32)
open scoped BigOperators

/-- A row's product with one column of the first layer's weight. -/
def dot (x : Vec Ideal S12288x1024 .bf16) (w : Vec Ideal S2x1024x2816 .f32) (r : Fin 12288) (j : Fin 2816) : EReal :=
  ∑ k : Fin 1024, x (ix2 r k) * w (ix3 (0 : Fin 2) k j)

/-- One entry of the result: the gated unit of the row's products with the two weights' columns. -/
def entry (x : Vec Ideal S12288x1024 .bf16) (wg wu : Vec Ideal S2x1024x2816 .f32) (r : Fin 12288) (j : Fin 2816) : EReal :=
  unit (dot x wg r j) (dot x wu r j)

/-- The result. -/
def result (x : Vec Ideal S12288x1024 .bf16) (wg wu : Vec Ideal S2x1024x2816 .f32) : Vec Ideal S12288x2816 .bf16 :=
  fun i => entry x wg wu (i 0) (i 1)

theorem dot_at (a : Vec Ideal S1024x1024 .bf16) (b : Vec Ideal S1024x256 .bf16) (p : Fin 1024) (q : Fin 256) :
    matmul (F := Ideal) (φ₁ := .bf16) (φ₂ := .bf16) dot_S1024x1024_S1024x256_S1024x256_1_0_0_1_n_n none a b (constant S1024x256 .f32 0x00000000#32) (ix2 p q) = ∑ k : Fin 1024, a (ix2 p k) * b (ix2 k q) := by
  refine (Ideal.matmul_plain_apply (M := 1024) (K := 1024) (N := 256) (φ₁ := .bf16) (φ₂ := .bf16) none a b _ p q).trans ?_
  show Ideal.ofBits .f32 0x00000000#32 + _ = _
  rw [zero32, zero_add]
  refine Finset.sum_congr rfl fun k _ => ?_
  congr 2 <;> (funext x; fin_cases x <;> rfl)

theorem pay3_at (a : Vec Ideal S1024x1024 .bf16) (b b' : Vec Ideal S1024x256 .bf16) (p : Fin 1024) (q : Fin 256) :
    k0_pay3 a b b' (ix2 p q) = unit (∑ k : Fin 1024, a (ix2 p k) * b (ix2 k q)) (∑ k : Fin 1024, a (ix2 p k) * b' (ix2 k q)) := by
  rw [← dot_at, ← dot_at]
  unfold k0_pay3
  generalize matmul (F := Ideal) (φ₁ := .bf16) (φ₂ := .bf16) dot_S1024x1024_S1024x256_S1024x256_1_0_0_1_n_n none a b (constant S1024x256 .f32 0x00000000#32) = g
  generalize matmul (F := Ideal) (φ₁ := .bf16) (φ₂ := .bf16) dot_S1024x1024_S1024x256_S1024x256_1_0_0_1_n_n none a b' (constant S1024x256 .f32 0x00000000#32) = u
  show g (ix2 p q) * FloatOps.divf (F := Ideal) (φ := .f32) (Ideal.ofBits .f32 0x3F800000#32) (Ideal.ofBits .f32 0x3F800000#32 + FloatOps.exp (F := Ideal) (φ := .f32) (Ideal.ofBits .f32 0x00000000#32 - g (ix2 p q))) * u (ix2 p q) = _
  rw [zero32, zero_sub]
  rfl

theorem pay1_at (v : Vec Ideal S1024x256 .f32) (k : Fin 1024) (q : Fin 256) : k0_pay1 v (ix2 k q) = v (ix2 k q) := by
  unfold k0_pay1
  pointwise

theorem pay2_at (v : Vec Ideal S1024x256 .f32) (k : Fin 1024) (q : Fin 256) : k0_pay2 v (ix2 k q) = v (ix2 k q) := by
  unfold k0_pay2
  pointwise

variable (m : (ℓ : Loc nD τ sig) → Buf (Elt Ideal) ℓ) (ρ : Dev nD → PrngReg)

/-! ### The reshaped weights -/

/-- Both layers' weights as one matrix, read in the first layer. -/
theorem first_layer (x : Vec Ideal S2x1024x2816 .f32) (k : Fin 1024) (j : Fin 2816) :
    shapeCast S2048x2816 x shapeCasts_S2x1024x2816_S2048x2816 (ix2 (n0 := 2048) (n1 := 2816) ⟨k.val, by omega⟩ j) = x (ix3 (0 : Fin 2) k j) := by
  pointwise
  refine congrArg x ?_
  funext i
  fin_cases i <;> first | rfl | (refine Fin.ext ?_; simp [ix2, ix3])

theorem V_v0 (c : Dev nD) (k : Fin 1024) (j : Fin 2816) :
    V m c main_v0 (ix2 (n0 := 2048) (n1 := 2816) ⟨k.val, by omega⟩ j) = m (c.tc.loc main_arg1) (ix3 (0 : Fin 2) k j) :=
  first_layer (m (c.tc.loc main_arg1)) k j

theorem V_v1 (c : Dev nD) (k : Fin 1024) (j : Fin 2816) :
    V m c main_v1 (ix2 (n0 := 2048) (n1 := 2816) ⟨k.val, by omega⟩ j) = m (c.tc.loc main_arg2) (ix3 (0 : Fin 2) k j) :=
  first_layer (m (c.tc.loc main_arg2)) k j

/-! ### The windows' blocks -/

theorem idx0 : ∀ t : Fin cfg0.N, win0_0.index t = ![t.val % 12, 0] := (by decide +kernel : ∀ t : Fin grid0.N, _)
theorem idx1 : ∀ t : Fin cfg0.N, win0_1.index t = ![0, t.val / 12] := (by decide +kernel : ∀ t : Fin grid0.N, _)
theorem idx2 : ∀ t : Fin cfg0.N, win0_2.index t = ![0, t.val / 12] := (by decide +kernel : ∀ t : Fin grid0.N, _)
theorem idx3 : ∀ t : Fin cfg0.N, win0_3.index t = ![t.val % 12, t.val / 12] := (by decide +kernel : ∀ t : Fin grid0.N, _)

theorem iblk0_at (c : Dev nD) (t : Fin cfg0.N) (p k : Fin 1024) (r : Fin 12288) (hr : r.val = 1024 * (t.val % 12) + p.val) :
    iblk m c 0 t (ix2 p k) = m (c.tc.loc main_arg0) (ix2 r k) := by
  rw [← V_main_arg0 m c]
  blk_simp [iblk]
  refine congrArg _ ?_
  blk_ext [idx0, hr]

theorem iblk1_at (c : Dev nD) (t : Fin cfg0.N) (k : Fin 1024) (q : Fin 256) (j : Fin 2816) (hj : j.val = 256 * (t.val / 12) + q.val) :
    iblk m c 1 t (ix2 k q) = m (c.tc.loc main_arg1) (ix3 (0 : Fin 2) k j) := by
  rw [← V_v0 m c k j]
  blk_simp [iblk]
  refine congrArg _ ?_
  blk_ext [idx1, hj]

theorem iblk2_at (c : Dev nD) (t : Fin cfg0.N) (k : Fin 1024) (q : Fin 256) (j : Fin 2816) (hj : j.val = 256 * (t.val / 12) + q.val) :
    iblk m c 2 t (ix2 k q) = m (c.tc.loc main_arg2) (ix3 (0 : Fin 2) k j) := by
  rw [← V_v1 m c k j]
  blk_simp [iblk]
  refine congrArg _ ?_
  blk_ext [idx2, hj]

/-! ### The two scratches hold their column block's weights -/

theorem held0 (c : Dev nD) (t : Fin cfg0.N) :
    (outsAt0 m c t.val t.isLt).2.1 = k0_pay1 (iblk m c 1 ⟨12 * (t.val / 12), Pipeline.run_start_lt t⟩) :=
  Pipeline.eq_of_write_hold (fun n h => (outsAt0 m c n h).2.1) 12 (fun t => k0_pay1 (iblk m c 1 t))
    (fun t h => by
      show (outsAt0 m c t.val t.isLt).2.1 = k0_pay1 (iblk m c 1 t)
      rw [outsAt0_A m c t h h]
      frame_out)
    (fun t h => by
      show (outsAt0 m c t.val t.isLt).2.1 = _
      rw [outsAt0_B m c t h h]
      rfl) t

theorem held1 (c : Dev nD) (t : Fin cfg0.N) :
    (outsAt0 m c t.val t.isLt).2.2 = k0_pay2 (iblk m c 2 ⟨12 * (t.val / 12), Pipeline.run_start_lt t⟩) :=
  Pipeline.eq_of_write_hold (fun n h => (outsAt0 m c n h).2.2) 12 (fun t => k0_pay2 (iblk m c 2 t))
    (fun t h => by
      show (outsAt0 m c t.val t.isLt).2.2 = k0_pay2 (iblk m c 2 t)
      rw [outsAt0_A m c t h h]
      frame_out)
    (fun t h => by
      show (outsAt0 m c t.val t.isLt).2.2 = _
      rw [outsAt0_B m c t h h]
      rfl) t

/-- What a point leaves: the payload of its rows and of two blocks that read as its column block's weights. -/
theorem out_eq (c : Dev nD) (t : Fin cfg0.N) : ∃ (s : Fin cfg0.N) (hs : s.val / 12 = t.val / 12),
    (outsAt0 m c t.val t.isLt).1 = k0_pay3 (iblk m c 0 t) (k0_pay1 (iblk m c 1 s)) (k0_pay2 (iblk m c 2 s)) := by
  by_cases h : t.val % 12 = 0
  · refine ⟨t, rfl, ?_⟩
    rw [outsAt0_A m c t h h]
    frame_out
  · have hp : (t.val - 1) / 12 = t.val / 12 := by omega
    refine ⟨⟨12 * ((t.val - 1) / 12), Pipeline.run_start_lt ⟨t.val - 1, Nat.lt_of_le_of_lt (Nat.sub_le _ _) t.isLt⟩⟩, ?_, ?_⟩
    · show 12 * ((t.val - 1) / 12) / 12 = _
      omega
    · rw [outsAt0_B m c t h h]
      frame_out
      exact congrArg₂ (k0_pay3 (iblk m c 0 t)) (((Memref.isWhole_whole cc0_scratch0).read_unread _).trans (held0 m c ⟨t.val - 1, Nat.lt_of_le_of_lt (Nat.sub_le _ _) t.isLt⟩))
        (((Memref.isWhole_whole cc0_scratch1).read_unread _).trans (held1 m c ⟨t.val - 1, Nat.lt_of_le_of_lt (Nat.sub_le _ _) t.isLt⟩))

theorem out_at (c : Dev nD) (t : Fin cfg0.N) (p : Fin 1024) (q : Fin 256) (r : Fin 12288) (j : Fin 2816)
    (hr : r.val = 1024 * (t.val % 12) + p.val) (hj : j.val = 256 * (t.val / 12) + q.val) :
    (outsAt0 m c t.val t.isLt).1 (ix2 p q) = entry (m (c.tc.loc main_arg0)) (m (c.tc.loc main_arg1)) (m (c.tc.loc main_arg2)) r j := by
  obtain ⟨s, hs, e⟩ := out_eq m c t
  rw [e]
  refine (pay3_at _ _ _ p q).trans ?_
  refine congrArg₂ unit ?_ ?_
  · exact Finset.sum_congr rfl fun k _ => congrArg₂ (· * ·) (iblk0_at m c t p k r hr) ((pay1_at _ k q).trans (iblk1_at m c s k q j (by rw [hs]; exact hj)))
  · exact Finset.sum_congr rfl fun k _ => congrArg₂ (· * ·) (iblk0_at m c t p k r hr) ((pay2_at _ k q).trans (iblk2_at m c s k q j (by rw [hs]; exact hj)))

theorem final (c : Dev nD) :
    (dats (F := Ideal) m 0 c).arrAt 3 cfg0.N = result (m (c.tc.loc main_arg0)) (m (c.tc.loc main_arg1)) (m (c.tc.loc main_arg2)) := by
  refine (dats m 0 c).arrAt_eq_of_covers 3 _ (by decide +kernel) fun t hf y => ?_
  blk_simp
  rw [after0_3]
  obtain ⟨p, q, rfl⟩ : ∃ (p : Fin 1024) (q : Fin 256), y = ix2 p q := ⟨y 0, y 1, eq_ix2 (n0 := 1024) (n1 := 256) y⟩
  refine out_at m c t p q _ _ ?_ ?_
  · blk_simp [idx3]
    exact congrArg (· + p.val) (Nat.mul_comm _ _)
  · blk_simp [idx3]
    exact congrArg (· + q.val) (Nat.mul_comm _ _)

/-- The run: the result, the arguments unchanged. -/
theorem run : θ_run defs (onTc (τ := τ) (main (F := Ideal))) ⟨m, fun _ => 0, ρ⟩ (fun r => ∀ c : Dev nD,
      r.2.mem ((c.tc : Thread nD τ).loc main_v2) = result (m (c.tc.loc main_arg0)) (m (c.tc.loc main_arg1)) (m (c.tc.loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final m c), h.2 c⟩)
    (θ_run_and (run_main m ρ) (unchanged m ρ))

end Cert.FfnIdeal.Value

end
-- ==== Proof.FfnRef.lean ====
/- What the reference of the dense feed-forward's first call leaves, and its run. -/
module

public import proofs.«01_k».proof.Proof.Gen.FfnReferenceIdeal.Run
public import proofs.«01_k».proof.Proof.FfnValue
public import Idealize.ShloMosaic.Lib.StackMember
public import Idealize.ShloMosaic.Lib.Claim

@[expose] public section

set_option maxRecDepth 16384

noncomputable section

namespace Cert.FfnReferenceIdeal.Read

open Idealize Idealize.ShloMosaic Idealize.ShloMosaic.TcCoe Idealize.SL.Sem
open Cert.FfnReferenceIdeal Cert.FfnReferenceIdeal.Gen Cert.FfnReferenceIdeal.Value
open scoped BigOperators

/-- A row's product with one column, as the reference takes it. -/
theorem dot_at (x : Vec Ideal S12288x1024 .bf16) (w : Vec Ideal S2x1024x2816 .f32) (r : Fin 12288) (j : Fin 2816) :
    Host.dotGeneral dot_S12288x1024_S1024x2816_S12288x2816_1_0_0_1_n_n none (φ₁ := .f32) (φ₂ := .f32) (extf (F := Ideal) .f32 x bitsLt_bf16_f32) (shapeCast S1024x2816 (extractStridedSlice S1x1024x2816 ![0, 0, 0] w slices_S2x1024x2816_S1x1024x2816_0_0_0) shapeCasts_S1x1024x2816_S1024x2816) (ix2 r j)
      = Cert.FfnIdeal.Value.dot x w r j := by
  refine (StackMember.dotGeneral_plain_apply (m := 12288) (k := 1024) (n := 2816) none _ _ r j).trans ?_
  unfold Cert.FfnIdeal.Value.dot
  refine Finset.sum_congr rfl fun k _ => ?_
  pointwise
  exact congrArg₂ (· * ·) (congrArg x (by funext a; fin_cases a <;> rfl)) rfl

/-- The gated unit of two products, as the reference takes it. -/
theorem unit_at (g u : Vec Ideal S12288x2816 .f32) (i : S12288x2816.Idx) (g' u' : EReal) (hg : g i = g') (hu : u i = u') :
    truncf (F := Ideal) .bf16 (mulf (F := Ideal) (φ := .f32) (mulf g (Host.divf (broadcastInDim S12288x2816 ![] bcast_S_S12288x2816 (constant (F := Ideal) S_ .f32 0x3F800000#32)) (addf (broadcastInDim S12288x2816 ![] bcast_S_S12288x2816 (constant (F := Ideal) S_ .f32 0x3F800000#32)) (Host.exp (Host.negf g))))) u) bitsLt_bf16_f32 i
      = Cert.UpIdeal.Value.unit g' u' := by
  subst hg hu
  rfl

variable (m : (ℓ : Loc nD τ sig) → Buf (Elt Ideal) ℓ) (ρ : Dev nD → PrngReg)

/-- The reference's run: the kernel's result of its arguments, the arguments unchanged. -/
theorem run_value : θ_run (defs (F := Ideal)) (onTc (τ := τ) (main (F := Ideal))) ⟨m, fun _ => 0, ρ⟩ (fun r => ∀ c : Dev nD,
      r.2.mem ((c.tc : Thread nD τ).loc main_v9) = Cert.FfnIdeal.Value.result (m (c.tc.loc main_arg0)) (m (c.tc.loc main_arg1)) (m (c.tc.loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run _ _ _).mono (fun r h c => ⟨(h c).1.trans ?_, (h c).2⟩) (run m ρ)
  funext i
  obtain ⟨r, j, rfl⟩ : ∃ (r : Fin 12288) (j : Fin 2816), i = ix2 r j := ⟨i 0, i 1, eq_ix2 (n0 := 12288) (n1 := 2816) i⟩
  exact unit_at _ _ (ix2 r j) _ _ (dot_at _ _ r j) (dot_at _ _ r j)

/-- The reference's run, with the counters. -/
theorem run_frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems (by decide) r.2⟩) (run m ρ)

end Cert.FfnReferenceIdeal.Read

end
-- ==== Proof.FfnDownValue.lean ====
/- What the dense feed-forward's second call leaves: every row's activations plus its sequence's gates times its products with the weight's columns. -/
module

public import proofs.«01_k».proof.Proof.Gen.FfnDownIdeal.Frame
public import proofs.«01_k».proof.Proof.FfnValue

@[expose] public section

set_option maxRecDepth 16384

noncomputable section

namespace Cert.FfnDownIdeal.Value

open Idealize Idealize.ShloMosaic Idealize.ShloMosaic.TcCoe Idealize.SL.Sem
open Cert.FfnDownIdeal Cert.FfnDownIdeal.Gen
open scoped BigOperators

/-- A row's product with one column of the first layer's weight. -/
def dot (h : Vec Ideal S12288x2816 .bf16) (w : Vec Ideal S2x2816x1024 .f32) (r : Fin 12288) (j : Fin 1024) : EReal :=
  ∑ k : Fin 2816, h (ix2 r k) * w (ix3 (0 : Fin 2) k j)

/-- Whose gates a row takes: the context tokens' first, then each latent sequence's. -/
def seq (r : Fin 12288) : Fin 3 := ⟨if r.val < 8192 then 0 else 1 + (r.val - 8192) / 2048, by split_ifs <;> omega⟩

/-- One entry of the result. -/
def entry (h : Vec Ideal S12288x2816 .bf16) (w : Vec Ideal S2x2816x1024 .f32) (x : Vec Ideal S12288x1024 .f32) (g : Vec Ideal S3x1x1024 .f32)
    (r : Fin 12288) (j : Fin 1024) : EReal :=
  x (ix2 r j) + g (ix3 (seq r) (0 : Fin 1) j) * dot h w r j

/-- The result. -/
def result (h : Vec Ideal S12288x2816 .bf16) (w : Vec Ideal S2x2816x1024 .f32) (x : Vec Ideal S12288x1024 .f32) (g : Vec Ideal S3x1x1024 .f32) :
    Vec Ideal S12288x1024 .f32 :=
  fun i => entry h w x g (i 0) (i 1)

theorem dot_at (a : Vec Ideal S1024x2816 .bf16) (b : Vec Ideal S2816x512 .bf16) (p : Fin 1024) (q : Fin 512) :
    matmul (F := Ideal) (φ₁ := .bf16) (φ₂ := .bf16) dot_S1024x2816_S2816x512_S1024x512_1_0_0_1_n_n none a b (constant S1024x512 .f32 0x00000000#32) (ix2 p q) = ∑ k : Fin 2816, a (ix2 p k) * b (ix2 k q) := by
  refine (Ideal.matmul_plain_apply (M := 1024) (K := 2816) (N := 512) (φ₁ := .bf16) (φ₂ := .bf16) none a b _ p q).trans ?_
  show Ideal.ofBits .f32 0x00000000#32 + _ = _
  rw [Cert.UpIdeal.Value.zero32, zero_add]
  refine Finset.sum_congr rfl fun k _ => ?_
  congr 2 <;> (funext x; fin_cases x <;> rfl)

/-- A row's gates over the rows of a block. -/
theorem gate_at (g : Vec Ideal S1x1x512 .f32) (p : Fin 1024) (q : Fin 512) :
    broadcastTo S1024x512 (shapeCast S1x512 g shapeCasts_S1x1x512_S1x512) broadcasts_S1x512_S1024x512 (ix2 p q) = g (ix3 (0 : Fin 1) (0 : Fin 1) q) := by
  pointwise

theorem pay2_at (a : Vec Ideal S1024x2816 .bf16) (b : Vec Ideal S2816x512 .bf16) (x : Vec Ideal S1024x512 .f32) (g : Vec Ideal S1x1x512 .f32)
    (p : Fin 1024) (q : Fin 512) :
    k0_pay2 a b x g (ix2 p q) = x (ix2 p q) + g (ix3 (0 : Fin 1) (0 : Fin 1) q) * ∑ k : Fin 2816, a (ix2 p k) * b (ix2 k q) := by
  rw [← dot_at, ← gate_at g p q]
  rfl

theorem pay1_at (v : Vec Ideal S2816x512 .f32) (k : Fin 2816) (q : Fin 512) : k0_pay1 v (ix2 k q) = v (ix2 k q) := by
  unfold k0_pay1
  pointwise

/-- Both layers' weights as one matrix, read in the first layer. -/
theorem first_layer (x : Vec Ideal S2x2816x1024 .f32) (k : Fin 2816) (j : Fin 1024) :
    shapeCast S5632x1024 x shapeCasts_S2x2816x1024_S5632x1024 (ix2 (n0 := 5632) (n1 := 1024) ⟨k.val, by omega⟩ j) = x (ix3 (0 : Fin 2) k j) := by
  pointwise
  refine congrArg x ?_
  funext i
  fin_cases i <;> first | rfl | (refine Fin.ext ?_; simp [ix2, ix3])

variable (m : (ℓ : Loc nD τ sig) → Buf (Elt Ideal) ℓ) (ρ : Dev nD → PrngReg)

theorem V_v0 (c : Dev nD) (k : Fin 2816) (j : Fin 1024) :
    V m c main_v0 (ix2 (n0 := 5632) (n1 := 1024) ⟨k.val, by omega⟩ j) = m (c.tc.loc main_arg1) (ix3 (0 : Fin 2) k j) :=
  first_layer (m (c.tc.loc main_arg1)) k j

theorem idx0 : ∀ t : Fin cfg0.N, win0_0.index t = ![t.val % 12, 0] := (by decide +kernel : ∀ t : Fin grid0.N, _)
theorem idx1 : ∀ t : Fin cfg0.N, win0_1.index t = ![0, t.val / 12] := (by decide +kernel : ∀ t : Fin grid0.N, _)
theorem idx2 : ∀ t : Fin cfg0.N, win0_2.index t = ![t.val % 12, t.val / 12] := (by decide +kernel : ∀ t : Fin grid0.N, _)
theorem idx3 : ∀ t : Fin cfg0.N, win0_3.index t = ![if t.val % 12 < 8 then 0 else 1 + (t.val % 12 - 8) / 2, 0, t.val / 12] := (by decide +kernel : ∀ t : Fin grid0.N, _)
theorem idx4 : ∀ t : Fin cfg0.N, win0_4.index t = ![t.val % 12, t.val / 12] := (by decide +kernel : ∀ t : Fin grid0.N, _)

theorem iblk0_at (c : Dev nD) (t : Fin cfg0.N) (p : Fin 1024) (k : Fin 2816) (r : Fin 12288) (hr : r.val = 1024 * (t.val % 12) + p.val) :
    iblk m c 0 t (ix2 p k) = m (c.tc.loc main_arg0) (ix2 r k) := by
  rw [← V_main_arg0 m c]
  blk_simp [iblk]
  refine congrArg _ ?_
  blk_ext [idx0, hr]

theorem iblk1_at (c : Dev nD) (t : Fin cfg0.N) (k : Fin 2816) (q : Fin 512) (j : Fin 1024) (hj : j.val = 512 * (t.val / 12) + q.val) :
    iblk m c 1 t (ix2 k q) = m (c.tc.loc main_arg1) (ix3 (0 : Fin 2) k j) := by
  rw [← V_v0 m c k j]
  blk_simp [iblk]
  refine congrArg _ ?_
  blk_ext [idx1, hj]

theorem iblk2_at (c : Dev nD) (t : Fin cfg0.N) (p : Fin 1024) (q : Fin 512) (r : Fin 12288) (j : Fin 1024)
    (hr : r.val = 1024 * (t.val % 12) + p.val) (hj : j.val = 512 * (t.val / 12) + q.val) :
    iblk m c 2 t (ix2 p q) = m (c.tc.loc main_arg2) (ix2 r j) := by
  rw [← V_main_arg2 m c]
  blk_simp [iblk]
  refine congrArg _ ?_
  blk_ext [idx2, hr, hj]

theorem seq_at (t : Fin cfg0.N) (p : Fin 1024) (r : Fin 12288) (hr : r.val = 1024 * (t.val % 12) + p.val) :
    (seq r).val = if t.val % 12 < 8 then 0 else 1 + (t.val % 12 - 8) / 2 := by
  show (if r.val < 8192 then 0 else 1 + (r.val - 8192) / 2048) = _
  split_ifs <;> omega

theorem iblk3_at (c : Dev nD) (t : Fin cfg0.N) (p : Fin 1024) (q : Fin 512) (r : Fin 12288) (j : Fin 1024)
    (hr : r.val = 1024 * (t.val % 12) + p.val) (hj : j.val = 512 * (t.val / 12) + q.val) :
    iblk m c 3 t (ix3 (0 : Fin 1) (0 : Fin 1) q) = m (c.tc.loc main_arg3) (ix3 (seq r) (0 : Fin 1) j) := by
  have hs := seq_at t p r hr
  rw [← V_main_arg3 m c]
  blk_simp [iblk]
  refine congrArg _ ?_
  blk_ext [idx3, hs, hj]

/-- The scratch holds its column block's weights, cast. -/
theorem held (c : Dev nD) (t : Fin cfg0.N) :
    (outsAt0 m c t.val t.isLt).2 = k0_pay1 (iblk m c 1 ⟨12 * (t.val / 12), Pipeline.run_start_lt t⟩) :=
  Pipeline.eq_of_write_hold (fun n h => (outsAt0 m c n h).2) 12 (fun t => k0_pay1 (iblk m c 1 t))
    (fun t h => by
      show (outsAt0 m c t.val t.isLt).2 = k0_pay1 (iblk m c 1 t)
      rw [outsAt0_A m c t h]
      frame_out)
    (fun t h => by
      show (outsAt0 m c t.val t.isLt).2 = _
      rw [outsAt0_B m c t h]
      rfl) t

/-- What a point leaves: the payload of its blocks and of one that reads as its column block's weights. -/
theorem out_eq (c : Dev nD) (t : Fin cfg0.N) : ∃ (s : Fin cfg0.N) (hs : s.val / 12 = t.val / 12),
    (outsAt0 m c t.val t.isLt).1 = k0_pay2 (iblk m c 0 t) (k0_pay1 (iblk m c 1 s)) (iblk m c 2 t) (iblk m c 3 t) := by
  by_cases h : t.val % 12 = 0
  · refine ⟨t, rfl, ?_⟩
    rw [outsAt0_A m c t h]
    frame_out
  · have hp : (t.val - 1) / 12 = t.val / 12 := by omega
    refine ⟨⟨12 * ((t.val - 1) / 12), Pipeline.run_start_lt ⟨t.val - 1, Nat.lt_of_le_of_lt (Nat.sub_le _ _) t.isLt⟩⟩, ?_, ?_⟩
    · show 12 * ((t.val - 1) / 12) / 12 = _
      omega
    · rw [outsAt0_B m c t h]
      frame_out
      exact congrArg (fun b => k0_pay2 (iblk m c 0 t) b (iblk m c 2 t) (iblk m c 3 t)) (((Memref.isWhole_whole cc0_scratch0).read_unread _).trans
        (held m c ⟨t.val - 1, Nat.lt_of_le_of_lt (Nat.sub_le _ _) t.isLt⟩))

theorem out_at (c : Dev nD) (t : Fin cfg0.N) (p : Fin 1024) (q : Fin 512) (r : Fin 12288) (j : Fin 1024)
    (hr : r.val = 1024 * (t.val % 12) + p.val) (hj : j.val = 512 * (t.val / 12) + q.val) :
    (outsAt0 m c t.val t.isLt).1 (ix2 p q) = entry (m (c.tc.loc main_arg0)) (m (c.tc.loc main_arg1)) (m (c.tc.loc main_arg2)) (m (c.tc.loc main_arg3)) r j := by
  obtain ⟨s, hs, e⟩ := out_eq m c t
  rw [e]
  refine (pay2_at _ _ _ _ p q).trans ?_
  refine congrArg₂ (· + ·) (iblk2_at m c t p q r j hr hj) (congrArg₂ (· * ·) (iblk3_at m c t p q r j hr hj) ?_)
  exact Finset.sum_congr rfl fun k _ => congrArg₂ (· * ·) (iblk0_at m c t p k r hr) ((pay1_at _ k q).trans (iblk1_at m c s k q j (by rw [hs]; exact hj)))

theorem final (c : Dev nD) :
    (dats (F := Ideal) m 0 c).arrAt 4 cfg0.N = result (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4]
  obtain ⟨p, q, rfl⟩ : ∃ (p : Fin 1024) (q : Fin 512), y = ix2 p q := ⟨y 0, y 1, eq_ix2 (n0 := 1024) (n1 := 512) y⟩
  refine out_at m c t p q _ _ ?_ ?_
  · blk_simp [idx4]
    exact congrArg (· + p.val) (Nat.mul_comm _ _)
  · blk_simp [idx4]
    exact congrArg (· + q.val) (Nat.mul_comm _ _)

/-- The run: the result, the arguments unchanged. -/
theorem run : θ_run defs (onTc (τ := τ) (main (F := Ideal))) ⟨m, fun _ => 0, ρ⟩ (fun r => ∀ c : Dev nD,
      r.2.mem ((c.tc : Thread nD τ).loc main_v1) = result (m (c.tc.loc main_arg0)) (m (c.tc.loc main_arg1)) (m (c.tc.loc main_arg2)) (m (c.tc.loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final m c), h.2 c⟩)
    (θ_run_and (run_main m ρ) (unchanged m ρ))

end Cert.FfnDownIdeal.Value

end
-- ==== Proof.FfnDownRef.lean ====
/- What the reference of the dense feed-forward's second call leaves, and its run. -/
module

public import proofs.«01_k».proof.Proof.Gen.FfnDownReferenceIdeal.Run
public import proofs.«01_k».proof.Proof.FfnDownValue
public import Idealize.ShloMosaic.Lib.StackMember
public import Idealize.ShloMosaic.Lib.Claim

@[expose] public section

set_option maxRecDepth 16384

noncomputable section

namespace Cert.FfnDownReferenceIdeal.Read

open Idealize Idealize.ShloMosaic Idealize.ShloMosaic.TcCoe Idealize.SL.Sem
open Cert.FfnDownReferenceIdeal Cert.FfnDownReferenceIdeal.Gen Cert.FfnDownReferenceIdeal.Value
open Cert.FfnDownIdeal.Value (dot seq entry result)
open scoped BigOperators

/-- A row's product with one column, as the reference takes it. -/
theorem dot_at (h : Vec Ideal S12288x2816 .bf16) (w : Vec Ideal S2x2816x1024 .f32) (r : Fin 12288) (j : Fin 1024) :
    Host.dotGeneral dot_S12288x2816_S2816x1024_S12288x1024_1_0_0_1_n_n none (φ₁ := .f32) (φ₂ := .f32) (extf (F := Ideal) .f32 h bitsLt_bf16_f32) (shapeCast S2816x1024 (extractStridedSlice S1x2816x1024 ![0, 0, 0] w slices_S2x2816x1024_S1x2816x1024_0_0_0) shapeCasts_S1x2816x1024_S2816x1024) (ix2 r j)
      = dot h w r j := by
  refine (StackMember.dotGeneral_plain_apply (m := 12288) (k := 2816) (n := 1024) none _ _ r j).trans ?_
  unfold dot
  refine Finset.sum_congr rfl fun k _ => ?_
  pointwise
  exact congrArg₂ (· * ·) (congrArg h (by funext a; fin_cases a <;> rfl)) rfl

/-- The context tokens' part. -/
def ctx (x y : Vec Ideal S12288x1024 .f32) (g : Vec Ideal S3x1x1024 .f32) : Vec Ideal S8192x1024 .f32 :=
  shapeCast _ (addf (F := Ideal) (φ := .f32) (shapeCast _ (extractStridedSlice S8192x1024 ![0, 0] x slices_S12288x1024_S8192x1024_0_0) shapeCasts_S8192x1024_S32x256x1024) (mulf (broadcastInDim S32x256x1024 ![0, 1, 2] bcast_S1x1x1024_S32x256x1024_0_1_2 (extractStridedSlice S1x1x1024 ![0, 0, 0] g slices_S3x1x1024_S1x1x1024_0_0_0)) (shapeCast _ (extractStridedSlice S8192x1024 ![0, 0] y slices_S12288x1024_S8192x1024_0_0) shapeCasts_S8192x1024_S32x256x1024))) shapeCasts_S32x256x1024_S8192x1024

/-- The latent tokens' part. -/
def lat (x y : Vec Ideal S12288x1024 .f32) (g : Vec Ideal S3x1x1024 .f32) : Vec Ideal S4096x1024 .f32 :=
  shapeCast _ (addf (F := Ideal) (φ := .f32) (shapeCast _ (extractStridedSlice S4096x1024 ![8192, 0] x slices_S12288x1024_S4096x1024_8192_0) shapeCasts_S4096x1024_S2x2048x1024) (mulf (broadcastInDim S2x2048x1024 ![0, 1, 2] bcast_S2x1x1024_S2x2048x1024_0_1_2 (extractStridedSlice S2x1x1024 ![1, 0, 0] g slices_S3x1x1024_S2x1x1024_1_0_0)) (shapeCast _ (extractStridedSlice S4096x1024 ![8192, 0] y slices_S12288x1024_S4096x1024_8192_0) shapeCasts_S4096x1024_S2x2048x1024))) shapeCasts_S2x2048x1024_S4096x1024

theorem ctx_at (x y : Vec Ideal S12288x1024 .f32) (g : Vec Ideal S3x1x1024 .f32) (p : Fin 8192) (j : Fin 1024) (r : Fin 12288) (hr : r.val = p.val) :
    ctx x y g (ix2 p j) = x (ix2 r j) + g (ix3 (seq r) (0 : Fin 1) j) * y (ix2 r j) := by
  unfold ctx
  pointwise
  have e : seq r = (0 : Fin 3) := Fin.ext (by show (if r.val < 8192 then 0 else 1 + (r.val - 8192) / 2048) = 0; rw [if_pos (by omega)])
  rw [e]
  obtain ⟨r, hl⟩ := r
  obtain rfl : r = p.val := hr
  rfl

theorem lat_at (x y : Vec Ideal S12288x1024 .f32) (g : Vec Ideal S3x1x1024 .f32) (p : Fin 4096) (j : Fin 1024) (r : Fin 12288) (hr : r.val = 8192 + p.val) :
    lat x y g (ix2 p j) = x (ix2 r j) + g (ix3 (seq r) (0 : Fin 1) j) * y (ix2 r j) := by
  unfold lat
  pointwise
  have e : seq r = (⟨1 + p.val / 2048, by omega⟩ : Fin 3) := Fin.ext (by
    show (if r.val < 8192 then 0 else 1 + (r.val - 8192) / 2048) = 1 + p.val / 2048
    rw [if_neg (by omega), hr, Nat.add_sub_cancel_left])
  rw [e]
  obtain ⟨r, hl⟩ := r
  obtain rfl : r = 8192 + p.val := hr
  rfl

/-- Equal products give equal entries. -/
theorem add_at (u v : EReal) {d e : EReal} (h : d = e) : u + v * d = u + v * e := by rw [h]

theorem both_at (x y : Vec Ideal S12288x1024 .f32) (g : Vec Ideal S3x1x1024 .f32) (r : Fin 12288) (j : Fin 1024) :
    concatenate S12288x1024 0 [⟨S8192x1024, ctx x y g⟩, ⟨S4096x1024, lat x y g⟩] concatenates_S8192x1024_S4096x1024_S12288x1024_d0 (ix2 r j)
      = x (ix2 r j) + g (ix3 (seq r) (0 : Fin 1) j) * y (ix2 r j) := by
  pointwise
  by_cases h : r.val < 8192
  · rw [dif_pos h]
    exact ctx_at x y g _ j r rfl
  · rw [dif_neg h]
    exact lat_at x y g _ j r (by show r.val = 8192 + (r.val - 8192); omega)

variable (m : (ℓ : Loc nD τ sig) → Buf (Elt Ideal) ℓ) (ρ : Dev nD → PrngReg)

/-- The reference's run: the kernel's result of its arguments, the arguments unchanged. -/
theorem run_value : θ_run (defs (F := Ideal)) (onTc (τ := τ) (main (F := Ideal))) ⟨m, fun _ => 0, ρ⟩ (fun r => ∀ c : Dev nD,
      r.2.mem ((c.tc : Thread nD τ).loc main_v22) = result (m (c.tc.loc main_arg0)) (m (c.tc.loc main_arg1)) (m (c.tc.loc main_arg2)) (m (c.tc.loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run _ _ _).mono (fun r h c => ⟨(h c).1.trans ?_, (h c).2⟩) (run m ρ)
  funext i
  obtain ⟨r, j, rfl⟩ : ∃ (r : Fin 12288) (j : Fin 1024), i = ix2 r j := ⟨i 0, i 1, eq_ix2 (n0 := 12288) (n1 := 1024) i⟩
  refine (both_at _ _ _ r j).trans ?_
  exact add_at _ _ (dot_at _ _ r j)

/-- The reference's run, with the counters. -/
theorem run_frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2, sem_eq_zero_of_no_sems (by decide) r.2⟩) (run m ρ)

end Cert.FfnDownReferenceIdeal.Read

end
-- ==== Proof.HyInValue.lean ====
/- What the Hyena mixer's input projection leaves: every row's products with the weight's columns. -/
module

public import proofs.«01_k».proof.Proof.Gen.HyInIdeal.Frame
public import proofs.«01_k».proof.Proof.FfnValue

@[expose] public section

set_option maxRecDepth 16384

noncomputable section

namespace Cert.HyInIdeal.Value

open Idealize Idealize.ShloMosaic Idealize.ShloMosaic.TcCoe Idealize.SL.Sem
open Cert.HyInIdeal Cert.HyInIdeal.Gen
open scoped BigOperators

/-- A row's product with one column of the weight. -/
def entry (x : Vec Ideal S12288x1024 .bf16) (w : Vec Ideal S1024x3072 .f32) (r : Fin 12288) (j : Fin 3072) : EReal :=
  ∑ k : Fin 1024, x (ix2 r k) * w (ix2 k j)

/-- The result. -/
def result (x : Vec Ideal S12288x1024 .bf16) (w : Vec Ideal S1024x3072 .f32) : Vec Ideal S12288x3072 .f32 :=
  fun i => entry x w (i 0) (i 1)

theorem pay2_at (a b : Vec Ideal S1024x1024 .bf16) (p q : Fin 1024) :
    k0_pay2 a b (ix2 p q) = ∑ k : Fin 1024, a (ix2 p k) * b (ix2 k q) := by
  refine (Ideal.matmul_plain_apply (M := 1024) (K := 1024) (N := 1024) (φ₁ := .bf16) (φ₂ := .bf16) none a b _ p q).trans ?_
  show Ideal.ofBits .f32 0x00000000#32 + _ = _
  rw [Cert.UpIdeal.Value.zero32, zero_add]
  refine Finset.sum_congr rfl fun k _ => ?_
  congr 2 <;> (funext x; fin_cases x <;> rfl)

theorem pay1_at (v : Vec Ideal S1024x1024 .f32) (k q : Fin 1024) : k0_pay1 v (ix2 k q) = v (ix2 k q) := by
  unfold k0_pay1
  pointwise

variable (m : (ℓ : Loc nD τ sig) → Buf (Elt Ideal) ℓ) (ρ : Dev nD → PrngReg)

theorem idx0 : ∀ t : Fin cfg0.N, win0_0.index t = ![t.val % 12, 0] := (by decide +kernel : ∀ t : Fin grid0.N, _)
theorem idx1 : ∀ t : Fin cfg0.N, win0_1.index t = ![0, t.val / 12] := (by decide +kernel : ∀ t : Fin grid0.N, _)
theorem idx2 : ∀ t : Fin cfg0.N, win0_2.index t = ![t.val % 12, t.val / 12] := (by decide +kernel : ∀ t : Fin grid0.N, _)

theorem iblk0_at (c : Dev nD) (t : Fin cfg0.N) (p k : Fin 1024) (r : Fin 12288) (hr : r.val = 1024 * (t.val % 12) + p.val) :
    iblk m c 0 t (ix2 p k) = m (c.tc.loc main_arg0) (ix2 r k) := by
  rw [← V_main_arg0 m c]
  blk_simp [iblk]
  refine congrArg _ ?_
  blk_ext [idx0, hr]

theorem iblk1_at (c : Dev nD) (t : Fin cfg0.N) (k q : Fin 1024) (j : Fin 3072) (hj : j.val = 1024 * (t.val / 12) + q.val) :
    iblk m c 1 t (ix2 k q) = m (c.tc.loc main_arg1) (ix2 k j) := by
  rw [← V_main_arg1 m c]
  blk_simp [iblk]
  refine congrArg _ ?_
  blk_ext [idx1, hj]

/-- The scratch holds its column block's weights, cast. -/
theorem held (c : Dev nD) (t : Fin cfg0.N) :
    (outsAt0 m c t.val t.isLt).2 = k0_pay1 (iblk m c 1 ⟨12 * (t.val / 12), Pipeline.run_start_lt t⟩) :=
  Pipeline.eq_of_write_hold (fun n h => (outsAt0 m c n h).2) 12 (fun t => k0_pay1 (iblk m c 1 t))
    (fun t h => by
      show (outsAt0 m c t.val t.isLt).2 = k0_pay1 (iblk m c 1 t)
      rw [outsAt0_A m c t h]
      frame_out)
    (fun t h => by
      show (outsAt0 m c t.val t.isLt).2 = _
      rw [outsAt0_B m c t h]
      rfl) t

/-- What a point leaves: the payload of its rows and of a block that reads as its column block's weights. -/
theorem out_eq (c : Dev nD) (t : Fin cfg0.N) : ∃ (s : Fin cfg0.N) (hs : s.val / 12 = t.val / 12),
    (outsAt0 m c t.val t.isLt).1 = k0_pay2 (iblk m c 0 t) (k0_pay1 (iblk m c 1 s)) := by
  by_cases h : t.val % 12 = 0
  · refine ⟨t, rfl, ?_⟩
    rw [outsAt0_A m c t h]
    frame_out
  · have hp : (t.val - 1) / 12 = t.val / 12 := by omega
    refine ⟨⟨12 * ((t.val - 1) / 12), Pipeline.run_start_lt ⟨t.val - 1, Nat.lt_of_le_of_lt (Nat.sub_le _ _) t.isLt⟩⟩, ?_, ?_⟩
    · show 12 * ((t.val - 1) / 12) / 12 = _
      omega
    · rw [outsAt0_B m c t h]
      frame_out
      exact congrArg (k0_pay2 (iblk m c 0 t)) (((Memref.isWhole_whole cc0_scratch0).read_unread _).trans
        (held m c ⟨t.val - 1, Nat.lt_of_le_of_lt (Nat.sub_le _ _) t.isLt⟩))

theorem out_at (c : Dev nD) (t : Fin cfg0.N) (p q : Fin 1024) (r : Fin 12288) (j : Fin 3072)
    (hr : r.val = 1024 * (t.val % 12) + p.val) (hj : j.val = 1024 * (t.val / 12) + q.val) :
    (outsAt0 m c t.val t.isLt).1 (ix2 p q) = entry (m (c.tc.loc main_arg0)) (m (c.tc.loc main_arg1)) r j := by
  obtain ⟨s, hs, e⟩ := out_eq m c t
  rw [e]
  refine (pay2_at _ _ p q).trans ?_
  exact Finset.sum_congr rfl fun k _ => congrArg₂ (· * ·) (iblk0_at m c t p k r hr) ((pay1_at _ k q).trans (iblk1_at m c s k q j (by rw [hs]; exact hj)))

theorem final (c : Dev nD) :
    (dats (F := Ideal) m 0 c).arrAt 2 cfg0.N = result (m (c.tc.loc main_arg0)) (m (c.tc.loc main_arg1)) := by
  refine (dats m 0 c).arrAt_eq_of_covers 2 _ (by decide +kernel) fun t hf y => ?_
  blk_simp
  rw [after0_2]
  obtain ⟨p, q, rfl⟩ : ∃ (p q : Fin 1024), y = ix2 p q := ⟨y 0, y 1, eq_ix2 (n0 := 1024) (n1 := 1024) y⟩
  refine out_at m c t p q _ _ ?_ ?_
  · blk_simp [idx2]
    exact congrArg (· + p.val) (Nat.mul_comm _ _)
  · blk_simp [idx2]
    exact congrArg (· + q.val) (Nat.mul_comm _ _)

/-- The run: the result, the arguments unchanged. -/
theorem run : θ_run defs (onTc (τ := τ) (main (F := Ideal))) ⟨m, fun _ => 0, ρ⟩ (fun r => ∀ c : Dev nD,
      r.2.mem ((c.tc : Thread nD τ).loc main_v0) = result (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 2).trans (final m c), h.2 c⟩)
    (θ_run_and (run_main m ρ) (unchanged m ρ))

end Cert.HyInIdeal.Value

end
-- ==== Proof.HyInRef.lean ====
/- What the reference of the Hyena mixer's input projection leaves, and its run. -/
module

public import proofs.«01_k».proof.Proof.Gen.HyInReferenceIdeal.Run
public import proofs.«01_k».proof.Proof.HyInValue
public import Idealize.ShloMosaic.Lib.StackMember
public import Idealize.ShloMosaic.Lib.Claim

@[expose] public section

set_option maxRecDepth 16384

noncomputable section

namespace Cert.HyInReferenceIdeal.Read

open Idealize Idealize.ShloMosaic Idealize.ShloMosaic.TcCoe Idealize.SL.Sem
open Cert.HyInReferenceIdeal Cert.HyInReferenceIdeal.Gen Cert.HyInReferenceIdeal.Value
open scoped BigOperators

/-- A row's product with one column, as the reference takes it. -/
theorem dot_at (x : Vec Ideal S12288x1024 .bf16) (w : Vec Ideal S1024x3072 .f32) (r : Fin 12288) (j : Fin 3072) :
    Host.dotGeneral dot_S12288x1024_S1024x3072_S12288x3072_1_0_0_1_n_n none (φ₁ := .f32) (φ₂ := .f32) (extf (F := Ideal) .f32 x bitsLt_bf16_f32) w (ix2 r j)
      = Cert.HyInIdeal.Value.entry x w r j := by
  refine (StackMember.dotGeneral_plain_apply (m := 12288) (k := 1024) (n := 3072) none _ _ r j).trans ?_
  unfold Cert.HyInIdeal.Value.entry
  refine Finset.sum_congr rfl fun k _ => ?_
  exact congrArg₂ (· * ·) (congrArg x (by funext a; fin_cases a <;> rfl)) (congrArg w (by funext a; fin_cases a <;> rfl))

variable (m : (ℓ : Loc nD τ sig) → Buf (Elt Ideal) ℓ) (ρ : Dev nD → PrngReg)

/-- The reference's run: the kernel's result of its arguments, the arguments unchanged. -/
theorem run_value : θ_run (defs (F := Ideal)) (onTc (τ := τ) (main (F := Ideal))) ⟨m, fun _ => 0, ρ⟩ (fun r => ∀ c : Dev nD,
      r.2.mem ((c.tc : Thread nD τ).loc main_v1) = Cert.HyInIdeal.Value.result (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run _ _ _).mono (fun r h c => ⟨(h c).1.trans ?_, (h c).2⟩) (run m ρ)
  funext i
  obtain ⟨r, j, rfl⟩ : ∃ (r : Fin 12288) (j : Fin 3072), i = ix2 r j := ⟨i 0, i 1, eq_ix2 (n0 := 12288) (n1 := 3072) i⟩
  exact dot_at _ _ r j

/-- The reference's run, with the counters. -/
theorem run_frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (run m ρ)

end Cert.HyInReferenceIdeal.Read

end
-- ==== Proof.MlUpValue.lean ====
/- What the mLSTM block's up projection leaves: every row's products with the weight's columns. -/
module

public import proofs.«01_k».proof.Proof.Gen.MlUpIdeal.Frame
public import proofs.«01_k».proof.Proof.FfnValue

@[expose] public section

set_option maxRecDepth 16384

noncomputable section

namespace Cert.MlUpIdeal.Value

open Idealize Idealize.ShloMosaic Idealize.ShloMosaic.TcCoe Idealize.SL.Sem
open Cert.MlUpIdeal Cert.MlUpIdeal.Gen
open scoped BigOperators

/-- A row's product with one column of the weight. -/
def entry (x : Vec Ideal S12288x1024 .bf16) (w : Vec Ideal S1024x4096 .f32) (r : Fin 12288) (j : Fin 4096) : EReal :=
  ∑ k : Fin 1024, x (ix2 r k) * w (ix2 k j)

/-- The result. -/
def result (x : Vec Ideal S12288x1024 .bf16) (w : Vec Ideal S1024x4096 .f32) : Vec Ideal S12288x4096 .f32 :=
  fun i => entry x w (i 0) (i 1)

theorem pay2_at (a b : Vec Ideal S1024x1024 .bf16) (p q : Fin 1024) :
    k0_pay2 a b (ix2 p q) = ∑ k : Fin 1024, a (ix2 p k) * b (ix2 k q) := by
  refine (Ideal.matmul_plain_apply (M := 1024) (K := 1024) (N := 1024) (φ₁ := .bf16) (φ₂ := .bf16) none a b _ p q).trans ?_
  show Ideal.ofBits .f32 0x00000000#32 + _ = _
  rw [Cert.UpIdeal.Value.zero32, zero_add]
  refine Finset.sum_congr rfl fun k _ => ?_
  congr 2 <;> (funext x; fin_cases x <;> rfl)

theorem pay1_at (v : Vec Ideal S1024x1024 .f32) (k q : Fin 1024) : k0_pay1 v (ix2 k q) = v (ix2 k q) := by
  unfold k0_pay1
  pointwise

variable (m : (ℓ : Loc nD τ sig) → Buf (Elt Ideal) ℓ) (ρ : Dev nD → PrngReg)

theorem idx0 : ∀ t : Fin cfg0.N, win0_0.index t = ![t.val % 12, 0] := (by decide +kernel : ∀ t : Fin grid0.N, _)
theorem idx1 : ∀ t : Fin cfg0.N, win0_1.index t = ![0, t.val / 12] := (by decide +kernel : ∀ t : Fin grid0.N, _)
theorem idx2 : ∀ t : Fin cfg0.N, win0_2.index t = ![t.val % 12, t.val / 12] := (by decide +kernel : ∀ t : Fin grid0.N, _)

theorem iblk0_at (c : Dev nD) (t : Fin cfg0.N) (p k : Fin 1024) (r : Fin 12288) (hr : r.val = 1024 * (t.val % 12) + p.val) :
    iblk m c 0 t (ix2 p k) = m (c.tc.loc main_arg0) (ix2 r k) := by
  rw [← V_main_arg0 m c]
  blk_simp [iblk]
  refine congrArg _ ?_
  blk_ext [idx0, hr]

theorem iblk1_at (c : Dev nD) (t : Fin cfg0.N) (k q : Fin 1024) (j : Fin 4096) (hj : j.val = 1024 * (t.val / 12) + q.val) :
    iblk m c 1 t (ix2 k q) = m (c.tc.loc main_arg1) (ix2 k j) := by
  rw [← V_main_arg1 m c]
  blk_simp [iblk]
  refine congrArg _ ?_
  blk_ext [idx1, hj]

/-- The scratch holds its column block's weights, cast. -/
theorem held (c : Dev nD) (t : Fin cfg0.N) :
    (outsAt0 m c t.val t.isLt).2 = k0_pay1 (iblk m c 1 ⟨12 * (t.val / 12), Pipeline.run_start_lt t⟩) :=
  Pipeline.eq_of_write_hold (fun n h => (outsAt0 m c n h).2) 12 (fun t => k0_pay1 (iblk m c 1 t))
    (fun t h => by
      show (outsAt0 m c t.val t.isLt).2 = k0_pay1 (iblk m c 1 t)
      rw [outsAt0_A m c t h]
      frame_out)
    (fun t h => by
      show (outsAt0 m c t.val t.isLt).2 = _
      rw [outsAt0_B m c t h]
      rfl) t

/-- What a point leaves: the payload of its rows and of a block that reads as its column block's weights. -/
theorem out_eq (c : Dev nD) (t : Fin cfg0.N) : ∃ (s : Fin cfg0.N) (hs : s.val / 12 = t.val / 12),
    (outsAt0 m c t.val t.isLt).1 = k0_pay2 (iblk m c 0 t) (k0_pay1 (iblk m c 1 s)) := by
  by_cases h : t.val % 12 = 0
  · refine ⟨t, rfl, ?_⟩
    rw [outsAt0_A m c t h]
    frame_out
  · have hp : (t.val - 1) / 12 = t.val / 12 := by omega
    refine ⟨⟨12 * ((t.val - 1) / 12), Pipeline.run_start_lt ⟨t.val - 1, Nat.lt_of_le_of_lt (Nat.sub_le _ _) t.isLt⟩⟩, ?_, ?_⟩
    · show 12 * ((t.val - 1) / 12) / 12 = _
      omega
    · rw [outsAt0_B m c t h]
      frame_out
      exact congrArg (k0_pay2 (iblk m c 0 t)) (((Memref.isWhole_whole cc0_scratch0).read_unread _).trans
        (held m c ⟨t.val - 1, Nat.lt_of_le_of_lt (Nat.sub_le _ _) t.isLt⟩))

theorem out_at (c : Dev nD) (t : Fin cfg0.N) (p q : Fin 1024) (r : Fin 12288) (j : Fin 4096)
    (hr : r.val = 1024 * (t.val % 12) + p.val) (hj : j.val = 1024 * (t.val / 12) + q.val) :
    (outsAt0 m c t.val t.isLt).1 (ix2 p q) = entry (m (c.tc.loc main_arg0)) (m (c.tc.loc main_arg1)) r j := by
  obtain ⟨s, hs, e⟩ := out_eq m c t
  rw [e]
  refine (pay2_at _ _ p q).trans ?_
  exact Finset.sum_congr rfl fun k _ => congrArg₂ (· * ·) (iblk0_at m c t p k r hr) ((pay1_at _ k q).trans (iblk1_at m c s k q j (by rw [hs]; exact hj)))

theorem final (c : Dev nD) :
    (dats (F := Ideal) m 0 c).arrAt 2 cfg0.N = result (m (c.tc.loc main_arg0)) (m (c.tc.loc main_arg1)) := by
  refine (dats m 0 c).arrAt_eq_of_covers 2 _ (by decide +kernel) fun t hf y => ?_
  blk_simp
  rw [after0_2]
  obtain ⟨p, q, rfl⟩ : ∃ (p q : Fin 1024), y = ix2 p q := ⟨y 0, y 1, eq_ix2 (n0 := 1024) (n1 := 1024) y⟩
  refine out_at m c t p q _ _ ?_ ?_
  · blk_simp [idx2]
    exact congrArg (· + p.val) (Nat.mul_comm _ _)
  · blk_simp [idx2]
    exact congrArg (· + q.val) (Nat.mul_comm _ _)

/-- The run: the result, the arguments unchanged. -/
theorem run : θ_run defs (onTc (τ := τ) (main (F := Ideal))) ⟨m, fun _ => 0, ρ⟩ (fun r => ∀ c : Dev nD,
      r.2.mem ((c.tc : Thread nD τ).loc main_v0) = result (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 2).trans (final m c), h.2 c⟩)
    (θ_run_and (run_main m ρ) (unchanged m ρ))

end Cert.MlUpIdeal.Value

end
-- ==== Proof.MlUpRef.lean ====
/- What the reference of the mLSTM block's up projection leaves, and its run. -/
module

public import proofs.«01_k».proof.Proof.Gen.MlUpReferenceIdeal.Run
public import proofs.«01_k».proof.Proof.MlUpValue
public import Idealize.ShloMosaic.Lib.StackMember
public import Idealize.ShloMosaic.Lib.Claim

@[expose] public section

set_option maxRecDepth 16384

noncomputable section

namespace Cert.MlUpReferenceIdeal.Read

open Idealize Idealize.ShloMosaic Idealize.ShloMosaic.TcCoe Idealize.SL.Sem
open Cert.MlUpReferenceIdeal Cert.MlUpReferenceIdeal.Gen Cert.MlUpReferenceIdeal.Value
open scoped BigOperators

/-- A row's product with one column, as the reference takes it. -/
theorem dot_at (x : Vec Ideal S12288x1024 .bf16) (w : Vec Ideal S1024x4096 .f32) (r : Fin 12288) (j : Fin 4096) :
    Host.dotGeneral dot_S12288x1024_S1024x4096_S12288x4096_1_0_0_1_n_n none (φ₁ := .f32) (φ₂ := .f32) (extf (F := Ideal) .f32 x bitsLt_bf16_f32) w (ix2 r j)
      = Cert.MlUpIdeal.Value.entry x w r j := by
  refine (StackMember.dotGeneral_plain_apply (m := 12288) (k := 1024) (n := 4096) none _ _ r j).trans ?_
  unfold Cert.MlUpIdeal.Value.entry
  refine Finset.sum_congr rfl fun k _ => ?_
  exact congrArg₂ (· * ·) (congrArg x (by funext a; fin_cases a <;> rfl)) (congrArg w (by funext a; fin_cases a <;> rfl))

variable (m : (ℓ : Loc nD τ sig) → Buf (Elt Ideal) ℓ) (ρ : Dev nD → PrngReg)

/-- The reference's run: the kernel's result of its arguments, the arguments unchanged. -/
theorem run_value : θ_run (defs (F := Ideal)) (onTc (τ := τ) (main (F := Ideal))) ⟨m, fun _ => 0, ρ⟩ (fun r => ∀ c : Dev nD,
      r.2.mem ((c.tc : Thread nD τ).loc main_v1) = Cert.MlUpIdeal.Value.result (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run _ _ _).mono (fun r h c => ⟨(h c).1.trans ?_, (h c).2⟩) (run m ρ)
  funext i
  obtain ⟨r, j, rfl⟩ : ∃ (r : Fin 12288) (j : Fin 4096), i = ix2 r j := ⟨i 0, i 1, eq_ix2 (n0 := 12288) (n1 := 4096) i⟩
  exact dot_at _ _ r j

/-- The reference's run, with the counters. -/
theorem run_frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (run m ρ)

end Cert.MlUpReferenceIdeal.Read

end
-- ==== Proof.HyOutValue.lean ====
/- What the Hyena mixer's output projection leaves: every row's activations plus its sequence's gates times its products with the weight's columns. -/
module

public import proofs.«01_k».proof.Proof.Gen.HyOutIdeal.Frame
public import proofs.«01_k».proof.Proof.HyInValue

@[expose] public section

set_option maxRecDepth 16384

noncomputable section

namespace Cert.HyOutIdeal.Value

open Idealize Idealize.ShloMosaic Idealize.ShloMosaic.TcCoe Idealize.SL.Sem
open Cert.HyOutIdeal Cert.HyOutIdeal.Gen
open scoped BigOperators

/-- A row's product with one column of the weight. -/
def dot (h : Vec Ideal S12288x1024 .bf16) (w : Vec Ideal S1024x1024 .f32) (r : Fin 12288) (j : Fin 1024) : EReal :=
  ∑ k : Fin 1024, h (ix2 r k) * w (ix2 k j)

/-- Whose gates a row takes: the context tokens' first, then each latent sequence's. -/
def seq (r : Fin 12288) : Fin 3 := ⟨if r.val < 8192 then 0 else 1 + (r.val - 8192) / 2048, by split_ifs <;> omega⟩

/-- One entry of the result. -/
def entry (h : Vec Ideal S12288x1024 .bf16) (w : Vec Ideal S1024x1024 .f32) (x : Vec Ideal S12288x1024 .f32) (g : Vec Ideal S3x1x1024 .f32)
    (r : Fin 12288) (j : Fin 1024) : EReal :=
  x (ix2 r j) + g (ix3 (seq r) (0 : Fin 1) j) * dot h w r j

/-- The result. -/
def result (h : Vec Ideal S12288x1024 .bf16) (w : Vec Ideal S1024x1024 .f32) (x : Vec Ideal S12288x1024 .f32) (g : Vec Ideal S3x1x1024 .f32) :
    Vec Ideal S12288x1024 .f32 :=
  fun i => entry h w x g (i 0) (i 1)

theorem dot_at (a : Vec Ideal S1024x1024 .bf16) (b : Vec Ideal S1024x1024 .bf16) (p : Fin 1024) (q : Fin 1024) :
    matmul (F := Ideal) (φ₁ := .bf16) (φ₂ := .bf16) dot_S1024x1024_S1024x1024_S1024x1024_1_0_0_1_n_n none a b (constant S1024x1024 .f32 0x00000000#32) (ix2 p q) = ∑ k : Fin 1024, a (ix2 p k) * b (ix2 k q) := by
  refine (Ideal.matmul_plain_apply (M := 1024) (K := 1024) (N := 1024) (φ₁ := .bf16) (φ₂ := .bf16) none a b _ p q).trans ?_
  show Ideal.ofBits .f32 0x00000000#32 + _ = _
  rw [Cert.UpIdeal.Value.zero32, zero_add]
  refine Finset.sum_congr rfl fun k _ => ?_
  congr 2 <;> (funext x; fin_cases x <;> rfl)

/-- A row's gates over the rows of a block. -/
theorem gate_at (g : Vec Ideal S1x1x1024 .f32) (p : Fin 1024) (q : Fin 1024) :
    broadcastTo S1024x1024 (shapeCast S1x1024 g shapeCasts_S1x1x1024_S1x1024) broadcasts_S1x1024_S1024x1024 (ix2 p q) = g (ix3 (0 : Fin 1) (0 : Fin 1) q) := by
  pointwise

theorem pay2_at (a : Vec Ideal S1024x1024 .bf16) (b : Vec Ideal S1024x1024 .bf16) (x : Vec Ideal S1024x1024 .f32) (g : Vec Ideal S1x1x1024 .f32)
    (p : Fin 1024) (q : Fin 1024) :
    k0_pay2 a b x g (ix2 p q) = x (ix2 p q) + g (ix3 (0 : Fin 1) (0 : Fin 1) q) * ∑ k : Fin 1024, a (ix2 p k) * b (ix2 k q) := by
  rw [← dot_at, ← gate_at g p q]
  rfl

theorem pay1_at (v : Vec Ideal S1024x1024 .f32) (k : Fin 1024) (q : Fin 1024) : k0_pay1 v (ix2 k q) = v (ix2 k q) := by
  unfold k0_pay1
  pointwise

variable (m : (ℓ : Loc nD τ sig) → Buf (Elt Ideal) ℓ) (ρ : Dev nD → PrngReg)

theorem idx0 : ∀ t : Fin cfg0.N, win0_0.index t = ![t.val % 12, 0] := (by decide +kernel : ∀ t : Fin grid0.N, _)
theorem idx1 : ∀ t : Fin cfg0.N, win0_1.index t = ![0, t.val / 12] := (by decide +kernel : ∀ t : Fin grid0.N, _)
theorem idx2 : ∀ t : Fin cfg0.N, win0_2.index t = ![t.val % 12, t.val / 12] := (by decide +kernel : ∀ t : Fin grid0.N, _)
theorem idx3 : ∀ t : Fin cfg0.N, win0_3.index t = ![if t.val % 12 < 8 then 0 else 1 + (t.val % 12 - 8) / 2, 0, t.val / 12] := (by decide +kernel : ∀ t : Fin grid0.N, _)
theorem idx4 : ∀ t : Fin cfg0.N, win0_4.index t = ![t.val % 12, t.val / 12] := (by decide +kernel : ∀ t : Fin grid0.N, _)

theorem iblk0_at (c : Dev nD) (t : Fin cfg0.N) (p : Fin 1024) (k : Fin 1024) (r : Fin 12288) (hr : r.val = 1024 * (t.val % 12) + p.val) :
    iblk m c 0 t (ix2 p k) = m (c.tc.loc main_arg0) (ix2 r k) := by
  rw [← V_main_arg0 m c]
  blk_simp [iblk]
  refine congrArg _ ?_
  blk_ext [idx0, hr]

theorem iblk1_at (c : Dev nD) (t : Fin cfg0.N) (k : Fin 1024) (q : Fin 1024) (j : Fin 1024) (hj : j.val = 1024 * (t.val / 12) + q.val) :
    iblk m c 1 t (ix2 k q) = m (c.tc.loc main_arg1) (ix2 k j) := by
  rw [← V_main_arg1 m c]
  blk_simp [iblk]
  refine congrArg _ ?_
  blk_ext [idx1, hj]

theorem iblk2_at (c : Dev nD) (t : Fin cfg0.N) (p : Fin 1024) (q : Fin 1024) (r : Fin 12288) (j : Fin 1024)
    (hr : r.val = 1024 * (t.val % 12) + p.val) (hj : j.val = 1024 * (t.val / 12) + q.val) :
    iblk m c 2 t (ix2 p q) = m (c.tc.loc main_arg2) (ix2 r j) := by
  rw [← V_main_arg2 m c]
  blk_simp [iblk]
  refine congrArg _ ?_
  blk_ext [idx2, hr, hj]

theorem seq_at (t : Fin cfg0.N) (p : Fin 1024) (r : Fin 12288) (hr : r.val = 1024 * (t.val % 12) + p.val) :
    (seq r).val = if t.val % 12 < 8 then 0 else 1 + (t.val % 12 - 8) / 2 := by
  show (if r.val < 8192 then 0 else 1 + (r.val - 8192) / 2048) = _
  split_ifs <;> omega

theorem iblk3_at (c : Dev nD) (t : Fin cfg0.N) (p : Fin 1024) (q : Fin 1024) (r : Fin 12288) (j : Fin 1024)
    (hr : r.val = 1024 * (t.val % 12) + p.val) (hj : j.val = 1024 * (t.val / 12) + q.val) :
    iblk m c 3 t (ix3 (0 : Fin 1) (0 : Fin 1) q) = m (c.tc.loc main_arg3) (ix3 (seq r) (0 : Fin 1) j) := by
  have hs := seq_at t p r hr
  rw [← V_main_arg3 m c]
  blk_simp [iblk]
  refine congrArg _ ?_
  blk_ext [idx3, hs, hj]

/-- The scratch holds its column block's weights, cast. -/
theorem held (c : Dev nD) (t : Fin cfg0.N) :
    (outsAt0 m c t.val t.isLt).2 = k0_pay1 (iblk m c 1 ⟨12 * (t.val / 12), Pipeline.run_start_lt t⟩) :=
  Pipeline.eq_of_write_hold (fun n h => (outsAt0 m c n h).2) 12 (fun t => k0_pay1 (iblk m c 1 t))
    (fun t h => by
      show (outsAt0 m c t.val t.isLt).2 = k0_pay1 (iblk m c 1 t)
      rw [outsAt0_A m c t h]
      frame_out)
    (fun t h => by
      show (outsAt0 m c t.val t.isLt).2 = _
      rw [outsAt0_B m c t h]
      rfl) t

/-- What a point leaves: the payload of its blocks and of one that reads as its column block's weights. -/
theorem out_eq (c : Dev nD) (t : Fin cfg0.N) : ∃ (s : Fin cfg0.N) (hs : s.val / 12 = t.val / 12),
    (outsAt0 m c t.val t.isLt).1 = k0_pay2 (iblk m c 0 t) (k0_pay1 (iblk m c 1 s)) (iblk m c 2 t) (iblk m c 3 t) := by
  by_cases h : t.val % 12 = 0
  · refine ⟨t, rfl, ?_⟩
    rw [outsAt0_A m c t h]
    frame_out
  · have hp : (t.val - 1) / 12 = t.val / 12 := by omega
    refine ⟨⟨12 * ((t.val - 1) / 12), Pipeline.run_start_lt ⟨t.val - 1, Nat.lt_of_le_of_lt (Nat.sub_le _ _) t.isLt⟩⟩, ?_, ?_⟩
    · show 12 * ((t.val - 1) / 12) / 12 = _
      omega
    · rw [outsAt0_B m c t h]
      frame_out
      exact congrArg (fun b => k0_pay2 (iblk m c 0 t) b (iblk m c 2 t) (iblk m c 3 t)) (((Memref.isWhole_whole cc0_scratch0).read_unread _).trans
        (held m c ⟨t.val - 1, Nat.lt_of_le_of_lt (Nat.sub_le _ _) t.isLt⟩))

theorem out_at (c : Dev nD) (t : Fin cfg0.N) (p : Fin 1024) (q : Fin 1024) (r : Fin 12288) (j : Fin 1024)
    (hr : r.val = 1024 * (t.val % 12) + p.val) (hj : j.val = 1024 * (t.val / 12) + q.val) :
    (outsAt0 m c t.val t.isLt).1 (ix2 p q) = entry (m (c.tc.loc main_arg0)) (m (c.tc.loc main_arg1)) (m (c.tc.loc main_arg2)) (m (c.tc.loc main_arg3)) r j := by
  obtain ⟨s, hs, e⟩ := out_eq m c t
  rw [e]
  refine (pay2_at _ _ _ _ p q).trans ?_
  refine congrArg₂ (· + ·) (iblk2_at m c t p q r j hr hj) (congrArg₂ (· * ·) (iblk3_at m c t p q r j hr hj) ?_)
  exact Finset.sum_congr rfl fun k _ => congrArg₂ (· * ·) (iblk0_at m c t p k r hr) ((pay1_at _ k q).trans (iblk1_at m c s k q j (by rw [hs]; exact hj)))

theorem final (c : Dev nD) :
    (dats (F := Ideal) m 0 c).arrAt 4 cfg0.N = result (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4]
  obtain ⟨p, q, rfl⟩ : ∃ (p : Fin 1024) (q : Fin 1024), y = ix2 p q := ⟨y 0, y 1, eq_ix2 (n0 := 1024) (n1 := 1024) y⟩
  refine out_at m c t p q _ _ ?_ ?_
  · blk_simp [idx4]
    exact congrArg (· + p.val) (Nat.mul_comm _ _)
  · blk_simp [idx4]
    exact congrArg (· + q.val) (Nat.mul_comm _ _)

/-- The run: the result, the arguments unchanged. -/
theorem run : θ_run defs (onTc (τ := τ) (main (F := Ideal))) ⟨m, fun _ => 0, ρ⟩ (fun r => ∀ c : Dev nD,
      r.2.mem ((c.tc : Thread nD τ).loc main_v0) = result (m (c.tc.loc main_arg0)) (m (c.tc.loc main_arg1)) (m (c.tc.loc main_arg2)) (m (c.tc.loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final m c), h.2 c⟩)
    (θ_run_and (run_main m ρ) (unchanged m ρ))

end Cert.HyOutIdeal.Value

end
-- ==== Proof.HyOutRef.lean ====
/- What the reference of the Hyena mixer's output projection leaves, and its run. -/
module

public import proofs.«01_k».proof.Proof.Gen.HyOutReferenceIdeal.Run
public import proofs.«01_k».proof.Proof.HyOutValue
public import Idealize.ShloMosaic.Lib.StackMember
public import Idealize.ShloMosaic.Lib.Claim

@[expose] public section

set_option maxRecDepth 16384

noncomputable section

namespace Cert.HyOutReferenceIdeal.Read

open Idealize Idealize.ShloMosaic Idealize.ShloMosaic.TcCoe Idealize.SL.Sem
open Cert.HyOutReferenceIdeal Cert.HyOutReferenceIdeal.Gen Cert.HyOutReferenceIdeal.Value
open Cert.HyOutIdeal.Value (dot seq entry result)
open scoped BigOperators

/-- A row's product with one column, as the reference takes it. -/
theorem dot_at (h : Vec Ideal S12288x1024 .bf16) (w : Vec Ideal S1024x1024 .f32) (r : Fin 12288) (j : Fin 1024) :
    Host.dotGeneral dot_S12288x1024_S1024x1024_S12288x1024_1_0_0_1_n_n none (φ₁ := .f32) (φ₂ := .f32) (extf (F := Ideal) .f32 h bitsLt_bf16_f32) w (ix2 r j)
      = dot h w r j := by
  refine (StackMember.dotGeneral_plain_apply (m := 12288) (k := 1024) (n := 1024) none _ _ r j).trans ?_
  unfold dot
  refine Finset.sum_congr rfl fun k _ => ?_
  pointwise
  exact congrArg₂ (· * ·) (congrArg h (by funext a; fin_cases a <;> rfl)) rfl

/-- The context tokens' part. -/
def ctx (x y : Vec Ideal S12288x1024 .f32) (g : Vec Ideal S3x1x1024 .f32) : Vec Ideal S8192x1024 .f32 :=
  shapeCast _ (addf (F := Ideal) (φ := .f32) (shapeCast _ (extractStridedSlice S8192x1024 ![0, 0] x slices_S12288x1024_S8192x1024_0_0) shapeCasts_S8192x1024_S32x256x1024) (mulf (broadcastInDim S32x256x1024 ![0, 1, 2] bcast_S1x1x1024_S32x256x1024_0_1_2 (extractStridedSlice S1x1x1024 ![0, 0, 0] g slices_S3x1x1024_S1x1x1024_0_0_0)) (shapeCast _ (extractStridedSlice S8192x1024 ![0, 0] y slices_S12288x1024_S8192x1024_0_0) shapeCasts_S8192x1024_S32x256x1024))) shapeCasts_S32x256x1024_S8192x1024

/-- The latent tokens' part. -/
def lat (x y : Vec Ideal S12288x1024 .f32) (g : Vec Ideal S3x1x1024 .f32) : Vec Ideal S4096x1024 .f32 :=
  shapeCast _ (addf (F := Ideal) (φ := .f32) (shapeCast _ (extractStridedSlice S4096x1024 ![8192, 0] x slices_S12288x1024_S4096x1024_8192_0) shapeCasts_S4096x1024_S2x2048x1024) (mulf (broadcastInDim S2x2048x1024 ![0, 1, 2] bcast_S2x1x1024_S2x2048x1024_0_1_2 (extractStridedSlice S2x1x1024 ![1, 0, 0] g slices_S3x1x1024_S2x1x1024_1_0_0)) (shapeCast _ (extractStridedSlice S4096x1024 ![8192, 0] y slices_S12288x1024_S4096x1024_8192_0) shapeCasts_S4096x1024_S2x2048x1024))) shapeCasts_S2x2048x1024_S4096x1024

theorem ctx_at (x y : Vec Ideal S12288x1024 .f32) (g : Vec Ideal S3x1x1024 .f32) (p : Fin 8192) (j : Fin 1024) (r : Fin 12288) (hr : r.val = p.val) :
    ctx x y g (ix2 p j) = x (ix2 r j) + g (ix3 (seq r) (0 : Fin 1) j) * y (ix2 r j) := by
  unfold ctx
  pointwise
  have e : seq r = (0 : Fin 3) := Fin.ext (by show (if r.val < 8192 then 0 else 1 + (r.val - 8192) / 2048) = 0; rw [if_pos (by omega)])
  rw [e]
  obtain ⟨r, hl⟩ := r
  obtain rfl : r = p.val := hr
  rfl

theorem lat_at (x y : Vec Ideal S12288x1024 .f32) (g : Vec Ideal S3x1x1024 .f32) (p : Fin 4096) (j : Fin 1024) (r : Fin 12288) (hr : r.val = 8192 + p.val) :
    lat x y g (ix2 p j) = x (ix2 r j) + g (ix3 (seq r) (0 : Fin 1) j) * y (ix2 r j) := by
  unfold lat
  pointwise
  have e : seq r = (⟨1 + p.val / 2048, by omega⟩ : Fin 3) := Fin.ext (by
    show (if r.val < 8192 then 0 else 1 + (r.val - 8192) / 2048) = 1 + p.val / 2048
    rw [if_neg (by omega), hr, Nat.add_sub_cancel_left])
  rw [e]
  obtain ⟨r, hl⟩ := r
  obtain rfl : r = 8192 + p.val := hr
  rfl

/-- Equal products give equal entries. -/
theorem add_at (u v : EReal) {d e : EReal} (h : d = e) : u + v * d = u + v * e := by rw [h]

theorem both_at (x y : Vec Ideal S12288x1024 .f32) (g : Vec Ideal S3x1x1024 .f32) (r : Fin 12288) (j : Fin 1024) :
    concatenate S12288x1024 0 [⟨S8192x1024, ctx x y g⟩, ⟨S4096x1024, lat x y g⟩] concatenates_S8192x1024_S4096x1024_S12288x1024_d0 (ix2 r j)
      = x (ix2 r j) + g (ix3 (seq r) (0 : Fin 1) j) * y (ix2 r j) := by
  pointwise
  by_cases h : r.val < 8192
  · rw [dif_pos h]
    exact ctx_at x y g _ j r rfl
  · rw [dif_neg h]
    exact lat_at x y g _ j r (by show r.val = 8192 + (r.val - 8192); omega)

variable (m : (ℓ : Loc nD τ sig) → Buf (Elt Ideal) ℓ) (ρ : Dev nD → PrngReg)

/-- The reference's run: the kernel's result of its arguments, the arguments unchanged. -/
theorem run_value : θ_run (defs (F := Ideal)) (onTc (τ := τ) (main (F := Ideal))) ⟨m, fun _ => 0, ρ⟩ (fun r => ∀ c : Dev nD,
      r.2.mem ((c.tc : Thread nD τ).loc main_v20) = result (m (c.tc.loc main_arg0)) (m (c.tc.loc main_arg1)) (m (c.tc.loc main_arg2)) (m (c.tc.loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run _ _ _).mono (fun r h c => ⟨(h c).1.trans ?_, (h c).2⟩) (run m ρ)
  funext i
  obtain ⟨r, j, rfl⟩ : ∃ (r : Fin 12288) (j : Fin 1024), i = ix2 r j := ⟨i 0, i 1, eq_ix2 (n0 := 12288) (n1 := 1024) i⟩
  refine (both_at _ _ _ r j).trans ?_
  exact add_at _ _ (dot_at _ _ r j)

/-- The reference's run, with the counters. -/
theorem run_frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2, sem_eq_zero_of_no_sems (by decide) r.2⟩) (run m ρ)

end Cert.HyOutReferenceIdeal.Read

end
-- ==== Proof.MlDownValue.lean ====
/- What the mLSTM block's down projection leaves: every row's activations plus its sequence's gates times its products with the weight's columns. -/
module

public import proofs.«01_k».proof.Proof.Gen.MlDownIdeal.Frame
public import proofs.«01_k».proof.Proof.HyInValue

@[expose] public section

set_option maxRecDepth 16384

noncomputable section

namespace Cert.MlDownIdeal.Value

open Idealize Idealize.ShloMosaic Idealize.ShloMosaic.TcCoe Idealize.SL.Sem
open Cert.MlDownIdeal Cert.MlDownIdeal.Gen
open scoped BigOperators

/-- A row's product with one column of the weight. -/
def dot (h : Vec Ideal S12288x2048 .bf16) (w : Vec Ideal S2048x1024 .f32) (r : Fin 12288) (j : Fin 1024) : EReal :=
  ∑ k : Fin 2048, h (ix2 r k) * w (ix2 k j)

/-- Whose gates a row takes: the context tokens' first, then each latent sequence's. -/
def seq (r : Fin 12288) : Fin 3 := ⟨if r.val < 8192 then 0 else 1 + (r.val - 8192) / 2048, by split_ifs <;> omega⟩

/-- One entry of the result. -/
def entry (h : Vec Ideal S12288x2048 .bf16) (w : Vec Ideal S2048x1024 .f32) (x : Vec Ideal S12288x1024 .f32) (g : Vec Ideal S3x1x1024 .f32)
    (r : Fin 12288) (j : Fin 1024) : EReal :=
  x (ix2 r j) + g (ix3 (seq r) (0 : Fin 1) j) * dot h w r j

/-- The result. -/
def result (h : Vec Ideal S12288x2048 .bf16) (w : Vec Ideal S2048x1024 .f32) (x : Vec Ideal S12288x1024 .f32) (g : Vec Ideal S3x1x1024 .f32) :
    Vec Ideal S12288x1024 .f32 :=
  fun i => entry h w x g (i 0) (i 1)

theorem dot_at (a : Vec Ideal S1024x2048 .bf16) (b : Vec Ideal S2048x512 .bf16) (p : Fin 1024) (q : Fin 512) :
    matmul (F := Ideal) (φ₁ := .bf16) (φ₂ := .bf16) dot_S1024x2048_S2048x512_S1024x512_1_0_0_1_n_n none a b (constant S1024x512 .f32 0x00000000#32) (ix2 p q) = ∑ k : Fin 2048, a (ix2 p k) * b (ix2 k q) := by
  refine (Ideal.matmul_plain_apply (M := 1024) (K := 2048) (N := 512) (φ₁ := .bf16) (φ₂ := .bf16) none a b _ p q).trans ?_
  show Ideal.ofBits .f32 0x00000000#32 + _ = _
  rw [Cert.UpIdeal.Value.zero32, zero_add]
  refine Finset.sum_congr rfl fun k _ => ?_
  congr 2 <;> (funext x; fin_cases x <;> rfl)

/-- A row's gates over the rows of a block. -/
theorem gate_at (g : Vec Ideal S1x1x512 .f32) (p : Fin 1024) (q : Fin 512) :
    broadcastTo S1024x512 (shapeCast S1x512 g shapeCasts_S1x1x512_S1x512) broadcasts_S1x512_S1024x512 (ix2 p q) = g (ix3 (0 : Fin 1) (0 : Fin 1) q) := by
  pointwise

theorem pay2_at (a : Vec Ideal S1024x2048 .bf16) (b : Vec Ideal S2048x512 .bf16) (x : Vec Ideal S1024x512 .f32) (g : Vec Ideal S1x1x512 .f32)
    (p : Fin 1024) (q : Fin 512) :
    k0_pay2 a b x g (ix2 p q) = x (ix2 p q) + g (ix3 (0 : Fin 1) (0 : Fin 1) q) * ∑ k : Fin 2048, a (ix2 p k) * b (ix2 k q) := by
  rw [← dot_at, ← gate_at g p q]
  rfl

theorem pay1_at (v : Vec Ideal S2048x512 .f32) (k : Fin 2048) (q : Fin 512) : k0_pay1 v (ix2 k q) = v (ix2 k q) := by
  unfold k0_pay1
  pointwise

variable (m : (ℓ : Loc nD τ sig) → Buf (Elt Ideal) ℓ) (ρ : Dev nD → PrngReg)

theorem idx0 : ∀ t : Fin cfg0.N, win0_0.index t = ![t.val % 12, 0] := (by decide +kernel : ∀ t : Fin grid0.N, _)
theorem idx1 : ∀ t : Fin cfg0.N, win0_1.index t = ![0, t.val / 12] := (by decide +kernel : ∀ t : Fin grid0.N, _)
theorem idx2 : ∀ t : Fin cfg0.N, win0_2.index t = ![t.val % 12, t.val / 12] := (by decide +kernel : ∀ t : Fin grid0.N, _)
theorem idx3 : ∀ t : Fin cfg0.N, win0_3.index t = ![if t.val % 12 < 8 then 0 else 1 + (t.val % 12 - 8) / 2, 0, t.val / 12] := (by decide +kernel : ∀ t : Fin grid0.N, _)
theorem idx4 : ∀ t : Fin cfg0.N, win0_4.index t = ![t.val % 12, t.val / 12] := (by decide +kernel : ∀ t : Fin grid0.N, _)

theorem iblk0_at (c : Dev nD) (t : Fin cfg0.N) (p : Fin 1024) (k : Fin 2048) (r : Fin 12288) (hr : r.val = 1024 * (t.val % 12) + p.val) :
    iblk m c 0 t (ix2 p k) = m (c.tc.loc main_arg0) (ix2 r k) := by
  rw [← V_main_arg0 m c]
  blk_simp [iblk]
  refine congrArg _ ?_
  blk_ext [idx0, hr]

theorem iblk1_at (c : Dev nD) (t : Fin cfg0.N) (k : Fin 2048) (q : Fin 512) (j : Fin 1024) (hj : j.val = 512 * (t.val / 12) + q.val) :
    iblk m c 1 t (ix2 k q) = m (c.tc.loc main_arg1) (ix2 k j) := by
  rw [← V_main_arg1 m c]
  blk_simp [iblk]
  refine congrArg _ ?_
  blk_ext [idx1, hj]

theorem iblk2_at (c : Dev nD) (t : Fin cfg0.N) (p : Fin 1024) (q : Fin 512) (r : Fin 12288) (j : Fin 1024)
    (hr : r.val = 1024 * (t.val % 12) + p.val) (hj : j.val = 512 * (t.val / 12) + q.val) :
    iblk m c 2 t (ix2 p q) = m (c.tc.loc main_arg2) (ix2 r j) := by
  rw [← V_main_arg2 m c]
  blk_simp [iblk]
  refine congrArg _ ?_
  blk_ext [idx2, hr, hj]

theorem seq_at (t : Fin cfg0.N) (p : Fin 1024) (r : Fin 12288) (hr : r.val = 1024 * (t.val % 12) + p.val) :
    (seq r).val = if t.val % 12 < 8 then 0 else 1 + (t.val % 12 - 8) / 2 := by
  show (if r.val < 8192 then 0 else 1 + (r.val - 8192) / 2048) = _
  split_ifs <;> omega

theorem iblk3_at (c : Dev nD) (t : Fin cfg0.N) (p : Fin 1024) (q : Fin 512) (r : Fin 12288) (j : Fin 1024)
    (hr : r.val = 1024 * (t.val % 12) + p.val) (hj : j.val = 512 * (t.val / 12) + q.val) :
    iblk m c 3 t (ix3 (0 : Fin 1) (0 : Fin 1) q) = m (c.tc.loc main_arg3) (ix3 (seq r) (0 : Fin 1) j) := by
  have hs := seq_at t p r hr
  rw [← V_main_arg3 m c]
  blk_simp [iblk]
  refine congrArg _ ?_
  blk_ext [idx3, hs, hj]

/-- The scratch holds its column block's weights, cast. -/
theorem held (c : Dev nD) (t : Fin cfg0.N) :
    (outsAt0 m c t.val t.isLt).2 = k0_pay1 (iblk m c 1 ⟨12 * (t.val / 12), Pipeline.run_start_lt t⟩) :=
  Pipeline.eq_of_write_hold (fun n h => (outsAt0 m c n h).2) 12 (fun t => k0_pay1 (iblk m c 1 t))
    (fun t h => by
      show (outsAt0 m c t.val t.isLt).2 = k0_pay1 (iblk m c 1 t)
      rw [outsAt0_A m c t h]
      frame_out)
    (fun t h => by
      show (outsAt0 m c t.val t.isLt).2 = _
      rw [outsAt0_B m c t h]
      rfl) t

/-- What a point leaves: the payload of its blocks and of one that reads as its column block's weights. -/
theorem out_eq (c : Dev nD) (t : Fin cfg0.N) : ∃ (s : Fin cfg0.N) (hs : s.val / 12 = t.val / 12),
    (outsAt0 m c t.val t.isLt).1 = k0_pay2 (iblk m c 0 t) (k0_pay1 (iblk m c 1 s)) (iblk m c 2 t) (iblk m c 3 t) := by
  by_cases h : t.val % 12 = 0
  · refine ⟨t, rfl, ?_⟩
    rw [outsAt0_A m c t h]
    frame_out
  · have hp : (t.val - 1) / 12 = t.val / 12 := by omega
    refine ⟨⟨12 * ((t.val - 1) / 12), Pipeline.run_start_lt ⟨t.val - 1, Nat.lt_of_le_of_lt (Nat.sub_le _ _) t.isLt⟩⟩, ?_, ?_⟩
    · show 12 * ((t.val - 1) / 12) / 12 = _
      omega
    · rw [outsAt0_B m c t h]
      frame_out
      exact congrArg (fun b => k0_pay2 (iblk m c 0 t) b (iblk m c 2 t) (iblk m c 3 t)) (((Memref.isWhole_whole cc0_scratch0).read_unread _).trans
        (held m c ⟨t.val - 1, Nat.lt_of_le_of_lt (Nat.sub_le _ _) t.isLt⟩))

theorem out_at (c : Dev nD) (t : Fin cfg0.N) (p : Fin 1024) (q : Fin 512) (r : Fin 12288) (j : Fin 1024)
    (hr : r.val = 1024 * (t.val % 12) + p.val) (hj : j.val = 512 * (t.val / 12) + q.val) :
    (outsAt0 m c t.val t.isLt).1 (ix2 p q) = entry (m (c.tc.loc main_arg0)) (m (c.tc.loc main_arg1)) (m (c.tc.loc main_arg2)) (m (c.tc.loc main_arg3)) r j := by
  obtain ⟨s, hs, e⟩ := out_eq m c t
  rw [e]
  refine (pay2_at _ _ _ _ p q).trans ?_
  refine congrArg₂ (· + ·) (iblk2_at m c t p q r j hr hj) (congrArg₂ (· * ·) (iblk3_at m c t p q r j hr hj) ?_)
  exact Finset.sum_congr rfl fun k _ => congrArg₂ (· * ·) (iblk0_at m c t p k r hr) ((pay1_at _ k q).trans (iblk1_at m c s k q j (by rw [hs]; exact hj)))

theorem final (c : Dev nD) :
    (dats (F := Ideal) m 0 c).arrAt 4 cfg0.N = result (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4]
  obtain ⟨p, q, rfl⟩ : ∃ (p : Fin 1024) (q : Fin 512), y = ix2 p q := ⟨y 0, y 1, eq_ix2 (n0 := 1024) (n1 := 512) y⟩
  refine out_at m c t p q _ _ ?_ ?_
  · blk_simp [idx4]
    exact congrArg (· + p.val) (Nat.mul_comm _ _)
  · blk_simp [idx4]
    exact congrArg (· + q.val) (Nat.mul_comm _ _)

/-- The run: the result, the arguments unchanged. -/
theorem run : θ_run defs (onTc (τ := τ) (main (F := Ideal))) ⟨m, fun _ => 0, ρ⟩ (fun r => ∀ c : Dev nD,
      r.2.mem ((c.tc : Thread nD τ).loc main_v0) = result (m (c.tc.loc main_arg0)) (m (c.tc.loc main_arg1)) (m (c.tc.loc main_arg2)) (m (c.tc.loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final m c), h.2 c⟩)
    (θ_run_and (run_main m ρ) (unchanged m ρ))

end Cert.MlDownIdeal.Value

end
-- ==== Proof.MlDownRef.lean ====
/- What the reference of the mLSTM block's down projection leaves, and its run. -/
module

public import proofs.«01_k».proof.Proof.Gen.MlDownReferenceIdeal.Run
public import proofs.«01_k».proof.Proof.MlDownValue
public import Idealize.ShloMosaic.Lib.StackMember
public import Idealize.ShloMosaic.Lib.Claim

@[expose] public section

set_option maxRecDepth 16384

noncomputable section

namespace Cert.MlDownReferenceIdeal.Read

open Idealize Idealize.ShloMosaic Idealize.ShloMosaic.TcCoe Idealize.SL.Sem
open Cert.MlDownReferenceIdeal Cert.MlDownReferenceIdeal.Gen Cert.MlDownReferenceIdeal.Value
open Cert.MlDownIdeal.Value (dot seq entry result)
open scoped BigOperators

/-- A row's product with one column, as the reference takes it. -/
theorem dot_at (h : Vec Ideal S12288x2048 .bf16) (w : Vec Ideal S2048x1024 .f32) (r : Fin 12288) (j : Fin 1024) :
    Host.dotGeneral dot_S12288x2048_S2048x1024_S12288x1024_1_0_0_1_n_n none (φ₁ := .f32) (φ₂ := .f32) (extf (F := Ideal) .f32 h bitsLt_bf16_f32) w (ix2 r j)
      = dot h w r j := by
  refine (StackMember.dotGeneral_plain_apply (m := 12288) (k := 2048) (n := 1024) none _ _ r j).trans ?_
  unfold dot
  refine Finset.sum_congr rfl fun k _ => ?_
  pointwise
  exact congrArg₂ (· * ·) (congrArg h (by funext a; fin_cases a <;> rfl)) rfl

/-- The context tokens' part. -/
def ctx (x y : Vec Ideal S12288x1024 .f32) (g : Vec Ideal S3x1x1024 .f32) : Vec Ideal S8192x1024 .f32 :=
  shapeCast _ (addf (F := Ideal) (φ := .f32) (shapeCast _ (extractStridedSlice S8192x1024 ![0, 0] x slices_S12288x1024_S8192x1024_0_0) shapeCasts_S8192x1024_S32x256x1024) (mulf (broadcastInDim S32x256x1024 ![0, 1, 2] bcast_S1x1x1024_S32x256x1024_0_1_2 (extractStridedSlice S1x1x1024 ![0, 0, 0] g slices_S3x1x1024_S1x1x1024_0_0_0)) (shapeCast _ (extractStridedSlice S8192x1024 ![0, 0] y slices_S12288x1024_S8192x1024_0_0) shapeCasts_S8192x1024_S32x256x1024))) shapeCasts_S32x256x1024_S8192x1024

/-- The latent tokens' part. -/
def lat (x y : Vec Ideal S12288x1024 .f32) (g : Vec Ideal S3x1x1024 .f32) : Vec Ideal S4096x1024 .f32 :=
  shapeCast _ (addf (F := Ideal) (φ := .f32) (shapeCast _ (extractStridedSlice S4096x1024 ![8192, 0] x slices_S12288x1024_S4096x1024_8192_0) shapeCasts_S4096x1024_S2x2048x1024) (mulf (broadcastInDim S2x2048x1024 ![0, 1, 2] bcast_S2x1x1024_S2x2048x1024_0_1_2 (extractStridedSlice S2x1x1024 ![1, 0, 0] g slices_S3x1x1024_S2x1x1024_1_0_0)) (shapeCast _ (extractStridedSlice S4096x1024 ![8192, 0] y slices_S12288x1024_S4096x1024_8192_0) shapeCasts_S4096x1024_S2x2048x1024))) shapeCasts_S2x2048x1024_S4096x1024

theorem ctx_at (x y : Vec Ideal S12288x1024 .f32) (g : Vec Ideal S3x1x1024 .f32) (p : Fin 8192) (j : Fin 1024) (r : Fin 12288) (hr : r.val = p.val) :
    ctx x y g (ix2 p j) = x (ix2 r j) + g (ix3 (seq r) (0 : Fin 1) j) * y (ix2 r j) := by
  unfold ctx
  pointwise
  have e : seq r = (0 : Fin 3) := Fin.ext (by show (if r.val < 8192 then 0 else 1 + (r.val - 8192) / 2048) = 0; rw [if_pos (by omega)])
  rw [e]
  obtain ⟨r, hl⟩ := r
  obtain rfl : r = p.val := hr
  rfl

theorem lat_at (x y : Vec Ideal S12288x1024 .f32) (g : Vec Ideal S3x1x1024 .f32) (p : Fin 4096) (j : Fin 1024) (r : Fin 12288) (hr : r.val = 8192 + p.val) :
    lat x y g (ix2 p j) = x (ix2 r j) + g (ix3 (seq r) (0 : Fin 1) j) * y (ix2 r j) := by
  unfold lat
  pointwise
  have e : seq r = (⟨1 + p.val / 2048, by omega⟩ : Fin 3) := Fin.ext (by
    show (if r.val < 8192 then 0 else 1 + (r.val - 8192) / 2048) = 1 + p.val / 2048
    rw [if_neg (by omega), hr, Nat.add_sub_cancel_left])
  rw [e]
  obtain ⟨r, hl⟩ := r
  obtain rfl : r = 8192 + p.val := hr
  rfl

/-- Equal products give equal entries. -/
theorem add_at (u v : EReal) {d e : EReal} (h : d = e) : u + v * d = u + v * e := by rw [h]

theorem both_at (x y : Vec Ideal S12288x1024 .f32) (g : Vec Ideal S3x1x1024 .f32) (r : Fin 12288) (j : Fin 1024) :
    concatenate S12288x1024 0 [⟨S8192x1024, ctx x y g⟩, ⟨S4096x1024, lat x y g⟩] concatenates_S8192x1024_S4096x1024_S12288x1024_d0 (ix2 r j)
      = x (ix2 r j) + g (ix3 (seq r) (0 : Fin 1) j) * y (ix2 r j) := by
  pointwise
  by_cases h : r.val < 8192
  · rw [dif_pos h]
    exact ctx_at x y g _ j r rfl
  · rw [dif_neg h]
    exact lat_at x y g _ j r (by show r.val = 8192 + (r.val - 8192); omega)

variable (m : (ℓ : Loc nD τ sig) → Buf (Elt Ideal) ℓ) (ρ : Dev nD → PrngReg)

/-- The reference's run: the kernel's result of its arguments, the arguments unchanged. -/
theorem run_value : θ_run (defs (F := Ideal)) (onTc (τ := τ) (main (F := Ideal))) ⟨m, fun _ => 0, ρ⟩ (fun r => ∀ c : Dev nD,
      r.2.mem ((c.tc : Thread nD τ).loc main_v20) = result (m (c.tc.loc main_arg0)) (m (c.tc.loc main_arg1)) (m (c.tc.loc main_arg2)) (m (c.tc.loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run _ _ _).mono (fun r h c => ⟨(h c).1.trans ?_, (h c).2⟩) (run m ρ)
  funext i
  obtain ⟨r, j, rfl⟩ : ∃ (r : Fin 12288) (j : Fin 1024), i = ix2 r j := ⟨i 0, i 1, eq_ix2 (n0 := 12288) (n1 := 1024) i⟩
  refine (both_at _ _ _ r j).trans ?_
  exact add_at _ _ (dot_at _ _ r j)

/-- The reference's run, with the counters. -/
theorem run_frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2, sem_eq_zero_of_no_sems (by decide) r.2⟩) (run m ρ)

end Cert.MlDownReferenceIdeal.Read

end
-- ==== Proof.DownWords.lean ====
/- The down projection's program at words and its idealization are one text: the same body, the same pipeline, the same main. So the
   run proved over any floats serves both. -/
module

public import proofs.«01_k».proof.Defs
public import proofs.«01_k».proof.Proof.Gen.Down
public import proofs.«01_k».proof.Proof.DownRun

@[expose] public section

set_option maxRecDepth 16384

noncomputable section

namespace Cert.Down.Words

open Idealize.ShloMosaic Idealize.SL.Sem

local instance : Cert.Down.Facts := Cert.Down.Gen.facts
local instance : Cert.DownIdeal.Facts := Cert.DownIdeal.Gen.facts

/-- The kernel's body: the two texts compared statement by statement. -/
theorem body_eq : @Cert.Down.cc0_moe_down Bits _ _ = @Cert.DownIdeal.cc0_moe_down Bits _ _ := by
  funext i a ha b hb c hc d hd e he
  unfold Cert.Down.cc0_moe_down Cert.DownIdeal.cc0_moe_down
  refine congrArg₂ Prog.bind rfl (funext fun v0 => ?_)
  dsimp only
  refine dite_congr rfl (fun _ => ?_) (fun _ => ?_)
  · refine congrArg₂ Prog.bind rfl (funext fun _ => congrArg₂ Prog.bind rfl (funext fun _ => ?_))
    refine ite_congr rfl (fun _ => ?_) (fun _ => rfl)
    refine congrArg₂ Prog.bind rfl (funext fun _ => congrArg₂ Prog.bind rfl (funext fun _ => ?_))
    refine congrArg₂ Prog.bind rfl (funext fun _ => congrArg₂ Prog.bind rfl (funext fun _ => ?_))
    exact congrArg₂ Prog.bind rfl (funext fun _ => congrArg₂ Prog.bind rfl (funext fun _ => congrArg₂ Prog.bind rfl (funext fun _ => rfl)))
  · refine congrArg₂ Prog.bind rfl (funext fun _ => ?_)
    refine dite_congr rfl (fun _ => ?_) (fun _ => rfl)
    exact congrArg₂ Prog.bind rfl (funext fun _ => congrArg₂ Prog.bind rfl (funext fun _ => rfl))

theorem labels_eq : @Cert.Down.defs₀ Bits _ _ = @Cert.DownIdeal.defs₀ Bits _ _ := by
  unfold Cert.Down.defs₀ Cert.DownIdeal.defs₀
  refine congrArg (Defs.onTc (nD := Cert.DownIdeal.nD) (τ := Cert.DownIdeal.τ) (sig := Cert.DownIdeal.sig) (Val := Elt Bits) (Λ := Cert.DownIdeal.Λ₀)) ?_
  funext l x
  match l, x with
  | 0, (t, s) => exact congrFun (congrFun (congrFun (congrFun (congrFun (congrFun (congrFun (congrFun (congrFun (congrFun (congrFun body_eq _) _) _) _) _) _) _) _) _) _) _
  | ⟨_ + 1, h⟩, _ => exact absurd h (Nat.not_lt.2 (Nat.le_add_left _ _))

theorem defs_eq : @Cert.Down.defs Bits _ _ = @Cert.DownIdeal.defs Bits _ _ :=
  congrArg (Pipeline.defs (@Cert.DownIdeal.pcfgs Bits _ _)) labels_eq

/-- The frame of the program at words, from the run over any floats. -/
theorem frame (m : (ℓ : Loc Cert.Down.nD Cert.Down.τ Cert.Down.sig) → Buf (Elt Bits) ℓ) (ρ : Dev Cert.Down.nD → PrngReg)
    (hok : Cert.DownIdeal.Run.Ok (F := Bits) m) :
    θ_run (Cert.Down.defs (F := Bits)) (onTc (τ := Cert.Down.τ) (Cert.Down.main (F := Bits))) ⟨m, fun _ => 0, ρ⟩ (fun r => (∀ c : Dev Cert.Down.nD,
      r.2.mem (c.tc.loc Cert.Down.main_arg0) = m (c.tc.loc Cert.Down.main_arg0)
      ∧ r.2.mem (c.tc.loc Cert.Down.main_arg1) = m (c.tc.loc Cert.Down.main_arg1)
      ∧ r.2.mem (c.tc.loc Cert.Down.main_arg2) = m (c.tc.loc Cert.Down.main_arg2)) ∧ r.2.sem = fun _ => 0) := by
  rw [defs_eq]
  exact Cert.DownIdeal.Run.frame (F := Bits) m ρ hok

end Cert.Down.Words

end
-- ==== Proof.RefRun.lean ====
/- The reference's run stated over one trip's step of the carried state: a copy of the generated module of that
   purpose, in which the field of the collected outputs is closed by the trip's value itself. -/
module

public import proofs.«01_k».proof.Proof.Gen.ReferenceIdeal.Run
public import proofs.«01_k».proof.Proof.Gen.ReferenceIdeal.Step

@[expose] public section

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v68_7) = s.main_v68_7
  f_8 : V0 (Proc.devRef .tc main_v68_8) = s.main_v68_8
  f_9 : V0 (Proc.devRef .tc main_v68_9) = s.main_v68_9
  f_10 : V0 (Proc.devRef .tc main_v68_10) = s.main_v68_10
  f_0 : V0 (Proc.devRef .tc main_v68_0) = s.main_v68_0
  f_1 : V0 (Proc.devRef .tc main_v68_1) = s.main_v68_1
  f_2 : V0 (Proc.devRef .tc main_v68_2) = s.main_v68_2
  f_3 : V0 (Proc.devRef .tc main_v68_3) = s.main_v68_3
  f_4 : V0 (Proc.devRef .tc main_v68_4) = s.main_v68_4
  n_6 : V0 (Proc.devRef .tc main_v68_6) = constantI S_ 32 (BitVec.ofNat 32 j)
  k_5 : V0 (Proc.devRef .tc main_v68_5) = Cert.ReferenceIdeal.Step.K_main_v66 (F := F)

variable {V0 s j}

set_option maxRecDepth 8192 in
theorem al_0 (h : Holds V0 s j) : (constantI S_ 32 0#32 : (Proc.devRef .tc main_while0b_call6_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call6_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call6_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call6_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x64x8x64x256 (V0 (Proc.devRef .tc main_v68_0)) (fun k => (((![V0 (Proc.devRef .tc main_v68_6), constantI S_ 32 0#32, constantI S_ 32 0#32, constantI S_ 32 0#32, constantI S_ 32 0#32] : Fin 5 → (⟨S_, .i32⟩ : BufTy).Contents (Elt F))) k (Shape.Idx.first h_S_)).toInt) sliceFits_S4x64x8x64x256_S1x64x8x64x256 : (Proc.devRef .tc main_while0b_call6_v0 : DevRef τ sig).ty.Contents (Elt F)) = Cert.ReferenceIdeal.Step.b4 j s := by
  unfold Cert.ReferenceIdeal.Step.b4
  rw [← al_0 h, ← al_1 h, ← al_2 h, ← al_3 h, h.f_0, h.n_6]
  try rfl
set_option maxRecDepth 8192 in
theorem al_5 (h : Holds V0 s j) : (res_main_while0b_v96 V0 : (Proc.devRef .tc main_while0b_v96 : DevRef τ sig).ty.Contents (Elt F)) = Cert.ReferenceIdeal.Step.b5 j s := by
  unfold res_main_while0b_v96 Cert.ReferenceIdeal.Step.b5
  rw [← al_4 h]
  try rfl
set_option maxRecDepth 8192 in
theorem al_6 (h : Holds V0 s j) : (constantI S_ 32 0#32 : (Proc.devRef .tc main_while0b_call7_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call7_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call7_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call7_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x64x8x64x256 (V0 (Proc.devRef .tc main_v68_1)) (fun k => (((![V0 (Proc.devRef .tc main_v68_6), constantI S_ 32 0#32, constantI S_ 32 0#32, constantI S_ 32 0#32, constantI S_ 32 0#32] : Fin 5 → (⟨S_, .i32⟩ : BufTy).Contents (Elt F))) k (Shape.Idx.first h_S_)).toInt) sliceFits_S4x64x8x64x256_S1x64x8x64x256 : (Proc.devRef .tc main_while0b_call7_v0 : DevRef τ sig).ty.Contents (Elt F)) = Cert.ReferenceIdeal.Step.b10 j s := by
  unfold Cert.ReferenceIdeal.Step.b10
  rw [← al_6 h, ← al_7 h, ← al_8 h, ← al_9 h, h.f_1, h.n_6]
  try rfl
set_option maxRecDepth 8192 in
theorem al_11 (h : Holds V0 s j) : (res_main_while0b_v97 V0 : (Proc.devRef .tc main_while0b_v97 : DevRef τ sig).ty.Contents (Elt F)) = Cert.ReferenceIdeal.Step.b11 j s := by
  unfold res_main_while0b_v97 Cert.ReferenceIdeal.Step.b11
  rw [← al_10 h]
  try rfl
set_option maxRecDepth 8192 in
theorem al_12 (h : Holds V0 s j) : (constantI S_ 32 0#32 : (Proc.devRef .tc main_while0b_call8_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call8_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call8_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call8_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x64x8x64x256 (V0 (Proc.devRef .tc main_v68_2)) (fun k => (((![V0 (Proc.devRef .tc main_v68_6), constantI S_ 32 0#32, constantI S_ 32 0#32, constantI S_ 32 0#32, constantI S_ 32 0#32] : Fin 5 → (⟨S_, .i32⟩ : BufTy).Contents (Elt F))) k (Shape.Idx.first h_S_)).toInt) sliceFits_S4x64x8x64x256_S1x64x8x64x256 : (Proc.devRef .tc main_while0b_call8_v0 : DevRef τ sig).ty.Contents (Elt F)) = Cert.ReferenceIdeal.Step.b16 j s := by
  unfold Cert.ReferenceIdeal.Step.b16
  rw [← al_12 h, ← al_13 h, ← al_14 h, ← al_15 h, h.f_2, h.n_6]
  try rfl
set_option maxRecDepth 8192 in
theorem al_17 (h : Holds V0 s j) : (res_main_while0b_v98 V0 : (Proc.devRef .tc main_while0b_v98 : DevRef τ sig).ty.Contents (Elt F)) = Cert.ReferenceIdeal.Step.b17 j s := by
  unfold res_main_while0b_v98 Cert.ReferenceIdeal.Step.b17
  rw [← al_16 h]
  try rfl
set_option maxRecDepth 8192 in
theorem al_18 (h : Holds V0 s j) : (constantI S_ 32 0#32 : (Proc.devRef .tc main_while0b_call9_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call9_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call9_c_1 : DevRef τ sig).ty.Contents (Elt F)) = Cert.ReferenceIdeal.Step.b20 j s := by
  unfold Cert.ReferenceIdeal.Step.b20
  rfl
set_option maxRecDepth 8192 in
theorem al_21 (h : Holds V0 s j) : (Host.dynamicSlice S1x64x8x64 (V0 (Proc.devRef .tc main_v68_3)) (fun k => (((![V0 (Proc.devRef .tc main_v68_6), constantI S_ 32 0#32, constantI S_ 32 0#32, constantI S_ 32 0#32] : Fin 4 → (⟨S_, .i32⟩ : BufTy).Contents (Elt F))) k (Shape.Idx.first h_S_)).toInt) sliceFits_S4x64x8x64_S1x64x8x64 : (Proc.devRef .tc main_while0b_call9_v0 : DevRef τ sig).ty.Contents (Elt F)) = Cert.ReferenceIdeal.Step.b21 j s := by
  unfold Cert.ReferenceIdeal.Step.b21
  rw [← al_18 h, ← al_19 h, ← al_20 h, h.f_3, h.n_6]
  try rfl
set_option maxRecDepth 8192 in
theorem al_22 (h : Holds V0 s j) : (res_main_while0b_v99 V0 : (Proc.devRef .tc main_while0b_v99 : DevRef τ sig).ty.Contents (Elt F)) = Cert.ReferenceIdeal.Step.b22 j s := by
  unfold res_main_while0b_v99 Cert.ReferenceIdeal.Step.b22
  rw [← al_21 h]
  try rfl
set_option maxRecDepth 8192 in
theorem al_23 (h : Holds V0 s j) : (constantI S_ 32 0#32 : (Proc.devRef .tc main_while0b_call10_c : DevRef τ sig).ty.Contents (Elt F)) = Cert.ReferenceIdeal.Step.b23 j s := by
  unfold Cert.ReferenceIdeal.Step.b23
  rfl
set_option maxRecDepth 8192 in
theorem al_24 (h : Holds V0 s j) : (constantI S_ 32 0#32 : (Proc.devRef .tc main_while0b_call10_c_0 : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call10_c_1 : DevRef τ sig).ty.Contents (Elt F)) = Cert.ReferenceIdeal.Step.b25 j s := by
  unfold Cert.ReferenceIdeal.Step.b25
  rfl
set_option maxRecDepth 8192 in
theorem al_26 (h : Holds V0 s j) : (Host.dynamicSlice S1x64x8x64 (V0 (Proc.devRef .tc main_v68_4)) (fun k => (((![V0 (Proc.devRef .tc main_v68_6), constantI S_ 32 0#32, constantI S_ 32 0#32, constantI S_ 32 0#32] : Fin 4 → (⟨S_, .i32⟩ : BufTy).Contents (Elt F))) k (Shape.Idx.first h_S_)).toInt) sliceFits_S4x64x8x64_S1x64x8x64 : (Proc.devRef .tc main_while0b_call10_v0 : DevRef τ sig).ty.Contents (Elt F)) = Cert.ReferenceIdeal.Step.b26 j s := by
  unfold Cert.ReferenceIdeal.Step.b26
  rw [← al_23 h, ← al_24 h, ← al_25 h, h.f_4, h.n_6]
  try rfl
set_option maxRecDepth 8192 in
theorem al_27 (h : Holds V0 s j) : (shapeCast S64x8x64 (Host.dynamicSlice S1x64x8x64 (V0 (Proc.devRef .tc main_v68_4)) (fun k => (((![V0 (Proc.devRef .tc main_v68_6), constantI S_ 32 0#32, constantI S_ 32 0#32, constantI S_ 32 0#32] : Fin 4 → (⟨S_, .i32⟩ : BufTy).Contents (Elt F))) k (Shape.Idx.first h_S_)).toInt) sliceFits_S4x64x8x64_S1x64x8x64) shapeCasts_S1x64x8x64_S64x8x64 : (Proc.devRef .tc main_while0b_v100 : DevRef τ sig).ty.Contents (Elt F)) = Cert.ReferenceIdeal.Step.b27 j s := by
  unfold Cert.ReferenceIdeal.Step.b27
  rw [← al_26 h]
  try rfl
set_option maxRecDepth 8192 in
theorem al_28 (h : Holds V0 s j) : (constant S_ .f32 0x00000000#32 : (Proc.devRef .tc main_while0b_call11_call0_cst : DevRef τ sig).ty.Contents (Elt F)) = Cert.ReferenceIdeal.Step.b28 j s := by
  unfold Cert.ReferenceIdeal.Step.b28
  rfl
set_option maxRecDepth 8192 in
theorem al_29 (h : Holds V0 s j) : (broadcastInDim S_ ![] bcast_S_S_ (constant S_ .f32 0x00000000#32) : (Proc.devRef .tc main_while0b_call11_call0_v0 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (res_main_while0b_v101 V0 : (Proc.devRef .tc main_while0b_v101 : DevRef τ sig).ty.Contents (Elt F)) = Cert.ReferenceIdeal.Step.b30 j s := by
  unfold res_main_while0b_v101 Cert.ReferenceIdeal.Step.b30
  rw [← al_27 h, ← al_29 h]
  try rfl
set_option maxRecDepth 8192 in
theorem al_31 (h : Holds V0 s j) : (broadcastInDim S64x8x1 ![0, 1] bcast_S64x8_S64x8x1_0_1 (V0 (Proc.devRef .tc main_v68_9)) : (Proc.devRef .tc main_while0b_v102 : DevRef τ sig).ty.Contents (Elt F)) = Cert.ReferenceIdeal.Step.b31 j s := by
  unfold Cert.ReferenceIdeal.Step.b31
  rw [h.f_9]
  try rfl
set_option maxRecDepth 8192 in
theorem al_32 (h : Holds V0 s j) : (broadcastInDim S64x8x64 ![0, 1, 2] bcast_S64x8x1_S64x8x64_0_1_2 (broadcastInDim S64x8x1 ![0, 1] bcast_S64x8_S64x8x1_0_1 (V0 (Proc.devRef .tc main_v68_9))) : (Proc.devRef .tc main_while0b_v103 : DevRef τ sig).ty.Contents (Elt F)) = Cert.ReferenceIdeal.Step.b32 j s := by
  unfold Cert.ReferenceIdeal.Step.b32
  rw [← al_31 h]
  try rfl
set_option maxRecDepth 8192 in
theorem al_33 (h : Holds V0 s j) : (res_main_while0b_v104 V0 : (Proc.devRef .tc main_while0b_v104 : DevRef τ sig).ty.Contents (Elt F)) = Cert.ReferenceIdeal.Step.b33 j s := by
  unfold res_main_while0b_v104 Cert.ReferenceIdeal.Step.b33
  rw [← al_30 h, ← al_32 h]
  try rfl
set_option maxRecDepth 8192 in
theorem al_34 (h : Holds V0 s j) : (broadcastInDim S64x8x64x1 ![0, 1, 2] bcast_S64x8x64_S64x8x64x1_0_1_2 (res_main_while0b_v101 V0) : (Proc.devRef .tc main_while0b_v105 : DevRef τ sig).ty.Contents (Elt F)) = Cert.ReferenceIdeal.Step.b34 j s := by
  unfold Cert.ReferenceIdeal.Step.b34
  rw [← al_30 h]
  try rfl
set_option maxRecDepth 8192 in
theorem al_35 (h : Holds V0 s j) : (broadcastInDim S64x8x1x64 ![0, 1, 3] bcast_S64x8x64_S64x8x1x64_0_1_3 (res_main_while0b_v101 V0) : (Proc.devRef .tc main_while0b_v106 : DevRef τ sig).ty.Contents (Elt F)) = Cert.ReferenceIdeal.Step.b35 j s := by
  unfold Cert.ReferenceIdeal.Step.b35
  rw [← al_30 h]
  try rfl
set_option maxRecDepth 8192 in
theorem al_36 (h : Holds V0 s j) : (broadcastInDim S64x8x64x64 ![0, 1, 2, 3] bcast_S64x8x64x1_S64x8x64x64_0_1_2_3 (broadcastInDim S64x8x64x1 ![0, 1, 2] bcast_S64x8x64_S64x8x64x1_0_1_2 (res_main_while0b_v101 V0)) : (Proc.devRef .tc main_while0b_v107 : DevRef τ sig).ty.Contents (Elt F)) = Cert.ReferenceIdeal.Step.b36 j s := by
  unfold Cert.ReferenceIdeal.Step.b36
  rw [← al_34 h]
  try rfl
set_option maxRecDepth 8192 in
theorem al_37 (h : Holds V0 s j) : (broadcastInDim S64x8x64x64 ![0, 1, 2, 3] bcast_S64x8x1x64_S64x8x64x64_0_1_2_3 (broadcastInDim S64x8x1x64 ![0, 1, 3] bcast_S64x8x64_S64x8x1x64_0_1_3 (res_main_while0b_v101 V0)) : (Proc.devRef .tc main_while0b_v108 : DevRef τ sig).ty.Contents (Elt F)) = Cert.ReferenceIdeal.Step.b37 j s := by
  unfold Cert.ReferenceIdeal.Step.b37
  rw [← al_35 h]
  try rfl
set_option maxRecDepth 8192 in
theorem al_38 (h : Holds V0 s j) : (subf (broadcastInDim S64x8x64x64 ![0, 1, 2, 3] bcast_S64x8x64x1_S64x8x64x64_0_1_2_3 (broadcastInDim S64x8x64x1 ![0, 1, 2] bcast_S64x8x64_S64x8x64x1_0_1_2 (res_main_while0b_v101 V0))) (broadcastInDim S64x8x64x64 ![0, 1, 2, 3] bcast_S64x8x1x64_S64x8x64x64_0_1_2_3 (broadcastInDim S64x8x1x64 ![0, 1, 3] bcast_S64x8x64_S64x8x1x64_0_1_3 (res_main_while0b_v101 V0))) : (Proc.devRef .tc main_while0b_v109 : DevRef τ sig).ty.Contents (Elt F)) = Cert.ReferenceIdeal.Step.b38 j s := by
  unfold Cert.ReferenceIdeal.Step.b38
  rw [← al_36 h, ← al_37 h]
  try rfl
set_option maxRecDepth 8192 in
theorem al_39 (h : Holds V0 s j) : (broadcastInDim S64x8x1x64 ![0, 1, 3] bcast_S64x8x64_S64x8x1x64_0_1_3 (res_main_while0b_v99 V0) : (Proc.devRef .tc main_while0b_v110 : DevRef τ sig).ty.Contents (Elt F)) = Cert.ReferenceIdeal.Step.b39 j s := by
  unfold Cert.ReferenceIdeal.Step.b39
  rw [← al_22 h]
  try rfl
set_option maxRecDepth 8192 in
theorem al_40 (h : Holds V0 s j) : (broadcastInDim S64x8x64x64 ![0, 1, 2, 3] bcast_S64x8x1x64_S64x8x64x64_0_1_2_3 (broadcastInDim S64x8x1x64 ![0, 1, 3] bcast_S64x8x64_S64x8x1x64_0_1_3 (res_main_while0b_v99 V0)) : (Proc.devRef .tc main_while0b_v111 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (addf (subf (broadcastInDim S64x8x64x64 ![0, 1, 2, 3] bcast_S64x8x64x1_S64x8x64x64_0_1_2_3 (broadcastInDim S64x8x64x1 ![0, 1, 2] bcast_S64x8x64_S64x8x64x1_0_1_2 (res_main_while0b_v101 V0))) (broadcastInDim S64x8x64x64 ![0, 1, 2, 3] bcast_S64x8x1x64_S64x8x64x64_0_1_2_3 (broadcastInDim S64x8x1x64 ![0, 1, 3] bcast_S64x8x64_S64x8x1x64_0_1_3 (res_main_while0b_v101 V0)))) (broadcastInDim S64x8x64x64 ![0, 1, 2, 3] bcast_S64x8x1x64_S64x8x64x64_0_1_2_3 (broadcastInDim S64x8x1x64 ![0, 1, 3] bcast_S64x8x64_S64x8x1x64_0_1_3 (res_main_while0b_v99 V0))) : (Proc.devRef .tc main_while0b_v112 : DevRef τ sig).ty.Contents (Elt F)) = Cert.ReferenceIdeal.Step.b41 j s := by
  unfold Cert.ReferenceIdeal.Step.b41
  rw [← al_38 h, ← al_40 h]
  try rfl
set_option maxRecDepth 8192 in
theorem al_42 (h : Holds V0 s j) : (constant S_ .f32 0xFF800000#32 : (Proc.devRef .tc main_while0b_cst_15 : DevRef τ sig).ty.Contents (Elt F)) = Cert.ReferenceIdeal.Step.b42 j s := by
  unfold Cert.ReferenceIdeal.Step.b42
  rfl
set_option maxRecDepth 8192 in
theorem al_43 (h : Holds V0 s j) : (id (constant S_ .f32 0xFF800000#32) : (Proc.devRef .tc main_while0b_call12_v0 : DevRef τ sig).ty.Contents (Elt F)) = Cert.ReferenceIdeal.Step.b43 j s := by
  unfold Cert.ReferenceIdeal.Step.b43
  rw [← al_42 h]
  try rfl
set_option maxRecDepth 8192 in
theorem al_44 (h : Holds V0 s j) : (broadcastInDim S64x8x64x64 ![2, 3] bcast_S64x64_S64x8x64x64_2_3 (V0 (Proc.devRef .tc main_v68_5)) : (Proc.devRef .tc main_while0b_call12_v1 : DevRef τ sig).ty.Contents (Elt F)) = Cert.ReferenceIdeal.Step.b44 j s := by
  unfold Cert.ReferenceIdeal.Step.b44
  rw [h.k_5]
  try rfl
set_option maxRecDepth 8192 in
theorem al_45 (h : Holds V0 s j) : (broadcastInDim S64x8x64x64 ![] bcast_S_S64x8x64x64 (id (constant S_ .f32 0xFF800000#32)) : (Proc.devRef .tc main_while0b_call12_v2 : DevRef τ sig).ty.Contents (Elt F)) = Cert.ReferenceIdeal.Step.b45 j s := by
  unfold Cert.ReferenceIdeal.Step.b45
  rw [← al_43 h]
  try rfl
set_option maxRecDepth 8192 in
theorem al_46 (h : Holds V0 s j) : (res_main_while0b_v113 V0 : (Proc.devRef .tc main_while0b_v113 : DevRef τ sig).ty.Contents (Elt F)) = Cert.ReferenceIdeal.Step.b46 j s := by
  unfold res_main_while0b_v113 Cert.ReferenceIdeal.Step.b46
  rw [← al_44 h, ← al_41 h, ← al_45 h]
  try rfl
set_option maxRecDepth 8192 in
theorem al_47 (h : Holds V0 s j) : (constant S_ .f32 0xFF800000#32 : (Proc.devRef .tc main_while0b_cst_16 : DevRef τ sig).ty.Contents (Elt F)) = Cert.ReferenceIdeal.Step.b47 j s := by
  unfold Cert.ReferenceIdeal.Step.b47
  rfl
set_option maxRecDepth 8192 in
theorem al_48 (h : Holds V0 s j) : (Host.reduce FloatOps.maximumf (res_main_while0b_v113 V0) (constant S_ .f32 0xFF800000#32) reducesTo_S64x8x64x64_S64x8x64_d3 h_S_ : (Proc.devRef .tc main_while0b_v114 : DevRef τ sig).ty.Contents (Elt F)) = Cert.ReferenceIdeal.Step.b48 j s := by
  unfold Cert.ReferenceIdeal.Step.b48
  rw [← al_46 h, ← al_47 h]
  try rfl
set_option maxRecDepth 8192 in
theorem al_49 (h : Holds V0 s j) : (res_main_while0b_v115 V0 : (Proc.devRef .tc main_while0b_v115 : DevRef τ sig).ty.Contents (Elt F)) = Cert.ReferenceIdeal.Step.b49 j s := by
  unfold res_main_while0b_v115 Cert.ReferenceIdeal.Step.b49
  rw [← al_33 h, ← al_48 h]
  try rfl
set_option maxRecDepth 8192 in
theorem al_50 (h : Holds V0 s j) : (subf (res_main_while0b_v104 V0) (res_main_while0b_v115 V0) : (Proc.devRef .tc main_while0b_v116 : DevRef τ sig).ty.Contents (Elt F)) = Cert.ReferenceIdeal.Step.b50 j s := by
  unfold Cert.ReferenceIdeal.Step.b50
  rw [← al_33 h, ← al_49 h]
  try rfl
set_option maxRecDepth 8192 in
theorem al_51 (h : Holds V0 s j) : (res_main_while0b_v117 V0 : (Proc.devRef .tc main_while0b_v117 : DevRef τ sig).ty.Contents (Elt F)) = Cert.ReferenceIdeal.Step.b51 j s := by
  unfold res_main_while0b_v117 Cert.ReferenceIdeal.Step.b51
  rw [← al_50 h]
  try rfl
set_option maxRecDepth 8192 in
theorem al_52 (h : Holds V0 s j) : (Host.dotGeneral dot_S64x8x64x256_S64x8x64x256_S64x8x64x64_3_3_2_2_01_01 none (res_main_while0b_v96 V0) (res_main_while0b_v97 V0) : (Proc.devRef .tc main_while0b_v118 : DevRef τ sig).ty.Contents (Elt F)) = Cert.ReferenceIdeal.Step.b52 j s := by
  unfold Cert.ReferenceIdeal.Step.b52
  rw [← al_5 h, ← al_11 h]
  try rfl
set_option maxRecDepth 8192 in
theorem al_53 (h : Holds V0 s j) : (broadcastInDim S64x8x64x1 ![0, 1, 2] bcast_S64x8x64_S64x8x64x1_0_1_2 (res_main_while0b_v115 V0) : (Proc.devRef .tc main_while0b_v119 : DevRef τ sig).ty.Contents (Elt F)) = Cert.ReferenceIdeal.Step.b53 j s := by
  unfold Cert.ReferenceIdeal.Step.b53
  rw [← al_49 h]
  try rfl
set_option maxRecDepth 8192 in
theorem al_54 (h : Holds V0 s j) : (broadcastInDim S64x8x64x64 ![0, 1, 2, 3] bcast_S64x8x64x1_S64x8x64x64_0_1_2_3 (broadcastInDim S64x8x64x1 ![0, 1, 2] bcast_S64x8x64_S64x8x64x1_0_1_2 (res_main_while0b_v115 V0)) : (Proc.devRef .tc main_while0b_v120 : DevRef τ sig).ty.Contents (Elt F)) = Cert.ReferenceIdeal.Step.b54 j s := by
  unfold Cert.ReferenceIdeal.Step.b54
  rw [← al_53 h]
  try rfl
set_option maxRecDepth 8192 in
theorem al_55 (h : Holds V0 s j) : (subf (res_main_while0b_v113 V0) (broadcastInDim S64x8x64x64 ![0, 1, 2, 3] bcast_S64x8x64x1_S64x8x64x64_0_1_2_3 (broadcastInDim S64x8x64x1 ![0, 1, 2] bcast_S64x8x64_S64x8x64x1_0_1_2 (res_main_while0b_v115 V0))) : (Proc.devRef .tc main_while0b_v121 : DevRef τ sig).ty.Contents (Elt F)) = Cert.ReferenceIdeal.Step.b55 j s := by
  unfold Cert.ReferenceIdeal.Step.b55
  rw [← al_46 h, ← al_54 h]
  try rfl
set_option maxRecDepth 8192 in
theorem al_56 (h : Holds V0 s j) : (Host.exp (subf (res_main_while0b_v113 V0) (broadcastInDim S64x8x64x64 ![0, 1, 2, 3] bcast_S64x8x64x1_S64x8x64x64_0_1_2_3 (broadcastInDim S64x8x64x1 ![0, 1, 2] bcast_S64x8x64_S64x8x64x1_0_1_2 (res_main_while0b_v115 V0)))) : (Proc.devRef .tc main_while0b_v122 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (res_main_while0b_v123 V0 : (Proc.devRef .tc main_while0b_v123 : DevRef τ sig).ty.Contents (Elt F)) = Cert.ReferenceIdeal.Step.b57 j s := by
  unfold res_main_while0b_v123 Cert.ReferenceIdeal.Step.b57
  rw [← al_52 h, ← al_56 h]
  try rfl
set_option maxRecDepth 8192 in
theorem al_58 (h : Holds V0 s j) : (broadcastInDim S64x8x64x1 ![0, 1, 2] bcast_S64x8x64_S64x8x64x1_0_1_2 (res_main_while0b_v117 V0) : (Proc.devRef .tc main_while0b_v124 : DevRef τ sig).ty.Contents (Elt F)) = Cert.ReferenceIdeal.Step.b58 j s := by
  unfold Cert.ReferenceIdeal.Step.b58
  rw [← al_51 h]
  try rfl
set_option maxRecDepth 8192 in
theorem al_59 (h : Holds V0 s j) : (Host.dotGeneral dot_S64x8x64x256_S64x8x256x256_S64x8x64x256_3_2_2_3_01_01 none (res_main_while0b_v96 V0) (V0 (Proc.devRef .tc main_v68_7)) : (Proc.devRef .tc main_while0b_v125 : DevRef τ sig).ty.Contents (Elt F)) = Cert.ReferenceIdeal.Step.b59 j s := by
  unfold Cert.ReferenceIdeal.Step.b59
  rw [← al_5 h, h.f_7]
  try rfl
set_option maxRecDepth 8192 in
theorem al_60 (h : Holds V0 s j) : (broadcastInDim S64x8x64x256 ![0, 1, 2, 3] bcast_S64x8x64x1_S64x8x64x256_0_1_2_3 (broadcastInDim S64x8x64x1 ![0, 1, 2] bcast_S64x8x64_S64x8x64x1_0_1_2 (res_main_while0b_v117 V0)) : (Proc.devRef .tc main_while0b_v126 : DevRef τ sig).ty.Contents (Elt F)) = Cert.ReferenceIdeal.Step.b60 j s := by
  unfold Cert.ReferenceIdeal.Step.b60
  rw [← al_58 h]
  try rfl
set_option maxRecDepth 8192 in
theorem al_61 (h : Holds V0 s j) : (mulf (broadcastInDim S64x8x64x256 ![0, 1, 2, 3] bcast_S64x8x64x1_S64x8x64x256_0_1_2_3 (broadcastInDim S64x8x64x1 ![0, 1, 2] bcast_S64x8x64_S64x8x64x1_0_1_2 (res_main_while0b_v117 V0))) (Host.dotGeneral dot_S64x8x64x256_S64x8x256x256_S64x8x64x256_3_2_2_3_01_01 none (res_main_while0b_v96 V0) (V0 (Proc.devRef .tc main_v68_7))) : (Proc.devRef .tc main_while0b_v127 : DevRef τ sig).ty.Contents (Elt F)) = Cert.ReferenceIdeal.Step.b61 j s := by
  unfold Cert.ReferenceIdeal.Step.b61
  rw [← al_60 h, ← al_59 h]
  try rfl
set_option maxRecDepth 8192 in
theorem al_62 (h : Holds V0 s j) : (Host.dotGeneral dot_S64x8x64x64_S64x8x64x256_S64x8x64x256_3_2_2_3_01_01 none (res_main_while0b_v123 V0) (res_main_while0b_v98 V0) : (Proc.devRef .tc main_while0b_v128 : DevRef τ sig).ty.Contents (Elt F)) = Cert.ReferenceIdeal.Step.b62 j s := by
  unfold Cert.ReferenceIdeal.Step.b62
  rw [← al_57 h, ← al_17 h]
  try rfl
set_option maxRecDepth 8192 in
theorem al_63 (h : Holds V0 s j) : (addf (mulf (broadcastInDim S64x8x64x256 ![0, 1, 2, 3] bcast_S64x8x64x1_S64x8x64x256_0_1_2_3 (broadcastInDim S64x8x64x1 ![0, 1, 2] bcast_S64x8x64_S64x8x64x1_0_1_2 (res_main_while0b_v117 V0))) (Host.dotGeneral dot_S64x8x64x256_S64x8x256x256_S64x8x64x256_3_2_2_3_01_01 none (res_main_while0b_v96 V0) (V0 (Proc.devRef .tc main_v68_7)))) (Host.dotGeneral dot_S64x8x64x64_S64x8x64x256_S64x8x64x256_3_2_2_3_01_01 none (res_main_while0b_v123 V0) (res_main_while0b_v98 V0)) : (Proc.devRef .tc main_while0b_v129 : DevRef τ sig).ty.Contents (Elt F)) = Cert.ReferenceIdeal.Step.b63 j s := by
  unfold Cert.ReferenceIdeal.Step.b63
  rw [← al_61 h, ← al_62 h]
  try rfl
set_option maxRecDepth 8192 in
theorem al_64 (h : Holds V0 s j) : (Host.dotGeneral dot_S64x8x64x256_S64x8x256_S64x8x64_3_2_2_n_01_01 none (res_main_while0b_v96 V0) (V0 (Proc.devRef .tc main_v68_8)) : (Proc.devRef .tc main_while0b_v130 : DevRef τ sig).ty.Contents (Elt F)) = Cert.ReferenceIdeal.Step.b64 j s := by
  unfold Cert.ReferenceIdeal.Step.b64
  rw [← al_5 h, h.f_8]
  try rfl
set_option maxRecDepth 8192 in
theorem al_65 (h : Holds V0 s j) : (mulf (res_main_while0b_v117 V0) (Host.dotGeneral dot_S64x8x64x256_S64x8x256_S64x8x64_3_2_2_n_01_01 none (res_main_while0b_v96 V0) (V0 (Proc.devRef .tc main_v68_8))) : (Proc.devRef .tc main_while0b_v131 : DevRef τ sig).ty.Contents (Elt F)) = Cert.ReferenceIdeal.Step.b65 j s := by
  unfold Cert.ReferenceIdeal.Step.b65
  rw [← al_51 h, ← al_64 h]
  try rfl
set_option maxRecDepth 8192 in
theorem al_66 (h : Holds V0 s j) : (constant S_ .f32 0x00000000#32 : (Proc.devRef .tc main_while0b_cst_17 : DevRef τ sig).ty.Contents (Elt F)) = Cert.ReferenceIdeal.Step.b66 j s := by
  unfold Cert.ReferenceIdeal.Step.b66
  rfl
set_option maxRecDepth 8192 in
theorem al_67 (h : Holds V0 s j) : (Host.reduceAdd (res_main_while0b_v123 V0) (constant S_ .f32 0x00000000#32) reducesTo_S64x8x64x64_S64x8x64_d3 h_S_ : (Proc.devRef .tc main_while0b_v132 : DevRef τ sig).ty.Contents (Elt F)) = Cert.ReferenceIdeal.Step.b67 j s := by
  unfold Cert.ReferenceIdeal.Step.b67
  rw [← al_57 h, ← al_66 h]
  try rfl
set_option maxRecDepth 8192 in
theorem al_68 (h : Holds V0 s j) : (addf (mulf (res_main_while0b_v117 V0) (Host.dotGeneral dot_S64x8x64x256_S64x8x256_S64x8x64_3_2_2_n_01_01 none (res_main_while0b_v96 V0) (V0 (Proc.devRef .tc main_v68_8)))) (Host.reduceAdd (res_main_while0b_v123 V0) (constant S_ .f32 0x00000000#32) reducesTo_S64x8x64x64_S64x8x64_d3 h_S_) : (Proc.devRef .tc main_while0b_v133 : DevRef τ sig).ty.Contents (Elt F)) = Cert.ReferenceIdeal.Step.b68 j s := by
  unfold Cert.ReferenceIdeal.Step.b68
  rw [← al_65 h, ← al_67 h]
  try rfl
set_option maxRecDepth 8192 in
theorem al_69 (h : Holds V0 s j) : (Host.absf (addf (mulf (res_main_while0b_v117 V0) (Host.dotGeneral dot_S64x8x64x256_S64x8x256_S64x8x64_3_2_2_n_01_01 none (res_main_while0b_v96 V0) (V0 (Proc.devRef .tc main_v68_8)))) (Host.reduceAdd (res_main_while0b_v123 V0) (constant S_ .f32 0x00000000#32) reducesTo_S64x8x64x64_S64x8x64_d3 h_S_)) : (Proc.devRef .tc main_while0b_v134 : DevRef τ sig).ty.Contents (Elt F)) = Cert.ReferenceIdeal.Step.b69 j s := by
  unfold Cert.ReferenceIdeal.Step.b69
  rw [← al_68 h]
  try rfl
set_option maxRecDepth 8192 in
theorem al_70 (h : Holds V0 s j) : (Host.negf (res_main_while0b_v115 V0) : (Proc.devRef .tc main_while0b_v135 : DevRef τ sig).ty.Contents (Elt F)) = Cert.ReferenceIdeal.Step.b70 j s := by
  unfold Cert.ReferenceIdeal.Step.b70
  rw [← al_49 h]
  try rfl
set_option maxRecDepth 8192 in
theorem al_71 (h : Holds V0 s j) : (Host.exp (Host.negf (res_main_while0b_v115 V0)) : (Proc.devRef .tc main_while0b_v136 : DevRef τ sig).ty.Contents (Elt F)) = Cert.ReferenceIdeal.Step.b71 j s := by
  unfold Cert.ReferenceIdeal.Step.b71
  rw [← al_70 h]
  try rfl
set_option maxRecDepth 8192 in
theorem al_72 (h : Holds V0 s j) : (maximumf (Host.absf (addf (mulf (res_main_while0b_v117 V0) (Host.dotGeneral dot_S64x8x64x256_S64x8x256_S64x8x64_3_2_2_n_01_01 none (res_main_while0b_v96 V0) (V0 (Proc.devRef .tc main_v68_8)))) (Host.reduceAdd (res_main_while0b_v123 V0) (constant S_ .f32 0x00000000#32) reducesTo_S64x8x64x64_S64x8x64_d3 h_S_))) (Host.exp (Host.negf (res_main_while0b_v115 V0))) : (Proc.devRef .tc main_while0b_v137 : DevRef τ sig).ty.Contents (Elt F)) = Cert.ReferenceIdeal.Step.b72 j s := by
  unfold Cert.ReferenceIdeal.Step.b72
  rw [← al_69 h, ← al_71 h]
  try rfl
set_option maxRecDepth 8192 in
theorem al_73 (h : Holds V0 s j) : (broadcastInDim S64x8x64x1 ![0, 1, 2] bcast_S64x8x64_S64x8x64x1_0_1_2 (maximumf (Host.absf (addf (mulf (res_main_while0b_v117 V0) (Host.dotGeneral dot_S64x8x64x256_S64x8x256_S64x8x64_3_2_2_n_01_01 none (res_main_while0b_v96 V0) (V0 (Proc.devRef .tc main_v68_8)))) (Host.reduceAdd (res_main_while0b_v123 V0) (constant S_ .f32 0x00000000#32) reducesTo_S64x8x64x64_S64x8x64_d3 h_S_))) (Host.exp (Host.negf (res_main_while0b_v115 V0)))) : (Proc.devRef .tc main_while0b_v138 : DevRef τ sig).ty.Contents (Elt F)) = Cert.ReferenceIdeal.Step.b73 j s := by
  unfold Cert.ReferenceIdeal.Step.b73
  rw [← al_72 h]
  try rfl
set_option maxRecDepth 8192 in
theorem al_74 (h : Holds V0 s j) : (broadcastInDim S64x8x64x256 ![0, 1, 2, 3] bcast_S64x8x64x1_S64x8x64x256_0_1_2_3 (broadcastInDim S64x8x64x1 ![0, 1, 2] bcast_S64x8x64_S64x8x64x1_0_1_2 (maximumf (Host.absf (addf (mulf (res_main_while0b_v117 V0) (Host.dotGeneral dot_S64x8x64x256_S64x8x256_S64x8x64_3_2_2_n_01_01 none (res_main_while0b_v96 V0) (V0 (Proc.devRef .tc main_v68_8)))) (Host.reduceAdd (res_main_while0b_v123 V0) (constant S_ .f32 0x00000000#32) reducesTo_S64x8x64x64_S64x8x64_d3 h_S_))) (Host.exp (Host.negf (res_main_while0b_v115 V0))))) : (Proc.devRef .tc main_while0b_v139 : DevRef τ sig).ty.Contents (Elt F)) = Cert.ReferenceIdeal.Step.b74 j s := by
  unfold Cert.ReferenceIdeal.Step.b74
  rw [← al_73 h]
  try rfl
set_option maxRecDepth 8192 in
theorem al_75 (h : Holds V0 s j) : (Host.divf (addf (mulf (broadcastInDim S64x8x64x256 ![0, 1, 2, 3] bcast_S64x8x64x1_S64x8x64x256_0_1_2_3 (broadcastInDim S64x8x64x1 ![0, 1, 2] bcast_S64x8x64_S64x8x64x1_0_1_2 (res_main_while0b_v117 V0))) (Host.dotGeneral dot_S64x8x64x256_S64x8x256x256_S64x8x64x256_3_2_2_3_01_01 none (res_main_while0b_v96 V0) (V0 (Proc.devRef .tc main_v68_7)))) (Host.dotGeneral dot_S64x8x64x64_S64x8x64x256_S64x8x64x256_3_2_2_3_01_01 none (res_main_while0b_v123 V0) (res_main_while0b_v98 V0))) (broadcastInDim S64x8x64x256 ![0, 1, 2, 3] bcast_S64x8x64x1_S64x8x64x256_0_1_2_3 (broadcastInDim S64x8x64x1 ![0, 1, 2] bcast_S64x8x64_S64x8x64x1_0_1_2 (maximumf (Host.absf (addf (mulf (res_main_while0b_v117 V0) (Host.dotGeneral dot_S64x8x64x256_S64x8x256_S64x8x64_3_2_2_n_01_01 none (res_main_while0b_v96 V0) (V0 (Proc.devRef .tc main_v68_8)))) (Host.reduceAdd (res_main_while0b_v123 V0) (constant S_ .f32 0x00000000#32) reducesTo_S64x8x64x64_S64x8x64_d3 h_S_))) (Host.exp (Host.negf (res_main_while0b_v115 V0)))))) : (Proc.devRef .tc main_while0b_v140 : DevRef τ sig).ty.Contents (Elt F)) = Cert.ReferenceIdeal.Step.b75 j s := by
  unfold Cert.ReferenceIdeal.Step.b75
  rw [← al_63 h, ← al_74 h]
  try rfl
set_option maxRecDepth 8192 in
theorem al_76 (h : Holds V0 s j) : (extractStridedSlice S64x8x1 ![0, 0, 63] (res_main_while0b_v101 V0) slices_S64x8x64_S64x8x1_0_0_63 : (Proc.devRef .tc main_while0b_v141 : DevRef τ sig).ty.Contents (Elt F)) = Cert.ReferenceIdeal.Step.b76 j s := by
  unfold Cert.ReferenceIdeal.Step.b76
  rw [← al_30 h]
  try rfl
set_option maxRecDepth 8192 in
theorem al_77 (h : Holds V0 s j) : (res_main_while0b_v142 V0 : (Proc.devRef .tc main_while0b_v142 : DevRef τ sig).ty.Contents (Elt F)) = Cert.ReferenceIdeal.Step.b77 j s := by
  unfold res_main_while0b_v142 Cert.ReferenceIdeal.Step.b77
  rw [← al_76 h]
  try rfl
set_option maxRecDepth 8192 in
theorem al_78 (h : Holds V0 s j) : (broadcastInDim S64x8x1 ![0, 1] bcast_S64x8_S64x8x1_0_1 (res_main_while0b_v142 V0) : (Proc.devRef .tc main_while0b_v143 : DevRef τ sig).ty.Contents (Elt F)) = Cert.ReferenceIdeal.Step.b78 j s := by
  unfold Cert.ReferenceIdeal.Step.b78
  rw [← al_77 h]
  try rfl
set_option maxRecDepth 8192 in
theorem al_79 (h : Holds V0 s j) : (broadcastInDim S64x8x64 ![0, 1, 2] bcast_S64x8x1_S64x8x64_0_1_2 (broadcastInDim S64x8x1 ![0, 1] bcast_S64x8_S64x8x1_0_1 (res_main_while0b_v142 V0)) : (Proc.devRef .tc main_while0b_v144 : DevRef τ sig).ty.Contents (Elt F)) = Cert.ReferenceIdeal.Step.b79 j s := by
  unfold Cert.ReferenceIdeal.Step.b79
  rw [← al_78 h]
  try rfl
set_option maxRecDepth 8192 in
theorem al_80 (h : Holds V0 s j) : (subf (broadcastInDim S64x8x64 ![0, 1, 2] bcast_S64x8x1_S64x8x64_0_1_2 (broadcastInDim S64x8x1 ![0, 1] bcast_S64x8_S64x8x1_0_1 (res_main_while0b_v142 V0))) (res_main_while0b_v101 V0) : (Proc.devRef .tc main_while0b_v145 : DevRef τ sig).ty.Contents (Elt F)) = Cert.ReferenceIdeal.Step.b80 j s := by
  unfold Cert.ReferenceIdeal.Step.b80
  rw [← al_79 h, ← al_30 h]
  try rfl
set_option maxRecDepth 8192 in
theorem al_81 (h : Holds V0 s j) : (res_main_while0b_v146 V0 : (Proc.devRef .tc main_while0b_v146 : DevRef τ sig).ty.Contents (Elt F)) = Cert.ReferenceIdeal.Step.b81 j s := by
  unfold res_main_while0b_v146 Cert.ReferenceIdeal.Step.b81
  rw [← al_80 h, ← al_22 h]
  try rfl
set_option maxRecDepth 8192 in
theorem al_82 (h : Holds V0 s j) : (addf (res_main_while0b_v142 V0) (V0 (Proc.devRef .tc main_v68_9)) : (Proc.devRef .tc main_while0b_v147 : DevRef τ sig).ty.Contents (Elt F)) = Cert.ReferenceIdeal.Step.b82 j s := by
  unfold Cert.ReferenceIdeal.Step.b82
  rw [← al_77 h, h.f_9]
  try rfl
set_option maxRecDepth 8192 in
theorem al_83 (h : Holds V0 s j) : (constant S_ .f32 0xFF800000#32 : (Proc.devRef .tc main_while0b_cst_18 : DevRef τ sig).ty.Contents (Elt F)) = Cert.ReferenceIdeal.Step.b83 j s := by
  unfold Cert.ReferenceIdeal.Step.b83
  rfl
set_option maxRecDepth 8192 in
theorem al_84 (h : Holds V0 s j) : (Host.reduce FloatOps.maximumf (res_main_while0b_v146 V0) (constant S_ .f32 0xFF800000#32) reducesTo_S64x8x64_S64x8_d2 h_S_ : (Proc.devRef .tc main_while0b_v148 : DevRef τ sig).ty.Contents (Elt F)) = Cert.ReferenceIdeal.Step.b84 j s := by
  unfold Cert.ReferenceIdeal.Step.b84
  rw [← al_81 h, ← al_83 h]
  try rfl
set_option maxRecDepth 8192 in
theorem al_85 (h : Holds V0 s j) : (res_main_while0b_v149 V0 : (Proc.devRef .tc main_while0b_v149 : DevRef τ sig).ty.Contents (Elt F)) = Cert.ReferenceIdeal.Step.b85 j s := by
  unfold res_main_while0b_v149 Cert.ReferenceIdeal.Step.b85
  rw [← al_82 h, ← al_84 h]
  try rfl
set_option maxRecDepth 8192 in
theorem al_86 (h : Holds V0 s j) : (addf (res_main_while0b_v142 V0) (V0 (Proc.devRef .tc main_v68_9)) : (Proc.devRef .tc main_while0b_v150 : DevRef τ sig).ty.Contents (Elt F)) = Cert.ReferenceIdeal.Step.b86 j s := by
  unfold Cert.ReferenceIdeal.Step.b86
  rw [← al_77 h, h.f_9]
  try rfl
set_option maxRecDepth 8192 in
theorem al_87 (h : Holds V0 s j) : (subf (addf (res_main_while0b_v142 V0) (V0 (Proc.devRef .tc main_v68_9))) (res_main_while0b_v149 V0) : (Proc.devRef .tc main_while0b_v151 : DevRef τ sig).ty.Contents (Elt F)) = Cert.ReferenceIdeal.Step.b87 j s := by
  unfold Cert.ReferenceIdeal.Step.b87
  rw [← al_86 h, ← al_85 h]
  try rfl
set_option maxRecDepth 8192 in
theorem al_88 (h : Holds V0 s j) : (res_main_while0b_v152 V0 : (Proc.devRef .tc main_while0b_v152 : DevRef τ sig).ty.Contents (Elt F)) = Cert.ReferenceIdeal.Step.b88 j s := by
  unfold res_main_while0b_v152 Cert.ReferenceIdeal.Step.b88
  rw [← al_87 h]
  try rfl
set_option maxRecDepth 8192 in
theorem al_89 (h : Holds V0 s j) : (broadcastInDim S64x8x1 ![0, 1] bcast_S64x8_S64x8x1_0_1 (res_main_while0b_v149 V0) : (Proc.devRef .tc main_while0b_v153 : DevRef τ sig).ty.Contents (Elt F)) = Cert.ReferenceIdeal.Step.b89 j s := by
  unfold Cert.ReferenceIdeal.Step.b89
  rw [← al_85 h]
  try rfl
set_option maxRecDepth 8192 in
theorem al_90 (h : Holds V0 s j) : (broadcastInDim S64x8x64 ![0, 1, 2] bcast_S64x8x1_S64x8x64_0_1_2 (broadcastInDim S64x8x1 ![0, 1] bcast_S64x8_S64x8x1_0_1 (res_main_while0b_v149 V0)) : (Proc.devRef .tc main_while0b_v154 : DevRef τ sig).ty.Contents (Elt F)) = Cert.ReferenceIdeal.Step.b90 j s := by
  unfold Cert.ReferenceIdeal.Step.b90
  rw [← al_89 h]
  try rfl
set_option maxRecDepth 8192 in
theorem al_91 (h : Holds V0 s j) : (subf (res_main_while0b_v146 V0) (broadcastInDim S64x8x64 ![0, 1, 2] bcast_S64x8x1_S64x8x64_0_1_2 (broadcastInDim S64x8x1 ![0, 1] bcast_S64x8_S64x8x1_0_1 (res_main_while0b_v149 V0))) : (Proc.devRef .tc main_while0b_v155 : DevRef τ sig).ty.Contents (Elt F)) = Cert.ReferenceIdeal.Step.b91 j s := by
  unfold Cert.ReferenceIdeal.Step.b91
  rw [← al_81 h, ← al_90 h]
  try rfl
set_option maxRecDepth 8192 in
theorem al_92 (h : Holds V0 s j) : (Host.exp (subf (res_main_while0b_v146 V0) (broadcastInDim S64x8x64 ![0, 1, 2] bcast_S64x8x1_S64x8x64_0_1_2 (broadcastInDim S64x8x1 ![0, 1] bcast_S64x8_S64x8x1_0_1 (res_main_while0b_v149 V0)))) : (Proc.devRef .tc main_while0b_v156 : DevRef τ sig).ty.Contents (Elt F)) = Cert.ReferenceIdeal.Step.b92 j s := by
  unfold Cert.ReferenceIdeal.Step.b92
  rw [← al_91 h]
  try rfl
set_option maxRecDepth 8192 in
theorem al_93 (h : Holds V0 s j) : (broadcastInDim S64x8x64x1 ![0, 1, 2] bcast_S64x8x64_S64x8x64x1_0_1_2 (Host.exp (subf (res_main_while0b_v146 V0) (broadcastInDim S64x8x64 ![0, 1, 2] bcast_S64x8x1_S64x8x64_0_1_2 (broadcastInDim S64x8x1 ![0, 1] bcast_S64x8_S64x8x1_0_1 (res_main_while0b_v149 V0))))) : (Proc.devRef .tc main_while0b_v157 : DevRef τ sig).ty.Contents (Elt F)) = Cert.ReferenceIdeal.Step.b93 j s := by
  unfold Cert.ReferenceIdeal.Step.b93
  rw [← al_92 h]
  try rfl
set_option maxRecDepth 8192 in
theorem al_94 (h : Holds V0 s j) : (broadcastInDim S64x8x64x256 ![0, 1, 2, 3] bcast_S64x8x64x1_S64x8x64x256_0_1_2_3 (broadcastInDim S64x8x64x1 ![0, 1, 2] bcast_S64x8x64_S64x8x64x1_0_1_2 (Host.exp (subf (res_main_while0b_v146 V0) (broadcastInDim S64x8x64 ![0, 1, 2] bcast_S64x8x1_S64x8x64_0_1_2 (broadcastInDim S64x8x1 ![0, 1] bcast_S64x8_S64x8x1_0_1 (res_main_while0b_v149 V0)))))) : (Proc.devRef .tc main_while0b_v158 : DevRef τ sig).ty.Contents (Elt F)) = Cert.ReferenceIdeal.Step.b94 j s := by
  unfold Cert.ReferenceIdeal.Step.b94
  rw [← al_93 h]
  try rfl
set_option maxRecDepth 8192 in
theorem al_95 (h : Holds V0 s j) : (res_main_while0b_v159 V0 : (Proc.devRef .tc main_while0b_v159 : DevRef τ sig).ty.Contents (Elt F)) = Cert.ReferenceIdeal.Step.b95 j s := by
  unfold res_main_while0b_v159 Cert.ReferenceIdeal.Step.b95
  rw [← al_11 h, ← al_94 h]
  try rfl
set_option maxRecDepth 8192 in
theorem al_96 (h : Holds V0 s j) : (broadcastInDim S64x8x1x1 ![0, 1] bcast_S64x8_S64x8x1x1_0_1 (res_main_while0b_v152 V0) : (Proc.devRef .tc main_while0b_v160 : DevRef τ sig).ty.Contents (Elt F)) = Cert.ReferenceIdeal.Step.b96 j s := by
  unfold Cert.ReferenceIdeal.Step.b96
  rw [← al_88 h]
  try rfl
set_option maxRecDepth 8192 in
theorem al_97 (h : Holds V0 s j) : (broadcastInDim S64x8x256x256 ![0, 1, 2, 3] bcast_S64x8x1x1_S64x8x256x256_0_1_2_3 (broadcastInDim S64x8x1x1 ![0, 1] bcast_S64x8_S64x8x1x1_0_1 (res_main_while0b_v152 V0)) : (Proc.devRef .tc main_while0b_v161 : DevRef τ sig).ty.Contents (Elt F)) = Cert.ReferenceIdeal.Step.b97 j s := by
  unfold Cert.ReferenceIdeal.Step.b97
  rw [← al_96 h]
  try rfl
set_option maxRecDepth 8192 in
theorem al_98 (h : Holds V0 s j) : (mulf (broadcastInDim S64x8x256x256 ![0, 1, 2, 3] bcast_S64x8x1x1_S64x8x256x256_0_1_2_3 (broadcastInDim S64x8x1x1 ![0, 1] bcast_S64x8_S64x8x1x1_0_1 (res_main_while0b_v152 V0))) (V0 (Proc.devRef .tc main_v68_7)) : (Proc.devRef .tc main_while0b_v162 : DevRef τ sig).ty.Contents (Elt F)) = Cert.ReferenceIdeal.Step.b98 j s := by
  unfold Cert.ReferenceIdeal.Step.b98
  rw [← al_97 h, h.f_7]
  try rfl
set_option maxRecDepth 8192 in
theorem al_99 (h : Holds V0 s j) : (Host.dotGeneral dot_S64x8x64x256_S64x8x64x256_S64x8x256x256_2_2_3_3_01_01 none (res_main_while0b_v159 V0) (res_main_while0b_v98 V0) : (Proc.devRef .tc main_while0b_v163 : DevRef τ sig).ty.Contents (Elt F)) = Cert.ReferenceIdeal.Step.b99 j s := by
  unfold Cert.ReferenceIdeal.Step.b99
  rw [← al_95 h, ← al_17 h]
  try rfl
set_option maxRecDepth 8192 in
theorem al_100 (h : Holds V0 s j) : (addf (mulf (broadcastInDim S64x8x256x256 ![0, 1, 2, 3] bcast_S64x8x1x1_S64x8x256x256_0_1_2_3 (broadcastInDim S64x8x1x1 ![0, 1] bcast_S64x8_S64x8x1x1_0_1 (res_main_while0b_v152 V0))) (V0 (Proc.devRef .tc main_v68_7))) (Host.dotGeneral dot_S64x8x64x256_S64x8x64x256_S64x8x256x256_2_2_3_3_01_01 none (res_main_while0b_v159 V0) (res_main_while0b_v98 V0)) : (Proc.devRef .tc main_while0b_v164 : DevRef τ sig).ty.Contents (Elt F)) = Cert.ReferenceIdeal.Step.b100 j s := by
  unfold Cert.ReferenceIdeal.Step.b100
  rw [← al_98 h, ← al_99 h]
  try rfl
set_option maxRecDepth 8192 in
theorem al_101 (h : Holds V0 s j) : (broadcastInDim S64x8x1 ![0, 1] bcast_S64x8_S64x8x1_0_1 (res_main_while0b_v152 V0) : (Proc.devRef .tc main_while0b_v165 : DevRef τ sig).ty.Contents (Elt F)) = Cert.ReferenceIdeal.Step.b101 j s := by
  unfold Cert.ReferenceIdeal.Step.b101
  rw [← al_88 h]
  try rfl
set_option maxRecDepth 8192 in
theorem al_102 (h : Holds V0 s j) : (broadcastInDim S64x8x256 ![0, 1, 2] bcast_S64x8x1_S64x8x256_0_1_2 (broadcastInDim S64x8x1 ![0, 1] bcast_S64x8_S64x8x1_0_1 (res_main_while0b_v152 V0)) : (Proc.devRef .tc main_while0b_v166 : DevRef τ sig).ty.Contents (Elt F)) = Cert.ReferenceIdeal.Step.b102 j s := by
  unfold Cert.ReferenceIdeal.Step.b102
  rw [← al_101 h]
  try rfl
set_option maxRecDepth 8192 in
theorem al_103 (h : Holds V0 s j) : (mulf (broadcastInDim S64x8x256 ![0, 1, 2] bcast_S64x8x1_S64x8x256_0_1_2 (broadcastInDim S64x8x1 ![0, 1] bcast_S64x8_S64x8x1_0_1 (res_main_while0b_v152 V0))) (V0 (Proc.devRef .tc main_v68_8)) : (Proc.devRef .tc main_while0b_v167 : DevRef τ sig).ty.Contents (Elt F)) = Cert.ReferenceIdeal.Step.b103 j s := by
  unfold Cert.ReferenceIdeal.Step.b103
  rw [← al_102 h, h.f_8]
  try rfl
set_option maxRecDepth 8192 in
theorem al_104 (h : Holds V0 s j) : (constant S_ .f32 0x00000000#32 : (Proc.devRef .tc main_while0b_cst_19 : DevRef τ sig).ty.Contents (Elt F)) = Cert.ReferenceIdeal.Step.b104 j s := by
  unfold Cert.ReferenceIdeal.Step.b104
  rfl
set_option maxRecDepth 8192 in
theorem al_105 (h : Holds V0 s j) : (Host.reduceAdd (res_main_while0b_v159 V0) (constant S_ .f32 0x00000000#32) reducesTo_S64x8x64x256_S64x8x256_d2 h_S_ : (Proc.devRef .tc main_while0b_v168 : DevRef τ sig).ty.Contents (Elt F)) = Cert.ReferenceIdeal.Step.b105 j s := by
  unfold Cert.ReferenceIdeal.Step.b105
  rw [← al_95 h, ← al_104 h]
  try rfl
set_option maxRecDepth 8192 in
theorem al_106 (h : Holds V0 s j) : (addf (mulf (broadcastInDim S64x8x256 ![0, 1, 2] bcast_S64x8x1_S64x8x256_0_1_2 (broadcastInDim S64x8x1 ![0, 1] bcast_S64x8_S64x8x1_0_1 (res_main_while0b_v152 V0))) (V0 (Proc.devRef .tc main_v68_8))) (Host.reduceAdd (res_main_while0b_v159 V0) (constant S_ .f32 0x00000000#32) reducesTo_S64x8x64x256_S64x8x256_d2 h_S_) : (Proc.devRef .tc main_while0b_v169 : DevRef τ sig).ty.Contents (Elt F)) = Cert.ReferenceIdeal.Step.b106 j s := by
  unfold Cert.ReferenceIdeal.Step.b106
  rw [← al_103 h, ← al_105 h]
  try rfl
set_option maxRecDepth 8192 in
theorem al_107 (h : Holds V0 s j) : (broadcastInDim S1x64x8x64x256 ![1, 2, 3, 4] bcast_S64x8x64x256_S1x64x8x64x256_1_2_3_4 (Host.divf (addf (mulf (broadcastInDim S64x8x64x256 ![0, 1, 2, 3] bcast_S64x8x64x1_S64x8x64x256_0_1_2_3 (broadcastInDim S64x8x64x1 ![0, 1, 2] bcast_S64x8x64_S64x8x64x1_0_1_2 (res_main_while0b_v117 V0))) (Host.dotGeneral dot_S64x8x64x256_S64x8x256x256_S64x8x64x256_3_2_2_3_01_01 none (res_main_while0b_v96 V0) (V0 (Proc.devRef .tc main_v68_7)))) (Host.dotGeneral dot_S64x8x64x64_S64x8x64x256_S64x8x64x256_3_2_2_3_01_01 none (res_main_while0b_v123 V0) (res_main_while0b_v98 V0))) (broadcastInDim S64x8x64x256 ![0, 1, 2, 3] bcast_S64x8x64x1_S64x8x64x256_0_1_2_3 (broadcastInDim S64x8x64x1 ![0, 1, 2] bcast_S64x8x64_S64x8x64x1_0_1_2 (maximumf (Host.absf (addf (mulf (res_main_while0b_v117 V0) (Host.dotGeneral dot_S64x8x64x256_S64x8x256_S64x8x64_3_2_2_n_01_01 none (res_main_while0b_v96 V0) (V0 (Proc.devRef .tc main_v68_8)))) (Host.reduceAdd (res_main_while0b_v123 V0) (constant S_ .f32 0x00000000#32) reducesTo_S64x8x64x64_S64x8x64_d3 h_S_))) (Host.exp (Host.negf (res_main_while0b_v115 V0))))))) : (Proc.devRef .tc main_while0b_call13_v0 : DevRef τ sig).ty.Contents (Elt F)) = Cert.ReferenceIdeal.Step.b107 j s := by
  unfold Cert.ReferenceIdeal.Step.b107
  rw [← al_75 h]
  try rfl
set_option maxRecDepth 8192 in
theorem al_108 (h : Holds V0 s j) : (constantI S_ 32 0#32 : (Proc.devRef .tc main_while0b_call13_c : DevRef τ sig).ty.Contents (Elt F)) = Cert.ReferenceIdeal.Step.b108 j s := by
  unfold Cert.ReferenceIdeal.Step.b108
  rfl
set_option maxRecDepth 8192 in
theorem al_109 (h : Holds V0 s j) : (constantI S_ 32 0#32 : (Proc.devRef .tc main_while0b_call13_c_0 : DevRef τ sig).ty.Contents (Elt F)) = Cert.ReferenceIdeal.Step.b109 j s := by
  unfold Cert.ReferenceIdeal.Step.b109
  rfl
set_option maxRecDepth 8192 in
theorem al_110 (h : Holds V0 s j) : (constantI S_ 32 0#32 : (Proc.devRef .tc main_while0b_call13_c_1 : DevRef τ sig).ty.Contents (Elt F)) = Cert.ReferenceIdeal.Step.b110 j s := by
  unfold Cert.ReferenceIdeal.Step.b110
  rfl
set_option maxRecDepth 8192 in
theorem al_111 (h : Holds V0 s j) : (constantI S_ 32 0#32 : (Proc.devRef .tc main_while0b_call13_c_2 : DevRef τ sig).ty.Contents (Elt F)) = Cert.ReferenceIdeal.Step.b111 j s := by
  unfold Cert.ReferenceIdeal.Step.b111
  rfl
set_option maxRecDepth 8192 in
theorem al_112 (h : Holds V0 s j) : (Host.dynamicUpdateSlice (V0 (Proc.devRef .tc main_v68_10)) (broadcastInDim S1x64x8x64x256 ![1, 2, 3, 4] bcast_S64x8x64x256_S1x64x8x64x256_1_2_3_4 (Host.divf (addf (mulf (broadcastInDim S64x8x64x256 ![0, 1, 2, 3] bcast_S64x8x64x1_S64x8x64x256_0_1_2_3 (broadcastInDim S64x8x64x1 ![0, 1, 2] bcast_S64x8x64_S64x8x64x1_0_1_2 (res_main_while0b_v117 V0))) (Host.dotGeneral dot_S64x8x64x256_S64x8x256x256_S64x8x64x256_3_2_2_3_01_01 none (res_main_while0b_v96 V0) (V0 (Proc.devRef .tc main_v68_7)))) (Host.dotGeneral dot_S64x8x64x64_S64x8x64x256_S64x8x64x256_3_2_2_3_01_01 none (res_main_while0b_v123 V0) (res_main_while0b_v98 V0))) (broadcastInDim S64x8x64x256 ![0, 1, 2, 3] bcast_S64x8x64x1_S64x8x64x256_0_1_2_3 (broadcastInDim S64x8x64x1 ![0, 1, 2] bcast_S64x8x64_S64x8x64x1_0_1_2 (maximumf (Host.absf (addf (mulf (res_main_while0b_v117 V0) (Host.dotGeneral dot_S64x8x64x256_S64x8x256_S64x8x64_3_2_2_n_01_01 none (res_main_while0b_v96 V0) (V0 (Proc.devRef .tc main_v68_8)))) (Host.reduceAdd (res_main_while0b_v123 V0) (constant S_ .f32 0x00000000#32) reducesTo_S64x8x64x64_S64x8x64_d3 h_S_))) (Host.exp (Host.negf (res_main_while0b_v115 V0)))))))) (fun k => (((![V0 (Proc.devRef .tc main_v68_6), constantI S_ 32 0#32, constantI S_ 32 0#32, constantI S_ 32 0#32, constantI S_ 32 0#32] : Fin 5 → (⟨S_, .i32⟩ : BufTy).Contents (Elt F))) k (Shape.Idx.first h_S_)).toInt) updateFits_S4x64x8x64x256_S1x64x8x64x256 : (Proc.devRef .tc main_while0b_v170 : DevRef τ sig).ty.Contents (Elt F)) = Cert.ReferenceIdeal.Step.b112 j s := by
  unfold Cert.ReferenceIdeal.Step.b112
  rw [← al_107 h, ← al_108 h, ← al_109 h, ← al_110 h, ← al_111 h, h.f_10, h.n_6]
  try rfl

/-! One trip's step of the carried values is `step`, field by field; a counter steps to the next number. -/

theorem step_7 (h : Holds V0 s j) : step_main_v68_7 V0 = (step j s).main_v68_7 := by
  unfold step_main_v68_7 Cert.ReferenceIdeal.Step.step
  show id (addf (mulf (broadcastInDim S64x8x256x256 ![0, 1, 2, 3] bcast_S64x8x1x1_S64x8x256x256_0_1_2_3 (broadcastInDim S64x8x1x1 ![0, 1] bcast_S64x8_S64x8x1x1_0_1 (res_main_while0b_v152 V0))) (V0 (Proc.devRef .tc main_v68_7))) (Host.dotGeneral dot_S64x8x64x256_S64x8x64x256_S64x8x256x256_2_2_3_3_01_01 none (res_main_while0b_v159 V0) (res_main_while0b_v98 V0))) = _
  rw [al_100 h]
  try rfl
theorem step_8 (h : Holds V0 s j) : step_main_v68_8 V0 = (step j s).main_v68_8 := by
  unfold step_main_v68_8 Cert.ReferenceIdeal.Step.step
  show id (addf (mulf (broadcastInDim S64x8x256 ![0, 1, 2] bcast_S64x8x1_S64x8x256_0_1_2 (broadcastInDim S64x8x1 ![0, 1] bcast_S64x8_S64x8x1_0_1 (res_main_while0b_v152 V0))) (V0 (Proc.devRef .tc main_v68_8))) (Host.reduceAdd (res_main_while0b_v159 V0) (constant S_ .f32 0x00000000#32) reducesTo_S64x8x64x256_S64x8x256_d2 h_S_)) = _
  rw [al_106 h]
  try rfl
theorem step_9 (h : Holds V0 s j) : step_main_v68_9 V0 = (step j s).main_v68_9 := by
  unfold step_main_v68_9 Cert.ReferenceIdeal.Step.step
  show id (res_main_while0b_v149 V0) = _
  rw [al_85 h]
  try rfl
theorem step_10 (h : Holds V0 s j) : step_main_v68_10 V0 = (step j s).main_v68_10 := by
  unfold step_main_v68_10 Cert.ReferenceIdeal.Step.step
  exact al_112 h
theorem step_6 (h : Holds V0 s j) : step_main_v68_6 V0 = constantI S_ 32 (BitVec.ofNat 32 (j + 1)) := by
  unfold step_main_v68_6
  rw [h.n_6]
  funext i
  show BitVec.ofNat 32 j + 1#32 = BitVec.ofNat 32 (j + 1)
  simp only [BitVec.ofNat_add]

set_option maxRecDepth 8192 in
theorem out_main_v78_holds (h : Holds V0 s j) : out_main_v78 V0 = Cert.ReferenceIdeal.Step.R_main_v78 s := by
  unfold out_main_v78 Cert.ReferenceIdeal.Step.R_main_v78
  rw [h.f_10]
  try rfl

set_option maxRecDepth 8192 in
theorem out_main_v83_holds (h : Holds V0 s j) : out_main_v83 V0 = Cert.ReferenceIdeal.Step.R_main_v83 s := by
  unfold out_main_v83 Cert.ReferenceIdeal.Step.R_main_v83
  rw [h.f_7]
  try rfl

set_option maxRecDepth 8192 in
theorem out_main_v94_holds (h : Holds V0 s j) : out_main_v94 V0 = Cert.ReferenceIdeal.Step.R_main_v94 s := by
  unfold out_main_v94 Cert.ReferenceIdeal.Step.R_main_v94
  rw [h.f_8]
  try rfl

set_option maxRecDepth 8192 in
theorem out_main_v95_holds (h : Holds V0 s j) : out_main_v95 V0 = Cert.ReferenceIdeal.Step.R_main_v95 s := by
  unfold out_main_v95 Cert.ReferenceIdeal.Step.R_main_v95
  rw [h.f_9]
  try rfl

/-- One trip keeps the valuation holding: `step` of the state, the same set-up values, the next number. -/
theorem holds_step (h : Holds V0 s j) : Holds (STEP V0) (step j s) (j + 1) where
  f_7 := (STEP_main_v68_7 V0).trans (step_7 h)
  f_8 := (STEP_main_v68_8 V0).trans (step_8 h)
  f_9 := (STEP_main_v68_9 V0).trans (step_9 h)
  f_10 := (STEP_main_v68_10 V0).trans (step_10 h)
  n_6 := (STEP_main_v68_6 V0).trans (step_6 h)
  k_5 := (STEP_main_v68_5 V0).trans h.k_5
  f_0 := (STEP_main_v68_0 V0).trans h.f_0
  f_1 := (STEP_main_v68_1 V0).trans h.f_1
  f_2 := (STEP_main_v68_2 V0).trans h.f_2
  f_3 := (STEP_main_v68_3 V0).trans h.f_3
  f_4 := (STEP_main_v68_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 4 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v78) = Cert.ReferenceIdeal.Step.R_main_v78 (it c 4)
      ∧ r.2.mem ((c.tc : Thread nD τ).loc main_v83) = Cert.ReferenceIdeal.Step.R_main_v83 (it c 4)
      ∧ r.2.mem ((c.tc : Thread nD τ).loc main_v94) = Cert.ReferenceIdeal.Step.R_main_v94 (it c 4)
      ∧ r.2.mem ((c.tc : Thread nD τ).loc main_v95) = Cert.ReferenceIdeal.Step.R_main_v95 (it c 4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 4
    ⟨(h c).1.trans (out_main_v78_holds hk), (h c).2.1.trans (out_main_v83_holds hk), (h c).2.2.1.trans (out_main_v94_holds hk), (h c).2.2.2.1.trans (out_main_v95_holds hk), (h c).2.2.2.2.1, (h c).2.2.2.2.2.1, (h c).2.2.2.2.2.2.1, (h c).2.2.2.2.2.2.2⟩) (Value.run m ρ)

end Cert.ReferenceIdeal.RefRun

end
-- ==== Proof.RefFrame.lean ====
/- The reference's semaphore counters: it uses none, and they are all at zero when its run ends. -/
module

public import proofs.«01_k».proof.Proof.Gen.ReferenceIdeal.Run
public import Idealize.ShloMosaic.Lib.Claim

@[expose] public section

noncomputable section

namespace Cert.ReferenceIdeal.RefFrame

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket ucRefs)
open Cert.ReferenceIdeal Cert.ReferenceIdeal.Gen Cert.ReferenceIdeal.Value

variable {F : FTy → Type} [FloatOps F] (m : (ℓ : Loc nD τ sig) → Buf (Elt F) ℓ) (ρ : Dev nD → PrngReg)

local notation "𝕄" => MT nD τ sig Unit (Elt F) ℕ (Option PUnit) ℕ

/-- Nothing is admitted, no ticket is held and no level is set: the program calls no kernel. -/
abbrev noAdm : (p : Fin 0) → ((pcfgs (F := F)) p).Adm := fun p => p.elim0
abbrev noTk : Fin 0 → Ticket (Ix := Unit) (Name := ℕ) (U := Option PUnit) (Lvl := ℕ) (nD := nD) (τ := τ) (pcfgs (F := F)) noAdm := fun j => j.elim0
abbrev noL : GSem nD τ sig → Finset Unit := fun _ => ∅
abbrev noLv : GSem nD τ sig → Unit → ℕ := fun _ _ => 0

theorem noCells : Function.Injective (Pipeline.cellOf (nD := nD) (τ := τ) (Pipeline.pin (pcfgs (F := F)) noAdm)) := fun k => k.1.elim0

/-- What rides beside the buffers: the core owes nothing. -/
abbrev owesNone (c : Dev nD) : sProp 𝕄 := iprop(∃ W, owes (c : Thread nD τ) (0 : CellTallies nD τ sig Unit) W)

/-- The loop's condition with the core's debts carried past it. -/
theorem cond_owes : LoopCond (pcfgs (F := F)) defs₀ Variants.none loops owesNone (main_while0_cond (F := F)) condOps bodyI (entryContents preI m) 4 := by
  intro k hk c bd
  refine BIBase.Entails.trans ?_ (((sep_mono_left (cond_spec m k hk c bd)).trans (wp_frame_r (R := owesNone c) _ _ _)).trans (wp_mono _ _ _ fun v => ?_))
  · iintro ⟨Hb, Hh, HR⟩
    isplitl [Hb Hh]
    · isplitl [Hb] <;> iassumption
    iexact HR
  · iintro ⟨⟨%hv, Hb, Hh⟩, HR⟩
    isplitr
    · ipureintro; exact hv
    isplitl [Hb]
    · iexact Hb
    isplitl [Hh] <;> iassumption

/-- @main as segments: what comes before the loop, the loop, what comes after it. -/
def segs : List (CSeg (pcfgs (F := F)) noAdm defs₀ Variants.none noL noLv loops noTk) :=
  segsOf _ _ _ _ _ _ _ _ owesNone preI hpre (launchContents m)
    ++ loopSeg _ _ _ _ _ _ _ _ 0 main_while0_cond main_while0_body rfl condOps bodyI hbodyI (by rw [while0_body_chain]; rfl) 4 (entryContents preI m) owesNone (cond_owes m)
      :: segsOf _ _ _ _ _ _ _ _ owesNone postI hpost (fun c => after condOps (atTrip condOps bodyI (entryContents preI m) 4 c))

theorem segs_prog : (segs m).map CSeg.prog
    = (preI.map fun ops => (seq ops : Prog _ PUnit)) ++ HostLoop.enter 0 :: postI.map fun ops => (seq ops : Prog _ PUnit) := by
  unfold segs
  rw [List.map_append, List.map_cons, segsOf_prog, segsOf_prog]
  rfl

theorem segs_chain :
    CSeg.Chains (fun c => iprop(held (c : Thread nD τ) (ucRefs τ sig) (launchContents m c) ∗ owesNone c)) (segs m)
      (fun c => iprop(held (c : Thread nD τ) (ucRefs τ sig) (finalContents condOps preI bodyI postI 4 m c) ∗ owesNone c)) := by
  unfold segs
  exact CSeg.Chains.append (segsOf_chains _ _ _ _ _ _ _ _ owesNone preI hpre _) ⟨fun _ => .rfl, segsOf_chains _ _ _ _ _ _ _ _ owesNone postI hpost _⟩

theorem all_scoped : ∀ sm : SemLoc sig, sm.isScoped .tc = true := by decide

theorem counters : θ_run (defs (F := F)) (onTc (τ := τ) (main (F := F))) ⟨m, fun _ => 0, ρ⟩ fun r => r.2.sem = fun _ => 0 :=
  Pipeline.θ_run_regions_loop_kit_sems (Ix := Unit) (Name := ℕ) (U := Option PUnit) (Lvl := ℕ) (J := Fin 0) (P := Fin 0) (Val := Elt F)
    (pcfgs (F := F)) noAdm noCells defs₀ Variants.none noL noLv loops noTk m ρ main (segs m)
    (fun c Q => by
      rw [show main (F := F) c = Pipeline.chain ((segs m).map CSeg.prog) by rw [segs_prog, main_chain]; rfl]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ owesNone c))
    (Tₙ := fun c => iprop(held (c : Thread nD τ) (ucRefs τ sig) (finalContents condOps preI bodyI postI 4 m c)))
    (hch := segs_chain m)
    (hinit := by
      refine Pipeline.initEach noL noLv fun c => ?_
      rw [show unscopedBufs c (fun b => m ((c : Thread nD τ).loc b)) = held (c : Thread nD τ) (ucRefs τ sig) (launchContents m c) from
        Pipeline.unscopedBufs_held c (launchContents m c)]
      iintro ⟨⟨Hh, -, HO, -, -, -⟩, -⟩
      imodintro
      isplitl [Hh]
      · iexact Hh
      iexists ∅; iexact HO)
    (QY := fun _ _ => True)
    (hfin := fun c s' => by
      iintro ⟨-, HSI⟩
      imodintro
      isplitr
      · ipureintro; trivial
      iexact HSI)
    (hQ := fun s _ hz => funext fun g => hz g (.inr (all_scoped g.2)))

end Cert.ReferenceIdeal.RefFrame

end
-- ==== Proof.KernelRun.lean ====
/- The kernel's run with its results: what the four result arrays hold when it ends, and its arguments as they were. -/
module

public import proofs.«01_k».proof.Proof.Gen.KernelIdeal.Frame

@[expose] public section

set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, every buffer at the last boundary's contents: the frame's launch, with the results read beside the arguments. -/
theorem run : θ_run defs (onTc (τ := τ) (main (F := F))) ⟨m, fun _ => 0, ρ⟩ (fun r => ∀ c : Dev nD,
      r.2.mem (c.tc.loc main_v2_0) = (dat1 (V2 m ρ) c).arrAt 5 cfg1.N
      ∧ r.2.mem (c.tc.loc main_v2_1) = (dat1 (V2 m ρ) c).arrAt 6 cfg1.N
      ∧ r.2.mem (c.tc.loc main_v2_2) = (dat1 (V2 m ρ) c).arrAt 7 cfg1.N
      ∧ r.2.mem (c.tc.loc main_v2_3) = (dat1 (V2 m ρ) c).arrAt 8 cfg1.N
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v2_0 (by decide))).trans (W3_arr m ρ c 5),
       (h c _ (mem_uc main_v2_1 (by decide))).trans (W3_arr m ρ c 6),
       (h c _ (mem_uc main_v2_2 (by decide))).trans (W3_arr m ρ c 7),
       (h c _ (mem_uc main_v2_3 (by decide))).trans (W3_arr m ρ c 8),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.KernelRun

end
-- ==== Proof.ScanMath.lean ====
/- The scan of one head over real numbers: the closed form of its outputs and of its state after `n` steps, and the
   step of a chunk of `L` tokens from the closed form at `n` to the closed form at `n + L`. -/
module

public import Mathlib.Data.EReal.Operations
public import Mathlib.Analysis.SpecialFunctions.Log.Basic
public import Mathlib.Algebra.BigOperators.Fin
public import Mathlib.Data.Finset.Fold

@[expose] public section

noncomputable section

namespace Cert.Scan

open Finset

variable (lf li : ℕ → ℝ) (q k v : ℕ → Fin 256 → ℝ)

/-- The sum of the first `n` forget gates' logarithms. -/
def pre (n : ℕ) : ℝ := ∑ s ∈ range n, lf s

/-- The weight's exponent of token `s` seen after `n` tokens. -/
def dd (n s : ℕ) : ℝ := pre lf n - pre lf (s + 1) + li s

/-- The stabilizer after `n` tokens: the largest exponent, the empty past's included. -/
def mm (n : ℕ) : ℝ := (range n).fold max (pre lf n) (dd lf li n)

/-- The weight of token `s` after `n` tokens. -/
def ww (n s : ℕ) : ℝ := Real.exp (dd lf li n s - mm lf li n)

/-- The matrix state after `n` tokens. -/
def cc (n : ℕ) (d e : Fin 256) : ℝ := ∑ s ∈ range n, k s d * ww lf li n s * v s e

/-- The normalizer state after `n` tokens. -/
def nn (n : ℕ) (d : Fin 256) : ℝ := ∑ s ∈ range n, k s d * ww lf li n s

/-- The attention weight of token `t` on token `s`. -/
def ss (t s : ℕ) : ℝ := (∑ d, q t d * k s d) * ww lf li (t + 1) s

/-- The numerator of token `t`'s output. -/
def num (t : ℕ) (e : Fin 256) : ℝ := ∑ s ∈ range (t + 1), ss lf li q k t s * v s e

/-- The denominator's sum at token `t`. -/
def den (t : ℕ) : ℝ := ∑ s ∈ range (t + 1), ss lf li q k t s

/-- The sum of the forget gates' logarithms of a chunk's tokens up to the `j`-th. -/
def bb (n j : ℕ) : ℝ := ∑ i ∈ range (j + 1), lf (n + i)

theorem pre_add (n j : ℕ) : pre lf (n + (j + 1)) = pre lf n + bb lf n j := by
  simp only [pre, bb, sum_range_add]

theorem dd_chunk (n j i : ℕ) : dd lf li (n + (j + 1)) (n + i) = bb lf n j - bb lf n i + li (n + i) := by
  have h : n + i + 1 = n + (i + 1) := by omega
  simp only [dd, h, pre_add]; ring

theorem dd_old (n j s : ℕ) : dd lf li (n + (j + 1)) s = bb lf n j + dd lf li n s := by
  simp only [dd, pre_add]; ring

theorem fold_le {s : Finset ℕ} {a c : ℝ} {f : ℕ → ℝ} : s.fold max a f ≤ c ↔ a ≤ c ∧ ∀ x ∈ s, f x ≤ c :=
  fold_max_le _

/-- The stabilizer inside a chunk, from the stabilizer at its start. -/
theorem mm_chunk (n j : ℕ) :
    (range (j + 1)).fold max (bb lf n j + mm lf li n) (fun i => bb lf n j - bb lf n i + li (n + i)) = mm lf li (n + (j + 1)) := by
  refine eq_of_forall_ge_iff fun c => ?_
  have e : bb lf n j + mm lf li n ≤ c ↔ mm lf li n ≤ c - bb lf n j := by constructor <;> intro h <;> linarith
  rw [fold_le, e, mm, fold_le, mm, fold_le, pre_add]
  constructor
  · rintro ⟨⟨h1, h2⟩, h3⟩
    refine ⟨by linarith, fun x hx => ?_⟩
    rcases lt_or_ge x n with h | h
    · rw [dd_old]; have := h2 x (mem_range.2 h); linarith
    · obtain ⟨i, rfl⟩ := Nat.exists_eq_add_of_le h
      rw [dd_chunk]
      exact h3 i (mem_range.2 (by have := mem_range.1 hx; omega))
  · rintro ⟨h1, h2⟩
    refine ⟨⟨by linarith, fun x hx => ?_⟩, fun i hi => ?_⟩
    · have := h2 x (mem_range.2 (by have := mem_range.1 hx; omega))
      rw [dd_old] at this; linarith
    · rw [← dd_chunk]
      exact h2 (n + i) (mem_range.2 (by have := mem_range.1 hi; omega))

/-- The weights of the tokens before a chunk, after it. -/
theorem ww_old (n j s : ℕ) :
    ww lf li (n + (j + 1)) s = Real.exp (bb lf n j + mm lf li n - mm lf li (n + (j + 1))) * ww lf li n s := by
  rw [ww, ww, ← Real.exp_add, dd_old]; congr 1; ring

/-- The weights of a chunk's own tokens. -/
theorem ww_chunk (n j i : ℕ) :
    ww lf li (n + (j + 1)) (n + i) = Real.exp (bb lf n j - bb lf n i + li (n + i) - mm lf li (n + (j + 1))) := by
  rw [ww, dd_chunk]

theorem cc_chunk (n j : ℕ) (d e : Fin 256) :
    Real.exp (bb lf n j + mm lf li n - mm lf li (n + (j + 1))) * cc lf li k v n d e
      + ∑ i ∈ range (j + 1), k (n + i) d * Real.exp (bb lf n j - bb lf n i + li (n + i) - mm lf li (n + (j + 1))) * v (n + i) e
      = cc lf li k v (n + (j + 1)) d e := by
  conv_rhs => rw [cc, sum_range_add]
  rw [cc, mul_sum]
  congr 1
  · exact sum_congr rfl fun s _ => by rw [ww_old lf li n j s]; ring
  · exact sum_congr rfl fun i _ => by rw [ww_chunk]

theorem nn_chunk (n j : ℕ) (d : Fin 256) :
    Real.exp (bb lf n j + mm lf li n - mm lf li (n + (j + 1))) * nn lf li k n d
      + ∑ i ∈ range (j + 1), k (n + i) d * Real.exp (bb lf n j - bb lf n i + li (n + i) - mm lf li (n + (j + 1)))
      = nn lf li k (n + (j + 1)) d := by
  conv_rhs => rw [nn, sum_range_add]
  rw [nn, mul_sum]
  congr 1
  · exact sum_congr rfl fun s _ => by rw [ww_old lf li n j s]; ring
  · exact sum_congr rfl fun i _ => by rw [ww_chunk]

theorem den_chunk (n j : ℕ) :
    Real.exp (bb lf n j + mm lf li n - mm lf li (n + (j + 1))) * (∑ d, q (n + j) d * nn lf li k n d)
      + ∑ i ∈ range (j + 1), (∑ d, q (n + j) d * k (n + i) d)
          * Real.exp (bb lf n j - bb lf n i + li (n + i) - mm lf li (n + (j + 1)))
      = den lf li q k (n + j) := by
  conv_rhs => rw [den, show n + j + 1 = n + (j + 1) by omega, sum_range_add]
  congr 1
  · simp only [nn, mul_sum, ss, sum_mul]
    rw [sum_comm]
    refine sum_congr rfl fun s _ => sum_congr rfl fun d _ => ?_
    rw [show n + j + 1 = n + (j + 1) by omega, ww_old lf li n j s]; ring
  · refine sum_congr rfl fun i _ => ?_
    rw [ss, show n + j + 1 = n + (j + 1) by omega, ww_chunk]

theorem num_chunk (n j : ℕ) (e : Fin 256) :
    Real.exp (bb lf n j + mm lf li n - mm lf li (n + (j + 1))) * (∑ d, q (n + j) d * cc lf li k v n d e)
      + ∑ i ∈ range (j + 1), (∑ d, q (n + j) d * k (n + i) d)
          * Real.exp (bb lf n j - bb lf n i + li (n + i) - mm lf li (n + (j + 1))) * v (n + i) e
      = num lf li q k v (n + j) e := by
  conv_rhs => rw [num, show n + j + 1 = n + (j + 1) by omega, sum_range_add]
  congr 1
  · simp only [cc, mul_sum, ss, sum_mul]
    rw [sum_comm]
    refine sum_congr rfl fun s _ => sum_congr rfl fun d _ => ?_
    rw [show n + j + 1 = n + (j + 1) by omega, ww_old lf li n j s]; ring
  · refine sum_congr rfl fun i _ => ?_
    rw [ss, show n + j + 1 = n + (j + 1) by omega, ww_chunk]

theorem mm_zero : mm lf li 0 = 0 := by simp [mm, pre]
theorem cc_zero (d e : Fin 256) : cc lf li k v 0 d e = 0 := by simp [cc]
theorem nn_zero (d : Fin 256) : nn lf li k 0 d = 0 := by simp [nn]

/-! ### From extended reals -/

theorem coe_sum {ι : Type} (s : Finset ι) (f : ι → ℝ) : ∑ i ∈ s, (f i : EReal) = ((∑ i ∈ s, f i : ℝ) : EReal) := by
  classical
  induction s using Finset.induction_on with
  | empty => simp
  | insert a s h ih => rw [sum_insert h, sum_insert h, ih, EReal.coe_add]

theorem coe_fold (s : Finset ℕ) (a : ℝ) (f : ℕ → ℝ) :
    ((s.fold max a f : ℝ) : EReal) = s.fold max (a : EReal) fun i => (f i : EReal) :=
  (fold_hom (op := max) (op' := max) (m := fun x : ℝ => (x : EReal)) fun x y => EReal.coe_strictMono.monotone.map_max).symm

/-- A maximum over the places at or before `j`, the others at −∞, through any order of the places. -/
theorem fold_masked {N : ℕ} (σ : Fin N ≃ Fin N) (j : ℕ) (hj : j < N) (a : ℝ) (f : ℕ → ℝ) :
    max (a : EReal) (univ.fold max ⊥ fun i : Fin N => if (σ i).val ≤ j then (f (σ i) : EReal) else ⊥)
      = (((range (j + 1)).fold max a f : ℝ) : EReal) := by
  rw [coe_fold]
  refine eq_of_forall_ge_iff fun c => ?_
  rw [max_le_iff, fold_max_le, fold_max_le]
  refine and_congr Iff.rfl ⟨fun h i hi => ?_, fun h => ⟨bot_le, fun i _ => ?_⟩⟩
  · have hi' : i < j + 1 := mem_range.1 hi
    have := h.2 (σ.symm ⟨i, by omega⟩) (mem_univ _)
    rw [Equiv.apply_symm_apply, if_pos (by show i ≤ j; omega)] at this
    exact this
  · split
    · rename_i hi
      exact h _ (mem_range.2 (by omega))
    · exact bot_le

/-- A maximum over all the places, through any order of the places. -/
theorem fold_all {N : ℕ} (σ : Fin N ≃ Fin N) (a : ℝ) (f : ℕ → ℝ) :
    max (a : EReal) (univ.fold max ⊥ fun i : Fin N => (f (σ i) : EReal))
      = (((range N).fold max a f : ℝ) : EReal) := by
  rw [coe_fold]
  refine eq_of_forall_ge_iff fun c => ?_
  rw [max_le_iff, fold_max_le, fold_max_le]
  refine and_congr Iff.rfl ⟨fun h i hi => ?_, fun h => ⟨bot_le, fun i _ => h _ (mem_range.2 (σ i).isLt)⟩⟩
  have := h.2 (σ.symm ⟨i, mem_range.1 hi⟩) (mem_univ _)
  rwa [Equiv.apply_symm_apply] at this

/-- A sum whose terms past the place `j` vanish, through any order of the places. -/
theorem sum_masked {N : ℕ} (σ : Fin N ≃ Fin N) (j : ℕ) (hj : j < N) (f : ℕ → ℝ) :
    ∑ i : Fin N, (if (σ i).val ≤ j then f (σ i) else 0) = ∑ i ∈ range (j + 1), f i := by
  rw [Equiv.sum_comp σ fun i : Fin N => if i.val ≤ j then f i else 0,
    Fin.sum_univ_eq_sum_range (fun i => if i ≤ j then f i else 0) N, ← sum_filter]
  refine sum_congr ?_ fun _ _ => rfl
  ext i; simp only [mem_filter, mem_range]; omega

/-- A sum over all the places, through any order of the places. -/
theorem sum_all {N : ℕ} (σ : Fin N ≃ Fin N) (f : ℕ → ℝ) : ∑ i : Fin N, f (σ i) = ∑ i ∈ range N, f i := by
  rw [Equiv.sum_comp σ fun i : Fin N => f i, Fin.sum_univ_eq_sum_range f N]

/-- The least of the running sums of terms at most zero is the sum of all. -/
theorem fold_min {N : ℕ} (σ : Fin (N + 1) ≃ Fin (N + 1)) (hlf : ∀ s, lf s ≤ 0) :
    (univ.fold min ⊤ fun i : Fin (N + 1) => ((pre lf ((σ i).val + 1) : ℝ) : EReal)) = ((pre lf (N + 1) : ℝ) : EReal) := by
  have anti : ∀ a b : ℕ, a ≤ b → pre lf b ≤ pre lf a := fun a b h => by
    obtain ⟨c, rfl⟩ := Nat.exists_eq_add_of_le h
    simp only [pre, sum_range_add]
    have : ∑ x ∈ range c, lf (a + x) ≤ 0 := sum_nonpos fun i _ => hlf _
    linarith
  refine eq_of_forall_le_iff fun c => ?_
  rw [le_fold_min]
  refine ⟨fun h => ?_, fun h => ⟨le_top, fun i _ => h.trans ?_⟩⟩
  · have := h.2 (σ.symm ⟨N, by omega⟩) (mem_univ _)
    rwa [Equiv.apply_symm_apply] at this
  · exact EReal.coe_le_coe_iff.2 (anti _ _ (by have := (σ i).isLt; omega))

end Cert.Scan

end
-- ==== Proof.RefStep.lean ====
/- One trip of the reference's loop read element by element. -/
module

public import proofs.«01_k».proof.Proof.Gen.ReferenceIdeal.Step
public import proofs.«01_k».proof.Proof.ScanMath
public import Idealize.ShloMosaic.Lib.Pointwise
public import Idealize.ShloMosaic.Lib.Tactic.CleanTypes
public import Idealize.ShloMosaic.Lib.DynamicIndex

@[expose] public section

set_option maxRecDepth 16384

noncomputable section

namespace Cert.ReferenceIdeal.Read

open Idealize.ShloMosaic Cert.ReferenceIdeal Cert.ReferenceIdeal.Gen Cert.ReferenceIdeal.Step

/-! ### A running sum along the last axis -/

theorem foldl_add {ι : Type} (l : List ι) (g : ι → EReal) (v : EReal) :
    l.foldl (fun r n => r + g n) v = v + (l.map g).sum := by
  induction l generalizing v with
  | nil => simp
  | cons a l ih => rw [List.foldl_cons, ih, List.map_cons, List.sum_cons, add_assoc]

/-- The terms of a window that ends at `j`, its first 63 places before the axis's start. -/
theorem window_sum (j : Fin 64) (f : Fin 64 → EReal) :
    ∑ c : Fin 64, (if h : 63 ≤ j.val + c.val then f ⟨j.val + c.val - 63, by omega⟩ else 0)
      = ∑ i : Fin 64, if i.val ≤ j.val then f i else 0 := by
  rw [← Finset.sum_filter, Finset.sum_dite, Finset.sum_const_zero, add_zero]
  refine Finset.sum_bij (fun c _ => ⟨j.val + c.1.val - 63, by omega⟩) (fun c _ => ?_) (fun a _ b _ h => ?_) (fun i hi => ?_) (fun c _ => rfl)
  · simp only [Finset.mem_filter, Finset.mem_univ, true_and]
    omega
  · have ha := a.2; have hb := b.2
    simp only [Finset.mem_filter, Finset.mem_univ, true_and] at ha hb
    have := congrArg Fin.val h
    apply Subtype.ext; apply Fin.ext
    simp only at this
    omega
  · simp only [Finset.mem_filter, Finset.mem_univ, true_and] at hi
    refine ⟨⟨⟨i.val + 63 - j.val, by omega⟩, ?_⟩, Finset.mem_attach _ _, ?_⟩
    · simp only [Finset.mem_filter, Finset.mem_univ, true_and]; omega
    · apply Fin.ext; simp only; omega

theorem cumsum_at (x : FVec Ideal S64x8x64 .f32) (init : FVec Ideal S_ .f32) (h : S64x8x64.ReduceWindows ![1, 1, 64] ![1, 1, 1] ![0, 0, 63] ![0, 0, 0] S64x8x64)
    (hu : 0 < S_.numel) (h0 : init (Shape.Idx.first hu) = 0) (a : Fin 64) (b : Fin 8) (j : Fin 64) :
    Host.reduceWindowAdd ![1, 1, 64] ![1, 1, 1] ![0, 0, 63] ![0, 0, 0] x init h hu (ix3 a b j)
      = ∑ i : Fin 64, if i.val ≤ j.val then x (ix3 a b i) else 0 := by
  show Ideal.hostReduceWindowAdd ![1, 1, 64] ![1, 1, 1] ![0, 0, 63] ![0, 0, 0] h x (init (Shape.Idx.first hu)) (ix3 a b j) = _
  rw [h0]
  unfold Ideal.hostReduceWindowAdd Host.reduceWindow
  refine (foldl_add _ _ _).trans ?_
  rw [zero_add, ← Fin.sum_univ_def]
  rw [← Equiv.sum_comp (⟨3, ![1, 1, 64]⟩ : Shape).rowMajor]
  simp only [Equiv.symm_apply_apply]
  refine (sum_idx3 _).trans ?_
  simp only [Fin.sum_univ_one]
  rw [← window_sum j fun i => x (ix3 a b i)]
  refine Finset.sum_congr rfl fun c _ => ?_
  by_cases hc : 63 ≤ j.val + c.val
  · rw [dif_pos hc, dif_pos]
    · congr 1
      funext e
      apply Fin.ext
      match e with
      | ⟨0, _⟩ => show a.val * 1 + 0 - 0 = a.val; omega
      | ⟨1, _⟩ => show b.val * 1 + 0 - 0 = b.val; omega
      | ⟨2, _⟩ => show j.val * 1 + c.val - 63 = j.val + c.val - 63; omega
    · intro e
      match e with
      | ⟨0, _⟩ => show 0 ≤ a.val * 1 + 0 ∧ a.val * 1 + 0 - 0 < 64; omega
      | ⟨1, _⟩ => show 0 ≤ b.val * 1 + 0 ∧ b.val * 1 + 0 - 0 < 8; omega
      | ⟨2, _⟩ => show 63 ≤ j.val * 1 + c.val ∧ j.val * 1 + c.val - 63 < 64; omega
  · rw [dif_neg hc, dif_neg]
    intro hin
    have := (hin ⟨2, by decide⟩).1
    change 63 ≤ j.val * 1 + c.val at this
    omega

theorem ninf : Ideal.ofBits .f32 0xFF800000#32 = ⊥ := by
  simp [Ideal.ofBits, Ideal.ieee]

variable (s : State Ideal)

/-- The place of the block a trip takes: chunk `c`, whole in every other axis. -/
theorem start5 (c : Fin 4) (f0 f1 f2 f3 : IVec S_ 32) (h0 : f0 = constantI S_ 32 0#32) (h1 : f1 = constantI S_ 32 0#32) (h2 : f2 = constantI S_ 32 0#32) (h3 : f3 = constantI S_ 32 0#32) (k : Fin 5) :
    (((![(constantI S_ 32 (BitVec.ofNat 32 c.val) : IVec S_ 32), f0, f1, f2, f3] : Fin 5 → IVec S_ 32) k (Shape.Idx.first h_S_)).toInt) = ((![c.val, 0, 0, 0, 0] : Fin 5 → ℕ) k : ℤ) := by
  subst h0 h1 h2 h3
  fin_cases k <;> fin_cases c <;> rfl

theorem start4 (c : Fin 4) (f0 f1 f2 : IVec S_ 32) (h0 : f0 = constantI S_ 32 0#32) (h1 : f1 = constantI S_ 32 0#32) (h2 : f2 = constantI S_ 32 0#32) (k : Fin 4) :
    (((![(constantI S_ 32 (BitVec.ofNat 32 c.val) : IVec S_ 32), f0, f1, f2] : Fin 4 → IVec S_ 32) k (Shape.Idx.first h_S_)).toInt) = ((![c.val, 0, 0, 0] : Fin 4 → ℕ) k : ℤ) := by
  subst h0 h1 h2
  fin_cases k <;> fin_cases c <;> rfl

theorem fits5 (c : Fin 4) : S4x64x8x64x256.Slices ![c.val, 0, 0, 0, 0] S1x64x8x64x256 := by
  fin_cases c <;> decide
theorem fits4 (c : Fin 4) : S4x64x8x64.Slices ![c.val, 0, 0, 0] S1x64x8x64 := by
  fin_cases c <;> decide

theorem b5_at (c : Fin 4) (a : Fin 64) (b : Fin 8) (j : Fin 64) (d : Fin 256) :
    b5 c s (ix4 a b j d) = s.main_v68_0 (ix5 c a b j d) := by
  have h : b4 c s = extractStridedSlice S1x64x8x64x256 ![c.val, 0, 0, 0, 0] s.main_v68_0 (fits5 c) :=
    Host.dynamicSlice_eq_extractStridedSlice _ _ _ _ _ (fits5 c) (start5 c _ _ _ _ rfl rfl rfl rfl)
  unfold b5
  rw [h]
  pointwise

theorem b11_at (c : Fin 4) (a : Fin 64) (b : Fin 8) (j : Fin 64) (d : Fin 256) :
    b11 c s (ix4 a b j d) = s.main_v68_1 (ix5 c a b j d) := by
  have h : b10 c s = extractStridedSlice S1x64x8x64x256 ![c.val, 0, 0, 0, 0] s.main_v68_1 (fits5 c) :=
    Host.dynamicSlice_eq_extractStridedSlice _ _ _ _ _ (fits5 c) (start5 c _ _ _ _ rfl rfl rfl rfl)
  unfold b11
  rw [h]
  pointwise

theorem b17_at (c : Fin 4) (a : Fin 64) (b : Fin 8) (j : Fin 64) (d : Fin 256) :
    b17 c s (ix4 a b j d) = s.main_v68_2 (ix5 c a b j d) := by
  have h : b16 c s = extractStridedSlice S1x64x8x64x256 ![c.val, 0, 0, 0, 0] s.main_v68_2 (fits5 c) :=
    Host.dynamicSlice_eq_extractStridedSlice _ _ _ _ _ (fits5 c) (start5 c _ _ _ _ rfl rfl rfl rfl)
  unfold b17
  rw [h]
  pointwise

theorem b22_at (c : Fin 4) (a : Fin 64) (b : Fin 8) (j : Fin 64) :
    b22 c s (ix3 a b j) = s.main_v68_3 (ix4 c a b j) := by
  have h : b21 c s = extractStridedSlice S1x64x8x64 ![c.val, 0, 0, 0] s.main_v68_3 (fits4 c) :=
    Host.dynamicSlice_eq_extractStridedSlice _ _ _ _ _ (fits4 c) (start4 c _ _ _ rfl rfl rfl)
  unfold b22
  rw [h]
  pointwise

theorem b27_at (c : Fin 4) (a : Fin 64) (b : Fin 8) (j : Fin 64) :
    b27 c s (ix3 a b j) = s.main_v68_4 (ix4 c a b j) := by
  have h : b26 c s = extractStridedSlice S1x64x8x64 ![c.val, 0, 0, 0] s.main_v68_4 (fits4 c) :=
    Host.dynamicSlice_eq_extractStridedSlice _ _ _ _ _ (fits4 c) (start4 c _ _ _ rfl rfl rfl)
  unfold b27
  rw [h]
  pointwise

theorem b30_at (c : Fin 4) (a : Fin 64) (b : Fin 8) (j : Fin 64) :
    b30 c s (ix3 a b j) = ∑ i : Fin 64, if i.val ≤ j.val then b27 c s (ix3 a b i) else 0 := by
  refine cumsum_at _ _ _ _ ?_ a b j
  pointwise [b29, b28]

/-- The greatest element along the last of four axes. -/
theorem rowmax4 (x : FVec Ideal S64x8x64x64 .f32) (init : FVec Ideal S_ .f32) (h : S64x8x64x64.ReducesTo [3] S64x8x64) (hu : 0 < S_.numel)
    (h0 : init (Shape.Idx.first hu) = ⊥) (a : Fin 64) (b : Fin 8) (j : Fin 64) :
    Host.reduce (FloatOps.maximumf (φ := .f32)) x init h hu (ix3 a b j) = Finset.univ.fold max ⊥ fun i => x (ix4 a b j i) := by
  pointwise
  rw [h0]

/-- The greatest element along the last of three axes. -/
theorem rowmax3 (x : FVec Ideal S64x8x64 .f32) (init : FVec Ideal S_ .f32) (h : S64x8x64.ReducesTo [2] S64x8) (hu : 0 < S_.numel)
    (h0 : init (Shape.Idx.first hu) = ⊥) (a : Fin 64) (b : Fin 8) :
    Host.reduce (FloatOps.maximumf (φ := .f32)) x init h hu (ix2 a b) = Finset.univ.fold max ⊥ fun i => x (ix3 a b i) := by
  pointwise
  rw [h0]

theorem mask_word (i j : Fin 64) :
    Scalar.select (IntOp.cmpi CmpIPredicate.sge (IntOp.addi (BitVec.ofNat 32 j.val) 0#32) (BitVec.ofNat 32 i.val)) 1#1 0#1 = if i.val ≤ j.val then 1#1 else 0#1 := by
  revert i j
  decide +kernel

theorem b46_at (c : Fin 4) (a : Fin 64) (b : Fin 8) (j i : Fin 64) :
    b46 c s (ix4 a b j i) = if i.val ≤ j.val then b30 c s (ix3 a b j) - b30 c s (ix3 a b i) + b22 c s (ix3 a b i) else ⊥ := by
  pointwise [b46, b45, b44, b43, b42, b41, b40, b39, b38, b37, b36, b35, b34, K_main_v66, K_main_v65, K_main_c, K_main_call5_v0, K_main_call5_v1, K_main_call5_c, K_main_call5_v2, K_main_call5_v3, K_main_call5_v4, K_main_call5_c_0, K_main_call5_v5]
  rw [ninf, mask_word]
  split <;> rfl

theorem b49_at (c : Fin 4) (a : Fin 64) (b : Fin 8) (j : Fin 64) :
    b49 c s (ix3 a b j) = max (b30 c s (ix3 a b j) + s.main_v68_9 (ix2 a b)) (Finset.univ.fold max ⊥ fun i => b46 c s (ix4 a b j i)) := by
  have h0 : b47 c s (Shape.Idx.first h_S_) = ⊥ := by unfold b47; exact ninf
  have h : b48 c s (ix3 a b j) = Finset.univ.fold max ⊥ fun i => b46 c s (ix4 a b j i) := by
    unfold b48; exact rowmax4 _ _ _ _ h0 a b j
  pointwise [b49, b33, b32, b31]
  rw [h]

theorem b52_at (c : Fin 4) (a : Fin 64) (b : Fin 8) (j i : Fin 64) :
    b52 c s (ix4 a b j i) = ∑ d : Fin 256, b5 c s (ix4 a b j d) * b11 c s (ix4 a b i d) := by
  pointwise [b52]

theorem b57_at (c : Fin 4) (a : Fin 64) (b : Fin 8) (j i : Fin 64) :
    b57 c s (ix4 a b j i) = b52 c s (ix4 a b j i) * Ideal.exp (b46 c s (ix4 a b j i) - b49 c s (ix3 a b j)) := by
  pointwise [b57, b56, b55, b54, b53]

theorem b63_at (c : Fin 4) (a : Fin 64) (b : Fin 8) (j : Fin 64) (e : Fin 256) :
    b63 c s (ix4 a b j e) = Ideal.exp (b33 c s (ix3 a b j) - b49 c s (ix3 a b j)) * (∑ d : Fin 256, b5 c s (ix4 a b j d) * s.main_v68_7 (ix4 a b d e))
      + ∑ i : Fin 64, b57 c s (ix4 a b j i) * b17 c s (ix4 a b i e) := by
  pointwise [b63, b62, b61, b60, b59, b58, b51, b50]

theorem b33_at (c : Fin 4) (a : Fin 64) (b : Fin 8) (j : Fin 64) :
    b33 c s (ix3 a b j) = b30 c s (ix3 a b j) + s.main_v68_9 (ix2 a b) := by
  pointwise [b33, b32, b31]

theorem b68_at (c : Fin 4) (a : Fin 64) (b : Fin 8) (j : Fin 64) :
    b68 c s (ix3 a b j) = Ideal.exp (b33 c s (ix3 a b j) - b49 c s (ix3 a b j)) * (∑ d : Fin 256, b5 c s (ix4 a b j d) * s.main_v68_8 (ix3 a b d))
      + ∑ i : Fin 64, b57 c s (ix4 a b j i) := by
  pointwise [b68, b67, b66, b65, b64, b51, b50]

theorem b75_at (c : Fin 4) (a : Fin 64) (b : Fin 8) (j : Fin 64) (e : Fin 256) :
    b75 c s (ix4 a b j e) = Ideal.div (b63 c s (ix4 a b j e)) (max (max (b68 c s (ix3 a b j)) (-b68 c s (ix3 a b j))) (Ideal.exp (-b49 c s (ix3 a b j)))) := by
  pointwise [b75, b74, b73, b72, b71, b70, b69, Ideal.absf_def]

theorem b77_at (c : Fin 4) (a : Fin 64) (b : Fin 8) : b77 c s (ix2 a b) = b30 c s (ix3 a b 63) := by
  pointwise [b77, b76]

theorem b81_at (c : Fin 4) (a : Fin 64) (b : Fin 8) (j : Fin 64) :
    b81 c s (ix3 a b j) = b77 c s (ix2 a b) - b30 c s (ix3 a b j) + b22 c s (ix3 a b j) := by
  pointwise [b81, b80, b79, b78]

theorem b85_at (c : Fin 4) (a : Fin 64) (b : Fin 8) :
    b85 c s (ix2 a b) = max (b77 c s (ix2 a b) + s.main_v68_9 (ix2 a b)) (Finset.univ.fold max ⊥ fun i => b81 c s (ix3 a b i)) := by
  have h0 : b83 c s (Shape.Idx.first h_S_) = ⊥ := by unfold b83; exact ninf
  have h : b84 c s (ix2 a b) = Finset.univ.fold max ⊥ fun i => b81 c s (ix3 a b i) := by
    unfold b84; exact rowmax3 _ _ _ _ h0 a b
  pointwise [b85, b82]
  rw [h]

theorem b95_at (c : Fin 4) (a : Fin 64) (b : Fin 8) (j : Fin 64) (d : Fin 256) :
    b95 c s (ix4 a b j d) = b11 c s (ix4 a b j d) * Ideal.exp (b81 c s (ix3 a b j) - b85 c s (ix2 a b)) := by
  pointwise [b95, b94, b93, b92, b91, b90, b89]

theorem b100_at (c : Fin 4) (a : Fin 64) (b : Fin 8) (d e : Fin 256) :
    b100 c s (ix4 a b d e) = Ideal.exp (b77 c s (ix2 a b) + s.main_v68_9 (ix2 a b) - b85 c s (ix2 a b)) * s.main_v68_7 (ix4 a b d e)
      + ∑ i : Fin 64, b95 c s (ix4 a b i d) * b17 c s (ix4 a b i e) := by
  pointwise [b100, b99, b98, b97, b96, b88, b87, b86]

theorem b106_at (c : Fin 4) (a : Fin 64) (b : Fin 8) (d : Fin 256) :
    b106 c s (ix3 a b d) = Ideal.exp (b77 c s (ix2 a b) + s.main_v68_9 (ix2 a b) - b85 c s (ix2 a b)) * s.main_v68_8 (ix3 a b d)
      + ∑ i : Fin 64, b95 c s (ix4 a b i d) := by
  pointwise [b106, b105, b104, b103, b102, b101, b88, b87, b86]

theorem b112_at (c : Fin 4) (c' : Fin 4) (a : Fin 64) (b : Fin 8) (j : Fin 64) (e : Fin 256) :
    b112 c s (ix5 c' a b j e) = if c' = c then b75 c s (ix4 a b j e) else s.main_v68_10 (ix5 c' a b j e) := by
  have h : b112 c s = updateSlice s.main_v68_10 (b107 c s) ![c.val, 0, 0, 0, 0] (fits5 c) :=
    Host.dynamicUpdateSlice_eq_updateSlice _ _ _ _ _ (fun k => by
      refine (congrArg (fun z : ℤ => (min (max z 0) ((S4x64x8x64x256.size k - S1x64x8x64x256.size (k.cast rfl) : ℕ) : ℤ)).toNat) (start5 c _ _ _ _ rfl rfl rfl rfl k)).trans ?_
      fin_cases k <;> fin_cases c <;> rfl) (fits5 c)
  rw [h]
  pointwise [b107]
  by_cases hc : c' = c
  · rw [dif_pos (by subst hc; omega), if_pos hc]
  · rw [dif_neg (fun h => hc (Fin.ext (by omega))), if_neg hc]

end Cert.ReferenceIdeal.Read

end
-- ==== Proof.RefInv.lean ====
/- What the reference's loop holds after each trip, in closed form. -/
module

public import proofs.«01_k».proof.Proof.RefStep

@[expose] public section

set_option maxRecDepth 16384

noncomputable section

namespace Cert.Scan

open Idealize.ShloMosaic

/-- The output of token `t`, column `e`. -/
def hval (lf li : ℕ → ℝ) (q k v : ℕ → Fin 256 → ℝ) (t : ℕ) (e : Fin 256) : EReal :=
  Ideal.div ((num lf li q k v t e : ℝ) : EReal)
    (max (max ((den lf li q k t : ℝ) : EReal) (-((den lf li q k t : ℝ) : EReal))) (Ideal.exp (-((mm lf li (t + 1) : ℝ) : EReal))))

/-- A weight of a masked place is zero. -/
theorem exp_masked (p : Prop) [Decidable p] (x y m : ℝ) :
    (y : EReal) * Ideal.exp ((if p then (x : EReal) else ⊥) - (m : EReal)) = ((if p then y * Real.exp (x - m) else 0 : ℝ) : EReal) := by
  split
  · rw [← EReal.coe_sub, Ideal.exp_coe, ← EReal.coe_mul]
  · rw [EReal.bot_sub, Ideal.exp_bot, mul_zero, EReal.coe_zero]

end Cert.Scan

namespace Cert.ReferenceIdeal.Read

open Idealize.ShloMosaic Cert.ReferenceIdeal Cert.ReferenceIdeal.Gen Cert.ReferenceIdeal.Step Cert.Scan

/-- The loop's state at sequence `a` and head `b` after `c` trips. -/
structure Inv (s : State Ideal) (c : ℕ) (a : Fin 64) (b : Fin 8) (lf li : ℕ → ℝ) (q k v : ℕ → Fin 256 → ℝ) : Prop where
  hq : ∀ (x : Fin 4) (j : Fin 64) (d : Fin 256), s.main_v68_0 (ix5 x a b j d) = ((q (64 * x.val + j.val) d : ℝ) : EReal)
  hk : ∀ (x : Fin 4) (j : Fin 64) (d : Fin 256), s.main_v68_1 (ix5 x a b j d) = ((k (64 * x.val + j.val) d : ℝ) : EReal)
  hv : ∀ (x : Fin 4) (j : Fin 64) (d : Fin 256), s.main_v68_2 (ix5 x a b j d) = ((v (64 * x.val + j.val) d : ℝ) : EReal)
  hli : ∀ (x : Fin 4) (j : Fin 64), s.main_v68_3 (ix4 x a b j) = ((li (64 * x.val + j.val) : ℝ) : EReal)
  hlf : ∀ (x : Fin 4) (j : Fin 64), s.main_v68_4 (ix4 x a b j) = ((lf (64 * x.val + j.val) : ℝ) : EReal)
  hC : ∀ d e : Fin 256, s.main_v68_7 (ix4 a b d e) = ((cc lf li k v (64 * c) d e : ℝ) : EReal)
  hn : ∀ d : Fin 256, s.main_v68_8 (ix3 a b d) = ((nn lf li k (64 * c) d : ℝ) : EReal)
  hm : s.main_v68_9 (ix2 a b) = ((mm lf li (64 * c) : ℝ) : EReal)
  hh : ∀ (x : Fin 4) (j : Fin 64) (e : Fin 256), x.val < c → s.main_v68_10 (ix5 x a b j e) = hval lf li q k v (64 * x.val + j.val) e

variable {s : State Ideal} {a : Fin 64} {b : Fin 8} {lf li : ℕ → ℝ} {q k v : ℕ → Fin 256 → ℝ} {c : Fin 4}

theorem Inv.b30 (h : Inv s c a b lf li q k v) (j : Fin 64) : b30 c s (ix3 a b j) = ((bb lf (64 * c.val) j.val : ℝ) : EReal) := by
  rw [b30_at]
  refine (Finset.sum_congr rfl fun i _ => show _ = ((if i.val ≤ j.val then lf (64 * c.val + i.val) else 0 : ℝ) : EReal) from ?_).trans ?_
  · rw [b27_at, h.hlf]; split <;> simp
  · rw [coe_sum]
    exact congrArg _ (sum_masked (Equiv.refl (Fin 64)) j.val j.isLt fun i => lf (64 * c.val + i))

theorem Inv.b33 (h : Inv s c a b lf li q k v) (j : Fin 64) :
    b33 c s (ix3 a b j) = ((bb lf (64 * c.val) j.val + mm lf li (64 * c.val) : ℝ) : EReal) := by
  rw [b33_at, h.b30, h.hm, EReal.coe_add]

theorem Inv.b46 (h : Inv s c a b lf li q k v) (j i : Fin 64) :
    b46 c s (ix4 a b j i) = if i.val ≤ j.val then ((bb lf (64 * c.val) j.val - bb lf (64 * c.val) i.val + li (64 * c.val + i.val) : ℝ) : EReal) else ⊥ := by
  rw [b46_at, h.b30, h.b30, b22_at, h.hli, EReal.coe_add, EReal.coe_sub]

theorem Inv.b49 (h : Inv s c a b lf li q k v) (j : Fin 64) :
    b49 c s (ix3 a b j) = ((mm lf li (64 * c.val + (j.val + 1)) : ℝ) : EReal) := by
  rw [b49_at, ← b33_at, h.b33]
  simp only [h.b46]
  rw [← mm_chunk]
  exact fold_masked (Equiv.refl (Fin 64)) j.val j.isLt _ (fun i => bb lf (64 * c.val) j.val - bb lf (64 * c.val) i + li (64 * c.val + i))

theorem Inv.b52 (h : Inv s c a b lf li q k v) (j i : Fin 64) :
    b52 c s (ix4 a b j i) = ((∑ d, q (64 * c.val + j.val) d * k (64 * c.val + i.val) d : ℝ) : EReal) := by
  rw [b52_at, ← coe_sum]
  exact Finset.sum_congr rfl fun d _ => by rw [b5_at, b11_at, h.hq, h.hk, EReal.coe_mul]

theorem Inv.b57 (h : Inv s c a b lf li q k v) (j i : Fin 64) :
    b57 c s (ix4 a b j i) = ((if i.val ≤ j.val then (∑ d, q (64 * c.val + j.val) d * k (64 * c.val + i.val) d)
      * Real.exp (bb lf (64 * c.val) j.val - bb lf (64 * c.val) i.val + li (64 * c.val + i.val) - mm lf li (64 * c.val + (j.val + 1))) else 0 : ℝ) : EReal) := by
  rw [b57_at, h.b52, h.b46, h.b49, exp_masked]

theorem Inv.w (h : Inv s c a b lf li q k v) (j : Fin 64) :
    Ideal.exp (Step.b33 c s (ix3 a b j) - Step.b49 c s (ix3 a b j))
      = ((Real.exp (bb lf (64 * c.val) j.val + mm lf li (64 * c.val) - mm lf li (64 * c.val + (j.val + 1))) : ℝ) : EReal) := by
  rw [h.b33, h.b49, ← EReal.coe_sub, Ideal.exp_coe]

theorem Inv.b63 (h : Inv s c a b lf li q k v) (j : Fin 64) (e : Fin 256) :
    b63 c s (ix4 a b j e) = ((num lf li q k v (64 * c.val + j.val) e : ℝ) : EReal) := by
  rw [b63_at, h.w, ← num_chunk, EReal.coe_add, EReal.coe_mul]
  congr 1
  · congr 1
    rw [← coe_sum]
    exact Finset.sum_congr rfl fun d _ => by rw [b5_at, h.hq, h.hC, EReal.coe_mul]
  · rw [← sum_masked (Equiv.refl (Fin 64)) j.val j.isLt, ← coe_sum]
    refine Finset.sum_congr rfl fun i _ => ?_
    rw [h.b57, b17_at, h.hv, ← EReal.coe_mul, ite_mul, zero_mul]
    rfl

theorem Inv.b68 (h : Inv s c a b lf li q k v) (j : Fin 64) :
    b68 c s (ix3 a b j) = ((den lf li q k (64 * c.val + j.val) : ℝ) : EReal) := by
  rw [b68_at, h.w, ← den_chunk, EReal.coe_add, EReal.coe_mul]
  congr 1
  · congr 1
    rw [← coe_sum]
    exact Finset.sum_congr rfl fun d _ => by rw [b5_at, h.hq, h.hn, EReal.coe_mul]
  · rw [← sum_masked (Equiv.refl (Fin 64)) j.val j.isLt, ← coe_sum]
    exact Finset.sum_congr rfl fun i _ => h.b57 j i

theorem Inv.b75 (h : Inv s c a b lf li q k v) (j : Fin 64) (e : Fin 256) :
    b75 c s (ix4 a b j e) = hval lf li q k v (64 * c.val + j.val) e := by
  rw [b75_at, h.b63, h.b68, h.b49]
  rfl

theorem Inv.b77 (h : Inv s c a b lf li q k v) : b77 c s (ix2 a b) = ((bb lf (64 * c.val) 63 : ℝ) : EReal) := by
  rw [b77_at, h.b30]
  rfl

theorem Inv.b81 (h : Inv s c a b lf li q k v) (i : Fin 64) :
    b81 c s (ix3 a b i) = ((bb lf (64 * c.val) 63 - bb lf (64 * c.val) i.val + li (64 * c.val + i.val) : ℝ) : EReal) := by
  rw [b81_at, h.b77, h.b30, b22_at, h.hli, EReal.coe_add, EReal.coe_sub]

theorem Inv.b85 (h : Inv s c a b lf li q k v) : b85 c s (ix2 a b) = ((mm lf li (64 * c.val + (63 + 1)) : ℝ) : EReal) := by
  rw [b85_at, h.b77, h.hm, ← EReal.coe_add]
  simp only [h.b81]
  rw [← mm_chunk]
  exact fold_all (Equiv.refl (Fin 64)) _ (fun i => bb lf (64 * c.val) 63 - bb lf (64 * c.val) i + li (64 * c.val + i))

theorem Inv.b95 (h : Inv s c a b lf li q k v) (i : Fin 64) (d : Fin 256) :
    b95 c s (ix4 a b i d) = ((k (64 * c.val + i.val) d * Real.exp (bb lf (64 * c.val) 63 - bb lf (64 * c.val) i.val + li (64 * c.val + i.val)
      - mm lf li (64 * c.val + (63 + 1))) : ℝ) : EReal) := by
  rw [b95_at, b11_at, h.hk, h.b81, h.b85, ← EReal.coe_sub, Ideal.exp_coe, EReal.coe_mul]

theorem Inv.wold (h : Inv s c a b lf li q k v) :
    Ideal.exp (Step.b77 c s (ix2 a b) + s.main_v68_9 (ix2 a b) - Step.b85 c s (ix2 a b))
      = ((Real.exp (bb lf (64 * c.val) 63 + mm lf li (64 * c.val) - mm lf li (64 * c.val + (63 + 1))) : ℝ) : EReal) := by
  rw [h.b77, h.hm, h.b85, ← EReal.coe_add, ← EReal.coe_sub, Ideal.exp_coe]

theorem Inv.b100 (h : Inv s c a b lf li q k v) (d e : Fin 256) :
    b100 c s (ix4 a b d e) = ((cc lf li k v (64 * c.val + (63 + 1)) d e : ℝ) : EReal) := by
  rw [b100_at, h.wold, h.hC, ← cc_chunk, EReal.coe_add, EReal.coe_mul]
  congr 1
  rw [← sum_all (Equiv.refl (Fin 64)), ← coe_sum]
  exact Finset.sum_congr rfl fun i _ => by rw [h.b95, b17_at, h.hv, ← EReal.coe_mul]; rfl

theorem Inv.b106 (h : Inv s c a b lf li q k v) (d : Fin 256) :
    b106 c s (ix3 a b d) = ((nn lf li k (64 * c.val + (63 + 1)) d : ℝ) : EReal) := by
  rw [b106_at, h.wold, h.hn, ← nn_chunk, EReal.coe_add, EReal.coe_mul]
  congr 1
  rw [← sum_all (Equiv.refl (Fin 64)), ← coe_sum]
  exact Finset.sum_congr rfl fun i _ => h.b95 i d

/-- One trip keeps the closed form. -/
theorem Inv.step (h : Inv s c a b lf li q k v) : Inv (step c s) (c.val + 1) a b lf li q k v where
  hq := h.hq
  hk := h.hk
  hv := h.hv
  hli := h.hli
  hlf := h.hlf
  hC d e := by rw [step_main_v68_7]; exact h.b100 d e
  hn d := by rw [step_main_v68_8]; exact h.b106 d
  hm := by rw [step_main_v68_9]; exact h.b85
  hh x j e hx := by
    rw [step_main_v68_10, b112_at]
    split
    · rename_i hc; subst hc; exact h.b75 j e
    · rename_i hc
      exact h.hh x j e (by have : x.val ≠ c.val := fun h => hc (Fin.ext h); omega)

/-- The start and every trip: the closed form after all four. -/
theorem inv_four (it : ℕ → State Ideal) (h0 : Inv (it 0) 0 a b lf li q k v) (hs : ∀ n, it (n + 1) = Step.step n (it n)) :
    Inv (it 4) 4 a b lf li q k v := by
  have h1 : Inv (it 1) 1 a b lf li q k v := by rw [hs 0]; exact Inv.step (c := 0) h0
  have h2 : Inv (it 2) 2 a b lf li q k v := by rw [hs 1]; exact Inv.step (c := 1) h1
  have h3 : Inv (it 3) 3 a b lf li q k v := by rw [hs 2]; exact Inv.step (c := 2) h2
  rw [hs 3]; exact Inv.step (c := 3) h3

end Cert.ReferenceIdeal.Read

end
-- ==== Proof.Tokens.lean ====
/- The arguments as families of reals: one direction, sequence and head's queries, keys, values and gates in the order
   the recurrence takes the tokens. -/
module

public import proofs.«01_k».proof.Proof.ScanMath
public import Idealize.ShloMosaic.Lib.Pointwise

@[expose] public section

noncomputable section

namespace Cert.Scan

open Idealize.ShloMosaic

/-- The row of a sequence that holds its `p`-th token in the order of direction `r`: the order is its own inverse. -/
def place (r : Fin 2) : Fin 256 ≃ Fin 256 := if r = 0 then Equiv.refl _ else Fin.revPerm

theorem place_place (r : Fin 2) (p : Fin 256) : place r (place r p) = p := by
  unfold place; split <;> simp

theorem place_zero (p : Fin 256) : place 0 p = p := rfl
theorem place_one (p : Fin 256) : place 1 p = p.rev := rfl

/-- A token's number as a place in its sequence. -/
def pos (t : ℕ) : Fin 256 := ⟨t % 256, Nat.mod_lt _ (by decide)⟩

theorem pos_val (p : Fin 256) : pos p.val = p := Fin.ext (Nat.mod_eq_of_lt p.isLt)

/-- The row of the packed arguments that holds row `p` of sequence `a`. -/
def row (a : Fin 32) (p : Fin 256) : Fin 12288 := ⟨256 * a.val + p.val, by omega⟩

/-- Column `d` of head `b`. -/
def col (b : Fin 8) (d : Fin 256) : Fin 2048 := ⟨256 * b.val + d.val, by omega⟩

/-- Lane of head `b`'s input gate in direction `r`, and of its forget gate. -/
def lanei (r : Fin 2) (b : Fin 8) : Fin 128 := ⟨16 * r.val + b.val, by omega⟩
def lanef (r : Fin 2) (b : Fin 8) : Fin 128 := ⟨16 * r.val + 8 + b.val, by omega⟩

/-- The logarithm of the logistic function. -/
def logsig (x : ℝ) : ℝ := min x 0 - Real.log (1 + Real.exp (-|x|))

theorem logsig_nonpos (x : ℝ) : logsig x ≤ 0 := by
  have h : 0 ≤ Real.log (1 + Real.exp (-|x|)) := Real.log_nonneg (by linarith [Real.exp_pos (-|x|)])
  have := min_le_right x 0
  unfold logsig; linarith

/-- `x` is a finite number. -/
def Fin' (x : EReal) : Prop := x ≠ ⊤ ∧ x ≠ ⊥

theorem Fin'.coe {x : EReal} (h : Fin' x) : ((x.toReal : ℝ) : EReal) = x := EReal.coe_toReal h.1 h.2

variable (x : (⟨2, ![12288, 2048]⟩ : Shape).Idx → EReal) (g : (⟨2, ![12288, 128]⟩ : Shape).Idx → EReal) (r : Fin 2) (a : Fin 32) (b : Fin 8)

/-- A token's vector. -/
def vec (t : ℕ) (d : Fin 256) : ℝ := (x (ix2 (row a (place r (pos t))) (col b d))).toReal

/-- A token's input gate (its logarithm) and its forget gate's logarithm. -/
def gi (t : ℕ) : ℝ := (g (ix2 (row a (place r (pos t))) (lanei r b))).toReal
def gf (t : ℕ) : ℝ := logsig (g (ix2 (row a (place r (pos t))) (lanef r b))).toReal

theorem gf_nonpos (t : ℕ) : gf g r a b t ≤ 0 := logsig_nonpos _

end Cert.Scan

end
-- ==== Proof.Words.lean ====
/- The kernel's comparisons of indices, over 32-bit words. -/
module

public import proofs.«01_k».proof.Proof.Tokens
public import Idealize.ShloMosaic.PureOps.Ideal

@[expose] public section

set_option maxRecDepth 16384
open Idealize Idealize.ShloMosaic Cert.Scan

namespace Cert.KernelIdeal.Head

theorem wordi_lane : ∀ (r : Fin 2) (b : Fin 8) (x : Fin 128),
    IntOp.cmpi .eq (BitVec.ofNat 32 x.val) (Scalar.addi (Scalar.muli (BitVec.ofNat 32 r.val) 16#32) (BitVec.ofNat 32 b.val)) = if x = lanei r b then 1#1 else 0#1 := by
  decide +kernel
theorem wordf_lane : ∀ (r : Fin 2) (b : Fin 8) (x : Fin 128),
    IntOp.cmpi .eq (BitVec.ofNat 32 x.val) (Scalar.addi (Scalar.addi (Scalar.muli (BitVec.ofNat 32 r.val) 16#32) (BitVec.ofNat 32 b.val)) 8#32) = if x = lanef r b then 1#1 else 0#1 := by
  decide +kernel

theorem isf_word : ∀ l : Fin 128,
    IntOp.cmpi CmpIPredicate.sge
        (Scalar.select
          (IntOp.andi
            (IntOp.xori
              (IntOp.cmpi CmpIPredicate.slt
                (IntOp.remsi ArithUnit.vector (BitVec.ofNat 32 l.val)
                  (Scalar.select (Scalar.cmpi CmpIPredicate.eq 16#32 0#32) 1#32 16#32))
                0#32)
              (Scalar.cmpi CmpIPredicate.slt (Scalar.select (Scalar.cmpi CmpIPredicate.eq 16#32 0#32) 1#32 16#32) 0#32))
            (IntOp.cmpi CmpIPredicate.ne
              (IntOp.remsi ArithUnit.vector (BitVec.ofNat 32 l.val)
                (Scalar.select (Scalar.cmpi CmpIPredicate.eq 16#32 0#32) 1#32 16#32))
              0#32))
          (IntOp.addi
            (IntOp.remsi ArithUnit.vector (BitVec.ofNat 32 l.val)
              (Scalar.select (Scalar.cmpi CmpIPredicate.eq 16#32 0#32) 1#32 16#32))
            (Scalar.select (Scalar.cmpi CmpIPredicate.eq 16#32 0#32) 1#32 16#32))
          (IntOp.remsi ArithUnit.vector (BitVec.ofNat 32 l.val)
            (Scalar.select (Scalar.cmpi CmpIPredicate.eq 16#32 0#32) 1#32 16#32)))
        8#32 = if 8 ≤ l.val % 16 then 1#1 else 0#1 := by
  decide +kernel

theorem fwd_word : ∀ l : Fin 128, IntOp.cmpi CmpIPredicate.slt (BitVec.ofNat 32 l.val) 16#32 = if l.val < 16 then 1#1 else 0#1 := by
  decide +kernel
theorem le_word : ∀ x p : Fin 256, BitVec.setWidth 32 (IntOp.cmpi CmpIPredicate.sle (BitVec.ofNat 32 x.val) (BitVec.ofNat 32 p.val)) = if x.val ≤ p.val then 1#32 else 0#32 := by
  decide +kernel
theorem ge_word : ∀ x p : Fin 256, BitVec.setWidth 32 (IntOp.cmpi CmpIPredicate.sge (BitVec.ofNat 32 x.val) (BitVec.ofNat 32 p.val)) = if p.val ≤ x.val then 1#32 else 0#32 := by
  decide +kernel

theorem mask0_word : ∀ (p j : Fin 256), IntOp.cmpi .sge (IntOp.muli (IntOp.subi (BitVec.ofNat 32 p.val) (BitVec.ofNat 32 j.val)) (Scalar.subi (1#32) (Scalar.muli (2#32) 0#32))) 0#32
      = if j.val ≤ p.val then 1#1 else 0#1 := by decide +kernel
theorem mask1_word : ∀ (p j : Fin 256), IntOp.cmpi .sge (IntOp.muli (IntOp.subi (BitVec.ofNat 32 p.val) (BitVec.ofNat 32 j.val)) (Scalar.subi (1#32) (Scalar.muli (2#32) 1#32))) 0#32
      = if 255 - j.val ≤ 255 - p.val then 1#1 else 0#1 := by decide +kernel
theorem mask_word : ∀ (r : Fin 2) (p j : Fin 256),
    IntOp.cmpi .sge (IntOp.muli (IntOp.subi (BitVec.ofNat 32 p.val) (BitVec.ofNat 32 j.val)) (Scalar.subi (1#32) (Scalar.muli (2#32) (BitVec.ofNat 32 r.val)))) 0#32
      = if (place r j).val ≤ (place r p).val then 1#1 else 0#1 := by
  intro r p j
  match r with
  | 0 => exact mask0_word p j
  | 1 =>
    refine (mask1_word p j).trans ?_
    have e : ∀ x : Fin 256, (place 1 x).val = 255 - x.val := fun x => by rw [place_one, Fin.val_rev]; omega
    rw [e, e]

end Cert.KernelIdeal.Head

end
-- ==== Proof.Head.lean ====
/- One head of one block of the scan: the printed payloads read element by element, and their closed form. -/
module

public import proofs.«01_k».proof.Proof.Gen.KernelIdeal.Skeleton
public import proofs.«01_k».proof.Proof.RefInv
public import proofs.«01_k».proof.Proof.Words

@[expose] public section

set_option maxRecDepth 16384

noncomputable section

namespace Cert.KernelIdeal.Head

open Idealize.ShloMosaic Cert.KernelIdeal Cert.KernelIdeal.Gen Cert.Scan

theorem ninf : Ideal.ofBits .f32 0xFF800000#32 = ⊥ := by
  simp [Ideal.ofBits, Ideal.ieee]
theorem pinf : Ideal.ofBits .f32 0x7F800000#32 = ⊤ := by
  simp [Ideal.ofBits, Ideal.ieee]

abbrev z : Ideal .f32 := Scalar.ofBits .f32 0x00000000#32

variable (msk : IVec S256x256 1) (q k v : Vec Ideal S256x256 .bf16) (b l : FVec Ideal S256x1 .f32) (br lr : FVec Ideal S1x256 .f32)

/-- The exponent of place `j` seen from row `p`, −∞ where the mask drops it. -/
def ex (p j : Fin 256) : EReal := Scalar.select (msk (ix2 p j)) (b (ix2 p 0) - br (ix2 0 j) + lr (ix2 0 j)) ⊥

/-- Row `p`'s stabilizer. -/
def stab (p : Fin 256) : EReal := max (b (ix2 p 0)) (Finset.univ.fold max ⊥ fun j => ex msk b br lr p j)

/-- The attention weight of row `p` on row `j`. -/
def wt (p j : Fin 256) : EReal :=
  (∑ d : Fin 256, q (ix2 p d) * k (ix2 j d)) * Ideal.exp (ex msk b br lr p j - stab msk b br lr p)

theorem pay10_at (p e : Fin 256) :
    k1_pay10 msk q k v b br lr z (ix3 0 p e)
      = Ideal.div (∑ j, wt msk q k b br lr p j * v (ix2 j e))
          (max (max (∑ j, wt msk q k b br lr p j) (-∑ j, wt msk q k b br lr p j)) (Ideal.exp (0 - stab msk b br lr p))) := by
  unfold wt stab ex
  rw [← ninf]
  pointwise [k1_pay10, k1_pay9, z, Ideal.absf_def]

theorem pay11_at : k1_pay11 b (ix2 0 0) = Finset.univ.fold min ⊤ fun j : Fin 256 => b (ix2 j 0) := by
  rw [← pinf]
  pointwise [k1_pay11]

theorem pay12_at (p : Fin 256) : k1_pay12 b l (ix2 p 0) = k1_pay11 b (ix2 0 0) - b (ix2 p 0) + l (ix2 p 0) := by
  pointwise [k1_pay12]

theorem pay13_at : k1_pay13 b l z (ix2 0 0) = max (k1_pay11 b (ix2 0 0)) (Finset.univ.fold max ⊥ fun j => k1_pay12 b l (ix2 j 0)) := by
  rw [← ninf]
  pointwise [k1_pay13, k1_pay9, z]

theorem pay14_at (p d : Fin 256) : k1_pay14 k b l z (ix2 p d) = k (ix2 p d) * Ideal.exp (k1_pay12 b l (ix2 p 0) - k1_pay13 b l z (ix2 0 0)) := by
  pointwise [k1_pay14]

theorem pay16_at (d e : Fin 256) : k1_pay16 v (k1_pay15 k b l z) (ix5 0 0 0 d e) = ∑ p : Fin 256, k1_pay14 k b l z (ix2 p d) * v (ix2 p e) := by
  pointwise [k1_pay16, k1_pay15]

theorem pay17_at (d : Fin 256) : k1_pay17 (k1_pay14 k b l z) (ix5 0 0 0 0 d) = ∑ p : Fin 256, k1_pay14 k b l z (ix2 p d) := by
  pointwise [k1_pay17]

theorem pay18_at : k1_pay18 (k1_pay13 b l z) (ix5 0 0 0 0 0) = k1_pay13 b l z (ix2 0 0) := by
  pointwise [k1_pay18]

/-! ### The closed form -/

/-- What a head's block holds: direction `r`'s tokens, row `p` the token at `place r p`. -/
structure HeadIn (r : Fin 2) (lf li : ℕ → ℝ) (Q K V : ℕ → Fin 256 → ℝ) : Prop where
  hq : ∀ p d : Fin 256, q (ix2 p d) = ((Q (place r p).val d : ℝ) : EReal)
  hk : ∀ p d : Fin 256, k (ix2 p d) = ((K (place r p).val d : ℝ) : EReal)
  hv : ∀ p d : Fin 256, v (ix2 p d) = ((V (place r p).val d : ℝ) : EReal)
  hb : ∀ p : Fin 256, b (ix2 p 0) = ((pre lf ((place r p).val + 1) : ℝ) : EReal)
  hl : ∀ p : Fin 256, l (ix2 p 0) = ((li (place r p).val : ℝ) : EReal)
  hbr : ∀ p : Fin 256, br (ix2 0 p) = ((pre lf ((place r p).val + 1) : ℝ) : EReal)
  hlr : ∀ p : Fin 256, lr (ix2 0 p) = ((li (place r p).val : ℝ) : EReal)
  hm : ∀ p j : Fin 256, msk (ix2 p j) = if (place r j).val ≤ (place r p).val then 1#1 else 0#1
  hlf : ∀ s, lf s ≤ 0

variable {msk q k v b l br lr} {r : Fin 2} {lf li : ℕ → ℝ} {Q K V : ℕ → Fin 256 → ℝ}

theorem select_ite {α : Type} (p : Prop) [Decidable p] (x y : α) : Scalar.select (if p then 1#1 else 0#1) x y = if p then x else y := by
  split <;> rfl

theorem HeadIn.ex (h : HeadIn msk q k v b l br lr r lf li Q K V) (p j : Fin 256) :
    ex msk b br lr p j = if (place r j).val ≤ (place r p).val then ((dd lf li ((place r p).val + 1) (place r j).val : ℝ) : EReal) else ⊥ := by
  unfold Head.ex
  rw [h.hm, select_ite, h.hb, h.hbr, h.hlr, dd, EReal.coe_add, EReal.coe_sub]

theorem HeadIn.stab (h : HeadIn msk q k v b l br lr r lf li Q K V) (p : Fin 256) :
    stab msk b br lr p = ((mm lf li ((place r p).val + 1) : ℝ) : EReal) := by
  unfold Head.stab
  simp only [h.ex]
  rw [h.hb]
  exact fold_masked (place r) (place r p).val (place r p).isLt _ (dd lf li ((place r p).val + 1))

theorem HeadIn.wt (h : HeadIn msk q k v b l br lr r lf li Q K V) (p j : Fin 256) :
    wt msk q k b br lr p j = ((if (place r j).val ≤ (place r p).val then ss lf li Q K (place r p).val (place r j).val else 0 : ℝ) : EReal) := by
  unfold Head.wt
  rw [h.ex, h.stab]
  rw [show (∑ d : Fin 256, q (ix2 p d) * k (ix2 j d)) = ((∑ d, Q (place r p).val d * K (place r j).val d : ℝ) : EReal) by
    rw [← coe_sum]; exact Finset.sum_congr rfl fun d _ => by rw [h.hq, h.hk, EReal.coe_mul]]
  rw [exp_masked]
  rfl

/-- A head's block of the output. -/
theorem HeadIn.out (h : HeadIn msk q k v b l br lr r lf li Q K V) (p e : Fin 256) :
    k1_pay10 msk q k v b br lr z (ix3 0 p e) = hval lf li Q K V (place r p).val e := by
  rw [pay10_at, h.stab, hval, zero_sub]
  have h1 : (∑ j, Head.wt msk q k b br lr p j * v (ix2 j e)) = ((num lf li Q K V (place r p).val e : ℝ) : EReal) := by
    rw [num, ← sum_masked (place r) (place r p).val (place r p).isLt, ← coe_sum]
    refine Finset.sum_congr rfl fun j _ => ?_
    rw [h.wt, h.hv, ← EReal.coe_mul, ite_mul, zero_mul]
  have h2 : (∑ j, Head.wt msk q k b br lr p j) = ((den lf li Q K (place r p).val : ℝ) : EReal) := by
    rw [den, ← sum_masked (place r) (place r p).val (place r p).isLt, ← coe_sum]
    exact Finset.sum_congr rfl fun j _ => h.wt p j
  rw [h1, h2]

theorem HeadIn.last (h : HeadIn msk q k v b l br lr r lf li Q K V) : k1_pay11 b (ix2 0 0) = ((pre lf 256 : ℝ) : EReal) := by
  rw [pay11_at]
  simp only [h.hb]
  exact fold_min lf (place r) h.hlf

theorem HeadIn.dl (h : HeadIn msk q k v b l br lr r lf li Q K V) (p : Fin 256) :
    k1_pay12 b l (ix2 p 0) = ((dd lf li 256 (place r p).val : ℝ) : EReal) := by
  rw [pay12_at, h.last, h.hb, h.hl, dd, EReal.coe_add, EReal.coe_sub]

theorem HeadIn.mnew (h : HeadIn msk q k v b l br lr r lf li Q K V) : k1_pay13 b l z (ix2 0 0) = ((mm lf li 256 : ℝ) : EReal) := by
  rw [pay13_at, h.last]
  simp only [h.dl]
  exact fold_all (place r) _ (dd lf li 256)

theorem HeadIn.kw (h : HeadIn msk q k v b l br lr r lf li Q K V) (p d : Fin 256) :
    k1_pay14 k b l z (ix2 p d) = ((K (place r p).val d * ww lf li 256 (place r p).val : ℝ) : EReal) := by
  rw [pay14_at, h.hk, h.dl, h.mnew, ← EReal.coe_sub, Ideal.exp_coe, EReal.coe_mul]
  rfl

/-- A head's matrix state. -/
theorem HeadIn.outC (h : HeadIn msk q k v b l br lr r lf li Q K V) (d e : Fin 256) :
    k1_pay16 v (k1_pay15 k b l z) (ix5 0 0 0 d e) = ((cc lf li K V 256 d e : ℝ) : EReal) := by
  rw [pay16_at, cc, ← sum_all (place r), ← coe_sum]
  exact Finset.sum_congr rfl fun p _ => by rw [h.kw, h.hv, ← EReal.coe_mul]

/-- A head's normalizer state. -/
theorem HeadIn.outN (h : HeadIn msk q k v b l br lr r lf li Q K V) (d : Fin 256) :
    k1_pay17 (k1_pay14 k b l z) (ix5 0 0 0 0 d) = ((nn lf li K 256 d : ℝ) : EReal) := by
  rw [pay17_at, nn, ← sum_all (place r), ← coe_sum]
  exact Finset.sum_congr rfl fun p _ => h.kw p d

/-- A head's stabilizer. -/
theorem HeadIn.outM (h : HeadIn msk q k v b l br lr r lf li Q K V) :
    k1_pay18 (k1_pay13 b l z) (ix5 0 0 0 0 0) = ((mm lf li 256 : ℝ) : EReal) := by
  rw [pay18_at, h.mnew]

/-! ### The gates' lanes and the mask -/

/-- One lane of a gate block, as a column. -/
def gate (w : BitVec 32) (g : FVec Ideal S256x128 .f32) : FVec Ideal S256x1 .f32 :=
  have v2 : IVec S256x128 32 := iota .tc S256x128 32 [1] iota_S256x128_d1_w32
  have v24 : IVec S256x128 32 := broadcast S256x128 w
  have v25 : IVec S256x128 1 := cmpi .eq v2 v24
  have cst_9 : Ideal .f32 := Scalar.ofBits .f32 0x00000000#32
  have v26 : FVec Ideal S256x128 .f32 := broadcast S256x128 cst_9
  have v27 : FVec Ideal S256x128 .f32 := select v25 g v26
  have v28 : FVec Ideal S256 .f32 := multiReduction .add [1] S256 v27 0x00000000#32 reduces_S256x128_S256 (.inl rfl) rfl
  have v29 : FVec Ideal S256x1 .f32 := shapeCast S256x1 v28 shapeCasts_S256_S256x1
  v29

/-- The words of the two lanes of head `hh`. -/
abbrev wordi (i : grid1.Coords) (hh : BitVec 32) : BitVec 32 := Scalar.addi (Scalar.muli (BitVec.ofNat 32 (i 0).val) 16#32) hh
abbrev wordf (i : grid1.Coords) (hh : BitVec 32) : BitVec 32 := Scalar.addi (wordi i hh) 8#32

theorem gate_at (w : BitVec 32) (g : FVec Ideal S256x128 .f32) (L : Fin 128)
    (hw : ∀ x : Fin 128, IntOp.cmpi .eq (BitVec.ofNat 32 x.val) w = if x = L then 1#1 else 0#1) (p : Fin 256) :
    gate w (k1_pay3 g) (ix2 p 0) = g (ix2 p L) := by
  pointwise [gate, k1_pay3]
  simp only [hw, select_ite, Finset.sum_ite_eq', Finset.mem_univ, if_true]

theorem mask_at (i : grid1.Coords) (r : Fin 2) (hr : (i 0).val = r.val) (p j : Fin 256) :
    k1_pay4 i (ix2 p j) = if (place r j).val ≤ (place r p).val then 1#1 else 0#1 := by
  rw [← mask_word, ← hr]
  pointwise [k1_pay4]

/-! ### The gates' preparation -/

theorem sitofp_ite (p : Prop) [Decidable p] : (FloatOps.sitofp (F := Ideal) .f32 (if p then 1#32 else 0#32) : EReal) = ((if p then 1 else 0 : ℝ) : EReal) := by
  split
  · exact (show _ = (((1#32 : BitVec 32).toInt : ℝ) : EReal) from rfl).trans (by simp)
  · exact (show _ = (((0#32 : BitVec 32).toInt : ℝ) : EReal) from rfl).trans (by simp)

theorem logsig_ker (y : ℝ) :
    min (y : EReal) 0 - Ideal.log (1 + Ideal.exp (0 - FloatOps.absf (F := Ideal) (φ := .f32) (y : EReal))) = ((logsig y : ℝ) : EReal) := by
  have h1 : FloatOps.absf (F := Ideal) (φ := .f32) (y : EReal) = ((|y| : ℝ) : EReal) := by
    rw [Ideal.absf_def, ← EReal.coe_neg, ← EReal.coe_strictMono.monotone.map_max]; rfl
  have h2 : (0:ℝ) < 1 + Real.exp (-|y|) := by positivity
  rw [h1, zero_sub, ← EReal.coe_neg, Ideal.exp_coe, ← EReal.coe_one, ← EReal.coe_add, Ideal.log_coe, if_neg (by linarith)]
  rw [← EReal.coe_zero, ← EReal.coe_strictMono.monotone.map_min, ← EReal.coe_sub]
  rfl

theorem prep_i (v0 : Vec Ideal S256x128 .f32) (r : Fin 2) (b : Fin 8) (p : Fin 256) :
    k0_pay1 v0 (ix2 p (lanei r b)) = v0 (ix2 p (lanei r b)) := by
  pointwise [k0_pay1]
  rw [isf_word, if_neg (by simp only [lanei]; omega)]
  rfl

theorem prep_f (v0 : Vec Ideal S256x128 .f32) (r : Fin 2) (b : Fin 8) (p : Fin 256) (lf : ℕ → ℝ) (y : Fin 256 → ℝ)
    (h : ∀ x : Fin 256, v0 (ix2 x (lanef r b)) = ((y x : ℝ) : EReal)) (hlf : ∀ x : Fin 256, logsig (y x) = lf (place r x).val) :
    k0_pay1 v0 (ix2 p (lanef r b)) = ((pre lf ((place r p).val + 1) : ℝ) : EReal) := by
  pointwise [k0_pay1]
  rw [isf_word, if_pos (by simp only [lanef]; omega), fwd_word]
  simp only [le_word, ge_word, sitofp_ite, h, logsig_ker, hlf]
  simp only [select_ite, Fin.isValue]
  rw [show ∀ u w : EReal, Scalar.select 1#1 u w = u from fun _ _ => rfl]
  have key : ∀ (c : Fin 256 → Prop) [DecidablePred c], (∀ x, c x ↔ (place r x).val ≤ (place r p).val) →
      (∑ x : Fin 256, ((if c x then 1 else 0 : ℝ) : EReal) * ((lf (place r x).val : ℝ) : EReal)) = ((pre lf ((place r p).val + 1) : ℝ) : EReal) := by
    intro c _ hc
    rw [pre, ← sum_masked (place r) (place r p).val (place r p).isLt, ← coe_sum]
    refine Finset.sum_congr rfl fun x _ => ?_
    rw [← EReal.coe_mul, ite_mul, one_mul, zero_mul]
    exact congrArg _ (if_congr (hc x) rfl rfl)
  match r with
  | 0 =>
    rw [if_pos (by simp only [lanef]; omega)]
    exact key _ fun x => Iff.rfl
  | 1 =>
    rw [if_neg (by simp only [lanef]; omega)]
    refine key _ fun x => ?_
    rw [place_one, place_one, Fin.val_rev, Fin.val_rev]
    omega
end Cert.KernelIdeal.Head

end
-- ==== Proof.Block.lean ====
/- One grid point of the scan: the four output blocks in closed form, from what the five input blocks hold. -/
module

public import proofs.«01_k».proof.Proof.Gen.KernelIdeal.Frame
public import proofs.«01_k».proof.Proof.Head
public import Idealize.ShloMosaic.Lib.Pipeline.ValueKit
public import Idealize.ShloMosaic.Lib.Pipeline.Covers

@[expose] public section

set_option maxRecDepth 16384

noncomputable section
namespace Cert.KernelIdeal.Head

open Idealize Idealize.ShloMosaic Cert.KernelIdeal Cert.KernelIdeal.Gen Cert.Scan

/-- What the input blocks of one grid point hold: all eight heads' tokens of one direction and sequence, and their gates both
    as columns and as rows. -/
structure BlockIn (i : grid1.Coords) (X0 X1 X2 : Vec Ideal S256x2048 .bf16) (G : Vec Ideal S256x128 .f32) (GT : Vec Ideal S128x256 .f32)
    (r : Fin 2) (lf li : Fin 8 → ℕ → ℝ) (Q K W : Fin 8 → ℕ → Fin 256 → ℝ) : Prop where
  hr : (i 0).val = r.val
  hq : ∀ b (p d : Fin 256), X0 (ix2 p (col b d)) = ((Q b (place r p).val d : ℝ) : EReal)
  hk : ∀ b (p d : Fin 256), X1 (ix2 p (col b d)) = ((K b (place r p).val d : ℝ) : EReal)
  hv : ∀ b (p d : Fin 256), X2 (ix2 p (col b d)) = ((W b (place r p).val d : ℝ) : EReal)
  hf : ∀ b (p : Fin 256), G (ix2 p (lanef r b)) = ((pre (lf b) ((place r p).val + 1) : ℝ) : EReal)
  hi : ∀ b (p : Fin 256), G (ix2 p (lanei r b)) = ((li b (place r p).val : ℝ) : EReal)
  hft : ∀ b (p : Fin 256), GT (ix2 (lanef r b) p) = ((pre (lf b) ((place r p).val + 1) : ℝ) : EReal)
  hit : ∀ b (p : Fin 256), GT (ix2 (lanei r b) p) = ((li b (place r p).val : ℝ) : EReal)
  hlf : ∀ b s, lf b s ≤ 0

theorem ld_col (X : Vec Ideal S256x2048 .bf16) (b : Fin 8) (off : Fin 2 → ℕ) (inb) (h : off = ![0, 256 * b.val]) (p d : Fin 256) :
    View.ld (Val := Elt Ideal) X (Rect.unit (s := S256x2048) off ![256, 256] inb) (ix2 p d) = X (ix2 p (col b d)) := by
  subst h
  refine View.ld_unit_apply_of X _ _ _ _ _ fun a => ?_
  fin_cases a <;> simp [col, ix2]

theorem ld_row (X : Vec Ideal S128x256 .f32) (L : Fin 128) (off : Fin 2 → ℕ) (inb) (h : off = ![L.val, 0]) (p : Fin 256) :
    View.ld (Val := Elt Ideal) X (Rect.unit (s := S128x256) off ![1, 256] inb) (ix2 0 p) = X (ix2 L p) := by
  subst h
  refine View.ld_unit_apply_of X _ _ _ _ _ fun a => ?_
  fin_cases a <;> simp [ix2]

theorem pay7_at (x : Vec Ideal S1x256 .f32) (p : Fin 256) : k1_pay7 x (ix2 0 p) = x (ix2 0 p) := by
  pointwise [k1_pay7]
theorem pay8_at (x : Vec Ideal S1x256 .f32) (p : Fin 256) : k1_pay8 x (ix2 0 p) = x (ix2 0 p) := by
  pointwise [k1_pay8]

variable {i : grid1.Coords} {X0 X1 X2 : Vec Ideal S256x2048 .bf16} {G : Vec Ideal S256x128 .f32} {GT : Vec Ideal S128x256 .f32}
    {r : Fin 2} {lf li : Fin 8 → ℕ → ℝ} {Q K W : Fin 8 → ℕ → Fin 256 → ℝ}

/-- Head `b` of a block. -/
theorem BlockIn.head (h : BlockIn i X0 X1 X2 G GT r lf li Q K W) (b : Fin 8) (off o1 o2 : Fin 2 → ℕ) (inb) (inb1) (inb2)
    (ho : off = ![0, 256 * b.val]) (ho1 : o1 = k1_off1 i (BitVec.ofNat 32 b.val)) (ho2 : o2 = k1_off2 i (BitVec.ofNat 32 b.val)) :
    HeadIn (k1_pay4 i) (View.ld (Val := Elt Ideal) X0 (Rect.unit (s := S256x2048) off ![256, 256] inb))
      (View.ld (Val := Elt Ideal) X1 (Rect.unit (s := S256x2048) off ![256, 256] inb))
      (View.ld (Val := Elt Ideal) X2 (Rect.unit (s := S256x2048) off ![256, 256] inb))
      (gate (wordf i (BitVec.ofNat 32 b.val)) (k1_pay3 G)) (gate (wordi i (BitVec.ofNat 32 b.val)) (k1_pay3 G))
      (k1_pay7 (View.ld (Val := Elt Ideal) GT (Rect.unit (s := S128x256) o1 ![1, 256] inb1)))
      (k1_pay8 (View.ld (Val := Elt Ideal) GT (Rect.unit (s := S128x256) o2 ![1, 256] inb2)))
      r (lf b) (li b) (Q b) (K b) (W b) where
  hq p d := (ld_col X0 b off inb ho p d).trans (h.hq b p d)
  hk p d := (ld_col X1 b off inb ho p d).trans (h.hk b p d)
  hv p d := (ld_col X2 b off inb ho p d).trans (h.hv b p d)
  hb p := (gate_at _ G (lanef r b) (fun x => by rw [← wordf_lane, ← h.hr]) p).trans (h.hf b p)
  hl p := (gate_at _ G (lanei r b) (fun x => by rw [← wordi_lane, ← h.hr]) p).trans (h.hi b p)
  hbr p := (pay7_at _ p).trans ((ld_row GT (lanef r b) o1 inb1 (by
    rw [ho1, k1_off1_eq, h.hr]; funext a; fin_cases a <;> simp [lanef]; omega) p).trans (h.hft b p))
  hlr p := (pay8_at _ p).trans ((ld_row GT (lanei r b) o2 inb2 (by
    rw [ho2, k1_off2_eq, h.hr]; funext a; fin_cases a <;> simp [lanei]) p).trans (h.hit b p))
  hm p j := mask_at i r h.hr p j
  hlf := h.hlf b

theorem idx3_of (x : S1x256x256.Idx) (p e : Fin 256) (h1 : p.val = (x 1).val) (h2 : e.val = (x 2).val) : x = ix3 0 p e := by
  funext a
  match a with
  | 0 => exact Fin.ext (by have := (x 0).isLt; simp at this; simp [ix3])
  | 1 => exact Fin.ext h1.symm
  | 2 => exact Fin.ext h2.symm

theorem idxC_of (x : S1x1x1x256x256.Idx) (p e : Fin 256) (h1 : p.val = (x 3).val) (h2 : e.val = (x 4).val) : x = ix5 0 0 0 p e := by
  funext a
  match a with
  | 0 => exact Fin.ext (by have := (x 0).isLt; simp at this; simp [ix5])
  | 1 => exact Fin.ext (by have := (x 1).isLt; simp at this; simp [ix5])
  | 2 => exact Fin.ext (by have := (x 2).isLt; simp at this; simp [ix5])
  | 3 => exact Fin.ext h1.symm
  | 4 => exact Fin.ext h2.symm

theorem idxN_of (x : S1x1x1x1x256.Idx) (e : Fin 256) (h2 : e.val = (x 4).val) : x = ix5 0 0 0 0 e := by
  funext a
  match a with
  | 0 => exact Fin.ext (by have := (x 0).isLt; simp at this; simp [ix5])
  | 1 => exact Fin.ext (by have := (x 1).isLt; simp at this; simp [ix5])
  | 2 => exact Fin.ext (by have := (x 2).isLt; simp at this; simp [ix5])
  | 3 => exact Fin.ext (by have := (x 3).isLt; simp at this; simp [ix5])
  | 4 => exact Fin.ext h2.symm

theorem idxM_of (x : S1x1x1x1x1.Idx) : x = ix5 0 0 0 0 0 := by
  funext a
  match a with
  | 0 => exact Fin.ext (by have := (x 0).isLt; simp at this; simp [ix5])
  | 1 => exact Fin.ext (by have := (x 1).isLt; simp at this; simp [ix5])
  | 2 => exact Fin.ext (by have := (x 2).isLt; simp at this; simp [ix5])
  | 3 => exact Fin.ext (by have := (x 3).isLt; simp at this; simp [ix5])
  | 4 => exact Fin.ext (by have := (x 4).isLt; simp at this; simp [ix5])

variable (V : (c : Dev nD) → (b : Ref sig .tc) → Buf (Elt Ideal) (c.tc.loc b))

/-- The stabilizers. -/
theorem block8 (c : Dev nD) (t : Fin cfg1.N)
    (h : BlockIn (grid1.coords t) (iblk1 V c 0 t) (iblk1 V c 1 t) (iblk1 V c 2 t) (iblk1 V c 3 t) (iblk1 V c 4 t) r lf li Q K W)
    (b : Fin 8)  : (dat1 (F := Ideal) V c).after 8 t (ix5 0 0 b 0 0) = ((mm (lf b) (li b) 256 : ℝ) : EReal) := by
  rw [after1_8]
  frame_out
  canon_tiles x y
  · obtain rfl : b = 7 := Fin.ext (by simp [ix5] at y2; simp; omega)
    rw [idxM_of x]
    exact (h.head 7 ![0, 1792] _ _ (inb_S256x2048_S256x256_0_1792) (k1_off1_inb _ 7) (k1_off2_inb _ 7) rfl rfl rfl).outM
  · obtain rfl : b = 6 := Fin.ext (by simp [ix5] at y2; simp; omega)
    rw [idxM_of x]
    exact (h.head 6 ![0, 1536] _ _ (inb_S256x2048_S256x256_0_1536) (k1_off1_inb _ 6) (k1_off2_inb _ 6) rfl rfl rfl).outM
  · obtain rfl : b = 5 := Fin.ext (by simp [ix5] at y2; simp; omega)
    rw [idxM_of x]
    exact (h.head 5 ![0, 1280] _ _ (inb_S256x2048_S256x256_0_1280) (k1_off1_inb _ 5) (k1_off2_inb _ 5) rfl rfl rfl).outM
  · obtain rfl : b = 4 := Fin.ext (by simp [ix5] at y2; simp; omega)
    rw [idxM_of x]
    exact (h.head 4 ![0, 1024] _ _ (inb_S256x2048_S256x256_0_1024) (k1_off1_inb _ 4) (k1_off2_inb _ 4) rfl rfl rfl).outM
  · obtain rfl : b = 3 := Fin.ext (by simp [ix5] at y2; simp; omega)
    rw [idxM_of x]
    exact (h.head 3 ![0, 768] _ _ (inb_S256x2048_S256x256_0_768) (k1_off1_inb _ 3) (k1_off2_inb _ 3) rfl rfl rfl).outM
  · obtain rfl : b = 2 := Fin.ext (by simp [ix5] at y2; simp; omega)
    rw [idxM_of x]
    exact (h.head 2 ![0, 512] _ _ (inb_S256x2048_S256x256_0_512) (k1_off1_inb _ 2) (k1_off2_inb _ 2) rfl rfl rfl).outM
  · obtain rfl : b = 1 := Fin.ext (by simp [ix5] at y2; simp; omega)
    rw [idxM_of x]
    exact (h.head 1 ![0, 256] _ _ (inb_S256x2048_S256x256_0_256) (k1_off1_inb _ 1) (k1_off2_inb _ 1) rfl rfl rfl).outM
  · obtain rfl : b = 0 := Fin.ext (by simp [ix5] at y2; simp; omega)
    rw [idxM_of x]
    exact (h.head 0 ![0, 0] _ _ (inb_S256x2048_S256x256_0_0) (k1_off1_inb _ 0) (k1_off2_inb _ 0) rfl rfl rfl).outM
/-- The normalizer states. -/
theorem block7 (c : Dev nD) (t : Fin cfg1.N)
    (h : BlockIn (grid1.coords t) (iblk1 V c 0 t) (iblk1 V c 1 t) (iblk1 V c 2 t) (iblk1 V c 3 t) (iblk1 V c 4 t) r lf li Q K W)
    (b : Fin 8) (d : Fin 256) : (dat1 (F := Ideal) V c).after 7 t (ix5 0 0 b 0 d) = ((nn (lf b) (li b) (K b) 256 d : ℝ) : EReal) := by
  rw [after1_7]
  frame_out
  canon_tiles x y
  · obtain rfl : b = 7 := Fin.ext (by simp [ix5] at y2; simp; omega)
    rw [idxN_of x d y4]
    exact (h.head 7 ![0, 1792] _ _ (inb_S256x2048_S256x256_0_1792) (k1_off1_inb _ 7) (k1_off2_inb _ 7) rfl rfl rfl).outN d
  · obtain rfl : b = 6 := Fin.ext (by simp [ix5] at y2; simp; omega)
    rw [idxN_of x d y4]
    exact (h.head 6 ![0, 1536] _ _ (inb_S256x2048_S256x256_0_1536) (k1_off1_inb _ 6) (k1_off2_inb _ 6) rfl rfl rfl).outN d
  · obtain rfl : b = 5 := Fin.ext (by simp [ix5] at y2; simp; omega)
    rw [idxN_of x d y4]
    exact (h.head 5 ![0, 1280] _ _ (inb_S256x2048_S256x256_0_1280) (k1_off1_inb _ 5) (k1_off2_inb _ 5) rfl rfl rfl).outN d
  · obtain rfl : b = 4 := Fin.ext (by simp [ix5] at y2; simp; omega)
    rw [idxN_of x d y4]
    exact (h.head 4 ![0, 1024] _ _ (inb_S256x2048_S256x256_0_1024) (k1_off1_inb _ 4) (k1_off2_inb _ 4) rfl rfl rfl).outN d
  · obtain rfl : b = 3 := Fin.ext (by simp [ix5] at y2; simp; omega)
    rw [idxN_of x d y4]
    exact (h.head 3 ![0, 768] _ _ (inb_S256x2048_S256x256_0_768) (k1_off1_inb _ 3) (k1_off2_inb _ 3) rfl rfl rfl).outN d
  · obtain rfl : b = 2 := Fin.ext (by simp [ix5] at y2; simp; omega)
    rw [idxN_of x d y4]
    exact (h.head 2 ![0, 512] _ _ (inb_S256x2048_S256x256_0_512) (k1_off1_inb _ 2) (k1_off2_inb _ 2) rfl rfl rfl).outN d
  · obtain rfl : b = 1 := Fin.ext (by simp [ix5] at y2; simp; omega)
    rw [idxN_of x d y4]
    exact (h.head 1 ![0, 256] _ _ (inb_S256x2048_S256x256_0_256) (k1_off1_inb _ 1) (k1_off2_inb _ 1) rfl rfl rfl).outN d
  · obtain rfl : b = 0 := Fin.ext (by simp [ix5] at y2; simp; omega)
    rw [idxN_of x d y4]
    exact (h.head 0 ![0, 0] _ _ (inb_S256x2048_S256x256_0_0) (k1_off1_inb _ 0) (k1_off2_inb _ 0) rfl rfl rfl).outN d
/-- The matrix states. -/
theorem block6 (c : Dev nD) (t : Fin cfg1.N)
    (h : BlockIn (grid1.coords t) (iblk1 V c 0 t) (iblk1 V c 1 t) (iblk1 V c 2 t) (iblk1 V c 3 t) (iblk1 V c 4 t) r lf li Q K W)
    (b : Fin 8) (d e : Fin 256) : (dat1 (F := Ideal) V c).after 6 t (ix5 0 0 b d e) = ((cc (lf b) (li b) (K b) (W b) 256 d e : ℝ) : EReal) := by
  rw [after1_6]
  frame_out
  canon_tiles x y
  · obtain rfl : b = 7 := Fin.ext (by simp [ix5] at y2; simp; omega)
    rw [idxC_of x d e y3 y4]
    exact (h.head 7 ![0, 1792] _ _ (inb_S256x2048_S256x256_0_1792) (k1_off1_inb _ 7) (k1_off2_inb _ 7) rfl rfl rfl).outC d e
  · obtain rfl : b = 6 := Fin.ext (by simp [ix5] at y2; simp; omega)
    rw [idxC_of x d e y3 y4]
    exact (h.head 6 ![0, 1536] _ _ (inb_S256x2048_S256x256_0_1536) (k1_off1_inb _ 6) (k1_off2_inb _ 6) rfl rfl rfl).outC d e
  · obtain rfl : b = 5 := Fin.ext (by simp [ix5] at y2; simp; omega)
    rw [idxC_of x d e y3 y4]
    exact (h.head 5 ![0, 1280] _ _ (inb_S256x2048_S256x256_0_1280) (k1_off1_inb _ 5) (k1_off2_inb _ 5) rfl rfl rfl).outC d e
  · obtain rfl : b = 4 := Fin.ext (by simp [ix5] at y2; simp; omega)
    rw [idxC_of x d e y3 y4]
    exact (h.head 4 ![0, 1024] _ _ (inb_S256x2048_S256x256_0_1024) (k1_off1_inb _ 4) (k1_off2_inb _ 4) rfl rfl rfl).outC d e
  · obtain rfl : b = 3 := Fin.ext (by simp [ix5] at y2; simp; omega)
    rw [idxC_of x d e y3 y4]
    exact (h.head 3 ![0, 768] _ _ (inb_S256x2048_S256x256_0_768) (k1_off1_inb _ 3) (k1_off2_inb _ 3) rfl rfl rfl).outC d e
  · obtain rfl : b = 2 := Fin.ext (by simp [ix5] at y2; simp; omega)
    rw [idxC_of x d e y3 y4]
    exact (h.head 2 ![0, 512] _ _ (inb_S256x2048_S256x256_0_512) (k1_off1_inb _ 2) (k1_off2_inb _ 2) rfl rfl rfl).outC d e
  · obtain rfl : b = 1 := Fin.ext (by simp [ix5] at y2; simp; omega)
    rw [idxC_of x d e y3 y4]
    exact (h.head 1 ![0, 256] _ _ (inb_S256x2048_S256x256_0_256) (k1_off1_inb _ 1) (k1_off2_inb _ 1) rfl rfl rfl).outC d e
  · obtain rfl : b = 0 := Fin.ext (by simp [ix5] at y2; simp; omega)
    rw [idxC_of x d e y3 y4]
    exact (h.head 0 ![0, 0] _ _ (inb_S256x2048_S256x256_0_0) (k1_off1_inb _ 0) (k1_off2_inb _ 0) rfl rfl rfl).outC d e
/-- The output. -/
theorem block5 (c : Dev nD) (t : Fin cfg1.N)
    (h : BlockIn (grid1.coords t) (iblk1 V c 0 t) (iblk1 V c 1 t) (iblk1 V c 2 t) (iblk1 V c 3 t) (iblk1 V c 4 t) r lf li Q K W)
    (b : Fin 8) (p e : Fin 256) : (dat1 (F := Ideal) V c).after 5 t (ix3 0 p (col b e)) = hval (lf b) (li b) (Q b) (K b) (W b) (place r p).val e := by
  rw [after1_5]
  unfold outsAt1
  dsimp only
  frame_out
  canon_tiles x y
  · have y2 : 256 * b.val + e.val = 1792 + (x 2).val := y2
    have y3 : (x 2).val < 256 := x2_lt
    obtain rfl : b = 7 := Fin.ext (by have := e.isLt; simp; omega)
    rw [idx3_of x p e y1 (by simp at y2; omega)]
    exact (h.head 7 ![0, 1792] _ _ (inb_S256x2048_S256x256_0_1792) (k1_off1_inb _ 7) (k1_off2_inb _ 7) rfl rfl rfl).out p e
  · have y2 : 256 * b.val + e.val = 1536 + (x 2).val := y2
    have y3 : (x 2).val < 256 := x2_lt
    obtain rfl : b = 6 := Fin.ext (by have := e.isLt; simp; omega)
    rw [idx3_of x p e y1 (by simp at y2; omega)]
    exact (h.head 6 ![0, 1536] _ _ (inb_S256x2048_S256x256_0_1536) (k1_off1_inb _ 6) (k1_off2_inb _ 6) rfl rfl rfl).out p e
  · have y2 : 256 * b.val + e.val = 1280 + (x 2).val := y2
    have y3 : (x 2).val < 256 := x2_lt
    obtain rfl : b = 5 := Fin.ext (by have := e.isLt; simp; omega)
    rw [idx3_of x p e y1 (by simp at y2; omega)]
    exact (h.head 5 ![0, 1280] _ _ (inb_S256x2048_S256x256_0_1280) (k1_off1_inb _ 5) (k1_off2_inb _ 5) rfl rfl rfl).out p e
  · have y2 : 256 * b.val + e.val = 1024 + (x 2).val := y2
    have y3 : (x 2).val < 256 := x2_lt
    obtain rfl : b = 4 := Fin.ext (by have := e.isLt; simp; omega)
    rw [idx3_of x p e y1 (by simp at y2; omega)]
    exact (h.head 4 ![0, 1024] _ _ (inb_S256x2048_S256x256_0_1024) (k1_off1_inb _ 4) (k1_off2_inb _ 4) rfl rfl rfl).out p e
  · have y2 : 256 * b.val + e.val = 768 + (x 2).val := y2
    have y3 : (x 2).val < 256 := x2_lt
    obtain rfl : b = 3 := Fin.ext (by have := e.isLt; simp; omega)
    rw [idx3_of x p e y1 (by simp at y2; omega)]
    exact (h.head 3 ![0, 768] _ _ (inb_S256x2048_S256x256_0_768) (k1_off1_inb _ 3) (k1_off2_inb _ 3) rfl rfl rfl).out p e
  · have y2 : 256 * b.val + e.val = 512 + (x 2).val := y2
    have y3 : (x 2).val < 256 := x2_lt
    obtain rfl : b = 2 := Fin.ext (by have := e.isLt; simp; omega)
    rw [idx3_of x p e y1 (by simp at y2; omega)]
    exact (h.head 2 ![0, 512] _ _ (inb_S256x2048_S256x256_0_512) (k1_off1_inb _ 2) (k1_off2_inb _ 2) rfl rfl rfl).out p e
  · have y2 : 256 * b.val + e.val = 256 + (x 2).val := y2
    have y3 : (x 2).val < 256 := x2_lt
    obtain rfl : b = 1 := Fin.ext (by have := e.isLt; simp; omega)
    rw [idx3_of x p e y1 (by simp at y2; omega)]
    exact (h.head 1 ![0, 256] _ _ (inb_S256x2048_S256x256_0_256) (k1_off1_inb _ 1) (k1_off2_inb _ 1) rfl rfl rfl).out p e
  · have y2 : 256 * b.val + e.val = 0 + (x 2).val := y2.trans (Nat.zero_add _).symm
    have y3 : (x 2).val < 256 := x2_lt
    obtain rfl : b = 0 := Fin.ext (by have := e.isLt; simp; omega)
    rw [idx3_of x p e y1 (by simp at y2; omega)]
    exact (h.head 0 ![0, 0] _ _ (inb_S256x2048_S256x256_0_0) (k1_off1_inb _ 0) (k1_off2_inb _ 0) rfl rfl rfl).out p e
end Cert.KernelIdeal.Head

end
-- ==== Proof.Readout.lean ====
/- The kernel's arrays at coordinates: the gates the first call leaves, their transpose, and what the input blocks of the
   scan read. -/
module

public import proofs.«01_k».proof.Proof.Gen.KernelIdeal.Frame
public import proofs.«01_k».proof.Proof.Tokens
public import Idealize.ShloMosaic.Lib.Pipeline.ValueKit
public import Idealize.ShloMosaic.Lib.Pipeline.Covers

@[expose] public section

set_option maxRecDepth 16384

noncomputable section
namespace Cert.KernelIdeal.Readout

open Idealize Idealize.ShloMosaic Cert.KernelIdeal Cert.KernelIdeal.Gen Cert.Scan

/-! ### The first call -/

section
variable (V : (c : Dev nD) → (b : Ref sig .tc) → Buf (Elt Ideal) (c.tc.loc b))

/-- Block `a` of the gates. -/
def gblk (g : Vec Ideal S12288x128 .f32) (a : Fin 48) : Vec Ideal S256x128 .f32 :=
  fun y => g (ix2 ⟨256 * a.val + (y 0).val, by have h := (y 0).isLt; simp at h; omega⟩ (y 1))

/-- What the first call leaves: each block of the gates prepared. -/
def prep (g : Vec Ideal S12288x128 .f32) : Vec Ideal S12288x128 .f32 :=
  fun i => k0_pay1 (gblk g ⟨(i 0).val / 256, by have h := (i 0).isLt; simp at h; omega⟩)
    (ix2 ⟨(i 0).val % 256, Nat.mod_lt _ (by omega)⟩ (i 1))

theorem idx0_0 : ∀ t : Fin cfg0.N, win0_0.index t = ![(grid0.coords t 0).val, 0] := (by decide +kernel : ∀ t : Fin grid0.N, _)
theorem idx0_1 : ∀ t : Fin cfg0.N, win0_1.index t = ![(grid0.coords t 0).val, 0] := (by decide +kernel : ∀ t : Fin grid0.N, _)

theorem iblk0_at (c : Dev nD) (t : Fin cfg0.N) : iblk0 V c 0 t = gblk (V c main_arg3) (grid0.coords t 0) := by
  funext y
  unfold gblk
  blk_simp [iblk0]
  refine congrArg _ ?_
  blk_ext [idx0_0]

theorem prep_at (g : Vec Ideal S12288x128 .f32) (a : Fin 48) (p : Fin 256) (l : Fin 128) :
    prep g (ix2 ⟨256 * a.val + p.val, by omega⟩ l) = k0_pay1 (gblk g a) (ix2 p l) := by
  unfold prep
  rw [show (⟨((ix2 (⟨256 * a.val + p.val, by omega⟩ : Fin 12288) l : S12288x128.Idx) 0).val / 256, by simp [ix2]; omega⟩ : Fin 48) = a from
    Fin.ext (by simp [ix2]; omega)]
  refine congrArg (k0_pay1 (gblk g a)) ?_
  funext x
  fin_cases x
  · exact Fin.ext (by simp [ix2])
  · rfl

theorem final0 (c : Dev nD) : (dat0 (F := Ideal) V c).arrAt 1 cfg0.N = prep (V c main_arg3) := by
  refine (dat0 V c).arrAt_eq_of_covers 1 _ (by decide +kernel) fun t hf y => ?_
  blk_simp
  rw [after0_1]
  frame_out
  rw [iblk0_at]
  obtain ⟨p, l, rfl⟩ : ∃ (p : Fin 256) (l : Fin 128), y = ix2 p l := ⟨y 0, y 1, eq_ix2 (n0 := 256) (n1 := 128) y⟩
  refine (prep_at _ (grid0.coords t 0) p l).symm.trans (congrArg _ ?_)
  blk_ext [idx0_1]

/-! ### The second call's blocks -/

theorem idx1_0 : ∀ t : Fin cfg1.N, win1_0.index t = ![(grid1.coords t 1).val, 0] := (by decide +kernel : ∀ t : Fin grid1.N, _)
theorem idx1_1 : ∀ t : Fin cfg1.N, win1_1.index t = ![(grid1.coords t 1).val, 0] := (by decide +kernel : ∀ t : Fin grid1.N, _)
theorem idx1_2 : ∀ t : Fin cfg1.N, win1_2.index t = ![(grid1.coords t 1).val, 0] := (by decide +kernel : ∀ t : Fin grid1.N, _)
theorem idx1_3 : ∀ t : Fin cfg1.N, win1_3.index t = ![(grid1.coords t 1).val, 0] := (by decide +kernel : ∀ t : Fin grid1.N, _)
theorem idx1_4 : ∀ t : Fin cfg1.N, win1_4.index t = ![0, (grid1.coords t 1).val] := (by decide +kernel : ∀ t : Fin grid1.N, _)
theorem idx1_5 : ∀ t : Fin cfg1.N, win1_5.index t = ![(grid1.coords t 0).val, (grid1.coords t 1).val, 0] := (by decide +kernel : ∀ t : Fin grid1.N, _)
theorem idx1_6 : ∀ t : Fin cfg1.N, win1_6.index t = ![(grid1.coords t 1).val, (grid1.coords t 0).val, 0, 0, 0] := (by decide +kernel : ∀ t : Fin grid1.N, _)
theorem idx1_7 : ∀ t : Fin cfg1.N, win1_7.index t = ![(grid1.coords t 1).val, (grid1.coords t 0).val, 0, 0, 0] := (by decide +kernel : ∀ t : Fin grid1.N, _)
theorem idx1_8 : ∀ t : Fin cfg1.N, win1_8.index t = ![(grid1.coords t 1).val, (grid1.coords t 0).val, 0, 0, 0] := (by decide +kernel : ∀ t : Fin grid1.N, _)

theorem iblk1_0 (c : Dev nD) (t : Fin cfg1.N) (a : Fin 32) (ha : (grid1.coords t 1).val = a.val) (p : Fin 256) (j : Fin 2048) :
    iblk1 V c 0 t (ix2 p j) = V c main_arg0 (ix2 (row a p) j) := by
  blk_simp [iblk1]
  refine congrArg _ ?_
  blk_ext [idx1_0, ha, row]

theorem iblk1_1 (c : Dev nD) (t : Fin cfg1.N) (a : Fin 32) (ha : (grid1.coords t 1).val = a.val) (p : Fin 256) (j : Fin 2048) :
    iblk1 V c 1 t (ix2 p j) = V c main_arg1 (ix2 (row a p) j) := by
  blk_simp [iblk1]
  refine congrArg _ ?_
  blk_ext [idx1_1, ha, row]

theorem iblk1_2 (c : Dev nD) (t : Fin cfg1.N) (a : Fin 32) (ha : (grid1.coords t 1).val = a.val) (p : Fin 256) (j : Fin 2048) :
    iblk1 V c 2 t (ix2 p j) = V c main_arg2 (ix2 (row a p) j) := by
  blk_simp [iblk1]
  refine congrArg _ ?_
  blk_ext [idx1_2, ha, row]

theorem iblk1_3 (c : Dev nD) (t : Fin cfg1.N) (a : Fin 32) (ha : (grid1.coords t 1).val = a.val) (p : Fin 256) (j : Fin 128) :
    iblk1 V c 3 t (ix2 p j) = V c main_v0 (ix2 (row a p) j) := by
  blk_simp [iblk1]
  refine congrArg _ ?_
  blk_ext [idx1_3, ha, row]

theorem iblk1_4 (c : Dev nD) (t : Fin cfg1.N) (a : Fin 32) (ha : (grid1.coords t 1).val = a.val) (p : Fin 256) (j : Fin 128) :
    iblk1 V c 4 t (ix2 j p) = V c main_v1 (ix2 j (row a p)) := by
  blk_simp [iblk1]
  refine congrArg _ ?_
  blk_ext [idx1_4, ha, row]

end

/-! ### What the second call is entered with -/

variable (m : (ℓ : Loc nD τ sig) → Buf (Elt Ideal) ℓ) (ρ : Dev nD → PrngReg)

theorem V2_arg0 (c : Dev nD) : V2 m ρ c main_arg0 = m (c.tc.loc main_arg0) := W2_args m ρ c main_arg0 (by decide)
theorem V2_arg1 (c : Dev nD) : V2 m ρ c main_arg1 = m (c.tc.loc main_arg1) := W2_args m ρ c main_arg1 (by decide)
theorem V2_arg2 (c : Dev nD) : V2 m ρ c main_arg2 = m (c.tc.loc main_arg2) := W2_args m ρ c main_arg2 (by decide)

theorem V1_v0 (c : Dev nD) : V1 m ρ c main_v0 = prep (m (c.tc.loc main_arg3)) :=
  (W1_arr m ρ c 1).trans (final0 (V0 m ρ) c)

theorem V2_v0 (c : Dev nD) : V2 m ρ c main_v0 = prep (m (c.tc.loc main_arg3)) :=
  (W2_of m ρ c main_v0 (by decide)).trans (V1_v0 m ρ c)

theorem V2_v1 (c : Dev nD) : V2 m ρ c main_v1 = transpose S128x12288 [1, 0] (prep (m (c.tc.loc main_arg3))) transposes_S12288x128_S128x12288_1_0 := by
  rw [← V1_v0 m ρ c]
  rfl

theorem V2_v1_at (c : Dev nD) (j : Fin 128) (i : Fin 12288) : V2 m ρ c main_v1 (ix2 j i) = prep (m (c.tc.loc main_arg3)) (ix2 i j) := by
  rw [V2_v1]
  pointwise

end Cert.KernelIdeal.Readout

end
-- ==== Proof.RefLayout.lean ====
/- The reference's layouts read element by element: its chunks from the arguments, its results from the loop's state. -/
module

public import proofs.«01_k».proof.Proof.RefInv
public import proofs.«01_k».proof.Proof.Tokens

@[expose] public section

set_option maxRecDepth 16384

noncomputable section

namespace Cert.ReferenceIdeal.Read

open Idealize.ShloMosaic Cert.ReferenceIdeal Cert.ReferenceIdeal.Gen Cert.ReferenceIdeal.Step Cert.Scan

variable (x0 x1 x2 : FVec Ideal S12288x2048 .bf16) (x3 : FVec Ideal S12288x128 .f32)

/-- Sequence `a` of direction `r` among the 64. -/
def both (r : Fin 2) (a : Fin 32) : Fin 64 := ⟨32 * r.val + a.val, by omega⟩

theorem v3_at (a : Fin 32) (b : Fin 8) (p d : Fin 256) :
    A_main_v3 (F := Ideal) x0 x1 x2 x3 (ix4 a b p d) = x0 (ix2 (row a p) (col b d)) := by
  pointwise [A_main_v3, A_main_v2, A_main_v1, A_main_v0]
  congr 2 <;> (apply Fin.ext; simp only [row, col]; omega)

theorem v38_at (r : Fin 2) (a : Fin 32) (b : Fin 8) (p d : Fin 256) :
    A_main_v38 (F := Ideal) x0 x1 x2 x3 (ix4 (both r a) b p d) = A_main_v3 (F := Ideal) x0 x1 x2 x3 (ix4 a b (place r p) d) := by
  pointwise [A_main_v38, A_main_v37]
  match r with
  | 0 => rw [dif_pos (show (both 0 a).val < 32 by show 32 * 0 + a.val < 32; omega)]; congr 2; apply Fin.ext; show 32 * 0 + a.val = a.val; omega
  | 1 =>
    rw [dif_neg (show ¬(both 1 a).val < 32 by show ¬(32 * 1 + a.val < 32); omega)]; congr 2; apply Fin.ext; show 32 * 1 + a.val - 32 = a.val; omega

theorem v56_at (x : Fin 4) (a : Fin 64) (b : Fin 8) (j : Fin 64) (d : Fin 256) :
    A_main_v56 (F := Ideal) x0 x1 x2 x3 (ix5 x a b j d) = A_main_v38 (F := Ideal) x0 x1 x2 x3 (ix4 a b ⟨64 * x.val + j.val, by omega⟩ d) := by
  pointwise [A_main_v56, A_main_v55]
  congr 2; apply Fin.ext; show x.val * 64 + j.val = 64 * x.val + j.val; omega

theorem v7_at (a : Fin 32) (b : Fin 8) (p d : Fin 256) :
    A_main_v7 (F := Ideal) x0 x1 x2 x3 (ix4 a b p d) = x1 (ix2 (row a p) (col b d)) := by
  pointwise [A_main_v7, A_main_v6, A_main_v5, A_main_v4]
  congr 2 <;> (apply Fin.ext; simp only [row, col]; omega)

theorem v40_at (r : Fin 2) (a : Fin 32) (b : Fin 8) (p d : Fin 256) :
    A_main_v40 (F := Ideal) x0 x1 x2 x3 (ix4 (both r a) b p d) = A_main_v7 (F := Ideal) x0 x1 x2 x3 (ix4 a b (place r p) d) := by
  pointwise [A_main_v40, A_main_v39]
  match r with
  | 0 => rw [dif_pos (show (both 0 a).val < 32 by show 32 * 0 + a.val < 32; omega)]; congr 2; apply Fin.ext; show 32 * 0 + a.val = a.val; omega
  | 1 =>
    rw [dif_neg (show ¬(both 1 a).val < 32 by show ¬(32 * 1 + a.val < 32); omega)]; congr 2; apply Fin.ext; show 32 * 1 + a.val - 32 = a.val; omega

theorem v58_at (x : Fin 4) (a : Fin 64) (b : Fin 8) (j : Fin 64) (d : Fin 256) :
    A_main_v58 (F := Ideal) x0 x1 x2 x3 (ix5 x a b j d) = A_main_v40 (F := Ideal) x0 x1 x2 x3 (ix4 a b ⟨64 * x.val + j.val, by omega⟩ d) := by
  pointwise [A_main_v58, A_main_v57]
  congr 2; apply Fin.ext; show x.val * 64 + j.val = 64 * x.val + j.val; omega

theorem v11_at (a : Fin 32) (b : Fin 8) (p d : Fin 256) :
    A_main_v11 (F := Ideal) x0 x1 x2 x3 (ix4 a b p d) = x2 (ix2 (row a p) (col b d)) := by
  pointwise [A_main_v11, A_main_v10, A_main_v9, A_main_v8]
  congr 2 <;> (apply Fin.ext; simp only [row, col]; omega)

theorem v42_at (r : Fin 2) (a : Fin 32) (b : Fin 8) (p d : Fin 256) :
    A_main_v42 (F := Ideal) x0 x1 x2 x3 (ix4 (both r a) b p d) = A_main_v11 (F := Ideal) x0 x1 x2 x3 (ix4 a b (place r p) d) := by
  pointwise [A_main_v42, A_main_v41]
  match r with
  | 0 => rw [dif_pos (show (both 0 a).val < 32 by show 32 * 0 + a.val < 32; omega)]; congr 2; apply Fin.ext; show 32 * 0 + a.val = a.val; omega
  | 1 =>
    rw [dif_neg (show ¬(both 1 a).val < 32 by show ¬(32 * 1 + a.val < 32); omega)]; congr 2; apply Fin.ext; show 32 * 1 + a.val - 32 = a.val; omega

theorem v60_at (x : Fin 4) (a : Fin 64) (b : Fin 8) (j : Fin 64) (d : Fin 256) :
    A_main_v60 (F := Ideal) x0 x1 x2 x3 (ix5 x a b j d) = A_main_v42 (F := Ideal) x0 x1 x2 x3 (ix4 a b ⟨64 * x.val + j.val, by omega⟩ d) := by
  pointwise [A_main_v60, A_main_v59]
  congr 2; apply Fin.ext; show x.val * 64 + j.val = 64 * x.val + j.val; omega

theorem v16_at (r : Fin 2) (a : Fin 32) (b : Fin 8) (p : Fin 256) :
    A_main_v16 (F := Ideal) x0 x1 x2 x3 (ix4 r a b p) = x3 (ix2 (row a p) (lanei r b)) := by
  pointwise [A_main_v16, A_main_v15, A_main_v14, A_main_v13, A_main_v12]
  congr 2 <;> (apply Fin.ext; simp only [row, lanei]; omega)

theorem v18_at (r : Fin 2) (a : Fin 32) (b : Fin 8) (p : Fin 256) :
    A_main_v18 (F := Ideal) x0 x1 x2 x3 (ix4 r a b p) = x3 (ix2 (row a p) (lanef r b)) := by
  pointwise [A_main_v18, A_main_v17, A_main_v14, A_main_v13, A_main_v12]
  congr 2 <;> (apply Fin.ext; simp only [row, lanef]; omega)

/-- The reference's way to the logistic function's logarithm. -/
theorem logsig_ref (y : ℝ) :
    (-if -(y : EReal) ≠ -(y : EReal) then -(y : EReal) else max (-(y : EReal)) 0 + Ideal.log1p (Ideal.exp (-FloatOps.absf (F := Ideal) (φ := .f32) (-(y : EReal)))))
      = ((logsig y : ℝ) : EReal) := by
  rw [if_neg (by simp)]
  have h1 : FloatOps.absf (F := Ideal) (φ := .f32) (-(y : EReal)) = ((|y| : ℝ) : EReal) := by
    rw [Ideal.absf_def, neg_neg, ← EReal.coe_neg, ← EReal.coe_strictMono.monotone.map_max, max_comm]; rfl
  have h2 : (0:ℝ) < 1 + Real.exp (-|y|) := by positivity
  rw [h1, ← EReal.coe_neg, ← EReal.coe_neg, Ideal.exp_coe]
  rw [show Ideal.log1p ((Real.exp (-|y|) : ℝ) : EReal) = ((Real.log (1 + Real.exp (-|y|)) : ℝ) : EReal) by
    show Ideal.log (1 + _) = _
    rw [← EReal.coe_one, ← EReal.coe_add, Ideal.log_coe, if_neg (by linarith)]]
  rw [← EReal.coe_zero, ← EReal.coe_strictMono.monotone.map_max, ← EReal.coe_add, ← EReal.coe_neg]
  congr 1
  unfold logsig
  rw [neg_add, ← neg_zero, max_neg_neg]
  simp
  rfl

theorem v33_at (r : Fin 2) (a : Fin 32) (b : Fin 8) (p : Fin 256) (h : Fin' (x3 (ix2 (row a p) (lanef r b)))) :
    A_main_v33 (F := Ideal) x0 x1 x2 x3 (ix4 r a b p) = ((logsig (x3 (ix2 (row a p) (lanef r b))).toReal : ℝ) : EReal) := by
  rw [← logsig_ref, h.coe, ← v18_at x0 x1 x2 x3]
  pointwise [A_main_v33, A_main_v32, A_main_v31, A_main_v30, A_main_v29, A_main_v28, A_main_v27, A_main_v26, A_main_v24, A_main_v23, A_main_v21, A_main_v19, K_main_v20, K_main_v22, K_main_v25, K_main_cst]

theorem v48_at (r : Fin 2) (a : Fin 32) (b : Fin 8) (p : Fin 256) :
    A_main_v48 (F := Ideal) x0 x1 x2 x3 (ix3 (both r a) b p) = A_main_v16 (F := Ideal) x0 x1 x2 x3 (ix4 r a b (place r p)) := by
  pointwise [A_main_v48, A_main_v47, A_main_v46, A_main_v45, A_main_v44, A_main_v43]
  match r with
  | 0 => rw [dif_pos (show (both 0 a).val < 32 by show 32 * 0 + a.val < 32; omega)]; congr 2; apply Fin.ext; show 32 * 0 + a.val = a.val; omega
  | 1 =>
    rw [dif_neg (show ¬(both 1 a).val < 32 by show ¬(32 * 1 + a.val < 32); omega)]; congr 2; apply Fin.ext; show 32 * 1 + a.val - 32 = a.val; omega

theorem v62_at (x : Fin 4) (a : Fin 64) (b : Fin 8) (j : Fin 64) :
    A_main_v62 (F := Ideal) x0 x1 x2 x3 (ix4 x a b j) = A_main_v48 (F := Ideal) x0 x1 x2 x3 (ix3 a b ⟨64 * x.val + j.val, by omega⟩) := by
  pointwise [A_main_v62, A_main_v61]
  congr 2; apply Fin.ext; show x.val * 64 + j.val = 64 * x.val + j.val; omega

theorem v54_at (r : Fin 2) (a : Fin 32) (b : Fin 8) (p : Fin 256) :
    A_main_v54 (F := Ideal) x0 x1 x2 x3 (ix3 (both r a) b p) = A_main_v33 (F := Ideal) x0 x1 x2 x3 (ix4 r a b (place r p)) := by
  pointwise [A_main_v54, A_main_v53, A_main_v52, A_main_v51, A_main_v50, A_main_v49]
  match r with
  | 0 => rw [dif_pos (show (both 0 a).val < 32 by show 32 * 0 + a.val < 32; omega)]; congr 2; apply Fin.ext; show 32 * 0 + a.val = a.val; omega
  | 1 =>
    rw [dif_neg (show ¬(both 1 a).val < 32 by show ¬(32 * 1 + a.val < 32); omega)]; congr 2; apply Fin.ext; show 32 * 1 + a.val - 32 = a.val; omega

theorem v64_at (x : Fin 4) (a : Fin 64) (b : Fin 8) (j : Fin 64) :
    A_main_v64 (F := Ideal) x0 x1 x2 x3 (ix4 x a b j) = A_main_v54 (F := Ideal) x0 x1 x2 x3 (ix3 a b ⟨64 * x.val + j.val, by omega⟩) := by
  pointwise [A_main_v64, A_main_v63]
  congr 2; apply Fin.ext; show x.val * 64 + j.val = 64 * x.val + j.val; omega

/-- The arguments' entries the scan reads are finite. -/
structure Finite : Prop where
  h0 : ∀ (a : Fin 32) (p : Fin 256) (j : Fin 2048), Fin' (x0 (ix2 (row a p) j))
  h1 : ∀ (a : Fin 32) (p : Fin 256) (j : Fin 2048), Fin' (x1 (ix2 (row a p) j))
  h2 : ∀ (a : Fin 32) (p : Fin 256) (j : Fin 2048), Fin' (x2 (ix2 (row a p) j))
  h3 : ∀ (a : Fin 32) (p : Fin 256) (j : Fin 128), j.val < 32 → Fin' (x3 (ix2 (row a p) j))

/-- The state the first trip starts from. -/
theorem inv_init (h : Finite x0 x1 x2 x3) (r : Fin 2) (a : Fin 32) (b : Fin 8) :
    Inv (init (F := Ideal) x0 x1 x2 x3) 0 (both r a) b (gf x3 r a b) (gi x3 r a b) (vec x0 r a b) (vec x1 r a b) (vec x2 r a b) where
  hq x j d := by
    show A_main_v56 (F := Ideal) x0 x1 x2 x3 _ = _
    rw [v56_at, v38_at, v3_at, ← (h.h0 a _ _).coe]
    congr 5
    rw [← pos_val ⟨64 * x.val + j.val, _⟩]
  hk x j d := by
    show A_main_v58 (F := Ideal) x0 x1 x2 x3 _ = _
    rw [v58_at, v40_at, v7_at, ← (h.h1 a _ _).coe]
    congr 5
    rw [← pos_val ⟨64 * x.val + j.val, _⟩]
  hv x j d := by
    show A_main_v60 (F := Ideal) x0 x1 x2 x3 _ = _
    rw [v60_at, v42_at, v11_at, ← (h.h2 a _ _).coe]
    congr 5
    rw [← pos_val ⟨64 * x.val + j.val, _⟩]
  hli x j := by
    show A_main_v62 (F := Ideal) x0 x1 x2 x3 _ = _
    rw [v62_at, v48_at, v16_at, ← (h.h3 a _ _ (by simp only [lanei]; omega)).coe]
    congr 5
    rw [← pos_val ⟨64 * x.val + j.val, _⟩]
  hlf x j := by
    show A_main_v64 (F := Ideal) x0 x1 x2 x3 _ = _
    rw [v64_at, v54_at, v33_at _ _ _ _ _ _ _ _ (h.h3 a _ _ (by simp only [lanef]; omega))]
    congr 6
    rw [← pos_val ⟨64 * x.val + j.val, _⟩]
  hC d e := by
    rw [cc_zero]
    show K_main_v34 (F := Ideal) (ix4 (both r a) b d e) = ((0 : ℝ) : EReal)
    rw [EReal.coe_zero]
    pointwise [K_main_v34, K_main_cst_0]
  hn d := by
    rw [nn_zero]
    show K_main_v35 (F := Ideal) (ix3 (both r a) b d) = ((0 : ℝ) : EReal)
    rw [EReal.coe_zero]
    pointwise [K_main_v35, K_main_cst_1]
  hm := by
    rw [mm_zero]
    show K_main_v36 (F := Ideal) (ix2 (both r a) b) = ((0 : ℝ) : EReal)
    rw [EReal.coe_zero]
    pointwise [K_main_v36, K_main_cst_2]
  hh x j e hx := absurd hx (Nat.not_lt_zero _)

variable (s : State Ideal)

theorem r83_at (a : Fin 32) (r : Fin 2) (b : Fin 8) (d e : Fin 256) :
    R_main_v83 s (ix5 a r b d e) = s.main_v68_7 (ix4 (both r a) b d e) := by
  pointwise [R_main_v83]
  match r with
  | 0 => rw [dif_pos (by decide)]; congr 2; apply Fin.ext; show a.val = 32 * 0 + a.val; omega
  | 1 => rw [dif_neg (by decide)]; rfl

theorem r94_at (a : Fin 32) (r : Fin 2) (b : Fin 8) (z : Fin 1) (d : Fin 256) :
    R_main_v94 s (ix5 a r b z d) = s.main_v68_8 (ix3 (both r a) b d) := by
  pointwise [R_main_v94]
  match r with
  | 0 => rw [dif_pos (by decide)]; congr 2; apply Fin.ext; show a.val = 32 * 0 + a.val; omega
  | 1 => rw [dif_neg (by decide)]; rfl

theorem r95_at (a : Fin 32) (r : Fin 2) (b : Fin 8) (y z : Fin 1) :
    R_main_v95 s (ix5 a r b y z) = s.main_v68_9 (ix2 (both r a) b) := by
  pointwise [R_main_v95]
  match r with
  | 0 => rw [dif_pos (by decide)]; congr 2; apply Fin.ext; show a.val = 32 * 0 + a.val; omega
  | 1 => rw [dif_neg (by decide)]; rfl

theorem r78_at (r : Fin 2) (a : Fin 32) (p : Fin 256) (b : Fin 8) (e : Fin 256) :
    R_main_v78 s (ix3 r ⟨256 * a.val + p.val, by omega⟩ (col b e))
      = s.main_v68_10 (ix5 ⟨(place r p).val / 64, by omega⟩ (both r a) b ⟨(place r p).val % 64, by omega⟩ e) := by
  pointwise [R_main_v78]
  have e1 : (256 * a.val + p.val) % 256 = p.val := by omega
  have e2 : (256 * a.val + p.val) / 256 = a.val := by omega
  have e3 : (256 * b.val + e.val) % 256 = e.val := by omega
  have e4 : (256 * b.val + e.val) / 256 = b.val := by omega
  match r with
  | 0 =>
    rw [dif_pos (by decide)]
    congr 2 <;> apply Fin.ext <;> simp [col, both, e1, e2, e3, e4, place_zero]
  | 1 =>
    rw [dif_neg (by decide)]
    congr 2 <;> apply Fin.ext <;> simp [col, both, e1, e2, e3, e4, place_one, Fin.rev]

end Cert.ReferenceIdeal.Read

end
-- ==== Proof.Final.lean ====
/- The kernel's four results are the reference's: each block of the scan holds what the loop's last state holds at its place. -/
module

public import proofs.«01_k».proof.Proof.Block
public import proofs.«01_k».proof.Proof.Readout
public import proofs.«01_k».proof.Proof.RefLayout

@[expose] public section

set_option maxRecDepth 16384

noncomputable section
namespace Cert.KernelIdeal.Final

open Idealize Idealize.ShloMosaic Cert.KernelIdeal Cert.KernelIdeal.Gen Cert.KernelIdeal.Head Cert.KernelIdeal.Readout Cert.Scan
open Cert.ReferenceIdeal.Read (Inv both Finite r78_at r83_at r94_at r95_at)
open Cert.ReferenceIdeal.Step (R_main_v78 R_main_v83 R_main_v94 R_main_v95)

/-! ### The gates of one sequence -/

/-- Block `a` of the 48, for one of the 32 sequences. -/
def blk (a : Fin 32) : Fin 48 := ⟨a.val, by omega⟩

theorem gblk_at (g : Vec Ideal S12288x128 .f32) (a : Fin 32) (p : Fin 256) (l : Fin 128) : gblk g (blk a) (ix2 p l) = g (ix2 (row a p) l) := rfl

theorem prep_row (g : Vec Ideal S12288x128 .f32) (a : Fin 32) (p : Fin 256) (l : Fin 128) :
    prep g (ix2 (row a p) l) = k0_pay1 (gblk g (blk a)) (ix2 p l) := prep_at g (blk a) p l

section
variable {x0 x1 x2 : Vec Ideal S12288x2048 .bf16} {x3 : Vec Ideal S12288x128 .f32} (h : Finite x0 x1 x2 x3) (r : Fin 2) (a : Fin 32) (b : Fin 8)
include h

theorem gate_f (p : Fin 256) : prep x3 (ix2 (row a p) (lanef r b)) = ((pre (gf x3 r a b) ((place r p).val + 1) : ℝ) : EReal) := by
  rw [prep_row]
  refine prep_f _ r b p _ (fun x => (x3 (ix2 (row a x) (lanef r b))).toReal) (fun x => ?_) fun x => ?_
  · rw [gblk_at, (h.h3 a x _ (by simp only [lanef]; omega)).coe]
  · unfold gf
    rw [pos_val, place_place]

theorem gate_i (p : Fin 256) : prep x3 (ix2 (row a p) (lanei r b)) = ((gi x3 r a b (place r p).val : ℝ) : EReal) := by
  rw [prep_row, prep_i, gblk_at, ← (h.h3 a p _ (by simp only [lanei]; omega)).coe]
  unfold gi
  rw [pos_val, place_place]

end

theorem vec_at {x : Vec Ideal S12288x2048 .bf16} (h : ∀ (a : Fin 32) (p : Fin 256) (j : Fin 2048), Fin' (x (ix2 (row a p) j)))
    (r : Fin 2) (a : Fin 32) (b : Fin 8) (p d : Fin 256) :
    x (ix2 (row a p) (col b d)) = ((vec x r a b (place r p).val d : ℝ) : EReal) := by
  unfold vec
  rw [pos_val, place_place, (h a p _).coe]

/-! ### One grid point -/

variable (m : (ℓ : Loc nD τ sig) → Buf (Elt Ideal) ℓ) (ρ : Dev nD → PrngReg) (c : Dev nD)

/-- The finiteness of what one device's arguments hold. -/
abbrev Fin4 : Prop := Finite (m (c.tc.loc main_arg0)) (m (c.tc.loc main_arg1)) (m (c.tc.loc main_arg2)) (m (c.tc.loc main_arg3))

/-- The direction and the sequence of a grid point. -/
def dirn (t : Fin cfg1.N) : Fin 2 := grid1.coords t 0
def seqn (t : Fin cfg1.N) : Fin 32 := grid1.coords t 1

variable {m c}

theorem blockIn (h : Fin4 m c) (t : Fin cfg1.N) :
    BlockIn (grid1.coords t) (iblk1 (V2 m ρ) c 0 t) (iblk1 (V2 m ρ) c 1 t) (iblk1 (V2 m ρ) c 2 t) (iblk1 (V2 m ρ) c 3 t) (iblk1 (V2 m ρ) c 4 t) (dirn t)
      (fun b => gf (m (c.tc.loc main_arg3)) (dirn t) (seqn t) b) (fun b => gi (m (c.tc.loc main_arg3)) (dirn t) (seqn t) b)
      (fun b => vec (m (c.tc.loc main_arg0)) (dirn t) (seqn t) b) (fun b => vec (m (c.tc.loc main_arg1)) (dirn t) (seqn t) b)
      (fun b => vec (m (c.tc.loc main_arg2)) (dirn t) (seqn t) b) where
  hr := rfl
  hq b p d := by rw [iblk1_0 _ c t (seqn t) rfl, V2_arg0]; exact vec_at h.h0 _ _ b p d
  hk b p d := by rw [iblk1_1 _ c t (seqn t) rfl, V2_arg1]; exact vec_at h.h1 _ _ b p d
  hv b p d := by rw [iblk1_2 _ c t (seqn t) rfl, V2_arg2]; exact vec_at h.h2 _ _ b p d
  hf b p := by rw [iblk1_3 _ c t (seqn t) rfl, V2_v0]; exact gate_f h _ _ b p
  hi b p := by rw [iblk1_3 _ c t (seqn t) rfl, V2_v0]; exact gate_i h _ _ b p
  hft b p := by rw [iblk1_4 _ c t (seqn t) rfl, V2_v1_at]; exact gate_f h _ _ b p
  hit b p := by rw [iblk1_4 _ c t (seqn t) rfl, V2_v1_at]; exact gate_i h _ _ b p
  hlf b s := gf_nonpos _ _ _ _ s

/-! ### The four results -/

variable (m c) in
/-- A loop state that holds every head's closed form of these arguments after all four trips. -/
def Done (s : Cert.ReferenceIdeal.Step.State Ideal) : Prop :=
  ∀ (r : Fin 2) (a : Fin 32) (b : Fin 8), Inv s 4 (both r a) b (gf (m (c.tc.loc main_arg3)) r a b) (gi (m (c.tc.loc main_arg3)) r a b)
    (vec (m (c.tc.loc main_arg0)) r a b) (vec (m (c.tc.loc main_arg1)) r a b) (vec (m (c.tc.loc main_arg2)) r a b)

variable {s : Cert.ReferenceIdeal.Step.State Ideal}

theorem idx_86 (y : S1x1x8x1x1.Idx) : ∃ b : Fin 8, y = ix5 0 0 b 0 0 :=
  ⟨y 2, (eq_ix5 y).trans (by congr 1 <;> exact Subsingleton.elim (α := Fin 1) _ _)⟩

theorem idx_87 (y : S1x1x8x1x256.Idx) : ∃ (b : Fin 8) (d : Fin 256), y = ix5 0 0 b 0 d :=
  ⟨y 2, y 4, (eq_ix5 y).trans (by congr 1 <;> exact Subsingleton.elim (α := Fin 1) _ _)⟩

theorem idx_88 (y : S1x1x8x256x256.Idx) : ∃ (b : Fin 8) (d e : Fin 256), y = ix5 0 0 b d e :=
  ⟨y 2, y 3, y 4, (eq_ix5 y).trans (by congr 1 <;> exact Subsingleton.elim (α := Fin 1) _ _)⟩

theorem idx_85 (y : S1x256x2048.Idx) : ∃ (p : Fin 256) (b : Fin 8) (e : Fin 256), y = ix3 0 p (col b e) := by
  have hy : (y 2).val < 2048 := (y 2).isLt
  refine ⟨y 1, ⟨(y 2).val / 256, by omega⟩, ⟨(y 2).val % 256, by omega⟩, (eq_ix3 y).trans ?_⟩
  congr 1
  · exact Subsingleton.elim (α := Fin 1) _ _
  · exact Fin.ext (by show (y 2).val = 256 * ((y 2).val / 256) + (y 2).val % 256; omega)

theorem final8 (h : Fin4 m c) (hs : Done m c s) : (dat1 (F := Ideal) (V2 m ρ) c).arrAt 8 cfg1.N = R_main_v95 s := by
  refine (dat1 (V2 m ρ) c).arrAt_eq_of_covers 8 _ (by decide +kernel) fun t hf y => ?_
  blk_simp
  obtain ⟨b, rfl⟩ := idx_86 y
  refine (block8 _ _ t (blockIn ρ h t) b).trans ?_
  refine (hs (dirn t) (seqn t) b).hm.symm.trans ((r95_at s (seqn t) (dirn t) b 0 0).symm.trans (congrArg _ ?_))
  blk_ext [idx1_8, dirn, seqn]

theorem final7 (h : Fin4 m c) (hs : Done m c s) : (dat1 (F := Ideal) (V2 m ρ) c).arrAt 7 cfg1.N = R_main_v94 s := by
  refine (dat1 (V2 m ρ) c).arrAt_eq_of_covers 7 _ (by decide +kernel) fun t hf y => ?_
  blk_simp
  obtain ⟨b, d, rfl⟩ := idx_87 y
  refine (block7 _ _ t (blockIn ρ h t) b d).trans ?_
  refine ((hs (dirn t) (seqn t) b).hn d).symm.trans ((r94_at s (seqn t) (dirn t) b 0 d).symm.trans (congrArg _ ?_))
  blk_ext [idx1_7, dirn, seqn]

theorem final6 (h : Fin4 m c) (hs : Done m c s) : (dat1 (F := Ideal) (V2 m ρ) c).arrAt 6 cfg1.N = R_main_v83 s := by
  refine (dat1 (V2 m ρ) c).arrAt_eq_of_covers 6 _ (by decide +kernel) fun t hf y => ?_
  blk_simp
  obtain ⟨b, d, e, rfl⟩ := idx_88 y
  refine (block6 _ _ t (blockIn ρ h t) b d e).trans ?_
  refine ((hs (dirn t) (seqn t) b).hC d e).symm.trans ((r83_at s (seqn t) (dirn t) b d e).symm.trans (congrArg _ ?_))
  blk_ext [idx1_6, dirn, seqn]

theorem final5 (h : Fin4 m c) (hs : Done m c s) : (dat1 (F := Ideal) (V2 m ρ) c).arrAt 5 cfg1.N = R_main_v78 s := by
  refine (dat1 (V2 m ρ) c).arrAt_eq_of_covers 5 _ (by decide +kernel) fun t hf y => ?_
  blk_simp
  obtain ⟨p, b, e, rfl⟩ := idx_85 y
  refine (block5 _ _ t (blockIn ρ h t) b p e).trans ?_
  have hp := (place (dirn t) p).isLt
  have he := (hs (dirn t) (seqn t) b).hh ⟨(place (dirn t) p).val / 64, by omega⟩ ⟨(place (dirn t) p).val % 64, by omega⟩ e (by show _ / 64 < 4; omega)
  rw [show 64 * ((⟨(place (dirn t) p).val / 64, by omega⟩ : Fin 4).val) + ((⟨(place (dirn t) p).val % 64, by omega⟩ : Fin 64).val) = (place (dirn t) p).val from
    Nat.div_add_mod _ 64] at he
  refine he.symm.trans ((r78_at s (dirn t) (seqn t) p b e).symm.trans (congrArg _ ?_))
  blk_ext [idx1_5, dirn, seqn]

end Cert.KernelIdeal.Final

end
-- ==== Proof.Precond.lean ====
/- The precondition's side conditions, and what it says of the arguments: the numbers the scan reads are finite. -/
module

public import proofs.«01_k».proof.Pre_finite
public import proofs.«01_k».proof.Proof.RefLayout
public import Idealize.ShloMosaic.Lib.ReduceAll
public import Idealize.ShloMosaic.Lib.Affine
public import Idealize.ShloMosaic.Lib.Pointwise

@[expose] public section

set_option maxRecDepth 16384

noncomputable section
namespace Cert.Pre_finite

open Idealize Idealize.ShloMosaic Cert.Scan

theorem facts : Facts where
  slices_S12288x2048_S8192x2048_0_0 := by decide
  bitsLt_bf16_f32 := by decide
  bcast_S_S8192x2048 := by decide
  reducesTo_S8192x2048_S8192_d1 := by decide
  h_S_ := by decide
  slices_S12288x128_S8192x32_0_0 := by decide
  bcast_S_S8192x32 := by decide
  reducesTo_S8192x32_S8192_d1 := by decide

theorem pinf : Ideal.ofBits .f32 0x7F800000#32 = ⊤ := by
  simp [Ideal.ofBits, Ideal.ieee]

theorem fin_of_lt (x : EReal) (h : FloatOps.cmpf (F := Ideal) (φ := .f32) .olt (FloatOps.absf (F := Ideal) (φ := .f32) x) (Ideal.ofBits .f32 0x7F800000#32) = 1#1) : Fin' x := by
  rw [pinf, Ideal.absf_def] at h
  have h1 : max x (-x) < ⊤ := by
    by_contra hn
    have : FloatOps.cmpf (F := Ideal) (φ := .f32) .olt (max x (-x)) ⊤ = 0#1 := by
      show BitVec.ofBool (decide (max x (-x) < ⊤)) = 0#1
      rw [decide_eq_false hn]; rfl
    rw [this] at h
    exact absurd h (by decide)
  constructor
  · rintro rfl; simp at h1
  · rintro rfl; simp at h1

/-- An array's entry is finite when one reduction over a slice's rows, of its entries' tests against infinity, is true. -/
theorem rows_of {w : ℕ} (X : (⟨2, ![8192, w]⟩ : Shape).Idx → EReal) (hr : (⟨2, ![8192, w]⟩ : Shape).ReducesTo [1] S8192) (hu : 0 < S_.numel)
    (hb : S_.BroadcastsInDim ⟨2, ![8192, w]⟩ (![] : Fin 0 → Fin 2))
    (i : Fin 8192)
    (e : Host.reduce IntOp.andi (cmpf (F := Ideal) (φ := .f32) .olt (Host.absf X)
      (broadcastInDim ⟨2, ![8192, w]⟩ ![] hb (constant (F := Ideal) S_ .f32 0x7F800000#32))) (constantI S_ 1 1#1) hr hu (ix1 i) = 1#1)
    (k : Fin w) : Fin' (X (ix2 i k)) := by
  have h := Host.reduce_andi_eq_one _ _ _ _ _ e (ix2 i k) (by
    funext z
    apply Fin.ext
    match z with
    | ⟨0, _⟩ => rfl)
  exact fin_of_lt _ h

variable [Facts] {x0 x1 x2 : Vec Ideal S12288x2048 .bf16} {x3 : Vec Ideal S12288x128 .f32}

theorem andi_split {s : Shape} (x y : IVec s 1) (i : s.Idx) (h : andi x y i = 1#1) : x i = 1#1 ∧ y i = 1#1 := IntOp.andi_eq_one.1 h

theorem slice_at (x : Vec Ideal S12288x2048 .bf16) (hs) (a : Fin 32) (p : Fin 256) (k : Fin 2048) :
    extractStridedSlice S8192x2048 ![0, 0] x hs (ix2 ⟨256 * a.val + p.val, by omega⟩ k) = x (ix2 (row a p) k) := by
  pointwise
  congr 2 <;> (apply Fin.ext; simp only [row]; omega)

theorem slice_at' (x : Vec Ideal S12288x128 .f32) (hs) (a : Fin 32) (p : Fin 256) (k : Fin 32) :
    extractStridedSlice S8192x32 ![0, 0] x hs (ix2 ⟨256 * a.val + p.val, by omega⟩ k) = x (ix2 (row a p) ⟨k.val, by omega⟩) := by
  pointwise
  congr 2 <;> (apply Fin.ext; simp only [row]; omega)

/-- What the precondition says: the entries the scan reads are finite. -/
theorem finite_of (h : fn (F := Ideal) x0 x1 x2 x3 = fun _ => 1#1) : Cert.ReferenceIdeal.Read.Finite x0 x1 x2 x3 := by
  have H : ∀ i, _ := fun i => congrFun h i
  unfold fn fn_part1 at H
  have H1 : ∀ i, _ := fun i => andi_split _ _ _ (H i)
  have H2 : ∀ i, _ := fun i => andi_split _ _ _ (H1 i).1
  have H3 : ∀ i, _ := fun i => andi_split _ _ _ (H2 i).1
  refine ⟨fun a p j => ?_, fun a p j => ?_, fun a p j => ?_, fun a p j hj => ?_⟩
  · rw [← slice_at x0 Facts.slices_S12288x2048_S8192x2048_0_0 a p j]
    exact rows_of _ _ _ _ _ (H3 _).1 j
  · rw [← slice_at x1 Facts.slices_S12288x2048_S8192x2048_0_0 a p j]
    exact rows_of _ _ _ _ _ (H3 _).2 j
  · rw [← slice_at x2 Facts.slices_S12288x2048_S8192x2048_0_0 a p j]
    exact rows_of _ _ _ _ _ (H2 _).2 j
  · rw [← slice_at' x3 Facts.slices_S12288x128_S8192x32_0_0 a p ⟨j.val, hj⟩]
    exact rows_of _ _ _ _ _ (H1 _).2 ⟨j.val, hj⟩

end Cert.Pre_finite

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Down
public import proofs.«01_k».proof.Proof.Gen.Up
public import proofs.«01_k».proof.Proof.UpRef
public import proofs.«01_k».proof.Proof.UpWords
public import proofs.«01_k».proof.Proof.NormRef
public import proofs.«01_k».proof.Proof.Gen.Ffn
public import proofs.«01_k».proof.Proof.Gen.Ffn.Frame
public import proofs.«01_k».proof.Proof.FfnRef
public import proofs.«01_k».proof.Proof.Gen.FfnDown
public import proofs.«01_k».proof.Proof.Gen.FfnDown.Frame
public import proofs.«01_k».proof.Proof.FfnDownRef
public import proofs.«01_k».proof.Proof.Gen.HyIn
public import proofs.«01_k».proof.Proof.Gen.HyIn.Frame
public import proofs.«01_k».proof.Proof.HyInRef
public import proofs.«01_k».proof.Proof.Gen.MlUp
public import proofs.«01_k».proof.Proof.Gen.MlUp.Frame
public import proofs.«01_k».proof.Proof.MlUpRef
public import proofs.«01_k».proof.Proof.Gen.HyOut
public import proofs.«01_k».proof.Proof.Gen.HyOut.Frame
public import proofs.«01_k».proof.Proof.HyOutRef
public import proofs.«01_k».proof.Proof.Gen.MlDown
public import proofs.«01_k».proof.Proof.Gen.MlDown.Frame
public import proofs.«01_k».proof.Proof.MlDownRef
public import proofs.«01_k».proof.Proof.DownRef
public import proofs.«01_k».proof.Proof.DownWords
public import proofs.«01_k».proof.Proof.RefRun
public import proofs.«01_k».proof.Proof.RefFrame
public import proofs.«01_k».proof.Proof.KernelRun
public import proofs.«01_k».proof.Proof.Final
public import proofs.«01_k».proof.Proof.Precond
public import Idealize.ShloMosaic.Adequacy
public import Idealize.ShloMosaic.Init

@[expose] public section

noncomputable section

namespace Cert.Proof

open Idealize.ShloMosaic Idealize.SL.Sem

/-- The loop's states, one after another, from the memory the reference starts from. -/
def states (m : (ℓ : Loc Cert.ReferenceIdeal.nD Cert.ReferenceIdeal.τ Cert.ReferenceIdeal.sig) → Buf (Elt Ideal) ℓ) (c : Dev Cert.ReferenceIdeal.nD) :
    ℕ → Cert.ReferenceIdeal.Step.State Ideal
  | 0 => Cert.ReferenceIdeal.RefRun.initState m c
  | n + 1 => Cert.ReferenceIdeal.Step.step n (states m c n)

/-- The reference runs, its arguments end unchanged and its counters end at zero. -/
theorem reference_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem (c.tc.loc Cert.ReferenceIdeal.main_arg0) = m (c.tc.loc Cert.ReferenceIdeal.main_arg0)
      ∧ r.2.mem (c.tc.loc Cert.ReferenceIdeal.main_arg1) = m (c.tc.loc Cert.ReferenceIdeal.main_arg1)
      ∧ r.2.mem (c.tc.loc Cert.ReferenceIdeal.main_arg2) = m (c.tc.loc Cert.ReferenceIdeal.main_arg2)
      ∧ r.2.mem (c.tc.loc Cert.ReferenceIdeal.main_arg3) = m (c.tc.loc Cert.ReferenceIdeal.main_arg3))
      ∧ r.2.sem = fun _ => 0) :=
  (θ_run _ _ _).mono (fun _ h => ⟨fun c => (h.1 c).2.2.2.2, h.2⟩)
    (θ_run_and (Cert.ReferenceIdeal.RefRun.run_iter m ρ (states m) (fun _ => rfl) fun _ _ => rfl) (Cert.ReferenceIdeal.RefFrame.counters m ρ))

/-- The last state of the reference's loop holds every head's closed form of the kernel's arguments. -/
theorem states_done (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : Cert.KernelIdeal.Final.Fin4 m c)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2))
    (h3 : m' (c.tc.loc Cert.ReferenceIdeal.main_arg3) = m (c.tc.loc Cert.KernelIdeal.main_arg3)) :
    Cert.KernelIdeal.Final.Done m c (states m' c 4) := by
  intro r a b
  refine Cert.ReferenceIdeal.Read.inv_four (states m' c) ?_ fun _ => rfl
  have e : states m' c 0 = Cert.ReferenceIdeal.Step.init (F := Ideal) (m (c.tc.loc Cert.KernelIdeal.main_arg0)) (m (c.tc.loc Cert.KernelIdeal.main_arg1))
      (m (c.tc.loc Cert.KernelIdeal.main_arg2)) (m (c.tc.loc Cert.KernelIdeal.main_arg3)) := by
    rw [← h0, ← h1, ← h2, ← h3]; rfl
  rw [e]
  exact Cert.ReferenceIdeal.Read.inv_init _ _ _ _ h r a b

theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hargs
  have hfin : ∀ c, Cert.KernelIdeal.Final.Fin4 m c := fun c => haveI := Cert.Pre_finite.facts; Cert.Pre_finite.finite_of (hpre c)
  have hdone : ∀ c, Cert.KernelIdeal.Final.Done m c (states m' c 4) := fun c =>
    states_done m m' c (hfin c) (hargs c).1 (hargs c).2.1 (hargs c).2.2.1 (hargs c).2.2.2
  refine ⟨fun c => Cert.ReferenceIdeal.Step.R_main_v78 (states m' c 4), fun c => Cert.ReferenceIdeal.Step.R_main_v83 (states m' c 4),
    fun c => Cert.ReferenceIdeal.Step.R_main_v94 (states m' c 4), fun c => Cert.ReferenceIdeal.Step.R_main_v95 (states m' c 4), ?_,
    Cert.ReferenceIdeal.RefRun.run_iter m' g' (states m') (fun _ => rfl) fun _ _ => rfl⟩
  refine (θ_run _ _ _).mono (fun _ h c => ?_) (Cert.KernelIdeal.KernelRun.run m g)
  obtain ⟨k0, k1, k2, k3, ka⟩ := h c
  exact ⟨k0.trans (Cert.KernelIdeal.Final.final5 g (hfin c) (hdone c)), k1.trans (Cert.KernelIdeal.Final.final6 g (hfin c) (hdone c)),
    k2.trans (Cert.KernelIdeal.Final.final7 g (hfin c) (hdone c)), k3.trans (Cert.KernelIdeal.Final.final8 g (hfin c) (hdone c)), ka⟩

/-- The down projection's reference holds what the kernel leaves, of the same arguments. -/
theorem down_result (m : (ℓ : Loc Cert.DownIdeal.nD Cert.DownIdeal.τ Cert.DownIdeal.sig) → Buf (Elt Ideal) ℓ)
    (m' : (ℓ : Loc Cert.DownReferenceIdeal.nD Cert.DownReferenceIdeal.τ Cert.DownReferenceIdeal.sig) → Buf (Elt Ideal) ℓ) (c : Dev Cert.DownIdeal.nD)
    (hR : Cert.DownIdeal.Run.Routed m)
    (h0 : m' (c.tc.loc Cert.DownReferenceIdeal.main_arg0) = m (c.tc.loc Cert.DownIdeal.main_arg0))
    (h1 : m' (c.tc.loc Cert.DownReferenceIdeal.main_arg1) = m (c.tc.loc Cert.DownIdeal.main_arg1))
    (h2 : m' (c.tc.loc Cert.DownReferenceIdeal.main_arg2) = m (c.tc.loc Cert.DownIdeal.main_arg2)) :
    Cert.DownReferenceIdeal.Value.res_out0 m' c
      = Cert.DownIdeal.Value.result (Cert.DownIdeal.Run.tw m) (m (c.tc.loc Cert.DownIdeal.main_arg1)) (m (c.tc.loc Cert.DownIdeal.main_arg2)) := by
  obtain rfl : c = 0 := Subsingleton.elim _ _
  funext i
  obtain ⟨r, j, rfl⟩ : ∃ (r : Fin 32768) (j : Fin 1024), i = ix2 r j := ⟨i 0, i 1, eq_ix2 (n0 := 32768) (n1 := 1024) i⟩
  refine (Cert.DownReferenceIdeal.Read.res_at m' 0 r j).trans ?_
  rw [h0, h1, h2]
  exact Cert.DownReferenceIdeal.Read.sum_shares _ (hR.expert ⟨r.val / 1024, by omega⟩ (by show r.val / 1024 < 32; omega)) _ _

theorem down_algebraic : Cert.algebraic_DownIdeal_DownReferenceIdeal (hDownIdeal := Cert.DownIdeal.Gen.facts)
    (hDownReferenceIdeal := Cert.DownReferenceIdeal.Gen.facts) (hPre_routed := Cert.Pre_routed.facts) := by
  intro m g m' g' hpre hargs
  have hR : Cert.DownIdeal.Run.Routed m := haveI := Cert.Pre_routed.facts; Cert.DownIdeal.Run.routed_of m (hpre 0)
  exact ⟨fun c => Cert.DownIdeal.Value.result (Cert.DownIdeal.Run.tw m) (m (c.tc.loc Cert.DownIdeal.main_arg1)) (m (c.tc.loc Cert.DownIdeal.main_arg2)),
    Cert.DownIdeal.Value.run m g hR,
    (θ_run _ _ _).mono (fun _ h c => ⟨(h c).1.trans (down_result m m' c hR (hargs c).1 (hargs c).2.1 (hargs c).2.2), (h c).2⟩)
      (Cert.DownReferenceIdeal.Value.run m' g')⟩

/-- The down projection's frame at the words it computes with. -/
theorem frame_down : Cert.quiescent_Down (hDown := Cert.Down.Gen.facts) (hPre_routed := Cert.Pre_routed.facts) := fun m ρ h =>
  Cert.Down.Words.frame m ρ (Cert.DownIdeal.Run.ok_of (F := Bits) m (haveI := Cert.Pre_routed.facts; Cert.DownIdeal.Run.routed_of (F := Bits) m (h 0)))

/-- The up projection's reference holds what the kernel leaves, of the same arguments. -/
theorem up_result (m : (ℓ : Loc Cert.UpIdeal.nD Cert.UpIdeal.τ Cert.UpIdeal.sig) → Buf (Elt Ideal) ℓ)
    (m' : (ℓ : Loc Cert.UpReferenceIdeal.nD Cert.UpReferenceIdeal.τ Cert.UpReferenceIdeal.sig) → Buf (Elt Ideal) ℓ) (c : Dev Cert.UpIdeal.nD)
    (hR : Cert.UpIdeal.Run.Routed m)
    (h0 : m' (c.tc.loc Cert.UpReferenceIdeal.main_arg0) = m (c.tc.loc Cert.UpIdeal.main_arg0))
    (h1 : m' (c.tc.loc Cert.UpReferenceIdeal.main_arg1) = m (c.tc.loc Cert.UpIdeal.main_arg1))
    (h2 : m' (c.tc.loc Cert.UpReferenceIdeal.main_arg2) = m (c.tc.loc Cert.UpIdeal.main_arg2))
    (h3 : m' (c.tc.loc Cert.UpReferenceIdeal.main_arg3) = m (c.tc.loc Cert.UpIdeal.main_arg3)) :
    truncf (F := Ideal) .bf16 (Cert.UpReferenceIdeal.Value.res_main_v201 (F := Ideal) (StableHlo.launchContents m' c)) Cert.UpReferenceIdeal.Gen.bitsLt_bf16_f32
      = Cert.UpIdeal.Value.result (Cert.UpIdeal.Run.tw m) (m (c.tc.loc Cert.UpIdeal.main_arg1)) (m (c.tc.loc Cert.UpIdeal.main_arg2)) (m (c.tc.loc Cert.UpIdeal.main_arg3)) := by
  obtain rfl : c = 0 := Subsingleton.elim _ _
  funext i
  obtain ⟨r, j, rfl⟩ : ∃ (r : Fin 32768) (j : Fin 3584), i = ix2 r j := ⟨i 0, i 1, eq_ix2 (n0 := 32768) (n1 := 3584) i⟩
  refine (Cert.UpReferenceIdeal.Read.res_at m' 0 r j).trans ?_
  rw [h0, h1, h2, h3]
  exact Cert.DownReferenceIdeal.Read.sum_shares _ (hR.expert ⟨r.val / 1024, by omega⟩ (by show r.val / 1024 < 32; omega)) _
    (fun e => Cert.UpIdeal.Value.unit (Cert.UpIdeal.Value.dot _ _ e r j) (Cert.UpIdeal.Value.dot _ _ e r j))

theorem up_algebraic : Cert.algebraic_UpIdeal_UpReferenceIdeal (hUpIdeal := Cert.UpIdeal.Gen.facts)
    (hUpReferenceIdeal := Cert.UpReferenceIdeal.Gen.facts) (hPre_routed_up := Cert.Pre_routed_up.facts) := by
  intro m g m' g' hpre hargs
  have hR : Cert.UpIdeal.Run.Routed m := haveI := Cert.Pre_routed_up.facts; Cert.UpIdeal.Run.routed_of m (hpre 0)
  exact ⟨fun c => Cert.UpIdeal.Value.result (Cert.UpIdeal.Run.tw m) (m (c.tc.loc Cert.UpIdeal.main_arg1)) (m (c.tc.loc Cert.UpIdeal.main_arg2)) (m (c.tc.loc Cert.UpIdeal.main_arg3)),
    Cert.UpIdeal.Value.run m g hR,
    (θ_run _ _ _).mono (fun _ h c => ⟨(h c).1.trans (up_result m m' c hR (hargs c).1 (hargs c).2.1 (hargs c).2.2.1 (hargs c).2.2.2), (h c).2⟩)
      (Cert.UpReferenceIdeal.Value.run m' g')⟩

/-- The up projection's frame at the words it computes with. -/
theorem frame_up : Cert.quiescent_Up (hUp := Cert.Up.Gen.facts) (hPre_routed_up := Cert.Pre_routed_up.facts) := fun m ρ h =>
  Cert.Up.Words.frame m ρ (Cert.UpIdeal.Run.ok_of (F := Bits) m (haveI := Cert.Pre_routed_up.facts; Cert.UpIdeal.Run.routed_of (F := Bits) m (h 0)))

theorem norm_algebraic : Cert.algebraic_NormIdeal_NormReferenceIdeal (hNormIdeal := Cert.NormIdeal.Gen.facts)
    (hNormReferenceIdeal := Cert.NormReferenceIdeal.Gen.facts) := by
  intro m g m' g' _ hargs
  refine ⟨fun c => Cert.NormIdeal.Value.res0 (m (c.tc.loc Cert.NormIdeal.main_arg0)) (m (c.tc.loc Cert.NormIdeal.main_arg1)),
    fun c => Cert.NormIdeal.Value.res1 (m (c.tc.loc Cert.NormIdeal.main_arg0)) (m (c.tc.loc Cert.NormIdeal.main_arg1)),
    Cert.NormIdeal.Value.run m g, (θ_run _ _ _).mono (fun _ h c => ?_) (Cert.NormReferenceIdeal.Read.run_value m' g')⟩
  obtain ⟨h0, h1, ha⟩ := h c
  refine ⟨h0.trans ?_, h1.trans ?_, ha⟩
  · rw [(hargs c).1, (hargs c).2]
  · rw [(hargs c).1, (hargs c).2]

theorem ffn_algebraic : Cert.algebraic_FfnIdeal_FfnReferenceIdeal (hFfnIdeal := Cert.FfnIdeal.Gen.facts)
    (hFfnReferenceIdeal := Cert.FfnReferenceIdeal.Gen.facts) := by
  intro m g m' g' _ hargs
  refine ⟨fun c => Cert.FfnIdeal.Value.result (m (c.tc.loc Cert.FfnIdeal.main_arg0)) (m (c.tc.loc Cert.FfnIdeal.main_arg1)) (m (c.tc.loc Cert.FfnIdeal.main_arg2)),
    Cert.FfnIdeal.Value.run m g, (θ_run _ _ _).mono (fun _ h c => ⟨(h c).1.trans ?_, (h c).2⟩) (Cert.FfnReferenceIdeal.Read.run_value m' g')⟩
  rw [(hargs c).1, (hargs c).2.1, (hargs c).2.2]

theorem ffn_down_algebraic : Cert.algebraic_FfnDownIdeal_FfnDownReferenceIdeal (hFfnDownIdeal := Cert.FfnDownIdeal.Gen.facts)
    (hFfnDownReferenceIdeal := Cert.FfnDownReferenceIdeal.Gen.facts) := by
  intro m g m' g' _ hargs
  refine ⟨fun c => Cert.FfnDownIdeal.Value.result (m (c.tc.loc Cert.FfnDownIdeal.main_arg0)) (m (c.tc.loc Cert.FfnDownIdeal.main_arg1)) (m (c.tc.loc Cert.FfnDownIdeal.main_arg2)) (m (c.tc.loc Cert.FfnDownIdeal.main_arg3)),
    Cert.FfnDownIdeal.Value.run m g, (θ_run _ _ _).mono (fun _ h c => ⟨(h c).1.trans ?_, (h c).2⟩) (Cert.FfnDownReferenceIdeal.Read.run_value m' g')⟩
  rw [(hargs c).1, (hargs c).2.1, (hargs c).2.2.1, (hargs c).2.2.2]

theorem hy_in_algebraic : Cert.algebraic_HyInIdeal_HyInReferenceIdeal (hHyInIdeal := Cert.HyInIdeal.Gen.facts)
    (hHyInReferenceIdeal := Cert.HyInReferenceIdeal.Gen.facts) := by
  intro m g m' g' _ hargs
  refine ⟨fun c => Cert.HyInIdeal.Value.result (m (c.tc.loc Cert.HyInIdeal.main_arg0)) (m (c.tc.loc Cert.HyInIdeal.main_arg1)),
    Cert.HyInIdeal.Value.run m g, (θ_run _ _ _).mono (fun _ h c => ⟨(h c).1.trans ?_, (h c).2⟩) (Cert.HyInReferenceIdeal.Read.run_value m' g')⟩
  rw [(hargs c).1, (hargs c).2]

theorem ml_up_algebraic : Cert.algebraic_MlUpIdeal_MlUpReferenceIdeal (hMlUpIdeal := Cert.MlUpIdeal.Gen.facts)
    (hMlUpReferenceIdeal := Cert.MlUpReferenceIdeal.Gen.facts) := by
  intro m g m' g' _ hargs
  refine ⟨fun c => Cert.MlUpIdeal.Value.result (m (c.tc.loc Cert.MlUpIdeal.main_arg0)) (m (c.tc.loc Cert.MlUpIdeal.main_arg1)),
    Cert.MlUpIdeal.Value.run m g, (θ_run _ _ _).mono (fun _ h c => ⟨(h c).1.trans ?_, (h c).2⟩) (Cert.MlUpReferenceIdeal.Read.run_value m' g')⟩
  rw [(hargs c).1, (hargs c).2]

theorem hy_out_algebraic : Cert.algebraic_HyOutIdeal_HyOutReferenceIdeal (hHyOutIdeal := Cert.HyOutIdeal.Gen.facts)
    (hHyOutReferenceIdeal := Cert.HyOutReferenceIdeal.Gen.facts) := by
  intro m g m' g' _ hargs
  refine ⟨fun c => Cert.HyOutIdeal.Value.result (m (c.tc.loc Cert.HyOutIdeal.main_arg0)) (m (c.tc.loc Cert.HyOutIdeal.main_arg1)) (m (c.tc.loc Cert.HyOutIdeal.main_arg2)) (m (c.tc.loc Cert.HyOutIdeal.main_arg3)),
    Cert.HyOutIdeal.Value.run m g, (θ_run _ _ _).mono (fun _ h c => ⟨(h c).1.trans ?_, (h c).2⟩) (Cert.HyOutReferenceIdeal.Read.run_value m' g')⟩
  rw [(hargs c).1, (hargs c).2.1, (hargs c).2.2.1, (hargs c).2.2.2]

theorem ml_down_algebraic : Cert.algebraic_MlDownIdeal_MlDownReferenceIdeal (hMlDownIdeal := Cert.MlDownIdeal.Gen.facts)
    (hMlDownReferenceIdeal := Cert.MlDownReferenceIdeal.Gen.facts) := by
  intro m g m' g' _ hargs
  refine ⟨fun c => Cert.MlDownIdeal.Value.result (m (c.tc.loc Cert.MlDownIdeal.main_arg0)) (m (c.tc.loc Cert.MlDownIdeal.main_arg1)) (m (c.tc.loc Cert.MlDownIdeal.main_arg2)) (m (c.tc.loc Cert.MlDownIdeal.main_arg3)),
    Cert.MlDownIdeal.Value.run m g, (θ_run _ _ _).mono (fun _ h c => ⟨(h c).1.trans ?_, (h c).2⟩) (Cert.MlDownReferenceIdeal.Read.run_value m' g')⟩
  rw [(hargs c).1, (hargs c).2.1, (hargs c).2.2.1, (hargs c).2.2.2]

theorem claim : Cert.Claim := ⟨Cert.Kernel.Gen.facts, Cert.KernelIdeal.Gen.facts, Cert.ReferenceIdeal.Gen.facts,
  Cert.Down.Gen.facts, Cert.DownIdeal.Gen.facts, Cert.DownReferenceIdeal.Gen.facts,
  Cert.Up.Gen.facts, Cert.UpIdeal.Gen.facts, Cert.UpReferenceIdeal.Gen.facts,
  Cert.Norm.Gen.facts, Cert.NormIdeal.Gen.facts, Cert.NormReferenceIdeal.Gen.facts,
  Cert.Ffn.Gen.facts, Cert.FfnIdeal.Gen.facts, Cert.FfnReferenceIdeal.Gen.facts,
  Cert.FfnDown.Gen.facts, Cert.FfnDownIdeal.Gen.facts, Cert.FfnDownReferenceIdeal.Gen.facts,
  Cert.HyIn.Gen.facts, Cert.HyInIdeal.Gen.facts, Cert.HyInReferenceIdeal.Gen.facts,
  Cert.MlUp.Gen.facts, Cert.MlUpIdeal.Gen.facts, Cert.MlUpReferenceIdeal.Gen.facts,
  Cert.HyOut.Gen.facts, Cert.HyOutIdeal.Gen.facts, Cert.HyOutReferenceIdeal.Gen.facts,
  Cert.MlDown.Gen.facts, Cert.MlDownIdeal.Gen.facts, Cert.MlDownReferenceIdeal.Gen.facts,
  Cert.Pre_finite.facts, Cert.Pre_routed.facts, Cert.Pre_routed_up.facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ,
  frame_down, fun m ρ h => Cert.DownIdeal.Run.frame m ρ (Cert.DownIdeal.Run.ok_of m (haveI := Cert.Pre_routed.facts; Cert.DownIdeal.Run.routed_of m (h 0))),
  fun m ρ _ => Cert.DownReferenceIdeal.Read.run_frame m ρ, fun m ρ _ => Cert.DownReferenceIdeal.Read.run_frame m ρ,
  frame_up, fun m ρ h => Cert.UpIdeal.Run.frame m ρ (Cert.UpIdeal.Run.ok_of m (haveI := Cert.Pre_routed_up.facts; Cert.UpIdeal.Run.routed_of m (h 0))),
  fun m ρ _ => Cert.UpReferenceIdeal.Read.run_frame m ρ, fun m ρ _ => Cert.UpReferenceIdeal.Read.run_frame m ρ,
  fun m ρ _ => Cert.Norm.Gen.frame m ρ, fun m ρ _ => Cert.NormIdeal.Gen.frame m ρ, fun m ρ _ => Cert.NormReferenceIdeal.Read.run_frame m ρ,
  fun m ρ _ => Cert.Ffn.Gen.frame m ρ, fun m ρ _ => Cert.FfnIdeal.Gen.frame m ρ, fun m ρ _ => Cert.FfnReferenceIdeal.Read.run_frame m ρ,
  fun m ρ _ => Cert.FfnDown.Gen.frame m ρ, fun m ρ _ => Cert.FfnDownIdeal.Gen.frame m ρ, fun m ρ _ => Cert.FfnDownReferenceIdeal.Read.run_frame m ρ,
  fun m ρ _ => Cert.HyIn.Gen.frame m ρ, fun m ρ _ => Cert.HyInIdeal.Gen.frame m ρ, fun m ρ _ => Cert.HyInReferenceIdeal.Read.run_frame m ρ,
  fun m ρ _ => Cert.MlUp.Gen.frame m ρ, fun m ρ _ => Cert.MlUpIdeal.Gen.frame m ρ, fun m ρ _ => Cert.MlUpReferenceIdeal.Read.run_frame m ρ,
  fun m ρ _ => Cert.HyOut.Gen.frame m ρ, fun m ρ _ => Cert.HyOutIdeal.Gen.frame m ρ, fun m ρ _ => Cert.HyOutReferenceIdeal.Read.run_frame m ρ,
  fun m ρ _ => Cert.MlDown.Gen.frame m ρ, fun m ρ _ => Cert.MlDownIdeal.Gen.frame m ρ, fun m ρ _ => Cert.MlDownReferenceIdeal.Read.run_frame m ρ,
  trivial, algebraic, trivial, down_algebraic, trivial, up_algebraic, trivial, norm_algebraic, trivial, ffn_algebraic,
  trivial, ffn_down_algebraic, trivial, hy_in_algebraic, trivial, ml_up_algebraic,
  trivial, hy_out_algebraic, trivial, ml_down_algebraic⟩

end Cert.Proof

end
